-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8x4096x768 : Shape := ⟨3, ![8, 4096, 768]⟩
abbrev S1x128 : Shape := ⟨2, ![1, 128]⟩
abbrev S4096x2048 : Shape := ⟨2, ![4096, 2048]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S1x128 : S_.BroadcastsInDim S1x128 (![] : Fin 0 → Fin S1x128.rank)
  reducesTo_S1x128_S_d0_1 : S1x128.ReducesTo [0, 1] S_
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v3 : IVec S_ 1) (main_v7 : IVec S_ 1) (main_v11 : IVec S_ 1) (main_v15 : IVec S4096x2048 1) (main_c_5 : IVec S_ 1) : IVec S_ 1 :=
  let main_v16 : IVec S_ 1 := (fun x v => Host.reduce IntOp.andi x v reducesTo_S4096x2048_S_d0_1 h_S_) main_v15 main_c_5
  let main_v17 : IVec S_ 1 := andi main_v3 main_v7
  let main_v18 : IVec S_ 1 := andi main_v17 main_v11
  let main_v19 : IVec S_ 1 := andi main_v18 main_v16
  main_v19

def fn {F : FTy → Type} [FloatOps F] (main_arg0 : FVec F S8x4096x768 .f32) (main_arg1 : FVec F S1x128 .f32) (main_arg2 : FVec F S1x128 .f32) (main_arg3 : FVec F S4096x2048 .bf16) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : FVec F S1x128 .f32 := Host.absf main_arg2
  let main_cst_2 : FVec F S_ .f32 := constant S_ .f32 0x7F800000#32
  let main_v9 : FVec F S1x128 .f32 := broadcastInDim S1x128 ![] bcast_S_S1x128 main_cst_2
  let main_v10 : IVec S1x128 1 := cmpf .olt main_v8 main_v9
  let main_c_3 : IVec S_ 1 := constantI S_ 1 1#1
  let main_v11 : IVec S_ 1 := (fun x v => Host.reduce IntOp.andi x v reducesTo_S1x128_S_d0_1 h_S_) main_v10 main_c_3
  let main_v12 : FVec F S4096x2048 .f32 := (extf .f32 · bitsLt_bf16_f32) main_arg3
  let main_v13 : FVec F S4096x2048 .f32 := Host.absf main_v12
  let main_cst_4 : FVec F S_ .f32 := constant S_ .f32 0x7F800000#32
  let main_v14 : FVec F S4096x2048 .f32 := broadcastInDim S4096x2048 ![] bcast_S_S4096x2048 main_cst_4
  let main_v15 : IVec S4096x2048 1 := cmpf .olt main_v13 main_v14
  let main_c_5 : IVec S_ 1 := constantI S_ 1 1#1
  fn_part1 (F := F) main_v3 main_v7 main_v11 main_v15 main_c_5
-- ==== Pre_finite5.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_
  bcast_S_S8x4096x704 : S_.BroadcastsInDim S8x4096x704 (![] : Fin 0 → Fin S8x4096x704.rank)
  reducesTo_S8x4096x704_S_d0_1_2 : S8x4096x704.ReducesTo [0, 1, 2] S_

variable [Facts]

def fn {F : FTy → Type} [FloatOps F] (main_arg0 : FVec F S4096x2048 .bf16) (main_arg1 : FVec F S8x704x2048 .bf16) (main_arg2 : FVec F S8x4096x704 .f32) (main_arg3 : FVec F S8x4096x704 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x704x2048 .f32 := (extf .f32 · bitsLt_bf16_f32) main_arg1
  let main_v6 : FVec F S8x704x2048 .f32 := Host.absf main_v5
  let main_cst_0 : FVec F S_ .f32 := constant S_ .f32 0x7F800000#32
  let main_v7 : FVec F S8x704x2048 .f32 := broadcastInDim S8x704x2048 ![] bcast_S_S8x704x2048 main_cst_0
  let main_v8 : IVec S8x704x2048 1 := cmpf .olt main_v6 main_v7
  let main_c_1 : IVec S_ 1 := constantI S_ 1 1#1
  let main_v9 : IVec S_ 1 := (fun x v => Host.reduce IntOp.andi x v reducesTo_S8x704x2048_S_d0_1_2 h_S_) main_v8 main_c_1
  let main_v10 : FVec F S8x4096x704 .f32 := Host.absf main_arg3
  let main_cst_2 : FVec F S_ .f32 := constant S_ .f32 0x7F800000#32
  let main_v11 : FVec F S8x4096x704 .f32 := broadcastInDim S8x4096x704 ![] bcast_S_S8x4096x704 main_cst_2
  let main_v12 : IVec S8x4096x704 1 := cmpf .olt main_v10 main_v11
  let main_c_3 : IVec S_ 1 := constantI S_ 1 1#1
  let main_v13 : IVec S_ 1 := (fun x v => Host.reduce IntOp.andi x v reducesTo_S8x4096x704_S_d0_1_2 h_S_) main_v12 main_c_3
  let main_v14 : IVec S_ 1 := andi main_v4 main_v9
  let main_v15 : IVec S_ 1 := andi main_v14 main_v13
  main_v15
-- ==== Kernel.lean ====
abbrev S8x4096x768 : Shape := ⟨3, ![8, 4096, 768]⟩
abbrev S1x128 : Shape := ⟨2, ![1, 128]⟩
abbrev S4096x2048 : Shape := ⟨2, ![4096, 2048]⟩
abbrev S8x4096x6x128 : Shape := ⟨4, ![8, 4096, 6, 128]⟩
abbrev S4096x8x6x128 : Shape := ⟨4, ![4096, 8, 6, 128]⟩
abbrev S4096x48x128 : Shape := ⟨3, ![4096, 48, 128]⟩
abbrev S4096x16x128 : Shape := ⟨3, ![4096, 16, 128]⟩
abbrev S128 : Shape := ⟨1, ![128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x128x4096 : Shape := ⟨3, ![16, 128, 4096]⟩
abbrev S3x4096x2048 : Shape := ⟨3, ![3, 4096, 2048]⟩
abbrev S1x4096x128 : Shape := ⟨3, ![1, 4096, 128]⟩
abbrev S4096x128 : Shape := ⟨2, ![4096, 128]⟩
abbrev S3x4096x128 : Shape := ⟨3, ![3, 4096, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x256 : Shape := ⟨2, ![128, 256]⟩
abbrev S512x512 : Shape := ⟨2, ![512, 512]⟩
abbrev S512x256 : Shape := ⟨2, ![512, 256]⟩

abbrev nBuf : Space → Nat
  | .hbm => 110
  | .vmem => 22
  | .smem => 0
  | _ => 0

abbrev bufTy : (tb : Table) → Fin (tcTables nBuf tb) → BufTy
  | .hbm, ⟨0, _⟩ => ⟨S8x4096x768, .f32⟩
  | .hbm, ⟨1, _⟩ => ⟨S1x128, .f32⟩
  | .hbm, ⟨2, _⟩ => ⟨S1x128, .f32⟩
  | .hbm, ⟨3, _⟩ => ⟨S4096x2048, .bf16⟩
  | .hbm, ⟨4, _⟩ => ⟨S8x4096x6x128, .f32⟩
  | .hbm, ⟨5, _⟩ => ⟨S4096x8x6x128, .f32⟩
  | .hbm, ⟨6, _⟩ => ⟨S4096x48x128, .f32⟩
  | .hbm, ⟨7, _⟩ => ⟨S4096x16x128, .f32⟩
  | .hbm, ⟨8, _⟩ => ⟨S4096x16x128, .f32⟩
  | .hbm, ⟨9, _⟩ => ⟨S4096x16x128, .f32⟩
  | .hbm, ⟨10, _⟩ => ⟨S128, .f32⟩
  | .hbm, ⟨11, _⟩ => ⟨S128, .f32⟩
  | .hbm, ⟨12, _⟩ => ⟨S4096x16x128, .f32⟩
  | .hbm, ⟨13, _⟩ => ⟨S_, .f32⟩
  | .hbm, ⟨14, _⟩ => ⟨S4096x16, .f32⟩
  | .hbm, ⟨15, _⟩ => ⟨S4096x16x1, .f32⟩
  | .hbm, ⟨16, _⟩ => ⟨S_, .f32⟩
  | .hbm, ⟨17, _⟩ => ⟨S4096x16x1, .f32⟩
  | .hbm, ⟨18, _⟩ => ⟨S4096x16x1, .f32⟩
  | .hbm, ⟨19, _⟩ => ⟨S_, .f32⟩
  | .hbm, ⟨20, _⟩ => ⟨S4096x16x1, .f32⟩
  | .hbm, ⟨21, _⟩ => ⟨S4096x16x1, .f32⟩
  | .hbm, ⟨22, _⟩ => ⟨S4096x16x1, .f32⟩
  | .hbm, ⟨23, _⟩ => ⟨S4096x16x128, .f32⟩
  | .hbm, ⟨24, _⟩ => ⟨S4096x16x128, .f32⟩
  | .hbm, ⟨25, _⟩ => ⟨S1x1x128, .f32⟩
  | .hbm, ⟨26, _⟩ => ⟨S4096x16x128, .f32⟩
  | .hbm, ⟨27, _⟩ => ⟨S4096x16x128, .f32⟩
  | .hbm, ⟨28, _⟩ => ⟨S4096x16x128, .f32⟩
  | .hbm, ⟨29, _⟩ => ⟨S_, .f32⟩
  | .hbm, ⟨30, _⟩ => ⟨S4096x16, .f32⟩
  | .hbm, ⟨31, _⟩ => ⟨S4096x16x1, .f32⟩
  | .hbm, ⟨32, _⟩ => ⟨S_, .f32⟩
  | .hbm, ⟨33, _⟩ => ⟨S4096x16x1, .f32⟩
  | .hbm, ⟨34, _⟩ => ⟨S4096x16x1, .f32⟩
  | .hbm, ⟨35, _⟩ => ⟨S_, .f32⟩
  | .hbm, ⟨36, _⟩ => ⟨S4096x16x1, .f32⟩
  | .hbm, ⟨37, _⟩ => ⟨S4096x16x1, .f32⟩
  | .hbm, ⟨38, _⟩ => ⟨S4096x16x1, .f32⟩
  | .hbm, ⟨39, _⟩ => ⟨S4096x16x128, .f32⟩
  | .hbm, ⟨40, _⟩ => ⟨S4096x16x128, .f32⟩
  | .hbm, ⟨41, _⟩ => ⟨S1x1x128, .f32⟩
  | .hbm, ⟨42, _⟩ => ⟨S4096x16x128, .f32⟩
  | .hbm, ⟨43, _⟩ => ⟨S4096x16x128, .f32⟩
  | .hbm, ⟨44, _⟩ => ⟨S16x4096x4096, .f32⟩
  | .hbm, ⟨45, _⟩ => ⟨S_, .f32⟩
  | .hbm, ⟨46, _⟩ => ⟨S16x4096x4096, .f32⟩
  | .hbm, ⟨47, _⟩ => ⟨S16x4096x4096, .f32⟩
  | .hbm, ⟨48, _⟩ => ⟨S4096, .i32⟩
  | .hbm, ⟨49, _⟩ => ⟨S4096x1, .i32⟩
  | .hbm, ⟨50, _⟩ => ⟨S4096, .i32⟩
  | .hbm, ⟨51, _⟩ => ⟨S1x4096, .i32⟩
  | .hbm, ⟨52, _⟩ => ⟨S4096x4096, .i32⟩
  | .hbm, ⟨53, _⟩ => ⟨S4096x4096, .i32⟩
  | .hbm, ⟨54, _⟩ => ⟨S4096x4096, .i1⟩
  | .hbm, ⟨55, _⟩ => ⟨S16x4096x4096, .f32⟩
  | .hbm, ⟨56, _⟩ => ⟨S16x4096x4096, .f32⟩
  | .hbm, ⟨57, _⟩ => ⟨S_, .f32⟩
  | .hbm, ⟨58, _⟩ => ⟨S16x4096x4096, .f32⟩
  | .hbm, ⟨59, _⟩ => ⟨S16x4096x4096, .f32⟩
  | .hbm, ⟨60, _⟩ => ⟨S16x4096x4096, .f32⟩
  | .hbm, ⟨61, _⟩ => ⟨S16x4096x4096, .f32⟩
  | .hbm, ⟨62, _⟩ => ⟨S16x4096x4096, .i1⟩
  | .hbm, ⟨63, _⟩ => ⟨S16x4096x4096, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S16x4096x4096, .f32⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S_, .f32⟩
  | .hbm, ⟨73, _⟩ => ⟨S_, .f32⟩
  | .hbm, ⟨74, _⟩ => ⟨S16x4096x4096, .i1⟩
  | .hbm, ⟨75, _⟩ => ⟨S16x4096x4096, .f32⟩
  | .hbm, ⟨76, _⟩ => ⟨S16x4096x4096, .f32⟩
  | .hbm, ⟨77, _⟩ => ⟨S_, .f32⟩
  | .hbm, ⟨78, _⟩ => ⟨S_, .f32⟩
  | .hbm, ⟨79, _⟩ => ⟨S16x4096x4096, .f32⟩
  | .hbm, ⟨80, _⟩ => ⟨S16x4096x4096, .f32⟩
  | .hbm, ⟨81, _⟩ => ⟨S16x4096x4096, .f32⟩
  | .hbm, ⟨82, _⟩ => ⟨S_, .f32⟩
  | .hbm, ⟨83, _⟩ => ⟨S16x4096x4096, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S16x4096x4096, .i1⟩
  | .hbm, ⟨88, _⟩ => ⟨S16x4096x4096, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S16x4096x4096, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S_, .f32⟩
  | .hbm, ⟨100, _⟩ => ⟨S_, .f32⟩
  | .hbm, ⟨101, _⟩ => ⟨S16x4096x4096, .i1⟩
  | .hbm, ⟨102, _⟩ => ⟨S16x4096x4096, .f32⟩
  | .hbm, ⟨103, _⟩ => ⟨S16x4096x4096, .f32⟩
  | .hbm, ⟨104, _⟩ => ⟨S16x128x4096, .f32⟩
  | .hbm, ⟨105, _⟩ => ⟨S4096x16x128, .f32⟩
  | .hbm, ⟨106, _⟩ => ⟨S4096x2048, .f32⟩
  | .hbm, ⟨107, _⟩ => ⟨S3x4096x2048, .bf16⟩
  | .hbm, ⟨108, _⟩ => ⟨S1x128, .f32⟩
  | .hbm, ⟨109, _⟩ => ⟨S1x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x128, .f32⟩
  | .local _ .vmem, ⟨7, _⟩ => ⟨S1x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .f32⟩
  | .local _ .vmem, ⟨11, _⟩ => ⟨S4096x128, .f32⟩
  | .local _ .vmem, ⟨12, _⟩ => ⟨S3x4096x128, .bf16⟩
  | .local _ .vmem, ⟨13, _⟩ => ⟨S3x4096x128, .bf16⟩
  | .local _ .vmem, ⟨14, _⟩ => ⟨S1x128, .f32⟩
  | .local _ .vmem, ⟨15, _⟩ => ⟨S1x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v45 : Ref sig .tc := ⟨.hbm, 71, rfl⟩
abbrev main_cst_6 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v46 : Ref sig .tc := ⟨.hbm, 76, rfl⟩
abbrev main_call2_cst : Ref sig .tc := ⟨.hbm, 77, rfl⟩
abbrev main_call2_v0 : Ref sig .tc := ⟨.hbm, 78, rfl⟩
abbrev main_v47 : Ref sig .tc := ⟨.hbm, 79, rfl⟩
abbrev main_v48 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_cst_7 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56_0 : Ref sig .tc := ⟨.hbm, 107, rfl⟩
abbrev main_v56_1 : Ref sig .tc := ⟨.hbm, 108, rfl⟩
abbrev main_v56_2 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c512_i32 : BitVec 32 := 512#32
  let v40 : BitVec 32 := Scalar.muli arg17 c512_i32
  v40
def k0_off1 (k0_t1 : Fin k0_t1_loop.trips) : Fin 3 → Nat :=
  let c0_34 : Index := 0#32
  let c0_i32 : BitVec 32 := 0#32
  let c1_i32 : BitVec 32 := 1#32
  let arg17 : BitVec 32 := Scf.iv c0_i32 c1_i32 k0_t1
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k0_off2 (k0_t1 : Fin k0_t1_loop.trips) : Fin 2 → Nat :=
  let c0_i32 : BitVec 32 := 0#32
  let c1_i32 : BitVec 32 := 1#32
  let arg17 : BitVec 32 := Scf.iv c0_i32 c1_i32 k0_t1
  let c512_i32 : BitVec 32 := 512#32
  let v40 : BitVec 32 := Scalar.muli arg17 c512_i32
  let v41 : BitVec 32 := v40
  let v59 : Index := Scalar.indexCast v41
  let c0_41 : Index := 0#32
  ![v59.toNat, 0]
@[reducible] def k0_t2_loop : Scf.Loop 32 :=
  let c0_i32_1 : BitVec 32 := 0#32
  let c8_i32_2 : BitVec 32 := 8#32
  let v1 : BitVec 32 := Scalar.addi c0_i32_1 c8_i32_2
  let c1_i32_3 : BitVec 32 := 1#32
  ⟨c0_i32_1, v1, c1_i32_3⟩
def k0_mult2 (k0_t2 : Fin k0_t2_loop.trips) : BitVec 32 :=
  let c0_i32_1 : BitVec 32 := 0#32
  let c1_i32_3 : BitVec 32 := 1#32
  let arg17 : BitVec 32 := Scf.iv c0_i32_1 c1_i32_3 k0_t2
  let c512_i32 : BitVec 32 := 512#32
  let v40 : BitVec 32 := Scalar.muli arg17 c512_i32
  v40
def k0_off3 (k0_t2 : Fin k0_t2_loop.trips) : Fin 3 → Nat :=
  let c0_34 : Index := 0#32
  let c0_i32_1 : BitVec 32 := 0#32
  let c1_i32_3 : BitVec 32 := 1#32
  let arg17 : BitVec 32 := Scf.iv c0_i32_1 c1_i32_3 k0_t2
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k0_off4 (k0_t2 : Fin k0_t2_loop.trips) : Fin 2 → Nat :=
  let c0_i32_1 : BitVec 32 := 0#32
  let c1_i32_3 : BitVec 32 := 1#32
  let arg17 : BitVec 32 := Scf.iv c0_i32_1 c1_i32_3 k0_t2
  let c512_i32 : BitVec 32 := 512#32
  let v40 : BitVec 32 := Scalar.muli arg17 c512_i32
  let v41 : BitVec 32 := v40
  let v59 : Index := Scalar.indexCast v41
  let c0_41 : Index := 0#32
  ![v59.toNat, 0]
@[reducible] def k0_t3_loop : Scf.Loop 32 :=
  let c0_i32_16 : BitVec 32 := 0#32
  let c8_i32_17 : BitVec 32 := 8#32
  let v29 : BitVec 32 := Scalar.addi c0_i32_16 c8_i32_17
  let c1_i32_18 : BitVec 32 := 1#32
  ⟨c0_i32_16, v29, c1_i32_18⟩
def k0_mult3 (k0_t3 : Fin k0_t3_loop.trips) : BitVec 32 :=
  let c0_i32_16 : BitVec 32 := 0#32
  let c1_i32_18 : BitVec 32 := 1#32
  let arg17 : BitVec 32 := Scf.iv c0_i32_16 c1_i32_18 k0_t3
  let c512_i32 : BitVec 32 := 512#32
  let v40 : BitVec 32 := Scalar.muli arg17 c512_i32
  v40
def k0_off5 (k0_t3 : Fin k0_t3_loop.trips) : Fin 2 → Nat :=
  let c0_i32_16 : BitVec 32 := 0#32
  let c1_i32_18 : BitVec 32 := 1#32
  let arg17 : BitVec 32 := Scf.iv c0_i32_16 c1_i32_18 k0_t3
  let c512_i32 : BitVec 32 := 512#32
  let v40 : BitVec 32 := Scalar.muli arg17 c512_i32
  let v41 : BitVec 32 := v40
  let v42 : Index := Scalar.indexCast v41
  let c0_34 : Index := 0#32
  ![v42.toNat, 0]
def k0_mult4 (k0_t3 : Fin k0_t3_loop.trips) : BitVec 32 :=
  let c0_i32_16 : BitVec 32 := 0#32
  let c1_i32_18 : BitVec 32 := 1#32
  let arg17 : BitVec 32 := Scf.iv c0_i32_16 c1_i32_18 k0_t3
  let c512_i32_39 : BitVec 32 := 512#32
  let v54 : BitVec 32 := Scalar.muli arg17 c512_i32_39
  v54
@[reducible] def k0_t4_loop (k0_t3 : Fin k0_t3_loop.trips) : Scf.Loop 32 :=
  let c0_i32_77 : BitVec 32 := 0#32
  let c0_i32_16 : BitVec 32 := 0#32
  let c1_i32_18 : BitVec 32 := 1#32
  let arg17 : BitVec 32 := Scf.iv c0_i32_16 c1_i32_18 k0_t3
  let v217 : BitVec 32 := Scalar.subi arg17 c0_i32_77
  let c1_i32_78 : BitVec 32 := 1#32
  let v219 : BitVec 32 := Scalar.divsi v217 c1_i32_78
  let v220 : BitVec 32 := Scalar.muli v219 c1_i32_78
  let v221 : BitVec 32 := Scalar.addi c0_i32_77 v220
  let c1_i32_79 : BitVec 32 := 1#32
  ⟨c0_i32_77, v221, c1_i32_79⟩
def k0_mult5 (k0_t3 : Fin k0_t3_loop.trips) (k0_t4 : Fin (k0_t4_loop k0_t3).trips) : BitVec 32 :=
  let c0_i32_16 : BitVec 32 := 0#32
  let c1_i32_18 : BitVec 32 := 1#32
  let arg17 : BitVec 32 := Scf.iv c0_i32_16 c1_i32_18 k0_t3
  let c1_i32_82 : BitVec 32 := 1#32
  let v228 : BitVec 32 := Scalar.subi arg17 c1_i32_82
  let c0_i32_77 : BitVec 32 := 0#32
  let c1_i32_79 : BitVec 32 := 1#32
  let arg18 : BitVec 32 := Scf.iv c0_i32_77 c1_i32_79 k0_t4
  let v229 : BitVec 32 := Scalar.subi v228 arg18
  let c512_i32_83 : BitVec 32 := 512#32
  let v230 : BitVec 32 := Scalar.muli v229 c512_i32_83
  v230
def k0_off6 (k0_t3 : Fin k0_t3_loop.trips) (k0_t4 : Fin (k0_t4_loop k0_t3).trips) : Fin 2 → Nat :=
  let c0_i32_16 : BitVec 32 := 0#32
  let c1_i32_18 : BitVec 32 := 1#32
  let arg17 : BitVec 32 := Scf.iv c0_i32_16 c1_i32_18 k0_t3
  let c1_i32_82 : BitVec 32 := 1#32
  let v228 : BitVec 32 := Scalar.subi arg17 c1_i32_82
  let c0_i32_77 : BitVec 32 := 0#32
  let c1_i32_79 : BitVec 32 := 1#32
  let arg18 : BitVec 32 := Scf.iv c0_i32_77 c1_i32_79 k0_t4
  let v229 : BitVec 32 := Scalar.subi v228 arg18
  let c512_i32_83 : BitVec 32 := 512#32
  let v230 : BitVec 32 := Scalar.muli v229 c512_i32_83
  let v231 : BitVec 32 := v230
  let v232 : Index := Scalar.indexCast v231
  let c0_84 : Index := 0#32
  ![v232.toNat, 0]
@[reducible] def k0_t5_loop (k0_t3 : Fin k0_t3_loop.trips) : Scf.Loop 32 :=
  let c0_i32_77 : BitVec 32 := 0#32
  let c0_i32_16 : BitVec 32 := 0#32
  let c1_i32_18 : BitVec 32 := 1#32
  let arg17 : BitVec 32 := Scf.iv c0_i32_16 c1_i32_18 k0_t3
  let v217 : BitVec 32 := Scalar.subi arg17 c0_i32_77
  let c1_i32_78 : BitVec 32 := 1#32
  let v219 : BitVec 32 := Scalar.divsi v217 c1_i32_78
  let v220 : BitVec 32 := Scalar.muli v219 c1_i32_78
  let v221 : BitVec 32 := Scalar.addi c0_i32_77 v220
  let v218 : BitVec 32 := Scalar.addi c0_i32_77 v217
  let c1_i32_80 : BitVec 32 := 1#32
  ⟨v221, v218, c1_i32_80⟩
def k0_mult6 (k0_t3 : Fin k0_t3_loop.trips) (k0_t5 : Fin (k0_t5_loop k0_t3).trips) : BitVec 32 :=
  let c0_i32_16 : BitVec 32 := 0#32
  let c1_i32_18 : BitVec 32 := 1#32
  let arg17 : BitVec 32 := Scf.iv c0_i32_16 c1_i32_18 k0_t3
  let c1_i32_82 : BitVec 32 := 1#32
  let v228 : BitVec 32 := Scalar.subi arg17 c1_i32_82
  let c0_i32_77 : BitVec 32 := 0#32
  let v217 : BitVec 32 := Scalar.subi arg17 c0_i32_77
  let c1_i32_78 : BitVec 32 := 1#32
  let v219 : BitVec 32 := Scalar.divsi v217 c1_i32_78
  let v220 : BitVec 32 := Scalar.muli v219 c1_i32_78
  let v221 : BitVec 32 := Scalar.addi c0_i32_77 v220
  let c1_i32_80 : BitVec 32 := 1#32
  let arg18 : BitVec 32 := Scf.iv v221 c1_i32_80 k0_t5
  let v229 : BitVec 32 := Scalar.subi v228 arg18
  let c512_i32_83 : BitVec 32 := 512#32
  let v230 : BitVec 32 := Scalar.muli v229 c512_i32_83
  v230
def k0_off7 (k0_t3 : Fin k0_t3_loop.trips) (k0_t5 : Fin (k0_t5_loop k0_t3).trips) : Fin 2 → Nat :=
  let c0_i32_16 : BitVec 32 := 0#32
  let c1_i32_18 : BitVec 32 := 1#32
  let arg17 : BitVec 32 := Scf.iv c0_i32_16 c1_i32_18 k0_t3
  let c1_i32_82 : BitVec 32 := 1#32
  let v228 : BitVec 32 := Scalar.subi arg17 c1_i32_82
  let c0_i32_77 : BitVec 32 := 0#32
  let v217 : BitVec 32 := Scalar.subi arg17 c0_i32_77
  let c1_i32_78 : BitVec 32 := 1#32
  let v219 : BitVec 32 := Scalar.divsi v217 c1_i32_78
  let v220 : BitVec 32 := Scalar.muli v219 c1_i32_78
  let v221 : BitVec 32 := Scalar.addi c0_i32_77 v220
  let c1_i32_80 : BitVec 32 := 1#32
  let arg18 : BitVec 32 := Scf.iv v221 c1_i32_80 k0_t5
  let v229 : BitVec 32 := Scalar.subi v228 arg18
  let c512_i32_83 : BitVec 32 := 512#32
  let v230 : BitVec 32 := Scalar.muli v229 c512_i32_83
  let v231 : BitVec 32 := v230
  let v232 : Index := Scalar.indexCast v231
  let c0_84 : Index := 0#32
  ![v232.toNat, 0]
@[reducible] def k0_t6_loop : Scf.Loop 32 :=
  let c0_i32_22 : BitVec 32 := 0#32
  let c8_i32_23 : BitVec 32 := 8#32
  let v33 : BitVec 32 := Scalar.addi c0_i32_22 c8_i32_23
  let c1_i32_24 : BitVec 32 := 1#32
  ⟨c0_i32_22, v33, c1_i32_24⟩
def k0_mult7 (k0_t6 : Fin k0_t6_loop.trips) : BitVec 32 :=
  let c0_i32_22 : BitVec 32 := 0#32
  let c1_i32_24 : BitVec 32 := 1#32
  let arg17 : BitVec 32 := Scf.iv c0_i32_22 c1_i32_24 k0_t6
  let c512_i32 : BitVec 32 := 512#32
  let v40 : BitVec 32 := Scalar.muli arg17 c512_i32
  v40
def k0_off8 (k0_t6 : Fin k0_t6_loop.trips) : Fin 3 → Nat :=
  let c0_34 : Index := 0#32
  let c0_i32_22 : BitVec 32 := 0#32
  let c1_i32_24 : BitVec 32 := 1#32
  let arg17 : BitVec 32 := Scf.iv c0_i32_22 c1_i32_24 k0_t6
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k0_off9 (k0_t6 : Fin k0_t6_loop.trips) : Fin 2 → Nat :=
  let c0_i32_22 : BitVec 32 := 0#32
  let c1_i32_24 : BitVec 32 := 1#32
  let arg17 : BitVec 32 := Scf.iv c0_i32_22 c1_i32_24 k0_t6
  let c512_i32 : BitVec 32 := 512#32
  let v40 : BitVec 32 := Scalar.muli arg17 c512_i32
  let v41 : BitVec 32 := v40
  let v55 : Index := Scalar.indexCast v41
  let c0_39 : Index := 0#32
  ![v55.toNat, 0]
def k0_off10 (k0_t6 : Fin k0_t6_loop.trips) : Fin 3 → Nat :=
  let c0_44 : Index := 0#32
  let c0_i32_22 : BitVec 32 := 0#32
  let c1_i32_24 : BitVec 32 := 1#32
  let arg17 : BitVec 32 := Scf.iv c0_i32_22 c1_i32_24 k0_t6
  let c512_i32 : BitVec 32 := 512#32
  let v40 : BitVec 32 := Scalar.muli arg17 c512_i32
  let v41 : BitVec 32 := v40
  let v71 : Index := Scalar.indexCast v41
  let c0_45 : Index := 0#32
  ![0, v71.toNat, 0]
@[reducible] def k0_t7_loop : Scf.Loop 32 :=
  let c0_i32_26 : BitVec 32 := 0#32
  let c8_i32_27 : BitVec 32 := 8#32
  let v34 : BitVec 32 := Scalar.addi c0_i32_26 c8_i32_27
  let c1_i32_28 : BitVec 32 := 1#32
  ⟨c0_i32_26, v34, c1_i32_28⟩
def k0_mult8 (k0_t7 : Fin k0_t7_loop.trips) : BitVec 32 :=
  let c0_i32_26 : BitVec 32 := 0#32
  let c1_i32_28 : BitVec 32 := 1#32
  let arg17 : BitVec 32 := Scf.iv c0_i32_26 c1_i32_28 k0_t7
  let c512_i32 : BitVec 32 := 512#32
  let v40 : BitVec 32 := Scalar.muli arg17 c512_i32
  v40
def k0_off11 (k0_t7 : Fin k0_t7_loop.trips) : Fin 3 → Nat :=
  let c0_34 : Index := 0#32
  let c0_i32_26 : BitVec 32 := 0#32
  let c1_i32_28 : BitVec 32 := 1#32
  let arg17 : BitVec 32 := Scf.iv c0_i32_26 c1_i32_28 k0_t7
  let c512_i32 : BitVec 32 := 512#32
  let v40 : BitVec 32 := Scalar.muli arg17 c512_i32
  let v41 : BitVec 32 := v40
  let v42 : Index := Scalar.indexCast v41
  let c0_35 : Index := 0#32
  ![0, v42.toNat, 0]
def k0_off12 (k0_t7 : Fin k0_t7_loop.trips) : Fin 2 → Nat :=
  let c0_i32_26 : BitVec 32 := 0#32
  let c1_i32_28 : BitVec 32 := 1#32
  let arg17 : BitVec 32 := Scf.iv c0_i32_26 c1_i32_28 k0_t7
  let c512_i32 : BitVec 32 := 512#32
  let v40 : BitVec 32 := Scalar.muli arg17 c512_i32
  let v41 : BitVec 32 := v40
  let v55 : Index := Scalar.indexCast v41
  let c0_39 : Index := 0#32
  ![v55.toNat, 0]
def k0_off13 (k0_t7 : Fin k0_t7_loop.trips) : Fin 3 → Nat :=
  let c1 : Index := 1#32
  let c0_i32_26 : BitVec 32 := 0#32
  let c1_i32_28 : BitVec 32 := 1#32
  let arg17 : BitVec 32 := Scf.iv c0_i32_26 c1_i32_28 k0_t7
  let c512_i32 : BitVec 32 := 512#32
  let v40 : BitVec 32 := Scalar.muli arg17 c512_i32
  let v41 : BitVec 32 := v40
  let v71 : Index := Scalar.indexCast v41
  let c0_44 : Index := 0#32
  ![1, v71.toNat, 0]
def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c6_i32 : BitVec 32 := 6#32
  let v1 : BitVec 32 := Scalar.divsi v0 c6_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c6_i32 c0_i32_2
  let v8 : BitVec 32 := Scalar.extui v7
  let c0_i32_3 : BitVec 32 := 0#32
  let v9 : BitVec 1 := Scalar.cmpi .slt c6_i32 c0_i32_3
  let v10 : BitVec 32 := Scalar.extui v9
  let v11 : BitVec 32 := Scalar.subi v8 v10
  let v12 : BitVec 1 := Scalar.cmpi .ne v6 v11
  let v13 : BitVec 32 := Scalar.remsi v0 c6_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c6_i32_6 : BitVec 32 := 6#32
  let c0_i32_7 : BitVec 32 := 0#32
  let v19 : BitVec 1 := Scalar.cmpi .eq c6_i32_6 c0_i32_7
  let c1_i32_8 : BitVec 32 := 1#32
  let v20 : BitVec 32 := Scalar.select v19 c1_i32_8 c6_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_1 (i : grid0.Coords) : Fin 3 → Nat :=
  let arg0 : BitVec 32 := BitVec.ofNat 32 (i 0).val
  let c16_i32 : BitVec 32 := 16#32
  let v0 : BitVec 32 := Scalar.addi c16_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let v18 : BitVec 32 := Scalar.addi c16_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_2 (i : grid0.Coords) : Fin 3 → Nat :=
  let arg0 : BitVec 32 := BitVec.ofNat 32 (i 0).val
  let c32_i32 : BitVec 32 := 32#32
  let v0 : BitVec 32 := Scalar.addi c32_i32 arg0
  let c6_i32 : BitVec 32 := 6#32
  let v1 : BitVec 32 := Scalar.divsi v0 c6_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c6_i32 c0_i32_1
  let v8 : BitVec 32 := Scalar.extui v7
  let c0_i32_2 : BitVec 32 := 0#32
  let v9 : BitVec 1 := Scalar.cmpi .slt c6_i32 c0_i32_2
  let v10 : BitVec 32 := Scalar.extui v9
  let v11 : BitVec 32 := Scalar.subi v8 v10
  let v12 : BitVec 1 := Scalar.cmpi .ne v6 v11
  let v13 : BitVec 32 := Scalar.remsi v0 c6_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32_4 : BitVec 32 := 32#32
  let v18 : BitVec 32 := Scalar.addi c32_i32_4 arg0
  let c6_i32_5 : BitVec 32 := 6#32
  let c0_i32_6 : BitVec 32 := 0#32
  let v19 : BitVec 1 := Scalar.cmpi .eq c6_i32_5 c0_i32_6
  let c1_i32_7 : BitVec 32 := 1#32
  let v20 : BitVec 32 := Scalar.select v19 c1_i32_7 c6_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8x4096x768 : Shape := ⟨3, ![8, 4096, 768]⟩
abbrev S1x128 : Shape := ⟨2, ![1, 128]⟩
abbrev S4096x2048 : Shape := ⟨2, ![4096, 2048]⟩
abbrev S4096x16x128 : Shape := ⟨3, ![4096, 16, 128]⟩
abbrev S8x4096x6x128 : Shape := ⟨4, ![8, 4096, 6, 128]⟩
abbrev S4096x8x6x128 : Shape := ⟨4, ![4096, 8, 6, 128]⟩
abbrev S4096x48x128 : Shape := ⟨3, ![4096, 48, 128]⟩
abbrev S128 : Shape := ⟨1, ![128]⟩
abbrev S_ : Shape := ⟨0, ![]⟩
abbrev S4096x16 : Shape := ⟨2, ![4096, 16]⟩
abbrev S4096x16x1 : Shape := ⟨3, ![4096, 16, 1]⟩
abbrev S1x1x128 : Shape := ⟨3, ![1, 1, 128]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16x128x4096 : Shape := ⟨3, ![16, 128, 4096]⟩
abbrev S16x4096x128 : Shape := ⟨3, ![16, 4096, 128]⟩
abbrev S1x4096x2048 : Shape := ⟨3, ![1, 4096, 2048]⟩
abbrev S3x4096x2048 : Shape := ⟨3, ![3, 4096, 2048]⟩

abbrev nBuf : Space → Nat
  | .hbm => 275
  | .vmem => 0
  | .smem => 0
  | _ => 0

abbrev hbmTy0_0 (i : Nat) : BufTy := match i % 128 with
  | 0 => ⟨S8x4096x768, .f32⟩
  | 1 => ⟨S1x128, .f32⟩
  | 2 => ⟨S1x128, .f32⟩
  | 3 => ⟨S4096x2048, .bf16⟩
  | 4 => ⟨S4096x2048, .f32⟩
  | 5 => ⟨S4096x16x128, .f32⟩
  | 6 => ⟨S8x4096x6x128, .f32⟩
  | 7 => ⟨S4096x8x6x128, .f32⟩
  | 8 => ⟨S4096x48x128, .f32⟩
  | 9 => ⟨S4096x16x128, .f32⟩
  | 10 => ⟨S4096x16x128, .f32⟩
  | 11 => ⟨S4096x16x128, .f32⟩
  | 12 => ⟨S128, .f32⟩
  | 13 => ⟨S128, .f32⟩
  | 14 => ⟨S4096x16x128, .f32⟩
  | 15 => ⟨S_, .f32⟩
  | 16 => ⟨S4096x16, .f32⟩
  | 17 => ⟨S4096x16x1, .f32⟩
  | 18 => ⟨S_, .f32⟩
  | 19 => ⟨S4096x16x1, .f32⟩
  | 20 => ⟨S4096x16x1, .f32⟩
  | 21 => ⟨S_, .f32⟩
  | 22 => ⟨S4096x16x1, .f32⟩
  | 23 => ⟨S4096x16x1, .f32⟩
  | 24 => ⟨S4096x16x1, .f32⟩
  | 25 => ⟨S4096x16x1, .f32⟩
  | 26 => ⟨S_, .f32⟩
  | 27 => ⟨S4096x16x1, .f32⟩
  | 28 => ⟨S4096x16x1, .f32⟩
  | 29 => ⟨S4096x16x128, .f32⟩
  | 30 => ⟨S4096x16x128, .f32⟩
  | 31 => ⟨S1x1x128, .f32⟩
  | 32 => ⟨S4096x16x128, .f32⟩
  | 33 => ⟨S4096x16x128, .f32⟩
  | 34 => ⟨S4096x16x128, .f32⟩
  | 35 => ⟨S_, .f32⟩
  | 36 => ⟨S4096x16, .f32⟩
  | 37 => ⟨S4096x16x1, .f32⟩
  | 38 => ⟨S_, .f32⟩
  | 39 => ⟨S4096x16x1, .f32⟩
  | 40 => ⟨S4096x16x1, .f32⟩
  | 41 => ⟨S_, .f32⟩
  | 42 => ⟨S4096x16x1, .f32⟩
  | 43 => ⟨S4096x16x1, .f32⟩
  | 44 => ⟨S4096x16x1, .f32⟩
  | 45 => ⟨S4096x16x1, .f32⟩
  | 46 => ⟨S_, .f32⟩
  | 47 => ⟨S4096x16x1, .f32⟩
  | 48 => ⟨S4096x16x1, .f32⟩
  | 49 => ⟨S4096x16x128, .f32⟩
  | 50 => ⟨S4096x16x128, .f32⟩
  | 51 => ⟨S1x1x128, .f32⟩
  | 52 => ⟨S4096x16x128, .f32⟩
  | 53 => ⟨S4096x16x128, .f32⟩
  | 54 => ⟨S16x4096x4096, .f32⟩
  | 55 => ⟨S_, .f32⟩
  | 56 => ⟨S16x4096x4096, .f32⟩
  | 57 => ⟨S16x4096x4096, .f32⟩
  | 58 => ⟨S4096, .i32⟩
  | 59 => ⟨S4096x1, .i32⟩
  | 60 => ⟨S4096, .i32⟩
  | 61 => ⟨S1x4096, .i32⟩
  | 62 => ⟨S4096x4096, .i32⟩
  | 63 => ⟨S4096x4096, .i32⟩
  | 64 => ⟨S4096x4096, .i1⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S16x4096x4096, .f32⟩
  | 72 => ⟨S16x4096x4096, .i1⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .f32⟩
  | 78 => ⟨S16x4096x4096, .f32⟩
  | 79 => ⟨S16x4096x4096, .f32⟩
  | 80 => ⟨S16x4096x4096, .f32⟩
  | 81 => ⟨S_, .f32⟩
  | 82 => ⟨S16x4096x4096, .f32⟩
  | 83 => ⟨S16x4096x4096, .i1⟩
  | 84 => ⟨S_, .f32⟩
  | 85 => ⟨S16x4096x4096, .f32⟩
  | 86 => ⟨S16x4096x4096, .f32⟩
  | 87 => ⟨S_, .f32⟩
  | 88 => ⟨S16x4096x4096, .f32⟩
  | 89 => ⟨S16x4096x4096, .i1⟩
  | 90 => ⟨S_, .f32⟩
  | 91 => ⟨S16x4096x4096, .f32⟩
  | 92 => ⟨S16x4096x4096, .f32⟩
  | 93 => ⟨S16x4096x4096, .f32⟩
  | 94 => ⟨S16x4096x4096, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S16x4096x4096, .f32⟩
  | 103 => ⟨S16x4096x4096, .i1⟩
  | 104 => ⟨S_, .f32⟩
  | 105 => ⟨S16x4096x4096, .f32⟩
  | 106 => ⟨S16x4096x4096, .f32⟩
  | 107 => ⟨S16x4096x4096, .f32⟩
  | 108 => ⟨S16x4096x4096, .f32⟩
  | 109 => ⟨S16x4096x4096, .f32⟩
  | 110 => ⟨S_, .f32⟩
  | 111 => ⟨S16x4096x4096, .f32⟩
  | 112 => ⟨S16x4096x4096, .f32⟩
  | 113 => ⟨S16x4096x4096, .f32⟩
  | 114 => ⟨S_, .f32⟩
  | 115 => ⟨S_, .f32⟩
  | 116 => ⟨S16x4096x4096, .i1⟩
  | 117 => ⟨S16x4096x4096, .f32⟩
  | 118 => ⟨S16x4096x4096, .f32⟩
  | 119 => ⟨S_, .f32⟩
  | 120 => ⟨S16x4096x4096, .f32⟩
  | 121 => ⟨S_, .f32⟩
  | 122 => ⟨S_, .f32⟩
  | 123 => ⟨S16x4096x4096, .f32⟩
  | 124 => ⟨S16x4096x4096, .f32⟩
  | 125 => ⟨S16x4096x4096, .f32⟩
  | 126 => ⟨S_, .f32⟩
  | 127 => ⟨S16x4096x4096, .f32⟩
  | _ => ⟨S8x4096x768, .f32⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .i1⟩
  | 4 => ⟨S16x4096x4096, .f32⟩
  | 5 => ⟨S16x4096x4096, .f32⟩
  | 6 => ⟨S16x4096x4096, .f32⟩
  | 7 => ⟨S16x4096x4096, .f32⟩
  | 8 => ⟨S16x4096x4096, .f32⟩
  | 9 => ⟨S16x4096x4096, .f32⟩
  | 10 => ⟨S16x4096x4096, .f32⟩
  | 11 => ⟨S16x4096x4096, .f32⟩
  | 12 => ⟨S_, .f32⟩
  | 13 => ⟨S16x4096x4096, .f32⟩
  | 14 => ⟨S16x4096x4096, .i1⟩
  | 15 => ⟨S_, .f32⟩
  | 16 => ⟨S16x4096x4096, .f32⟩
  | 17 => ⟨S16x4096x4096, .f32⟩
  | 18 => ⟨S_, .f32⟩
  | 19 => ⟨S16x4096x4096, .f32⟩
  | 20 => ⟨S16x4096x4096, .i1⟩
  | 21 => ⟨S_, .f32⟩
  | 22 => ⟨S16x4096x4096, .f32⟩
  | 23 => ⟨S16x4096x4096, .f32⟩
  | 24 => ⟨S16x4096x4096, .f32⟩
  | 25 => ⟨S16x4096x4096, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S16x4096x4096, .f32⟩
  | 34 => ⟨S16x4096x4096, .i1⟩
  | 35 => ⟨S_, .f32⟩
  | 36 => ⟨S16x4096x4096, .f32⟩
  | 37 => ⟨S16x4096x4096, .f32⟩
  | 38 => ⟨S16x4096x4096, .f32⟩
  | 39 => ⟨S16x4096x4096, .f32⟩
  | 40 => ⟨S16x4096x4096, .f32⟩
  | 41 => ⟨S_, .f32⟩
  | 42 => ⟨S16x4096x4096, .f32⟩
  | 43 => ⟨S16x4096x4096, .f32⟩
  | 44 => ⟨S16x4096x4096, .f32⟩
  | 45 => ⟨S16x4096x4096, .f32⟩
  | 46 => ⟨S16x4096x4096, .f32⟩
  | 47 => ⟨S_, .f32⟩
  | 48 => ⟨S_, .f32⟩
  | 49 => ⟨S16x4096x4096, .i1⟩
  | 50 => ⟨S16x4096x4096, .f32⟩
  | 51 => ⟨S16x4096x4096, .f32⟩
  | 52 => ⟨S_, .f32⟩
  | 53 => ⟨S16x4096x4096, .f32⟩
  | 54 => ⟨S16x128x4096, .f32⟩
  | 55 => ⟨S4096x16x128, .f32⟩
  | 56 => ⟨S16x128x4096, .f32⟩
  | 57 => ⟨S16x4096x4096, .f32⟩
  | 58 => ⟨S16x128x4096, .f32⟩
  | 59 => ⟨S4096x16x128, .f32⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S16x4096x4096, .f32⟩
  | 68 => ⟨S_, .f32⟩
  | 69 => ⟨S_, .f32⟩
  | 70 => ⟨S16x4096x4096, .f32⟩
  | 71 => ⟨S16x4096x4096, .f32⟩
  | 72 => ⟨S_, .f32⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .f32⟩
  | 78 => ⟨S16x4096x4096, .f32⟩
  | 79 => ⟨S16x4096x4096, .f32⟩
  | 80 => ⟨S_, .f32⟩
  | 81 => ⟨S16x4096x4096, .f32⟩
  | 82 => ⟨S16x4096x4096, .f32⟩
  | 83 => ⟨S16x4096x128, .f32⟩
  | 84 => ⟨S4096x16x128, .f32⟩
  | 85 => ⟨S16x4096x128, .f32⟩
  | 86 => ⟨S4096x16x128, .f32⟩
  | 87 => ⟨S4096x16x128, .f32⟩
  | 88 => ⟨S_, .f32⟩
  | 89 => ⟨S128, .f32⟩
  | 90 => ⟨S1x1x128, .f32⟩
  | 91 => ⟨S4096x16x128, .f32⟩
  | 92 => ⟨S4096x16x128, .f32⟩
  | 93 => ⟨S_, .f32⟩
  | 94 => ⟨S128, .f32⟩
  | 95 => ⟨S4096x16x128, .f32⟩
  | 96 => ⟨S_, .f32⟩
  | 97 => ⟨S4096x16, .f32⟩
  | 98 => ⟨S4096x16x1, .f32⟩
  | 99 => ⟨S4096x16x128, .f32⟩
  | 100 => ⟨S4096x16x128, .f32⟩
  | 101 => ⟨S4096x16x1, .f32⟩
  | 102 => ⟨S_, .f32⟩
  | 103 => ⟨S4096x16x1, .f32⟩
  | 104 => ⟨S4096x16x1, .f32⟩
  | 105 => ⟨S_, .f32⟩
  | 106 => ⟨S4096x16, .f32⟩
  | 107 => ⟨S4096x16x128, .f32⟩
  | 108 => ⟨S4096x16x128, .f32⟩
  | 109 => ⟨S4096x16x128, .f32⟩
  | 110 => ⟨S4096x16x128, .f32⟩
  | 111 => ⟨S4096x16x128, .f32⟩
  | 112 => ⟨S4096x16x128, .f32⟩
  | 113 => ⟨S_, .f32⟩
  | 114 => ⟨S128, .f32⟩
  | 115 => ⟨S1x1x128, .f32⟩
  | 116 => ⟨S4096x16x128, .f32⟩
  | 117 => ⟨S4096x16x128, .f32⟩
  | 118 => ⟨S_, .f32⟩
  | 119 => ⟨S128, .f32⟩
  | 120 => ⟨S4096x16x128, .f32⟩
  | 121 => ⟨S_, .f32⟩
  | 122 => ⟨S4096x16, .f32⟩
  | 123 => ⟨S4096x16x1, .f32⟩
  | 124 => ⟨S4096x16x128, .f32⟩
  | 125 => ⟨S4096x16x128, .f32⟩
  | 126 => ⟨S4096x16x1, .f32⟩
  | 127 => ⟨S_, .f32⟩
  | _ => ⟨S8x4096x768, .f32⟩

abbrev hbmTy0_2 (i : Nat) : BufTy := match i % 128 with
  | 0 => ⟨S4096x16x1, .f32⟩
  | 1 => ⟨S4096x16x1, .f32⟩
  | 2 => ⟨S_, .f32⟩
  | 3 => ⟨S4096x16, .f32⟩
  | 4 => ⟨S4096x16x128, .f32⟩
  | 5 => ⟨S4096x16x128, .f32⟩
  | 6 => ⟨S4096x16x128, .f32⟩
  | 7 => ⟨S4096x16x128, .f32⟩
  | 8 => ⟨S4096x16x128, .f32⟩
  | 9 => ⟨S4096x2048, .f32⟩
  | 10 => ⟨S4096x2048, .f32⟩
  | 11 => ⟨S4096x2048, .f32⟩
  | 12 => ⟨S1x4096x2048, .f32⟩
  | 13 => ⟨S1x4096x2048, .f32⟩
  | 14 => ⟨S1x4096x2048, .f32⟩
  | 15 => ⟨S3x4096x2048, .f32⟩
  | 16 => ⟨S3x4096x2048, .bf16⟩
  | 17 => ⟨S1x128, .f32⟩
  | 18 => ⟨S1x128, .f32⟩
  | _ => ⟨S8x4096x768, .f32⟩

abbrev hbmTy (i : Nat) : BufTy := match i / 128 with
  | 0 => hbmTy0_0 i
  | 1 => hbmTy0_1 i
  | 2 => hbmTy0_2 i
  | _ => ⟨S8x4096x768, .f32⟩

abbrev bufTy : (tb : Table) → Fin (tcTables nBuf tb) → BufTy
  | .hbm, ⟨i, _⟩ => hbmTy i
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call0_v0 : Ref sig .tc := ⟨.hbm, 66, rfl⟩
abbrev main_call0_call0_cst : Ref sig .tc := ⟨.hbm, 67, rfl⟩
abbrev main_call0_call0_v0 : Ref sig .tc := ⟨.hbm, 68, rfl⟩
abbrev main_call0_call0_v1 : Ref sig .tc := ⟨.hbm, 69, rfl⟩
abbrev main_call0_call0_v2 : Ref sig .tc := ⟨.hbm, 70, rfl⟩
abbrev main_call0_call0_v3 : Ref sig .tc := ⟨.hbm, 71, rfl⟩
abbrev main_call0_call0_v4 : Ref sig .tc := ⟨.hbm, 72, rfl⟩
abbrev main_call0_call0_v5 : Ref sig .tc := ⟨.hbm, 73, rfl⟩
abbrev main_call0_call0_v6 : Ref sig .tc := ⟨.hbm, 74, rfl⟩
abbrev main_call0_call0_v7 : Ref sig .tc := ⟨.hbm, 75, rfl⟩
abbrev main_call0_call0_v8 : Ref sig .tc := ⟨.hbm, 76, rfl⟩
abbrev main_call0_call0_v9 : Ref sig .tc := ⟨.hbm, 77, rfl⟩
abbrev main_call0_call0_v10 : Ref sig .tc := ⟨.hbm, 78, rfl⟩
abbrev main_call0_call0_v11 : Ref sig .tc := ⟨.hbm, 79, rfl⟩
abbrev main_call0_v1_0 : Ref sig .tc := ⟨.hbm, 80, rfl⟩
abbrev main_call0_call0_cst_0 : Ref sig .tc := ⟨.hbm, 81, rfl⟩
abbrev main_call0_call0_v13 : Ref sig .tc := ⟨.hbm, 82, rfl⟩
abbrev main_call0_call0_v14 : Ref sig .tc := ⟨.hbm, 83, rfl⟩
abbrev main_call0_call0_cst_1 : Ref sig .tc := ⟨.hbm, 84, rfl⟩
abbrev main_call0_call0_v15 : Ref sig .tc := ⟨.hbm, 85, rfl⟩
abbrev main_call0_call0_v16 : Ref sig .tc := ⟨.hbm, 86, rfl⟩
abbrev main_call0_call0_cst_2 : Ref sig .tc := ⟨.hbm, 87, rfl⟩
abbrev main_call0_call0_v17 : Ref sig .tc := ⟨.hbm, 88, rfl⟩
abbrev main_call0_call0_v18 : Ref sig .tc := ⟨.hbm, 89, rfl⟩
abbrev main_call0_call0_cst_3 : Ref sig .tc := ⟨.hbm, 90, rfl⟩
abbrev main_call0_call0_v19 : Ref sig .tc := ⟨.hbm, 91, rfl⟩
abbrev main_call0_call0_v20 : Ref sig .tc := ⟨.hbm, 92, rfl⟩
abbrev main_call0_call0_v21 : Ref sig .tc := ⟨.hbm, 93, rfl⟩
abbrev main_v53_1 : Ref sig .tc := ⟨.hbm, 94, rfl⟩
abbrev main_call0_call0_cst_4 : Ref sig .tc := ⟨.hbm, 95, rfl⟩
abbrev main_call0_call0_cst_5 : Ref sig .tc := ⟨.hbm, 96, rfl⟩
abbrev main_call0_call0_v23 : Ref sig .tc := ⟨.hbm, 97, rfl⟩
abbrev main_call0_call0_cst_6 : Ref sig .tc := ⟨.hbm, 98, rfl⟩
abbrev main_call0_call0_cst_7 : Ref sig .tc := ⟨.hbm, 99, rfl⟩
abbrev main_call0_call0_v24 : Ref sig .tc := ⟨.hbm, 100, rfl⟩
abbrev main_call0_call0_cst_8 : Ref sig .tc := ⟨.hbm, 101, rfl⟩
abbrev main_call0_call0_v25 : Ref sig .tc := ⟨.hbm, 102, rfl⟩
abbrev main_call0_call0_v26 : Ref sig .tc := ⟨.hbm, 103, rfl⟩
abbrev main_call0_call0_cst_9 : Ref sig .tc := ⟨.hbm, 104, rfl⟩
abbrev main_call0_call0_v27 : Ref sig .tc := ⟨.hbm, 105, rfl⟩
abbrev main_call0_call0_v28 : Ref sig .tc := ⟨.hbm, 106, rfl⟩
abbrev main_call0_call0_v29 : Ref sig .tc := ⟨.hbm, 107, rfl⟩
abbrev main_call0_call0_v30 : Ref sig .tc := ⟨.hbm, 108, rfl⟩
abbrev main_call0_call0_v31 : Ref sig .tc := ⟨.hbm, 109, rfl⟩
abbrev main_call0_call0_cst_10 : Ref sig .tc := ⟨.hbm, 110, rfl⟩
abbrev main_call0_call0_v32 : Ref sig .tc := ⟨.hbm, 111, rfl⟩
abbrev main_v53_2 : Ref sig .tc := ⟨.hbm, 112, rfl⟩
abbrev main_v53_0 : Ref sig .tc := ⟨.hbm, 113, rfl⟩
abbrev main_cst_8 : Ref sig .tc := ⟨.hbm, 114, rfl⟩
abbrev main_call1_v0 : Ref sig .tc := ⟨.hbm, 115, rfl⟩
abbrev main_v54_1 : Ref sig .tc := ⟨.hbm, 116, rfl⟩
abbrev main_call1_v2 : Ref sig .tc := ⟨.hbm, 117, rfl⟩
abbrev main_v54_0 : Ref sig .tc := ⟨.hbm, 118, rfl⟩
abbrev main_call1_cst : Ref sig .tc := ⟨.hbm, 119, rfl⟩
abbrev main_v54_2 : Ref sig .tc := ⟨.hbm, 120, rfl⟩
abbrev main_call2_cst : Ref sig .tc := ⟨.hbm, 121, rfl⟩
abbrev main_call2_v0 : Ref sig .tc := ⟨.hbm, 122, rfl⟩
abbrev main_v55 : Ref sig .tc := ⟨.hbm, 123, rfl⟩
abbrev main_v56 : Ref sig .tc := ⟨.hbm, 124, rfl⟩
abbrev main_call3_v0 : Ref sig .tc := ⟨.hbm, 125, rfl⟩
abbrev main_call3_call0_cst : Ref sig .tc := ⟨.hbm, 126, rfl⟩
abbrev main_call3_call0_v0 : Ref sig .tc := ⟨.hbm, 127, rfl⟩
abbrev main_call3_call0_v1 : Ref sig .tc := ⟨.hbm, 128, rfl⟩
abbrev main_call3_call0_v2 : Ref sig .tc := ⟨.hbm, 129, rfl⟩
abbrev main_call3_call0_v3 : Ref sig .tc := ⟨.hbm, 130, rfl⟩
abbrev main_call3_call0_v4 : Ref sig .tc := ⟨.hbm, 131, rfl⟩
abbrev main_call3_call0_v5 : Ref sig .tc := ⟨.hbm, 132, rfl⟩
abbrev main_call3_call0_v6 : Ref sig .tc := ⟨.hbm, 133, rfl⟩
abbrev main_call3_call0_v7 : Ref sig .tc := ⟨.hbm, 134, rfl⟩
abbrev main_call3_call0_v8 : Ref sig .tc := ⟨.hbm, 135, rfl⟩
abbrev main_call3_call0_v9 : Ref sig .tc := ⟨.hbm, 136, rfl⟩
abbrev main_call3_call0_v10 : Ref sig .tc := ⟨.hbm, 137, rfl⟩
abbrev main_call3_call0_v11 : Ref sig .tc := ⟨.hbm, 138, rfl⟩
abbrev main_call3_v1_0 : Ref sig .tc := ⟨.hbm, 139, rfl⟩
abbrev main_call3_call0_cst_0 : Ref sig .tc := ⟨.hbm, 140, rfl⟩
abbrev main_call3_call0_v13 : Ref sig .tc := ⟨.hbm, 141, rfl⟩
abbrev main_call3_call0_v14 : Ref sig .tc := ⟨.hbm, 142, rfl⟩
abbrev main_call3_call0_cst_1 : Ref sig .tc := ⟨.hbm, 143, rfl⟩
abbrev main_call3_call0_v15 : Ref sig .tc := ⟨.hbm, 144, rfl⟩
abbrev main_call3_call0_v16 : Ref sig .tc := ⟨.hbm, 145, rfl⟩
abbrev main_call3_call0_cst_2 : Ref sig .tc := ⟨.hbm, 146, rfl⟩
abbrev main_call3_call0_v17 : Ref sig .tc := ⟨.hbm, 147, rfl⟩
abbrev main_call3_call0_v18 : Ref sig .tc := ⟨.hbm, 148, rfl⟩
abbrev main_call3_call0_cst_3 : Ref sig .tc := ⟨.hbm, 149, rfl⟩
abbrev main_call3_call0_v19 : Ref sig .tc := ⟨.hbm, 150, rfl⟩
abbrev main_call3_call0_v20 : Ref sig .tc := ⟨.hbm, 151, rfl⟩
abbrev main_call3_call0_v21 : Ref sig .tc := ⟨.hbm, 152, rfl⟩
abbrev main_v57_1 : Ref sig .tc := ⟨.hbm, 153, rfl⟩
abbrev main_call3_call0_cst_4 : Ref sig .tc := ⟨.hbm, 154, rfl⟩
abbrev main_call3_call0_cst_5 : Ref sig .tc := ⟨.hbm, 155, rfl⟩
abbrev main_call3_call0_v23 : Ref sig .tc := ⟨.hbm, 156, rfl⟩
abbrev main_call3_call0_cst_6 : Ref sig .tc := ⟨.hbm, 157, rfl⟩
abbrev main_call3_call0_cst_7 : Ref sig .tc := ⟨.hbm, 158, rfl⟩
abbrev main_call3_call0_v24 : Ref sig .tc := ⟨.hbm, 159, rfl⟩
abbrev main_call3_call0_cst_8 : Ref sig .tc := ⟨.hbm, 160, rfl⟩
abbrev main_call3_call0_v25 : Ref sig .tc := ⟨.hbm, 161, rfl⟩
abbrev main_call3_call0_v26 : Ref sig .tc := ⟨.hbm, 162, rfl⟩
abbrev main_call3_call0_cst_9 : Ref sig .tc := ⟨.hbm, 163, rfl⟩
abbrev main_call3_call0_v27 : Ref sig .tc := ⟨.hbm, 164, rfl⟩
abbrev main_call3_call0_v28 : Ref sig .tc := ⟨.hbm, 165, rfl⟩
abbrev main_call3_call0_v29 : Ref sig .tc := ⟨.hbm, 166, rfl⟩
abbrev main_call3_call0_v30 : Ref sig .tc := ⟨.hbm, 167, rfl⟩
abbrev main_call3_call0_v31 : Ref sig .tc := ⟨.hbm, 168, rfl⟩
abbrev main_call3_call0_cst_10 : Ref sig .tc := ⟨.hbm, 169, rfl⟩
abbrev main_call3_call0_v32 : Ref sig .tc := ⟨.hbm, 170, rfl⟩
abbrev main_v57_2 : Ref sig .tc := ⟨.hbm, 171, rfl⟩
abbrev main_v57_0 : Ref sig .tc := ⟨.hbm, 172, rfl⟩
abbrev main_v58 : Ref sig .tc := ⟨.hbm, 173, rfl⟩
abbrev main_v59 : Ref sig .tc := ⟨.hbm, 174, rfl⟩
abbrev main_cst_9 : Ref sig .tc := ⟨.hbm, 175, rfl⟩
abbrev main_call4_v0 : Ref sig .tc := ⟨.hbm, 176, rfl⟩
abbrev main_v60_1 : Ref sig .tc := ⟨.hbm, 177, rfl⟩
abbrev main_call4_v2 : Ref sig .tc := ⟨.hbm, 178, rfl⟩
abbrev main_v60_0 : Ref sig .tc := ⟨.hbm, 179, rfl⟩
abbrev main_call4_cst : Ref sig .tc := ⟨.hbm, 180, rfl⟩
abbrev main_v60_2 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_call5_cst : Ref sig .tc := ⟨.hbm, 188, rfl⟩
abbrev main_call5_v0 : Ref sig .tc := ⟨.hbm, 189, rfl⟩
abbrev main_v67 : Ref sig .tc := ⟨.hbm, 190, rfl⟩
abbrev main_v68 : Ref sig .tc := ⟨.hbm, 191, rfl⟩
abbrev main_call6_v0 : Ref sig .tc := ⟨.hbm, 192, rfl⟩
abbrev main_call6_v1 : Ref sig .tc := ⟨.hbm, 193, rfl⟩
abbrev main_v69 : Ref sig .tc := ⟨.hbm, 194, rfl⟩
abbrev main_v70 : Ref sig .tc := ⟨.hbm, 195, rfl⟩
abbrev main_call7_cst : Ref sig .tc := ⟨.hbm, 196, rfl⟩
abbrev main_call7_v0 : Ref sig .tc := ⟨.hbm, 197, rfl⟩
abbrev main_v71 : Ref sig .tc := ⟨.hbm, 198, rfl⟩
abbrev main_v72 : Ref sig .tc := ⟨.hbm, 199, rfl⟩
abbrev main_call8_cst : Ref sig .tc := ⟨.hbm, 200, rfl⟩
abbrev main_call8_v0 : Ref sig .tc := ⟨.hbm, 201, rfl⟩
abbrev main_v73 : Ref sig .tc := ⟨.hbm, 202, rfl⟩
abbrev main_call9_v0 : Ref sig .tc := ⟨.hbm, 203, rfl⟩
abbrev main_call9_v1 : Ref sig .tc := ⟨.hbm, 204, rfl⟩
abbrev main_v74 : Ref sig .tc := ⟨.hbm, 205, rfl⟩
abbrev main_v75 : Ref sig .tc := ⟨.hbm, 206, rfl⟩
abbrev main_v76 : Ref sig .tc := ⟨.hbm, 207, rfl⟩
abbrev main_cst_10 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_cst_11 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_cst_12 : Ref sig .tc := ⟨.hbm, 221, rfl⟩
abbrev main_v88 : Ref sig .tc := ⟨.hbm, 222, rfl⟩
abbrev main_v89 : Ref sig .tc := ⟨.hbm, 223, rfl⟩
abbrev main_cst_13 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_v94 : Ref sig .tc := ⟨.hbm, 229, rfl⟩
abbrev main_cst_14 : Ref sig .tc := ⟨.hbm, 230, rfl⟩
abbrev main_v95 : Ref sig .tc := ⟨.hbm, 231, rfl⟩
abbrev main_v96 : Ref sig .tc := ⟨.hbm, 232, rfl⟩
abbrev main_cst_15 : Ref sig .tc := ⟨.hbm, 233, rfl⟩
abbrev main_v97 : Ref sig .tc := ⟨.hbm, 234, rfl⟩
abbrev main_v98 : Ref sig .tc := ⟨.hbm, 235, rfl⟩
abbrev main_v99 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_cst_16 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_cst_17 : Ref sig .tc := ⟨.hbm, 246, rfl⟩
abbrev main_v108 : Ref sig .tc := ⟨.hbm, 247, rfl⟩
abbrev main_v109 : Ref sig .tc := ⟨.hbm, 248, rfl⟩
abbrev main_cst_18 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_cst_19 : Ref sig .tc := ⟨.hbm, 255, rfl⟩
abbrev main_v115 : Ref sig .tc := ⟨.hbm, 256, rfl⟩
abbrev main_v116 : Ref sig .tc := ⟨.hbm, 257, rfl⟩
abbrev main_cst_20 : Ref sig .tc := ⟨.hbm, 258, rfl⟩
abbrev main_v117 : Ref sig .tc := ⟨.hbm, 259, rfl⟩
abbrev main_v118 : Ref sig .tc := ⟨.hbm, 260, rfl⟩
abbrev main_v119 : Ref sig .tc := ⟨.hbm, 261, rfl⟩
abbrev main_v120 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩

abbrev nD : Nat := 1
abbrev τ : Topo := Topo.v7x

variable {F : FTy → Type} [FloatOps F]
-- ==== Kernel2.lean ====
abbrev S4096x2048 : Shape := ⟨2, ![4096, 2048]⟩
abbrev S8x4096x704 : Shape := ⟨3, ![8, 4096, 704]⟩
abbrev S8x2048x704 : Shape := ⟨3, ![8, 2048, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x4096x704, .bf16⟩
  | .hbm, ⟨2, _⟩ => ⟨S8x4096x704, .bf16⟩
  | .hbm, ⟨3, _⟩ => ⟨S8x2048x704, .f32⟩
  | .hbm, ⟨4, _⟩ => ⟨S8x2048x704, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1024x704, .f32⟩
  | .local _ .vmem, ⟨11, _⟩ => ⟨S1024x704, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def k0_cond4 (i : grid0.Coords) : BitVec 1 :=
  let arg2 : BitVec 32 := BitVec.ofNat 32 (i 2).val
  let c1_i32_20 : BitVec 32 := 1#32
  let v26 : BitVec 1 := Scalar.cmpi .eq arg2 c1_i32_20
  let v27 : BitVec 32 := Scalar.extui v26
  let c0_i32_21 : BitVec 32 := 0#32
  let v28 : BitVec 1 := Scalar.cmpi .ne v27 c0_i32_21
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4096x2048 : Shape := ⟨2, ![4096, 2048]⟩
abbrev S8x4096x704 : Shape := ⟨3, ![8, 4096, 704]⟩
abbrev S_ : Shape := ⟨0, ![]⟩
abbrev S8x2048x704 : Shape := ⟨3, ![8, 2048, 704]⟩
abbrev S8x704x4096 : Shape := ⟨3, ![8, 704, 4096]⟩
abbrev S8x704x2048 : Shape := ⟨3, ![8, 704, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x4096x704, .bf16⟩
  | .hbm, ⟨2, _⟩ => ⟨S8x4096x704, .bf16⟩
  | .hbm, ⟨3, _⟩ => ⟨S_, .f32⟩
  | .hbm, ⟨4, _⟩ => ⟨S8x2048x704, .f32⟩
  | .hbm, ⟨5, _⟩ => ⟨S8x4096x704, .f32⟩
  | .hbm, ⟨6, _⟩ => ⟨S8x4096x704, .f32⟩
  | .hbm, ⟨7, _⟩ => ⟨S4096x2048, .f32⟩
  | .hbm, ⟨8, _⟩ => ⟨S8x704x4096, .f32⟩
  | .hbm, ⟨9, _⟩ => ⟨S8x4096x704, .f32⟩
  | .hbm, ⟨10, _⟩ => ⟨S4096x2048, .f32⟩
  | .hbm, ⟨11, _⟩ => ⟨S8x704x4096, .f32⟩
  | .hbm, ⟨12, _⟩ => ⟨S8x4096x704, .f32⟩
  | .hbm, ⟨13, _⟩ => ⟨S8x704x4096, .f32⟩
  | .hbm, ⟨14, _⟩ => ⟨S8x704x2048, .f32⟩
  | .hbm, ⟨15, _⟩ => ⟨S8x2048x704, .f32⟩
  | .hbm, ⟨16, _⟩ => ⟨S8x704x4096, .f32⟩
  | .hbm, ⟨17, _⟩ => ⟨S8x704x2048, .f32⟩
  | .hbm, ⟨18, _⟩ => ⟨S8x2048x704, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel3.lean ====
abbrev S8x4096x704 : Shape := ⟨3, ![8, 4096, 704]⟩
abbrev S4096x2048 : Shape := ⟨2, ![4096, 2048]⟩
abbrev S8x704x2048 : Shape := ⟨3, ![8, 704, 2048]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | .local _ .vmem, ⟨6, _⟩ => ⟨S704x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8x4096x704 : Shape := ⟨3, ![8, 4096, 704]⟩
abbrev S4096x2048 : Shape := ⟨2, ![4096, 2048]⟩
abbrev S_ : Shape := ⟨0, ![]⟩
abbrev S8x704x2048 : Shape := ⟨3, ![8, 704, 2048]⟩
abbrev S2048x8x704 : Shape := ⟨3, ![2048, 8, 704]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S8x704x2048, .f32⟩
  | .hbm, ⟨4, _⟩ => ⟨S8x4096x704, .f32⟩
  | .hbm, ⟨5, _⟩ => ⟨S4096x2048, .f32⟩
  | .hbm, ⟨6, _⟩ => ⟨S4096x2048, .f32⟩
  | .hbm, ⟨7, _⟩ => ⟨S2048x8x704, .f32⟩
  | .hbm, ⟨8, _⟩ => ⟨S8x704x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8x4096x704 : Shape := ⟨3, ![8, 4096, 704]⟩
abbrev S8x2048x704 : Shape := ⟨3, ![8, 2048, 704]⟩
abbrev S4096x2048 : Shape := ⟨2, ![4096, 2048]⟩
abbrev S2x1024x704 : Shape := ⟨3, ![2, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 5
  | .vmem => 11
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2048x704, .bf16⟩
  | .hbm, ⟨3, _⟩ => ⟨S8x2048x704, .bf16⟩
  | .hbm, ⟨4, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x1024x704, .bf16⟩
  | .local _ .vmem, ⟨3, _⟩ => ⟨S2x1024x704, .bf16⟩
  | .local _ .vmem, ⟨4, _⟩ => ⟨S2x1024x704, .bf16⟩
  | .local _ .vmem, ⟨5, _⟩ => ⟨S2x1024x704, .bf16⟩
  | .local _ .vmem, ⟨6, _⟩ => ⟨S2x1024x704, .bf16⟩
  | .local _ .vmem, ⟨7, _⟩ => ⟨S2x1024x704, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v33 : BitVec 1 := Scalar.cmpi .eq arg2 c3_i32
  let v34 : BitVec 32 := Scalar.extui v33
  let c0_i32_31 : BitVec 32 := 0#32
  let v35 : BitVec 1 := Scalar.cmpi .ne v34 c0_i32_31
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8x4096x704 : Shape := ⟨3, ![8, 4096, 704]⟩
abbrev S8x2048x704 : Shape := ⟨3, ![8, 2048, 704]⟩
abbrev S_ : Shape := ⟨0, ![]⟩
abbrev S4096x2048 : Shape := ⟨2, ![4096, 2048]⟩
abbrev S8x704x4096 : Shape := ⟨3, ![8, 704, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2048x704, .bf16⟩
  | .hbm, ⟨3, _⟩ => ⟨S8x2048x704, .bf16⟩
  | .hbm, ⟨4, _⟩ => ⟨S_, .f32⟩
  | .hbm, ⟨5, _⟩ => ⟨S4096x2048, .f32⟩
  | .hbm, ⟨6, _⟩ => ⟨S8x4096x704, .f32⟩
  | .hbm, ⟨7, _⟩ => ⟨S8x4096x704, .f32⟩
  | .hbm, ⟨8, _⟩ => ⟨S8x2048x704, .f32⟩
  | .hbm, ⟨9, _⟩ => ⟨S8x704x4096, .f32⟩
  | .hbm, ⟨10, _⟩ => ⟨S8x4096x704, .f32⟩
  | .hbm, ⟨11, _⟩ => ⟨S8x2048x704, .f32⟩
  | .hbm, ⟨12, _⟩ => ⟨S8x704x4096, .f32⟩
  | .hbm, ⟨13, _⟩ => ⟨S8x4096x704, .f32⟩
  | .hbm, ⟨14, _⟩ => ⟨S8x704x4096, .f32⟩
  | .hbm, ⟨15, _⟩ => ⟨S4096x2048, .f32⟩
  | .hbm, ⟨16, _⟩ => ⟨S8x704x4096, .f32⟩
  | .hbm, ⟨17, _⟩ => ⟨S4096x2048, .f32⟩
  | .hbm, ⟨18, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .f32⟩
  | .hbm, ⟨3, _⟩ => ⟨S8x4096x704, .f32⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩
abbrev S4096x8x704 : Shape := ⟨3, ![4096, 8, 704]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .f32⟩
  | .hbm, ⟨3, _⟩ => ⟨S8x4096x704, .f32⟩
  | .hbm, ⟨4, _⟩ => ⟨S8x4096x704, .f32⟩
  | .hbm, ⟨5, _⟩ => ⟨S8x4096x704, .f32⟩
  | .hbm, ⟨6, _⟩ => ⟨S_, .f32⟩
  | .hbm, ⟨7, _⟩ => ⟨S8x4096x704, .f32⟩
  | .hbm, ⟨8, _⟩ => ⟨S8x4096x704, .f32⟩
  | .hbm, ⟨9, _⟩ => ⟨S_, .f32⟩
  | .hbm, ⟨10, _⟩ => ⟨S8x4096x704, .f32⟩
  | .hbm, ⟨11, _⟩ => ⟨S8x4096x704, .f32⟩
  | .hbm, ⟨12, _⟩ => ⟨S_, .f32⟩
  | .hbm, ⟨13, _⟩ => ⟨S8x4096x704, .f32⟩
  | .hbm, ⟨14, _⟩ => ⟨S8x4096x704, .f32⟩
  | .hbm, ⟨15, _⟩ => ⟨S8x4096x704, .f32⟩
  | .hbm, ⟨16, _⟩ => ⟨S8x4096x704, .f32⟩
  | .hbm, ⟨17, _⟩ => ⟨S8x4096x704, .f32⟩
  | .hbm, ⟨18, _⟩ => ⟨S8x704x2048, .f32⟩
  | .hbm, ⟨19, _⟩ => ⟨S4096x2048, .f32⟩
  | .hbm, ⟨20, _⟩ => ⟨S4096x2048, .f32⟩
  | .hbm, ⟨21, _⟩ => ⟨S4096x8x704, .f32⟩
  | .hbm, ⟨22, _⟩ => ⟨S8x4096x704, .f32⟩
  | .hbm, ⟨23, _⟩ => ⟨S8x4096x704, .f32⟩
  | .hbm, ⟨24, _⟩ => ⟨S8x4096x704, .f32⟩
  | .hbm, ⟨25, _⟩ => ⟨S8x4096x704, .f32⟩
  | .hbm, ⟨26, _⟩ => ⟨S8x4096x704, .f32⟩
  | .hbm, ⟨27, _⟩ => ⟨S8x4096x704, .f32⟩
  | .hbm, ⟨28, _⟩ => ⟨S8x4096x704, .f32⟩
  | .hbm, ⟨29, _⟩ => ⟨S8x4096x704, .bf16⟩
  | .hbm, ⟨30, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel6.lean ====
abbrev S4096x2048 : Shape := ⟨2, ![4096, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .bf16⟩
  | .local _ .vmem, ⟨5, _⟩ => ⟨S1024x256, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x2048 : Shape := ⟨2, ![4096, 2048]⟩
abbrev S8x256x2048 : Shape := ⟨3, ![8, 256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S_, .f32⟩
  | .hbm, ⟨3, _⟩ => ⟨S4096x2048, .f32⟩
  | .hbm, ⟨4, _⟩ => ⟨S8x256x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S3x4096x2048 : Shape := ⟨3, ![3, 4096, 2048]⟩
abbrev S2048x6144 : Shape := ⟨2, ![2048, 6144]⟩
abbrev S4096x2048 : Shape := ⟨2, ![4096, 2048]⟩
abbrev S1x1024x2048 : Shape := ⟨3, ![1, 1024, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S3x4096x2048 : Shape := ⟨3, ![3, 4096, 2048]⟩
abbrev S2048x6144 : Shape := ⟨2, ![2048, 6144]⟩
abbrev S_ : Shape := ⟨0, ![]⟩
abbrev S4096x2048 : Shape := ⟨2, ![4096, 2048]⟩
abbrev S4096x6144 : Shape := ⟨2, ![4096, 6144]⟩
abbrev S4096x3x2048 : Shape := ⟨3, ![4096, 3, 2048]⟩

abbrev nBuf : Space → Nat
  | .hbm => 10
  | .vmem => 0
  | .smem => 0
  | _ => 0

abbrev bufTy : (tb : Table) → Fin (tcTables nBuf tb) → BufTy
  | .hbm, ⟨0, _⟩ => ⟨S3x4096x2048, .bf16⟩
  | .hbm, ⟨1, _⟩ => ⟨S2048x6144, .bf16⟩
  | .hbm, ⟨2, _⟩ => ⟨S_, .f32⟩
  | .hbm, ⟨3, _⟩ => ⟨S4096x2048, .f32⟩
  | .hbm, ⟨4, _⟩ => ⟨S2048x6144, .f32⟩
  | .hbm, ⟨5, _⟩ => ⟨S4096x6144, .f32⟩
  | .hbm, ⟨6, _⟩ => ⟨S3x4096x2048, .f32⟩
  | .hbm, ⟨7, _⟩ => ⟨S4096x3x2048, .f32⟩
  | .hbm, ⟨8, _⟩ => ⟨S4096x6144, .f32⟩
  | .hbm, ⟨9, _⟩ => ⟨S4096x2048, .f32⟩
  | _, _ => ⟨S3x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x2048 : Shape := ⟨2, ![4096, 2048]⟩
abbrev S3x4096x2048 : Shape := ⟨3, ![3, 4096, 2048]⟩
abbrev S8x2048x768 : Shape := ⟨3, ![8, 2048, 768]⟩
abbrev S4096x1024 : Shape := ⟨2, ![4096, 1024]⟩
abbrev S1x4096x256 : Shape := ⟨3, ![1, 4096, 256]⟩
abbrev S1x1024x256 : Shape := ⟨3, ![1, 1024, 256]⟩
abbrev S1024x256 : Shape := ⟨2, ![1024, 256]⟩
abbrev S4096x256 : Shape := ⟨2, ![4096, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S8x2048x768, .f32⟩
  | .local _ .vmem, ⟨0, _⟩ => ⟨S4096x1024, .bf16⟩
  | .local _ .vmem, ⟨1, _⟩ => ⟨S4096x1024, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 24, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S3x4096x2048 : Shape := ⟨3, ![3, 4096, 2048]⟩
abbrev S_ : Shape := ⟨0, ![]⟩
abbrev S2048x6144 : Shape := ⟨2, ![2048, 6144]⟩
abbrev S4096x6144 : Shape := ⟨2, ![4096, 6144]⟩
abbrev S4096x3x2048 : Shape := ⟨3, ![4096, 3, 2048]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x2048, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S3x4096x2048, .f32⟩
  | .hbm, ⟨7, _⟩ => ⟨S4096x3x2048, .f32⟩
  | .hbm, ⟨8, _⟩ => ⟨S4096x6144, .f32⟩
  | .hbm, ⟨9, _⟩ => ⟨S6144x2048, .f32⟩
  | .hbm, ⟨10, _⟩ => ⟨S2048x6144, .f32⟩
  | .hbm, ⟨11, _⟩ => ⟨S2048x8x768, .f32⟩
  | .hbm, ⟨12, _⟩ => ⟨S8x2048x768, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S4096x2048 : Shape := ⟨2, ![4096, 2048]⟩
abbrev S8x2048x704 : Shape := ⟨3, ![8, 2048, 704]⟩
abbrev S8x4096x704 : Shape := ⟨3, ![8, 4096, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .f32⟩
  | .hbm, ⟨4, _⟩ => ⟨S8x4096x704, .f32⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x2048 : Shape := ⟨2, ![4096, 2048]⟩
abbrev S8x2048x704 : Shape := ⟨3, ![8, 2048, 704]⟩
abbrev S8x704x4096 : Shape := ⟨3, ![8, 704, 4096]⟩
abbrev S8x4096x704 : Shape := ⟨3, ![8, 4096, 704]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S4096x2048, .f32⟩
  | .hbm, ⟨4, _⟩ => ⟨S8x2048x704, .f32⟩
  | .hbm, ⟨5, _⟩ => ⟨S8x704x4096, .f32⟩
  | .hbm, ⟨6, _⟩ => ⟨S8x4096x704, .f32⟩
  | .hbm, ⟨7, _⟩ => ⟨S4096x2048, .f32⟩
  | .hbm, ⟨8, _⟩ => ⟨S8x2048x704, .f32⟩
  | .hbm, ⟨9, _⟩ => ⟨S8x704x4096, .f32⟩
  | .hbm, ⟨10, _⟩ => ⟨S8x4096x704, .f32⟩
  | .hbm, ⟨11, _⟩ => ⟨S8x4096x704, .f32⟩
  | .hbm, ⟨12, _⟩ => ⟨S8x4096x704, .f32⟩
  | .hbm, ⟨13, _⟩ => ⟨S_, .f32⟩
  | .hbm, ⟨14, _⟩ => ⟨S8x4096x704, .f32⟩
  | .hbm, ⟨15, _⟩ => ⟨S8x4096x704, .f32⟩
  | .hbm, ⟨16, _⟩ => ⟨S_, .f32⟩
  | .hbm, ⟨17, _⟩ => ⟨S8x4096x704, .f32⟩
  | .hbm, ⟨18, _⟩ => ⟨S8x4096x704, .f32⟩
  | .hbm, ⟨19, _⟩ => ⟨S8x4096x704, .f32⟩
  | .hbm, ⟨20, _⟩ => ⟨S8x4096x704, .f32⟩
  | .hbm, ⟨21, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel11.lean ====
abbrev S8x4096x704 : Shape := ⟨3, ![8, 4096, 704]⟩
abbrev S8x704x2048 : Shape := ⟨3, ![8, 704, 2048]⟩
abbrev S4096x2048 : Shape := ⟨2, ![4096, 2048]⟩
abbrev S2x1024x704 : Shape := ⟨3, ![2, 1024, 704]⟩
abbrev S2x704x1024 : Shape := ⟨3, ![2, 704, 1024]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .local _ .vmem, ⟨0, _⟩ => ⟨S2x1024x704, .bf16⟩
  | .local _ .vmem, ⟨1, _⟩ => ⟨S2x1024x704, .bf16⟩
  | .local _ .vmem, ⟨2, _⟩ => ⟨S2x704x1024, .bf16⟩
  | .local _ .vmem, ⟨3, _⟩ => ⟨S2x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_17 : BitVec 32 := 0#32
  let v23 : BitVec 1 := Scalar.cmpi .ne v22 c0_i32_17
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8x4096x704 : Shape := ⟨3, ![8, 4096, 704]⟩
abbrev S8x704x2048 : Shape := ⟨3, ![8, 704, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S8x4096x704, .f32⟩
  | .hbm, ⟨4, _⟩ => ⟨S8x704x2048, .f32⟩
  | .hbm, ⟨5, _⟩ => ⟨S4096x2048, .f32⟩
  | .hbm, ⟨6, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S8x2048x768 : Shape := ⟨3, ![8, 2048, 768]⟩
abbrev S8x4096x768 : Shape := ⟨3, ![8, 4096, 768]⟩
abbrev S1024x2048 : Shape := ⟨2, ![1024, 2048]⟩
abbrev S1x2048x768 : Shape := ⟨3, ![1, 2048, 768]⟩
abbrev S1x1024x768 : Shape := ⟨3, ![1, 1024, 768]⟩
abbrev S2048x768 : Shape := ⟨2, ![2048, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S8x4096x768, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x1024x768, .f32⟩
  | .local _ .vmem, ⟨5, _⟩ => ⟨S1x1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x2048 : Shape := ⟨2, ![4096, 2048]⟩
abbrev S8x2048x768 : Shape := ⟨3, ![8, 2048, 768]⟩
abbrev S8x768x4096 : Shape := ⟨3, ![8, 768, 4096]⟩
abbrev S8x4096x768 : Shape := ⟨3, ![8, 4096, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S4096x2048, .f32⟩
  | .hbm, ⟨3, _⟩ => ⟨S8x2048x768, .f32⟩
  | .hbm, ⟨4, _⟩ => ⟨S8x768x4096, .f32⟩
  | .hbm, ⟨5, _⟩ => ⟨S8x4096x768, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Run.Steps.lean ====
/- What the attention backward kernel computes block by block, as plain functions of the blocks it
   reads: the masked diagonal block, one earlier block of keys, the loop over the earlier blocks, the
   loop over the blocks of queries, and the two loops that go back through the head norms. -/
module

public import proofs.«01_k».proof.Proof.Gen.KernelIdeal.Skeleton
public import Idealize.ShloMosaic.Lib.VecWindow
public import Idealize.ShloMosaic.Lib.Pipeline.Value

@[expose] public section

set_option maxRecDepth 16384

noncomputable section

namespace Cert.KernelIdeal

open Idealize.ShloMosaic Idealize.ShloMosaic.TcCoe Cert.KernelIdeal.Gen

variable {F : FTy → Type} [FloatOps F]

/-- A whole head's array: 4096 positions by 128 coordinates. -/
abbrev Arr (F : FTy → Type) (e : EltTy) := S4096x128.Idx → Elt F e

/-- The three carried blocks of the loop over earlier keys: the gradient of the query block so far,
    the sum of the log keep terms so far, the sum of the weighted cotangents so far. -/
abbrev Acc (F : FTy → Type) := FVec F S512x128 .f32 × FVec F S512x128 .f32 × FVec F S512x128 .f32

/-- A load of the whole gain reads it. -/
theorem ld_gain (X : S1x128.Idx → Elt F .f32) (inb : ∀ a, (![0, 0] : Fin 2 → ℕ) a + (![1, 128] : Fin 2 → ℕ) a ≤ S1x128.size a) :
    View.ld (Val := Elt F) (S := S1x128) (e' := .f32) X (Rect.unit (s := S1x128) ![0, 0] ![1, 128] inb) = X :=
  View.ld_unit_zero (S := S1x128) (off := ![0, 0]) (funext fun a => by fin_cases a <;> rfl) inb X

section Inner
variable (v25 : FVec F S128x256 .bf16) (v43 v45 : Vec F S512x128 .bf16) (v52 : FVec F S512x1 .f32)
  (kb vb : Vec F S512x128 .bf16) (cr crd : FVec F S512x128 .f32)

/-- The new sum of the log keep terms after one earlier block of keys. -/
def crIn : FVec F S512x128 .f32 :=
  k0_pay16 v25 (k0_pay5 v43 kb) (k0_pay8 v25 v43 cr kb) (k0_pay11 v25 v43 kb)
/-- The attention weights of the block. -/
def abIn : FVec F S512x512 .bf16 :=
  k0_pay17 v25 (k0_pay4 v43 kb) (k0_pay5 v43 kb) (k0_pay7 v25 v43 cr kb) (k0_pay8 v25 v43 cr kb) (k0_pay10 v25 v43 kb) (k0_pay11 v25 v43 kb)
/-- The weights times the cotangents of the weights. -/
def dlaIn : FVec F S512x512 .f32 :=
  k0_pay18 v25 v45 vb (k0_pay4 v43 kb) (k0_pay5 v43 kb) (k0_pay7 v25 v43 cr kb) (k0_pay8 v25 v43 cr kb) (k0_pay10 v25 v43 kb) (k0_pay11 v25 v43 kb)
/-- The first piece of the suffix sums of the weighted cotangents. -/
def s20In : FVec F S512x128 .f32 :=
  k0_pay20 v25 v45 crd vb (k0_pay4 v43 kb) (k0_pay5 v43 kb) (k0_pay7 v25 v43 cr kb) (k0_pay8 v25 v43 cr kb) (k0_pay10 v25 v43 kb) (k0_pay11 v25 v43 kb)
/-- The running sum after that piece. -/
def s21In : FVec F S512x128 .f32 :=
  k0_pay21 v25 v45 crd vb (k0_pay4 v43 kb) (k0_pay5 v43 kb) (k0_pay7 v25 v43 cr kb) (k0_pay8 v25 v43 cr kb) (k0_pay10 v25 v43 kb) (k0_pay11 v25 v43 kb)
/-- The high part of the next piece. -/
def s23In : FVec F S512x128 .bf16 :=
  k0_pay23 v25 v45 vb (k0_pay4 v43 kb) (k0_pay5 v43 kb) (k0_pay7 v25 v43 cr kb) (k0_pay8 v25 v43 cr kb) (k0_pay10 v25 v43 kb) (k0_pay11 v25 v43 kb)
/-- The low part of the next piece. -/
def s24In : FVec F S512x128 .bf16 :=
  k0_pay24 v25 v45 vb (k0_pay4 v43 kb) (k0_pay5 v43 kb) (k0_pay7 v25 v43 cr kb) (k0_pay8 v25 v43 cr kb) (k0_pay10 v25 v43 kb) (k0_pay11 v25 v43 kb)
/-- The zero block the products start from. -/
def zero256 : FVec F S512x256 .f32 := constant S512x256 .f32 0x00000000#32
/-- The new sum of the weighted cotangents. -/
def crdIn : FVec F S512x128 .f32 :=
  k0_pay30 v25 (dlaIn v25 v43 v45 kb vb cr) (s21In v25 v43 v45 kb vb cr crd) (s23In v25 v43 v45 kb vb cr) (s24In v25 v43 v45 kb vb cr) zero256
/-- The new gradient of the query block. -/
def dqIn (dq : FVec F S512x128 .f32) : FVec F S512x128 .f32 :=
  k0_pay32 v25 v52 dq kb (k0_pay4 v43 kb) (k0_pay5 v43 kb) (dlaIn v25 v43 v45 kb vb cr) (s20In v25 v43 v45 kb vb cr crd) (s21In v25 v43 v45 kb vb cr crd)
    (s23In v25 v43 v45 kb vb cr) (s24In v25 v43 v45 kb vb cr) zero256
/-- The new rows of the gradient of the keys. -/
def dkIn (old : Vec F S512x128 .f32) : FVec F S512x128 .f32 :=
  k0_pay96 (k0_pay33 v25 v43 v52 (k0_pay4 v43 kb) (k0_pay5 v43 kb) (dlaIn v25 v43 v45 kb vb cr) (s20In v25 v43 v45 kb vb cr crd) (s21In v25 v43 v45 kb vb cr crd)
    (s23In v25 v43 v45 kb vb cr) (s24In v25 v43 v45 kb vb cr) zero256 old)
/-- The new rows of the gradient of the values. -/
def dvIn (old : Vec F S512x128 .f32) : FVec F S512x128 .f32 :=
  k0_pay97 v45 (abIn v25 v43 kb cr) old
end Inner

section Diag
variable (v25 : FVec F S128x256 .bf16) (v28 : IVec S512x512 1) (v43 v45 : Vec F S512x128 .bf16) (v52 : FVec F S512x1 .f32)
  (kb vb : Vec F S512x128 .bf16)

/-- The sum of the log keep terms of the diagonal block. -/
def crDg : FVec F S512x128 .f32 :=
  k0_pay79 v25 k0_pay65 (k0_pay68 v28 v43 kb) (k0_pay70 v28 v43 kb) (k0_pay71 v28 v43 kb) zero256
/-- The attention weights of the diagonal block. -/
def abDg : FVec F S512x512 .bf16 :=
  k0_pay80 v25 v28 k0_pay65 (k0_pay66 v43 kb) (k0_pay67 v43 kb) (k0_pay68 v28 v43 kb) (k0_pay70 v28 v43 kb) (k0_pay71 v28 v43 kb) zero256
/-- The same weights in the wide format. -/
def awDg : FVec F S512x512 .f32 :=
  k0_pay81 v25 v28 k0_pay65 (k0_pay66 v43 kb) (k0_pay67 v43 kb) (k0_pay68 v28 v43 kb) (k0_pay70 v28 v43 kb) (k0_pay71 v28 v43 kb) zero256
/-- The weights times the cotangents of the weights. -/
def dlaDg : FVec F S512x512 .f32 := k0_pay82 v45 vb (awDg v25 v28 v43 kb)
/-- The sum of the weighted cotangents of the diagonal block. -/
def crdDg : FVec F S512x128 .f32 := k0_pay90 v25 v45 k0_pay65 vb (awDg v25 v28 v43 kb)
/-- The suffix sums of the weighted cotangents. -/
def latDg : FVec F S512x512 .f32 := k0_pay91 v25 v45 k0_pay65 vb (awDg v25 v28 v43 kb)
/-- The gradient of the query block from the diagonal block. -/
def dqDg : FVec F S512x128 .f32 :=
  k0_pay93 v28 v52 k0_pay65 kb (k0_pay66 v43 kb) (k0_pay67 v43 kb) (dlaDg v25 v28 v43 v45 kb vb) (latDg v25 v28 v43 v45 kb vb)
/-- The new rows of the gradient of the keys. -/
def dkDg (old : Vec F S512x128 .f32) : FVec F S512x128 .f32 :=
  k0_pay94 v28 v43 v52 (k0_pay66 v43 kb) (k0_pay67 v43 kb) (dlaDg v25 v28 v43 v45 kb vb) (latDg v25 v28 v43 v45 kb vb) old
/-- The new rows of the gradient of the values. -/
def dvDg (old : Vec F S512x128 .f32) : FVec F S512x128 .f32 :=
  k0_pay95 v45 (abDg v25 v28 v43 kb) old
end Diag

/-- The rows of query block `t`. -/
abbrev rq (t : Fin k0_t3_loop.trips) : Rect S4096x128 := Rect.unit (s := S4096x128) (k0_off5 t) S512x128.size (k0_off5_inb t)
/-- The rows of the `k`-th earlier block of keys of query block `t`. -/
abbrev rk (t : Fin k0_t3_loop.trips) (k : Fin (k0_t4_loop t).trips) : Rect S4096x128 :=
  Rect.unit (s := S4096x128) (k0_off6 t k) S512x128.size (k0_off6_inb t k)

/-- The state of the loop over earlier keys: the carried blocks and the two gradients in memory. -/
abbrev InSt (F : FTy → Type) := Acc F × Arr F .f32 × Arr F .f32

section Loops
variable (v25 : FVec F S128x256 .bf16) (v28 : IVec S512x512 1) (KN VB : Arr F .bf16)

/-- One trip of the loop over earlier keys. -/
def inStep (v43 v45 : Vec F S512x128 .bf16) (v52 : FVec F S512x1 .f32) (t : Fin k0_t3_loop.trips) (k : Fin (k0_t4_loop t).trips) (s : InSt F) : InSt F :=
  ((dqIn v25 v43 v45 v52 (View.ld (Val := Elt F) KN (rk t k)) (View.ld (Val := Elt F) VB (rk t k)) s.1.2.1 s.1.2.2 s.1.1,
    crIn v25 v43 (View.ld (Val := Elt F) KN (rk t k)) s.1.2.1,
    crdIn v25 v43 v45 (View.ld (Val := Elt F) KN (rk t k)) (View.ld (Val := Elt F) VB (rk t k)) s.1.2.1 s.1.2.2),
   VecWindow.put s.2.1 (k0_off6 t k) S512x128.size
    (dkIn v25 v43 v45 v52 (View.ld (Val := Elt F) KN (rk t k)) (View.ld (Val := Elt F) VB (rk t k)) s.1.2.1 s.1.2.2 (View.ld (Val := Elt F) s.2.1 (rk t k))),
   VecWindow.put s.2.2 (k0_off6 t k) S512x128.size
    (dvIn v25 v43 v45 (View.ld (Val := Elt F) KN (rk t k)) s.1.2.1 (View.ld (Val := Elt F) s.2.2 (rk t k))))

/-- The state after `n` trips. -/
def inSt (v43 v45 : Vec F S512x128 .bf16) (v52 : FVec F S512x1 .f32) (t : Fin k0_t3_loop.trips) (s : InSt F) : ℕ → InSt F
  | 0 => s
  | n + 1 => if h : n < (k0_t4_loop t).trips then inStep v25 KN VB v43 v45 v52 t ⟨n, h⟩ (inSt v43 v45 v52 t s n) else inSt v43 v45 v52 t s n

theorem inSt_succ (v43 v45 : Vec F S512x128 .bf16) (v52 : FVec F S512x1 .f32) (t : Fin k0_t3_loop.trips) (s : InSt F) (k : Fin (k0_t4_loop t).trips) :
    inSt v25 KN VB v43 v45 v52 t s (k.val + 1) = inStep v25 KN VB v43 v45 v52 t k (inSt v25 KN VB v43 v45 v52 t s k.val) := by
  rw [inSt, dif_pos k.isLt]

variable (QN DO : Arr F .bf16) (O : Arr F .f32)

/-- The three gradients in memory: of the normed queries, of the normed keys, of the values. -/
abbrev OutSt (F : FTy → Type) := Arr F .f32 × Arr F .f32 × Arr F .f32

/-- The row sums of the cotangents times the outputs, on query block `t`. -/
def totRows (t : Fin k0_t3_loop.trips) : FVec F S512x1 .f32 :=
  k0_pay64 (View.ld (Val := Elt F) DO (rq t)) (View.ld (Val := Elt F) O (rq t))

/-- The state before the first earlier block of keys: the diagonal block done. -/
def inInit (t : Fin k0_t3_loop.trips) (DK DV : Arr F .f32) : InSt F :=
  ((dqDg v25 v28 (View.ld (Val := Elt F) QN (rq t)) (View.ld (Val := Elt F) DO (rq t)) (totRows DO O t) (View.ld (Val := Elt F) KN (rq t)) (View.ld (Val := Elt F) VB (rq t)),
    crDg v25 v28 (View.ld (Val := Elt F) QN (rq t)) (View.ld (Val := Elt F) KN (rq t)),
    crdDg v25 v28 (View.ld (Val := Elt F) QN (rq t)) (View.ld (Val := Elt F) DO (rq t)) (View.ld (Val := Elt F) KN (rq t)) (View.ld (Val := Elt F) VB (rq t))),
   VecWindow.put DK (k0_off5 t) S512x128.size
    (dkDg v25 v28 (View.ld (Val := Elt F) QN (rq t)) (View.ld (Val := Elt F) DO (rq t)) (totRows DO O t) (View.ld (Val := Elt F) KN (rq t)) (View.ld (Val := Elt F) VB (rq t))
      (View.ld (Val := Elt F) DK (rq t))),
   VecWindow.put DV (k0_off5 t) S512x128.size
    (dvDg v25 v28 (View.ld (Val := Elt F) QN (rq t)) (View.ld (Val := Elt F) DO (rq t)) (View.ld (Val := Elt F) KN (rq t)) (View.ld (Val := Elt F) DV (rq t))))

/-- The state after all earlier blocks of keys of query block `t`. -/
def inEnd (t : Fin k0_t3_loop.trips) (DK DV : Arr F .f32) : InSt F :=
  inSt v25 KN VB (View.ld (Val := Elt F) QN (rq t)) (View.ld (Val := Elt F) DO (rq t)) (totRows DO O t) t (inInit v25 v28 KN VB QN DO O t DK DV)
    (k0_t4_loop t).trips

/-- One block of queries. -/
def outStep (t : Fin k0_t3_loop.trips) (s : OutSt F) : OutSt F :=
  (VecWindow.put s.1 (k0_off5 t) S512x128.size (k0_pay100 (inEnd v25 v28 KN VB QN DO O t s.2.1 s.2.2).1.1),
   (inEnd v25 v28 KN VB QN DO O t s.2.1 s.2.2).2.1, (inEnd v25 v28 KN VB QN DO O t s.2.1 s.2.2).2.2)

/-- The gradients after `n` blocks of queries. -/
def outSt (s : OutSt F) : ℕ → OutSt F
  | 0 => s
  | n + 1 => if h : n < k0_t3_loop.trips then outStep v25 v28 KN VB QN DO O ⟨n, h⟩ (outSt s n) else outSt s n

theorem outSt_succ (s : OutSt F) (t : Fin k0_t3_loop.trips) :
    outSt v25 v28 KN VB QN DO O s (t.val + 1) = outStep v25 v28 KN VB QN DO O t (outSt v25 v28 KN VB QN DO O s t.val) := by
  rw [outSt, dif_pos t.isLt]

end Loops

section Norms
/-- The normed queries after `n` row blocks. -/
def qnSt (Q : S1x4096x128.Idx → Elt F .f32) (g : S1x128.Idx → Elt F .f32) (X : Arr F .bf16) : ℕ → Arr F .bf16
  | 0 => X
  | n + 1 => if h : n < k0_t1_loop.trips then
      VecWindow.put (qnSt Q g X n) (k0_off2 ⟨n, h⟩) S512x128.size
        (k0_pay111 (View.ld (Val := Elt F) Q (Rect.unit (s := S1x4096x128) (k0_off1 ⟨n, h⟩) S1x512x128.size (k0_off1_inb ⟨n, h⟩))) g)
    else qnSt Q g X n

theorem qnSt_succ (Q : S1x4096x128.Idx → Elt F .f32) (g : S1x128.Idx → Elt F .f32) (X : Arr F .bf16) (t : Fin k0_t1_loop.trips) :
    qnSt Q g X (t.val + 1) = VecWindow.put (qnSt Q g X t.val) (k0_off2 t) S512x128.size
        (k0_pay111 (View.ld (Val := Elt F) Q (Rect.unit (s := S1x4096x128) (k0_off1 t) S1x512x128.size (k0_off1_inb t))) g) := by
  rw [qnSt, dif_pos t.isLt]

/-- The normed keys after `n` row blocks. -/
def knSt (Q : S1x4096x128.Idx → Elt F .f32) (g : S1x128.Idx → Elt F .f32) (X : Arr F .bf16) : ℕ → Arr F .bf16
  | 0 => X
  | n + 1 => if h : n < k0_t2_loop.trips then
      VecWindow.put (knSt Q g X n) (k0_off4 ⟨n, h⟩) S512x128.size
        (k0_pay112 (View.ld (Val := Elt F) Q (Rect.unit (s := S1x4096x128) (k0_off3 ⟨n, h⟩) S1x512x128.size (k0_off3_inb ⟨n, h⟩))) g)
    else knSt Q g X n

theorem knSt_succ (Q : S1x4096x128.Idx → Elt F .f32) (g : S1x128.Idx → Elt F .f32) (X : Arr F .bf16) (t : Fin k0_t2_loop.trips) :
    knSt Q g X (t.val + 1) = VecWindow.put (knSt Q g X t.val) (k0_off4 t) S512x128.size
        (k0_pay112 (View.ld (Val := Elt F) Q (Rect.unit (s := S1x4096x128) (k0_off3 t) S1x512x128.size (k0_off3_inb t))) g) := by
  rw [knSt, dif_pos t.isLt]

/-- The gradient array and the gain's gradient. -/
abbrev NbSt (F : FTy → Type) := (S3x4096x128.Idx → Elt F .bf16) × (S1x128.Idx → Elt F .f32)

/-- One row block of the way back through the norm of the queries. -/
def qbStep (Q : S1x4096x128.Idx → Elt F .f32) (g : S1x128.Idx → Elt F .f32) (DQ : Arr F .f32) (t : Fin k0_t6_loop.trips) (s : NbSt F) : NbSt F :=
  (VecWindow.put s.1 (k0_off10 t) S1x512x128.size
    (k0_pay104 (View.ld (Val := Elt F) Q (Rect.unit (s := S1x4096x128) (k0_off8 t) S1x512x128.size (k0_off8_inb t)))
      (View.ld (Val := Elt F) DQ (Rect.unit (s := S4096x128) (k0_off9 t) S512x128.size (k0_off9_inb t))) g),
   k0_pay105 (View.ld (Val := Elt F) Q (Rect.unit (s := S1x4096x128) (k0_off8 t) S1x512x128.size (k0_off8_inb t)))
      (View.ld (Val := Elt F) DQ (Rect.unit (s := S4096x128) (k0_off9 t) S512x128.size (k0_off9_inb t))) s.2)

/-- After `n` row blocks. -/
def qbSt (Q : S1x4096x128.Idx → Elt F .f32) (g : S1x128.Idx → Elt F .f32) (DQ : Arr F .f32) (s : NbSt F) : ℕ → NbSt F
  | 0 => s
  | n + 1 => if h : n < k0_t6_loop.trips then qbStep Q g DQ ⟨n, h⟩ (qbSt Q g DQ s n) else qbSt Q g DQ s n

theorem qbSt_succ (Q : S1x4096x128.Idx → Elt F .f32) (g : S1x128.Idx → Elt F .f32) (DQ : Arr F .f32) (s : NbSt F) (t : Fin k0_t6_loop.trips) :
    qbSt Q g DQ s (t.val + 1) = qbStep Q g DQ t (qbSt Q g DQ s t.val) := by
  rw [qbSt, dif_pos t.isLt]

/-- One row block of the way back through the norm of the keys. -/
def kbStep (Q : S1x4096x128.Idx → Elt F .f32) (g : S1x128.Idx → Elt F .f32) (DQ : Arr F .f32) (t : Fin k0_t7_loop.trips) (s : NbSt F) : NbSt F :=
  (VecWindow.put s.1 (k0_off13 t) S1x512x128.size
    (k0_pay109 (View.ld (Val := Elt F) Q (Rect.unit (s := S1x4096x128) (k0_off11 t) S1x512x128.size (k0_off11_inb t)))
      (View.ld (Val := Elt F) DQ (Rect.unit (s := S4096x128) (k0_off12 t) S512x128.size (k0_off12_inb t))) g),
   k0_pay110 (View.ld (Val := Elt F) Q (Rect.unit (s := S1x4096x128) (k0_off11 t) S1x512x128.size (k0_off11_inb t)))
      (View.ld (Val := Elt F) DQ (Rect.unit (s := S4096x128) (k0_off12 t) S512x128.size (k0_off12_inb t))) s.2)

/-- After `n` row blocks. -/
def kbSt (Q : S1x4096x128.Idx → Elt F .f32) (g : S1x128.Idx → Elt F .f32) (DQ : Arr F .f32) (s : NbSt F) : ℕ → NbSt F
  | 0 => s
  | n + 1 => if h : n < k0_t7_loop.trips then kbStep Q g DQ ⟨n, h⟩ (kbSt Q g DQ s n) else kbSt Q g DQ s n

theorem kbSt_succ (Q : S1x4096x128.Idx → Elt F .f32) (g : S1x128.Idx → Elt F .f32) (DQ : Arr F .f32) (s : NbSt F) (t : Fin k0_t7_loop.trips) :
    kbSt Q g DQ s (t.val + 1) = kbStep Q g DQ t (kbSt Q g DQ s t.val) := by
  rw [kbSt, dif_pos t.isLt]
end Norms

end Cert.KernelIdeal
-- ==== Proof.Run.InvNorms.lean ====
/- The loops that norm the queries and keys, and the loops that go back through those norms. -/
module

public import proofs.«01_k».proof.Proof.Run.Steps
public import proofs.«01_k».proof.Proof.Gen.KernelIdeal.Frame

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .bf16) (harg6 : arg6.IsWhole)
  (arg7 : Memref sig .tc .vmem S4096x128 .f32) (harg7 : arg7.IsWhole)
  (arg8 : Memref sig .tc .vmem S3x4096x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)

set_option warn.classDefReducibility false in
/-- The norm of the queries. -/
@[sl_loop] def inv_t1  (X1 : BufTy.Contents (Elt F) arg1.view.ty) (X4 : BufTy.Contents (Elt F) arg4.view.ty) (G11 : S4096x128.Idx → Elt F .bf16) :
    LoopInv (M := MT nD τ sig Unit (Elt F) ℕ (UR sig nD τ) ℕ) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) where
  inv k acc := iprop((arg1.view.loc (c : Thread nD τ) ↦[arg1.view.set]{fullShare} X1)
    ∗ (arg4.view.loc (c : Thread nD τ) ↦[arg4.view.set]{fullShare} X4)
    ∗ (∃ f, (arg11.view.loc (c : Thread nD τ) ↦[arg11.view.set]{fullShare} f) ∗ ⌜arg11.view.read (Elt F) f = (qnSt (arg1.view.read (Elt F) X1) (arg4.view.read (Elt F) X4) G11 k)⌝))
  step k acc := by
    iintro ⟨R1, R4, ⟨%f11, W11, %h11⟩⟩
    unfold k0_t1_body
    sl_exec
    sl_step
    isplitl [R1]; · iexact R1
    isplitl [R4]; · iexact R4
    iexists _; isplitl [W11]; · iexact W11
    ipureintro
    rw [qnSt_succ, View.read_writes_cons_put _ _ _ _ _ rfl]
    sl_unfold_words
    simp only [View.writes_nil, View.readAt_eq_ld, h11]
    rw [ld_gain]

set_option warn.classDefReducibility false in
/-- The norm of the keys. -/
@[sl_loop] def inv_t2  (X2 : BufTy.Contents (Elt F) arg2.view.ty) (X5 : BufTy.Contents (Elt F) arg5.view.ty) (G12 : S4096x128.Idx → Elt F .bf16) :
    LoopInv (M := MT nD τ sig Unit (Elt F) ℕ (UR sig nD τ) ℕ) Idealize.ShloMosaic.frame (wpE (defs₀ (F := F)) 𝒱 (c : Thread nD τ) bd) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) where
  inv k acc := iprop((arg2.view.loc (c : Thread nD τ) ↦[arg2.view.set]{fullShare} X2)
    ∗ (arg5.view.loc (c : Thread nD τ) ↦[arg5.view.set]{fullShare} X5)
    ∗ (∃ f, (arg12.view.loc (c : Thread nD τ) ↦[arg12.view.set]{fullShare} f) ∗ ⌜arg12.view.read (Elt F) f = (knSt (arg2.view.read (Elt F) X2) (arg5.view.read (Elt F) X5) G12 k)⌝))
  step k acc := by
    iintro ⟨R2, R5, ⟨%f12, W12, %h12⟩⟩
    unfold k0_t2_body
    sl_exec
    sl_step
    isplitl [R2]; · iexact R2
    isplitl [R5]; · iexact R5
    iexists _; isplitl [W12]; · iexact W12
    ipureintro
    rw [knSt_succ, View.read_writes_cons_put _ _ _ _ _ rfl]
    sl_unfold_words
    simp only [View.writes_nil, View.readAt_eq_ld, h12]
    rw [ld_gain]

set_option warn.classDefReducibility false in
/-- Back through the norm of the queries. -/
@[sl_loop] def inv_t6  (X1 : BufTy.Contents (Elt F) arg1.view.ty) (X4 : BufTy.Contents (Elt F) arg4.view.ty) (X14 : BufTy.Contents (Elt F) arg14.view.ty) (G8 : S3x4096x128.Idx → Elt F .bf16) (G9 : S1x128.Idx → Elt F .f32) :
    LoopInv (M := MT nD τ sig Unit (Elt F) ℕ (UR sig nD τ) ℕ) Idealize.ShloMosaic.frame (wpE (defs₀ (F := F)) 𝒱 (c : Thread nD τ) bd) E
      k0_t6_loop.lb k0_t6_loop.ub k0_t6_loop.st k0_t6_ok () (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) where
  inv k acc := iprop((arg1.view.loc (c : Thread nD τ) ↦[arg1.view.set]{fullShare} X1)
    ∗ (arg4.view.loc (c : Thread nD τ) ↦[arg4.view.set]{fullShare} X4)
    ∗ (arg14.view.loc (c : Thread nD τ) ↦[arg14.view.set]{fullShare} X14)
    ∗ (∃ f, (arg8.view.loc (c : Thread nD τ) ↦[arg8.view.set]{fullShare} f) ∗ ⌜arg8.view.read (Elt F) f = (qbSt (arg1.view.read (Elt F) X1) (arg4.view.read (Elt F) X4) (arg14.view.read (Elt F) X14) (G8, G9) k).1⌝)
    ∗ (∃ f, (arg9.view.loc (c : Thread nD τ) ↦[arg9.view.set]{fullShare} f) ∗ ⌜arg9.view.read (Elt F) f = (qbSt (arg1.view.read (Elt F) X1) (arg4.view.read (Elt F) X4) (arg14.view.read (Elt F) X14) (G8, G9) k).2⌝))
  step k acc := by
    iintro ⟨R1, R4, R14, ⟨%f8, W8, %h8⟩, ⟨%f9, W9, %h9⟩⟩
    unfold k0_t6_body
    sl_exec
    sl_step
    isplitl [R1]; · iexact R1
    isplitl [R4]; · iexact R4
    isplitl [R14]; · iexact R14
    isplitl [W8]
    · iexists _; isplitl [W8]; · iexact W8
      ipureintro
      rw [qbSt_succ, View.read_writes_cons_put _ _ _ _ _ rfl]
      sl_unfold_words
      simp only [View.writes_nil, View.readAt_eq_ld, h8, h9]
      rw [ld_gain]; try rfl
    iexists _; isplitl [W9]; · iexact W9
    ipureintro
    rw [qbSt_succ, View.read_writes_full]
    sl_unfold_words
    simp only [View.writes_nil, View.readAt_eq_ld, h8, h9]
    rw [ld_gain]; rfl

set_option warn.classDefReducibility false in
/-- Back through the norm of the keys. -/
@[sl_loop] def inv_t7  (X2 : BufTy.Contents (Elt F) arg2.view.ty) (X5 : BufTy.Contents (Elt F) arg5.view.ty) (X15 : BufTy.Contents (Elt F) arg15.view.ty) (G8 : S3x4096x128.Idx → Elt F .bf16) (G10 : S1x128.Idx → Elt F .f32) :
    LoopInv (M := MT nD τ sig Unit (Elt F) ℕ (UR sig nD τ) ℕ) Idealize.ShloMosaic.frame (wpE (defs₀ (F := F)) 𝒱 (c : Thread nD τ) bd) E
      k0_t7_loop.lb k0_t7_loop.ub k0_t7_loop.st k0_t7_ok () (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) where
  inv k acc := iprop((arg2.view.loc (c : Thread nD τ) ↦[arg2.view.set]{fullShare} X2)
    ∗ (arg5.view.loc (c : Thread nD τ) ↦[arg5.view.set]{fullShare} X5)
    ∗ (arg15.view.loc (c : Thread nD τ) ↦[arg15.view.set]{fullShare} X15)
    ∗ (∃ f, (arg8.view.loc (c : Thread nD τ) ↦[arg8.view.set]{fullShare} f) ∗ ⌜arg8.view.read (Elt F) f = (kbSt (arg2.view.read (Elt F) X2) (arg5.view.read (Elt F) X5) (arg15.view.read (Elt F) X15) (G8, G10) k).1⌝)
    ∗ (∃ f, (arg10.view.loc (c : Thread nD τ) ↦[arg10.view.set]{fullShare} f) ∗ ⌜arg10.view.read (Elt F) f = (kbSt (arg2.view.read (Elt F) X2) (arg5.view.read (Elt F) X5) (arg15.view.read (Elt F) X15) (G8, G10) k).2⌝))
  step k acc := by
    iintro ⟨R2, R5, R15, ⟨%f8, W8, %h8⟩, ⟨%f10, W10, %h10⟩⟩
    unfold k0_t7_body
    sl_exec
    sl_step
    isplitl [R2]; · iexact R2
    isplitl [R5]; · iexact R5
    isplitl [R15]; · iexact R15
    isplitl [W8]
    · iexists _; isplitl [W8]; · iexact W8
      ipureintro
      rw [kbSt_succ, View.read_writes_cons_put _ _ _ _ _ rfl]
      sl_unfold_words
      simp only [View.writes_nil, View.readAt_eq_ld, h8, h10]
      rw [ld_gain]; try rfl
    iexists _; isplitl [W10]; · iexact W10
    ipureintro
    rw [kbSt_succ, View.read_writes_full]
    sl_unfold_words
    simp only [View.writes_nil, View.readAt_eq_ld, h8, h10]
    rw [ld_gain]; rfl

end Cert.KernelIdeal
-- ==== Proof.Run.InvKeys.lean ====
/- The loop over the earlier blocks of keys: after each trip the carried blocks and the two gradients
   in memory are what `inSt` says. -/
module

public import proofs.«01_k».proof.Proof.Run.Steps
public import proofs.«01_k».proof.Proof.Gen.KernelIdeal.Frame

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .bf16) (harg6 : arg6.IsWhole)
  (arg7 : Memref sig .tc .vmem S4096x128 .f32) (harg7 : arg7.IsWhole)
  (arg8 : Memref sig .tc .vmem S3x4096x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)

set_option warn.classDefReducibility false in
/-- The loop by its invariant. -/
@[sl_loop] def inv_t4 (v25 : FVec F S128x256 .bf16) (v28 : IVec S512x512 1) (k0_t3 : Fin k0_t3_loop.trips) (arg17 : BitVec 32) (v41 : BitVec 32) (v43 : Vec F S512x128 .bf16) (v45 : Vec F S512x128 .bf16) (v52 : FVec F S512x1 .f32) (v53 : FVec F S512x128 .f32) (v55 : BitVec 32) (v57 : Vec F S512x128 .bf16) (v62 : FVec F S512x512 .f32) (v74 : FVec F S512x512 .f32) (v124 : FVec F S512x128 .f32) (v132 : FVec F S512x512 .bf16) (v135 : FVec F S512x512 .f32) (v183 : FVec F S512x128 .f32) (v184 : FVec F S512x512 .f32) (X12 : BufTy.Contents (Elt F) arg12.view.ty) (X13 : BufTy.Contents (Elt F) arg13.view.ty) (G15 : S4096x128.Idx → Elt F .f32) (G16 : S4096x128.Idx → Elt F .f32) (init : Acc F) :
    LoopInv (M := MT nD τ sig Unit (Elt F) ℕ (UR sig nD τ) ℕ) Idealize.ShloMosaic.frame (wpE (defs₀ (F := F)) 𝒱 (c : Thread nD τ) bd) E
      (k0_t4_loop k0_t3).lb (k0_t4_loop k0_t3).ub (k0_t4_loop k0_t3).st (k0_t4_ok k0_t3) init (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 v28 k0_t3 arg17 v41 v43 v45 v52 v53 v55 v57 v62 v74 v124 v132 v135 v183 v184) where
  inv k acc := iprop((arg12.view.loc (c : Thread nD τ) ↦[arg12.view.set]{fullShare} X12)
    ∗ (arg13.view.loc (c : Thread nD τ) ↦[arg13.view.set]{fullShare} X13)
    ∗ (∃ f, (arg15.view.loc (c : Thread nD τ) ↦[arg15.view.set]{fullShare} f) ∗ ⌜arg15.view.read (Elt F) f = (inSt v25 (arg12.view.read (Elt F) X12) (arg13.view.read (Elt F) X13) v43 v45 v52 k0_t3 (init, G15, G16) k).2.1⌝)
    ∗ (∃ f, (arg16.view.loc (c : Thread nD τ) ↦[arg16.view.set]{fullShare} f) ∗ ⌜arg16.view.read (Elt F) f = (inSt v25 (arg12.view.read (Elt F) X12) (arg13.view.read (Elt F) X13) v43 v45 v52 k0_t3 (init, G15, G16) k).2.2⌝)
    ∗ ⌜acc = (inSt v25 (arg12.view.read (Elt F) X12) (arg13.view.read (Elt F) X13) v43 v45 v52 k0_t3 (init, G15, G16) k).1⌝)
  step k acc := by
    iintro ⟨R12, R13, ⟨%f15, W15, %h15⟩, ⟨%f16, W16, %h16⟩, %hacc⟩
    subst hacc
    unfold k0_t4_body
    sl_exec
    sl_step
    isplitl [R12]; · iexact R12
    isplitl [R13]; · iexact R13
    isplitl [W15]
    · iexists _; isplitl [W15]; · iexact W15
      ipureintro
      rw [inSt_succ, View.read_writes_cons_put _ _ _ _ _ rfl]
      sl_unfold_words
      simp only [View.writes_nil, View.readAt_eq_ld, h15, h16]
      rfl
    isplitl [W16]
    · iexists _; isplitl [W16]; · iexact W16
      ipureintro
      rw [inSt_succ, View.read_writes_cons_put _ _ _ _ _ rfl]
      sl_unfold_words
      simp only [View.writes_nil, View.readAt_eq_ld, h15, h16]
      rfl
    ipureintro
    rw [inSt_succ]
    rfl

theorem no_trips : ∀ t : Fin k0_t3_loop.trips, (k0_t5_loop t).trips = 0 := by decide +kernel

set_option warn.classDefReducibility false in
/-- The remainder loop makes no trip. -/
@[sl_loop] def inv_t5 (v25 : FVec F S128x256 .bf16) (v28 : IVec S512x512 1) (k0_t3 : Fin k0_t3_loop.trips) (arg17 : BitVec 32) (v41 : BitVec 32) (v43 : Vec F S512x128 .bf16) (v45 : Vec F S512x128 .bf16) (v52 : FVec F S512x1 .f32) (v53 : FVec F S512x128 .f32) (v55 : BitVec 32) (v57 : Vec F S512x128 .bf16) (v62 : FVec F S512x512 .f32) (v74 : FVec F S512x512 .f32) (v124 : FVec F S512x128 .f32) (v132 : FVec F S512x512 .bf16) (v135 : FVec F S512x512 .f32) (v183 : FVec F S512x128 .f32) (v184 : FVec F S512x512 .f32) (v221 : BitVec 32) (init : Acc F) :
    LoopInv (M := MT nD τ sig Unit (Elt F) ℕ (UR sig nD τ) ℕ) Idealize.ShloMosaic.frame (wpE (defs₀ (F := F)) 𝒱 (c : Thread nD τ) bd) E
      (k0_t5_loop k0_t3).lb (k0_t5_loop k0_t3).ub (k0_t5_loop k0_t3).st (k0_t5_ok k0_t3) init (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 v28 k0_t3 arg17 v41 v43 v45 v52 v53 v55 v57 v62 v74 v124 v132 v135 v183 v184 v221) where
  inv k acc := iprop(⌜acc = init⌝)
  step k acc := absurd k.isLt (Nat.not_lt.mpr ((no_trips k0_t3).le.trans (Nat.zero_le _)))

end Cert.KernelIdeal
-- ==== Proof.Run.InvQueries.lean ====
/- The loop over the blocks of queries: after each trip the three gradients in memory are what
   `outSt` says. -/
module

public import proofs.«01_k».proof.Proof.Run.InvKeys
public import proofs.«01_k».proof.Proof.Gen.KernelIdeal.Frame

@[expose] public section

set_option maxRecDepth 16384
set_option maxHeartbeats 4000000

noncomputable section

namespace Cert.KernelIdeal

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem inSt_congr {v25 : FVec F S128x256 .bf16} {KN VB : Arr F .bf16} {v43 v45 : Vec F S512x128 .bf16} {v52 : FVec F S512x1 .f32} {t : Fin k0_t3_loop.trips} {s s' : InSt F} {n : ℕ}
    (h1 : s.1 = s'.1) (h2 : s.2.1 = s'.2.1) (h3 : s.2.2 = s'.2.2) : inSt v25 KN VB v43 v45 v52 t s n = inSt v25 KN VB v43 v45 v52 t s' n :=
  congrArg (fun s => inSt v25 KN VB v43 v45 v52 t s n) (Prod.ext h1 (Prod.ext h2 h3))

variable (𝒱 : Variants) (c : Dev nD) (bd : Option 𝒱.V) (E : Set ℕ) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .bf16) (harg6 : arg6.IsWhole)
  (arg7 : Memref sig .tc .vmem S4096x128 .f32) (harg7 : arg7.IsWhole)
  (arg8 : Memref sig .tc .vmem S3x4096x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)

set_option warn.classDefReducibility false in
/-- The loop by its invariant. -/
@[sl_loop] def inv_t3 (v25 : FVec F S128x256 .bf16) (v28 : IVec S512x512 1) (c0_i32_16 : BitVec 32) (X6 : BufTy.Contents (Elt F) arg6.view.ty) (X7 : BufTy.Contents (Elt F) arg7.view.ty) (X11 : BufTy.Contents (Elt F) arg11.view.ty) (X12 : BufTy.Contents (Elt F) arg12.view.ty) (X13 : BufTy.Contents (Elt F) arg13.view.ty) (G14 : S4096x128.Idx → Elt F .f32) (G15 : S4096x128.Idx → Elt F .f32) (G16 : S4096x128.Idx → Elt F .f32) :
    LoopInv (M := MT nD τ sig Unit (Elt F) ℕ (UR sig nD τ) ℕ) Idealize.ShloMosaic.frame (wpE (defs₀ (F := F)) 𝒱 (c : Thread nD τ) bd) E
      k0_t3_loop.lb k0_t3_loop.ub k0_t3_loop.st k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v25 v28 c0_i32_16) where
  inv k acc := iprop((arg6.view.loc (c : Thread nD τ) ↦[arg6.view.set]{fullShare} X6)
    ∗ (arg7.view.loc (c : Thread nD τ) ↦[arg7.view.set]{fullShare} X7)
    ∗ (arg11.view.loc (c : Thread nD τ) ↦[arg11.view.set]{fullShare} X11)
    ∗ (arg12.view.loc (c : Thread nD τ) ↦[arg12.view.set]{fullShare} X12)
    ∗ (arg13.view.loc (c : Thread nD τ) ↦[arg13.view.set]{fullShare} X13)
    ∗ (∃ f, (arg14.view.loc (c : Thread nD τ) ↦[arg14.view.set]{fullShare} f) ∗ ⌜arg14.view.read (Elt F) f = (outSt v25 v28 (arg12.view.read (Elt F) X12) (arg13.view.read (Elt F) X13) (arg11.view.read (Elt F) X11) (arg6.view.read (Elt F) X6) (arg7.view.read (Elt F) X7) (G14, G15, G16) k).1⌝)
    ∗ (∃ f, (arg15.view.loc (c : Thread nD τ) ↦[arg15.view.set]{fullShare} f) ∗ ⌜arg15.view.read (Elt F) f = (outSt v25 v28 (arg12.view.read (Elt F) X12) (arg13.view.read (Elt F) X13) (arg11.view.read (Elt F) X11) (arg6.view.read (Elt F) X6) (arg7.view.read (Elt F) X7) (G14, G15, G16) k).2.1⌝)
    ∗ (∃ f, (arg16.view.loc (c : Thread nD τ) ↦[arg16.view.set]{fullShare} f) ∗ ⌜arg16.view.read (Elt F) f = (outSt v25 v28 (arg12.view.read (Elt F) X12) (arg13.view.read (Elt F) X13) (arg11.view.read (Elt F) X11) (arg6.view.read (Elt F) X6) (arg7.view.read (Elt F) X7) (G14, G15, G16) k).2.2⌝))
  step k acc := by
    iintro ⟨R6, R7, R11, R12, R13, ⟨%f14, W14, %h14⟩, ⟨%f15, W15, %h15⟩, ⟨%f16, W16, %h16⟩⟩
    unfold k0_t3_body
    sl_exec
    sl_step
    isplitl [R6]; · iexact R6
    isplitl [R7]; · iexact R7
    isplitl [R11]; · iexact R11
    isplitl [R12]; · iexact R12
    isplitl [R13]; · iexact R13
    isplitl [W14]
    · iexists _; isplitl [W14]; · iexact W14
      ipureintro
      rw [outSt_succ, View.read_writes_cons_put _ _ _ _ _ rfl, View.writes_nil, h14]
      sl_unfold_words
      refine congrArg (VecWindow.put _ _ _) (congrArg k0_pay100 (congrArg (fun s : InSt F => s.1.1) (inSt_congr rfl ?_ ?_)))
      · refine (View.read_writes_cons_put arg15.view f15 _ _ [] rfl).trans ?_
        rw [View.writes_nil]
        sl_unfold_words
        simp only [View.readAt_eq_ld, h15]
        rfl
      · refine (View.read_writes_cons_put arg16.view f16 _ _ [] rfl).trans ?_
        rw [View.writes_nil]
        sl_unfold_words
        simp only [View.readAt_eq_ld, h16]
        rfl
    isplitl [W15]
    · iexists _; isplitl [W15]; · iexact W15
      ipureintro
      refine hL3.trans ?_
      rw [outSt_succ]
      refine congrArg (fun s : InSt F => s.2.1) (inSt_congr rfl ?_ ?_)
      · refine (View.read_writes_cons_put arg15.view f15 _ _ [] rfl).trans ?_
        rw [View.writes_nil]
        sl_unfold_words
        simp only [View.readAt_eq_ld, h15]
        rfl
      · refine (View.read_writes_cons_put arg16.view f16 _ _ [] rfl).trans ?_
        rw [View.writes_nil]
        sl_unfold_words
        simp only [View.readAt_eq_ld, h16]
        rfl
    iexists _; isplitl [W16]; · iexact W16
    ipureintro
    refine hL5.trans ?_
    rw [outSt_succ]
    refine congrArg (fun s : InSt F => s.2.2) (inSt_congr rfl ?_ ?_)
    · refine (View.read_writes_cons_put arg15.view f15 _ _ [] rfl).trans ?_
      rw [View.writes_nil]
      sl_unfold_words
      simp only [View.readAt_eq_ld, h15]
      rfl
    · refine (View.read_writes_cons_put arg16.view f16 _ _ [] rfl).trans ?_
      rw [View.writes_nil]
      sl_unfold_words
      simp only [View.readAt_eq_ld, h16]
      rfl

end Cert.KernelIdeal
-- ==== Proof.Run.Forms.lean ====
/- Closed forms of what the loops leave in memory: every row belongs to one block of 512 rows, and
   the block's trip alone decides it, so nothing depends on what was in memory before. -/
module

public import proofs.«01_k».proof.Proof.Run.Steps
public import Idealize.ShloMosaic.Lib.ValueIdxCore

@[expose] public section

set_option maxRecDepth 16384

noncomputable section

namespace Cert.KernelIdeal

open Idealize.ShloMosaic Idealize.ShloMosaic.TcCoe Idealize.ShloMosaic.ValueIdx Cert.KernelIdeal.Gen

/-- The place of a row within its block of 512 rows. -/
def lrow (y : S4096x128.Idx) : S512x128.Idx := ix2 ⟨(y 0).val % 512, Nat.mod_lt _ (by decide)⟩ ⟨(y 1).val, (y 1).isLt⟩

theorem lt0 (y : S4096x128.Idx) : (y 0).val < 4096 := (y 0).isLt
theorem lt1 (y : S4096x128.Idx) : (y 1).val < 128 := (y 1).isLt

theorem put_rows {α : Type} (X : S4096x128.Idx → α) {off : Fin 2 → ℕ} {t : ℕ} (h : off = ![512 * t, 0]) (w : S512x128.Idx → α) (y : S4096x128.Idx) :
    VecWindow.put (s := S4096x128) X off S512x128.size w y = if 512 * t ≤ (y 0).val ∧ (y 0).val < 512 * (t + 1) then w (lrow y) else X y := by
  subst h
  unfold VecWindow.put
  by_cases hy : 512 * t ≤ (y 0).val ∧ (y 0).val < 512 * (t + 1)
  · rw [if_pos hy]
    have hh : ∀ a : Fin 2, (![512 * t, 0] : Fin 2 → ℕ) a ≤ (y a).val ∧ (y a).val < (![512 * t, 0] : Fin 2 → ℕ) a + (![512, 128] : Fin 2 → ℕ) a := by
      have := lt1 y
      intro a
      match a with
      | ⟨0, _⟩ => exact ⟨hy.1, (show (y 0).val < 512 * t + 512 by omega)⟩
      | ⟨1, _⟩ => exact ⟨Nat.zero_le _, (show (y 1).val < 0 + 128 by omega)⟩
    refine (dif_pos hh).trans ?_
    refine congrArg w (funext fun a => Fin.ext ?_)
    match a with
    | ⟨0, _⟩ => rw [Rect.unitLocal_val]; show (y 0).val - 512 * t = (y 0).val % 512; omega
    | ⟨1, _⟩ => rw [Rect.unitLocal_val]; show (y 1).val - 0 = (y 1).val; omega
  · rw [if_neg hy]
    refine dif_neg fun hh => hy ?_
    have := hh 0
    have h1 : 512 * t ≤ (y 0).val ∧ (y 0).val < 512 * t + 512 := this
    omega

/-- The block of 512 rows a row lies in. -/
def blk (T : ℕ) (hT : T = 8) (y : S4096x128.Idx) : Fin T := ⟨(y 0).val / 512, by have := lt0 y; omega⟩

theorem rows_fill {α : Type} {T : ℕ} (hT : T = 8) (st : ℕ → S4096x128.Idx → α) (W : Fin T → S512x128.Idx → α) (off : Fin T → Fin 2 → ℕ)
    (hoff : ∀ t, off t = ![512 * t.val, 0])
    (hs : ∀ t : Fin T, st (t.val + 1) = VecWindow.put (s := S4096x128) (st t.val) (off t) S512x128.size (W t)) (n : ℕ) (hn : n ≤ T) :
    ∀ y, st n y = if (y 0).val < 512 * n then W (blk T hT y) (lrow y) else st 0 y := by
  induction n with
  | zero => intro y; rw [if_neg (by omega)]
  | succ n ih =>
    intro y
    have h1 := hs ⟨n, hn⟩
    rw [h1, put_rows _ (hoff ⟨n, hn⟩), ih (by omega)]
    by_cases hA : 512 * n ≤ (y 0).val ∧ (y 0).val < 512 * (n + 1)
    · rw [if_pos hA, if_pos hA.2]
      have : blk T hT y = ⟨n, hn⟩ := Fin.ext (show (y 0).val / 512 = n by omega)
      rw [this]
    · rw [if_neg hA]
      by_cases hB : (y 0).val < 512 * n
      · rw [if_pos hB, if_pos (by omega)]
      · rw [if_neg hB, if_neg (by omega)]

theorem rows_full {α : Type} {T : ℕ} (hT : T = 8) (st : ℕ → S4096x128.Idx → α) (W : Fin T → S512x128.Idx → α) (off : Fin T → Fin 2 → ℕ)
    (hoff : ∀ t, off t = ![512 * t.val, 0])
    (hs : ∀ t : Fin T, st (t.val + 1) = VecWindow.put (s := S4096x128) (st t.val) (off t) S512x128.size (W t)) :
    st T = fun y => W (blk T hT y) (lrow y) := by
  funext y
  rw [rows_fill hT st W off hoff hs T le_rfl y, if_pos (by have := lt0 y; omega)]

/-- The three planes of the gradient array. -/
def lrow3 (y : S3x4096x128.Idx) : S1x512x128.Idx :=
  ix3 ⟨0, by decide⟩ ⟨(y 1).val % 512, Nat.mod_lt _ (by decide)⟩ ⟨(y 2).val, (y 2).isLt⟩

theorem p_lt0 (y : S3x4096x128.Idx) : (y 0).val < 3 := (y 0).isLt
theorem p_lt1 (y : S3x4096x128.Idx) : (y 1).val < 4096 := (y 1).isLt
theorem p_lt2 (y : S3x4096x128.Idx) : (y 2).val < 128 := (y 2).isLt

theorem put_plane {α : Type} (X : S3x4096x128.Idx → α) {off : Fin 3 → ℕ} {p t : ℕ} (h : off = ![p, 512 * t, 0]) (w : S1x512x128.Idx → α) (y : S3x4096x128.Idx) :
    VecWindow.put (s := S3x4096x128) X off S1x512x128.size w y
      = if (y 0).val = p ∧ 512 * t ≤ (y 1).val ∧ (y 1).val < 512 * (t + 1) then w (lrow3 y) else X y := by
  subst h
  unfold VecWindow.put
  by_cases hy : (y 0).val = p ∧ 512 * t ≤ (y 1).val ∧ (y 1).val < 512 * (t + 1)
  · rw [if_pos hy]
    have hh : ∀ a : Fin 3, (![p, 512 * t, 0] : Fin 3 → ℕ) a ≤ (y a).val ∧ (y a).val < (![p, 512 * t, 0] : Fin 3 → ℕ) a + (![1, 512, 128] : Fin 3 → ℕ) a := by
      have := p_lt2 y
      intro a
      match a with
      | ⟨0, _⟩ => exact ⟨(show p ≤ (y 0).val by omega), (show (y 0).val < p + 1 by omega)⟩
      | ⟨1, _⟩ => exact ⟨hy.2.1, (show (y 1).val < 512 * t + 512 by omega)⟩
      | ⟨2, _⟩ => exact ⟨Nat.zero_le _, (show (y 2).val < 0 + 128 by omega)⟩
    refine (dif_pos hh).trans ?_
    refine congrArg w (funext fun a => Fin.ext ?_)
    match a with
    | ⟨0, _⟩ => rw [Rect.unitLocal_val]; show (y 0).val - p = 0; omega
    | ⟨1, _⟩ => rw [Rect.unitLocal_val]; show (y 1).val - 512 * t = (y 1).val % 512; omega
    | ⟨2, _⟩ => rw [Rect.unitLocal_val]; show (y 2).val - 0 = (y 2).val; omega
  · rw [if_neg hy]
    refine dif_neg fun hh => hy ?_
    have h0 : p ≤ (y 0).val ∧ (y 0).val < p + 1 := hh 0
    have h1 : 512 * t ≤ (y 1).val ∧ (y 1).val < 512 * t + 512 := hh 1
    omega

/-- The block of 512 rows a place of the gradient array lies in. -/
def blk3 (T : ℕ) (hT : T = 8) (y : S3x4096x128.Idx) : Fin T := ⟨(y 1).val / 512, by have := p_lt1 y; omega⟩

theorem plane_fill {α : Type} {T : ℕ} (hT : T = 8) (p : ℕ) (st : ℕ → S3x4096x128.Idx → α) (W : Fin T → S1x512x128.Idx → α) (off : Fin T → Fin 3 → ℕ)
    (hoff : ∀ t, off t = ![p, 512 * t.val, 0])
    (hs : ∀ t : Fin T, st (t.val + 1) = VecWindow.put (s := S3x4096x128) (st t.val) (off t) S1x512x128.size (W t)) (n : ℕ) (hn : n ≤ T) :
    ∀ y, st n y = if (y 0).val = p ∧ (y 1).val < 512 * n then W (blk3 T hT y) (lrow3 y) else st 0 y := by
  induction n with
  | zero => intro y; rw [if_neg (by omega)]
  | succ n ih =>
    intro y
    have h1 := hs ⟨n, hn⟩
    rw [h1, put_plane _ (hoff ⟨n, hn⟩), ih (by omega)]
    by_cases hA : (y 0).val = p ∧ 512 * n ≤ (y 1).val ∧ (y 1).val < 512 * (n + 1)
    · rw [if_pos hA, if_pos (by omega)]
      have : blk3 T hT y = ⟨n, hn⟩ := Fin.ext (show (y 1).val / 512 = n by omega)
      rw [this]
    · rw [if_neg hA]
      by_cases hB : (y 0).val = p ∧ (y 1).val < 512 * n
      · rw [if_pos hB, if_pos (by omega)]
      · rw [if_neg hB, if_neg (by omega)]

theorem plane_full {α : Type} {T : ℕ} (hT : T = 8) (p : ℕ) (st : ℕ → S3x4096x128.Idx → α) (W : Fin T → S1x512x128.Idx → α) (off : Fin T → Fin 3 → ℕ)
    (hoff : ∀ t, off t = ![p, 512 * t.val, 0])
    (hs : ∀ t : Fin T, st (t.val + 1) = VecWindow.put (s := S3x4096x128) (st t.val) (off t) S1x512x128.size (W t)) (y : S3x4096x128.Idx) :
    st T y = if (y 0).val = p then W (blk3 T hT y) (lrow3 y) else st 0 y := by
  rw [plane_fill hT p st W off hoff hs T le_rfl y]
  have := p_lt1 y
  by_cases h : (y 0).val = p
  · rw [if_pos h, if_pos (by omega)]
  · rw [if_neg h, if_neg (by omega)]

theorem trips1 : k0_t1_loop.trips = 8 := by decide +kernel
theorem trips2 : k0_t2_loop.trips = 8 := by decide +kernel
theorem trips3 : k0_t3_loop.trips = 8 := by decide +kernel
theorem trips6 : k0_t6_loop.trips = 8 := by decide +kernel
theorem trips7 : k0_t7_loop.trips = 8 := by decide +kernel

variable {F : FTy → Type} [FloatOps F]

/-- The normed queries of a head. -/
def qnA (Q : S1x4096x128.Idx → Elt F .f32) (g : S1x128.Idx → Elt F .f32) : Arr F .bf16 := fun y =>
  k0_pay111 (View.ld (Val := Elt F) Q (Rect.unit (s := S1x4096x128) (k0_off1 (blk _ trips1 y)) S1x512x128.size (k0_off1_inb (blk _ trips1 y)))) g (lrow y)

theorem qnSt_full (Q : S1x4096x128.Idx → Elt F .f32) (g : S1x128.Idx → Elt F .f32) (X : Arr F .bf16) : qnSt Q g X k0_t1_loop.trips = qnA Q g :=
  rows_full trips1 (qnSt Q g X) (fun t => k0_pay111 (View.ld (Val := Elt F) Q (Rect.unit (s := S1x4096x128) (k0_off1 t) S1x512x128.size (k0_off1_inb t))) g)
    k0_off2 k0_off2_eq (qnSt_succ Q g X)

/-- The normed keys of a head. -/
def knA (Q : S1x4096x128.Idx → Elt F .f32) (g : S1x128.Idx → Elt F .f32) : Arr F .bf16 := fun y =>
  k0_pay112 (View.ld (Val := Elt F) Q (Rect.unit (s := S1x4096x128) (k0_off3 (blk _ trips2 y)) S1x512x128.size (k0_off3_inb (blk _ trips2 y)))) g (lrow y)

theorem knSt_full (Q : S1x4096x128.Idx → Elt F .f32) (g : S1x128.Idx → Elt F .f32) (X : Arr F .bf16) : knSt Q g X k0_t2_loop.trips = knA Q g :=
  rows_full trips2 (knSt Q g X) (fun t => k0_pay112 (View.ld (Val := Elt F) Q (Rect.unit (s := S1x4096x128) (k0_off3 t) S1x512x128.size (k0_off3_inb t))) g)
    k0_off4 k0_off4_eq (knSt_succ Q g X)

section Out
variable (v25 : FVec F S128x256 .bf16) (v28 : IVec S512x512 1) (KN VB QN DO : Arr F .bf16) (O : Arr F .f32)

/-- The two gradients of keys and values do not depend on what the first array held. -/
theorem outSt_snd (G G' : Arr F .f32) (s : Arr F .f32 × Arr F .f32) (n : ℕ) :
    (outSt v25 v28 KN VB QN DO O (G, s) n).2 = (outSt v25 v28 KN VB QN DO O (G', s) n).2 := by
  induction n with
  | zero => rfl
  | succ n ih =>
    rw [outSt, outSt]
    by_cases h : n < k0_t3_loop.trips
    · rw [dif_pos h, dif_pos h]
      unfold outStep
      rw [ih]
    · rw [dif_neg h, dif_neg h, ih]

/-- The gradients of keys and values after `n` blocks of queries, from zero. -/
def kvSt (n : ℕ) : Arr F .f32 × Arr F .f32 :=
  (outSt v25 v28 KN VB QN DO O (k0_pay114, k0_pay114, k0_pay115) n).2

/-- The gradient of the normed queries. -/
def dqA : Arr F .f32 := fun y =>
  k0_pay100 (inEnd v25 v28 KN VB QN DO O (blk _ trips3 y) (kvSt v25 v28 KN VB QN DO O (blk _ trips3 y).val).1 (kvSt v25 v28 KN VB QN DO O (blk _ trips3 y).val).2).1.1 (lrow y)

theorem outSt_full (G : Arr F .f32) :
    outSt v25 v28 KN VB QN DO O (G, k0_pay114, k0_pay115) k0_t3_loop.trips = (dqA v25 v28 KN VB QN DO O, kvSt v25 v28 KN VB QN DO O k0_t3_loop.trips) := by
  refine Prod.ext ?_ (outSt_snd _ _ _ _ _ _ _ _ _ _ _)
  refine rows_full trips3 (fun n => (outSt v25 v28 KN VB QN DO O (G, k0_pay114, k0_pay115) n).1)
    (fun t => k0_pay100 (inEnd v25 v28 KN VB QN DO O t (kvSt v25 v28 KN VB QN DO O t.val).1 (kvSt v25 v28 KN VB QN DO O t.val).2).1.1) k0_off5 k0_off5_eq fun t => ?_
  show (outSt v25 v28 KN VB QN DO O (G, k0_pay114, k0_pay115) (t.val + 1)).1 = _
  rw [outSt_succ]
  unfold outStep kvSt
  rw [outSt_snd v25 v28 KN VB QN DO O G k0_pay114]
end Out

/-- The gain's gradient of the queries after `n` row blocks. -/
def gqSt (Q : S1x4096x128.Idx → Elt F .f32) (DQ : Arr F .f32) (s : S1x128.Idx → Elt F .f32) : ℕ → S1x128.Idx → Elt F .f32
  | 0 => s
  | n + 1 => if h : n < k0_t6_loop.trips then
      k0_pay105 (View.ld (Val := Elt F) Q (Rect.unit (s := S1x4096x128) (k0_off8 ⟨n, h⟩) S1x512x128.size (k0_off8_inb ⟨n, h⟩)))
        (View.ld (Val := Elt F) DQ (Rect.unit (s := S4096x128) (k0_off9 ⟨n, h⟩) S512x128.size (k0_off9_inb ⟨n, h⟩))) (gqSt Q DQ s n)
    else gqSt Q DQ s n

theorem qbSt_snd (Q : S1x4096x128.Idx → Elt F .f32) (g : S1x128.Idx → Elt F .f32) (DQ : Arr F .f32) (s : NbSt F) (n : ℕ) :
    (qbSt Q g DQ s n).2 = gqSt Q DQ s.2 n := by
  induction n with
  | zero => rfl
  | succ n ih =>
    rw [qbSt, gqSt]
    by_cases h : n < k0_t6_loop.trips
    · rw [dif_pos h, dif_pos h, ← ih]; rfl
    · rw [dif_neg h, dif_neg h, ih]

/-- The gain's gradient of the keys after `n` row blocks. -/
def gkSt (Q : S1x4096x128.Idx → Elt F .f32) (DQ : Arr F .f32) (s : S1x128.Idx → Elt F .f32) : ℕ → S1x128.Idx → Elt F .f32
  | 0 => s
  | n + 1 => if h : n < k0_t7_loop.trips then
      k0_pay110 (View.ld (Val := Elt F) Q (Rect.unit (s := S1x4096x128) (k0_off11 ⟨n, h⟩) S1x512x128.size (k0_off11_inb ⟨n, h⟩)))
        (View.ld (Val := Elt F) DQ (Rect.unit (s := S4096x128) (k0_off12 ⟨n, h⟩) S512x128.size (k0_off12_inb ⟨n, h⟩))) (gkSt Q DQ s n)
    else gkSt Q DQ s n

theorem kbSt_snd (Q : S1x4096x128.Idx → Elt F .f32) (g : S1x128.Idx → Elt F .f32) (DQ : Arr F .f32) (s : NbSt F) (n : ℕ) :
    (kbSt Q g DQ s n).2 = gkSt Q DQ s.2 n := by
  induction n with
  | zero => rfl
  | succ n ih =>
    rw [kbSt, gkSt]
    by_cases h : n < k0_t7_loop.trips
    · rw [dif_pos h, dif_pos h, ← ih]; rfl
    · rw [dif_neg h, dif_neg h, ih]

/-- The gradient of the raw queries, at a place of plane 0. -/
def dqRaw (Q : S1x4096x128.Idx → Elt F .f32) (g : S1x128.Idx → Elt F .f32) (DQ : Arr F .f32) (y : S3x4096x128.Idx) : Elt F .bf16 :=
  k0_pay104 (View.ld (Val := Elt F) Q (Rect.unit (s := S1x4096x128) (k0_off8 (blk3 _ trips6 y)) S1x512x128.size (k0_off8_inb (blk3 _ trips6 y))))
    (View.ld (Val := Elt F) DQ (Rect.unit (s := S4096x128) (k0_off9 (blk3 _ trips6 y)) S512x128.size (k0_off9_inb (blk3 _ trips6 y)))) g (lrow3 y)

/-- The gradient of the raw keys, at a place of plane 1. -/
def dkRaw (Q : S1x4096x128.Idx → Elt F .f32) (g : S1x128.Idx → Elt F .f32) (DQ : Arr F .f32) (y : S3x4096x128.Idx) : Elt F .bf16 :=
  k0_pay109 (View.ld (Val := Elt F) Q (Rect.unit (s := S1x4096x128) (k0_off11 (blk3 _ trips7 y)) S1x512x128.size (k0_off11_inb (blk3 _ trips7 y))))
    (View.ld (Val := Elt F) DQ (Rect.unit (s := S4096x128) (k0_off12 (blk3 _ trips7 y)) S512x128.size (k0_off12_inb (blk3 _ trips7 y)))) g (lrow3 y)

theorem qbSt_fst (Q : S1x4096x128.Idx → Elt F .f32) (g : S1x128.Idx → Elt F .f32) (DQ : Arr F .f32) (s : NbSt F) (y : S3x4096x128.Idx) :
    (qbSt Q g DQ s k0_t6_loop.trips).1 y = if (y 0).val = 0 then dqRaw Q g DQ y else s.1 y :=
  plane_full trips6 0 (fun n => (qbSt Q g DQ s n).1)
    (fun t => k0_pay104 (View.ld (Val := Elt F) Q (Rect.unit (s := S1x4096x128) (k0_off8 t) S1x512x128.size (k0_off8_inb t)))
      (View.ld (Val := Elt F) DQ (Rect.unit (s := S4096x128) (k0_off9 t) S512x128.size (k0_off9_inb t))) g) k0_off10 k0_off10_eq
    (fun t => by show (qbSt Q g DQ s (t.val + 1)).1 = _; rw [qbSt_succ]; rfl) y

theorem kbSt_fst (Q : S1x4096x128.Idx → Elt F .f32) (g : S1x128.Idx → Elt F .f32) (DQ : Arr F .f32) (s : NbSt F) (y : S3x4096x128.Idx) :
    (kbSt Q g DQ s k0_t7_loop.trips).1 y = if (y 0).val = 1 then dkRaw Q g DQ y else s.1 y :=
  plane_full trips7 1 (fun n => (kbSt Q g DQ s n).1)
    (fun t => k0_pay109 (View.ld (Val := Elt F) Q (Rect.unit (s := S1x4096x128) (k0_off11 t) S1x512x128.size (k0_off11_inb t)))
      (View.ld (Val := Elt F) DQ (Rect.unit (s := S4096x128) (k0_off12 t) S512x128.size (k0_off12_inb t))) g) k0_off13 k0_off13_eq
    (fun t => by show (kbSt Q g DQ s (t.val + 1)).1 = _; rw [kbSt_succ]; rfl) y

/-! ### One head -/

section Head
variable (q k v : S1x4096x128.Idx → Elt F .f32) (gq gk : S1x128.Idx → Elt F .f32) (dO : Arr F .bf16) (o : Arr F .f32)

/-- The gradients of a head's normed keys and of its values. -/
def headKV : Arr F .f32 × Arr F .f32 :=
  kvSt k0_pay116 k0_pay117 (knA k gk) (k0_pay113 v) (qnA q gq) dO o k0_t3_loop.trips

/-- The gradient of a head's normed queries. -/
def headDQ : Arr F .f32 := dqA k0_pay116 k0_pay117 (knA k gk) (k0_pay113 v) (qnA q gq) dO o

/-- The place of the values' gradient in its own array. -/
def lrowV (y : S3x4096x128.Idx) : S1x4096x128.Idx := ix3 ⟨0, by decide⟩ ⟨(y 1).val, (y 1).isLt⟩ ⟨(y 2).val, (y 2).isLt⟩

/-- The block of the gradient array a head writes. -/
def headD3 : S3x4096x128.Idx → Elt F .bf16 := fun y =>
  if (y 0).val = 0 then dqRaw q gq (headDQ q k v gq gk dO o) y
  else if (y 0).val = 1 then dkRaw k gk (headKV q k v gq gk dO o).1 y
  else k0_pay3 (headKV q k v gq gk dO o).2 (lrowV y)

/-- The gain's gradient of the queries after this head. -/
def headGQ (s : S1x128.Idx → Elt F .f32) : S1x128.Idx → Elt F .f32 := gqSt q (headDQ q k v gq gk dO o) s k0_t6_loop.trips
/-- The gain's gradient of the keys after this head. -/
def headGK (s : S1x128.Idx → Elt F .f32) : S1x128.Idx → Elt F .f32 := gkSt k (headKV q k v gq gk dO o).1 s k0_t7_loop.trips

theorem headD3_eq (s : NbSt F) (g2 : S1x128.Idx → Elt F .f32) :
    VecWindow.put (s := S3x4096x128)
      (kbSt k gk (headKV q k v gq gk dO o).1 ((qbSt q gq (headDQ q k v gq gk dO o) s k0_t6_loop.trips).1, g2) k0_t7_loop.trips).1
      ![2, 0, 0] S1x4096x128.size (k0_pay3 (headKV q k v gq gk dO o).2) = headD3 q k v gq gk dO o := by
  funext y
  have h0 := p_lt0 y
  unfold VecWindow.put headD3
  by_cases hy : (y 0).val = 2
  · rw [if_neg (by omega), if_neg (by omega)]
    have hh : ∀ a : Fin 3, (![2, 0, 0] : Fin 3 → ℕ) a ≤ (y a).val ∧ (y a).val < (![2, 0, 0] : Fin 3 → ℕ) a + (![1, 4096, 128] : Fin 3 → ℕ) a := by
      have h1 := p_lt1 y
      have h2 := p_lt2 y
      intro a
      match a with
      | ⟨0, _⟩ => exact ⟨(show 2 ≤ (y 0).val by omega), (show (y 0).val < 2 + 1 by omega)⟩
      | ⟨1, _⟩ => exact ⟨Nat.zero_le _, (show (y 1).val < 0 + 4096 by omega)⟩
      | ⟨2, _⟩ => exact ⟨Nat.zero_le _, (show (y 2).val < 0 + 128 by omega)⟩
    refine (dif_pos hh).trans ?_
    refine congrArg (k0_pay3 _) (funext fun a => Fin.ext ?_)
    match a with
    | ⟨0, _⟩ => rw [Rect.unitLocal_val]; show (y 0).val - 2 = 0; omega
    | ⟨1, _⟩ => rw [Rect.unitLocal_val]; show (y 1).val - 0 = (y 1).val; omega
    | ⟨2, _⟩ => rw [Rect.unitLocal_val]; show (y 2).val - 0 = (y 2).val; omega
  · refine (dif_neg fun hh => hy ?_).trans ?_
    · have h1 : 2 ≤ (y 0).val ∧ (y 0).val < 2 + 1 := hh 0
      omega
    · rw [kbSt_fst]
      by_cases h1 : (y 0).val = 1
      · rw [if_pos h1, if_neg (by omega), if_pos h1]
      · rw [if_neg h1, qbSt_fst, if_pos (by omega), if_pos (by omega)]
/-- The loops one after the other leave the head's gradients, whatever was in memory. -/
theorem left_eq {R11 R12 R13 X11 X12 : Arr F .bf16} {R14 R15 R16 A14 A15 A16 : Arr F .f32} {R8 R8' A8 : S3x4096x128.Idx → Elt F .bf16}
    {R9 A9 R10 A10 : S1x128.Idx → Elt F .f32}
    (h11 : R11 = qnSt q gq X11 k0_t1_loop.trips) (h12 : R12 = knSt k gk X12 k0_t2_loop.trips) (h13 : R13 = k0_pay113 v)
    (h15 : A15 = k0_pay114) (h16 : A16 = k0_pay115)
    (e14 : R14 = (outSt k0_pay116 k0_pay117 R12 R13 R11 dO o (A14, A15, A16) k0_t3_loop.trips).1)
    (e15 : R15 = (outSt k0_pay116 k0_pay117 R12 R13 R11 dO o (A14, A15, A16) k0_t3_loop.trips).2.1)
    (e16 : R16 = (outSt k0_pay116 k0_pay117 R12 R13 R11 dO o (A14, A15, A16) k0_t3_loop.trips).2.2)
    (h8 : R8 = (qbSt q gq R14 (A8, A9) k0_t6_loop.trips).1) (h9 : R9 = (qbSt q gq R14 (A8, A9) k0_t6_loop.trips).2)
    (h8' : R8' = (kbSt k gk R15 (R8, A10) k0_t7_loop.trips).1) (h10 : R10 = (kbSt k gk R15 (R8, A10) k0_t7_loop.trips).2) :
    VecWindow.put (s := S3x4096x128) R8' ![2, 0, 0] S1x4096x128.size (k0_pay3 R16) = headD3 q k v gq gk dO o
      ∧ R9 = headGQ q k v gq gk dO o A9 ∧ R10 = headGK q k v gq gk dO o A10 := by
  rw [qnSt_full] at h11
  rw [knSt_full] at h12
  subst h11 h12 h13 h15 h16
  rw [outSt_full] at e14 e15 e16
  subst e14 e15 e16 h8 h8' h9 h10
  exact ⟨headD3_eq q k v gq gk dO o (A8, A9) A10, qbSt_snd _ _ _ _ _, kbSt_snd _ _ _ _ _⟩
end Head

end Cert.KernelIdeal
-- ==== Proof.Run.Body.lean ====
/- What one call of the body does: it runs the head's five loops and leaves the head's gradients. -/
module

public import proofs.«01_k».proof.Proof.Run.InvNorms
public import proofs.«01_k».proof.Proof.Run.InvQueries
public import proofs.«01_k».proof.Proof.Run.Forms

@[expose] public section

set_option maxRecDepth 16384
set_option maxHeartbeats 1000000

noncomputable section

namespace Cert.KernelIdeal

open Idealize.ShloMosaic Idealize.ShloMosaic.TcCoe Idealize.ShloMosaic.Tactic Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (E : Set ℕ) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x4096x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S4096x128 .bf16) (harg6 : arg6.IsWhole)
  (arg7 : Memref sig .tc .vmem S4096x128 .f32) (harg7 : arg7.IsWhole)
  (arg8 : Memref sig .tc .vmem S3x4096x128 .bf16) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S4096x128 .bf16) (harg11 : arg11.IsWhole)
  (arg12 : Memref sig .tc .vmem S4096x128 .bf16) (harg12 : arg12.IsWhole)
  (arg13 : Memref sig .tc .vmem S4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S4096x128 .f32) (harg16 : arg16.IsWhole)
  (q k v : S1x4096x128.Idx → Elt F .f32) (gq gk : S1x128.Idx → Elt F .f32) (dO : Arr F .bf16) (o : Arr F .f32) (G9 G10 : S1x128.Idx → Elt F .f32)

/-- The body at the first head: the gains' gradients start from zero. -/
theorem sound_first (hc : Scalar.cmpi .ne (Scalar.extui (Scalar.cmpi .eq (BitVec.ofNat 32 (i 0).val) 0#32)) 0#32 = 1#1) (K : PUnit → sProp 𝕄) :
    iprop(owns (c : Thread nD τ) arg1 fullShare q ∗ owns (c : Thread nD τ) arg2 fullShare k ∗ owns (c : Thread nD τ) arg3 fullShare v ∗ owns (c : Thread nD τ) arg4 fullShare gq ∗ owns (c : Thread nD τ) arg5 fullShare gk ∗ owns (c : Thread nD τ) arg6 fullShare dO ∗ owns (c : Thread nD τ) arg7 fullShare o ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
        ∗ (iprop(owns (c : Thread nD τ) arg1 fullShare q ∗ owns (c : Thread nD τ) arg2 fullShare k ∗ owns (c : Thread nD τ) arg3 fullShare v ∗ owns (c : Thread nD τ) arg4 fullShare gq ∗ owns (c : Thread nD τ) arg5 fullShare gk ∗ owns (c : Thread nD τ) arg6 fullShare dO ∗ owns (c : Thread nD τ) arg7 fullShare o ∗ owns (c : Thread nD τ) arg8 fullShare (headD3 q k v gq gk dO o) ∗ owns (c : Thread nD τ) arg9 fullShare (headGQ q k v gq gk dO o k0_pay1) ∗ owns (c : Thread nD τ) arg10 fullShare (headGK q k v gq gk dO o k0_pay2) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
      ⊢ wp Idealize.ShloMosaic.frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, H11⟩, ⟨%f12, H12⟩, ⟨%f13, H13⟩, ⟨%f14, H14⟩, ⟨%f15, H15⟩, ⟨%f16, H16⟩, Hk⟩
  subst hf1 hf2 hf3 hf4 hf5 hf6 hf7
  sl_exec
  sl_step
  have e3 : View.readAt (Elt F) arg3.view (Rect.unit (s := S1x4096x128) ![0, 0, 0] S1x4096x128.size inb_S1x4096x128_S1x4096x128_0_0_0).toLoadRect f3 = arg3.view.read (Elt F) f3 :=
    (View.readAt_eq_ld _ _ _).trans (View.ld_unit_zero (S := S1x4096x128) (off := ![0, 0, 0]) (funext fun a => by fin_cases a <;> rfl) _ _)
  have e16 : View.readAt (Elt F) arg16.view (Rect.unit (s := S4096x128) ![0, 0] S4096x128.size inb_S4096x128_S4096x128_0_0).toLoadRect fL4 = arg16.view.read (Elt F) fL4 :=
    (View.readAt_eq_ld _ _ _).trans (View.ld_unit_zero (S := S4096x128) (off := ![0, 0]) (funext fun a => by fin_cases a <;> rfl) _ _)
  obtain ⟨e8, e9, e10⟩ := left_eq (q := arg1.view.read (Elt F) f1) (k := arg2.view.read (Elt F) f2) (v := arg3.view.read (Elt F) f3) (gq := arg4.view.read (Elt F) f4) (gk := arg5.view.read (Elt F) f5) (dO := arg6.view.read (Elt F) f6) (o := arg7.view.read (Elt F) f7)
    hL3 hL7 (by sl_unfold_words; exact (View.read_writes_full (Val := Elt F) arg13.view arg13.view.junk (off := ![0, 0]) inb_S4096x128_S4096x128_0_0 _ []).trans (congrArg k0_pay113 e3))
    (by sl_unfold_words; exact View.read_writes_full (Val := Elt F) arg15.view arg15.view.junk (off := ![0, 0]) inb_S4096x128_S4096x128_0_0 _ [])
    (by sl_unfold_words; exact View.read_writes_full (Val := Elt F) arg16.view arg16.view.junk (off := ![0, 0]) inb_S4096x128_S4096x128_0_0 _ [])
    hL14 hL16 hL18 hL23 hL25 hL30 hL32
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_cons_put _ _ _ _ _ rfl, View.writes_nil, e16]
    exact e8
  isplitl [H9]
  · iexists _; isplitr; swap; · iexact H9
    ipureintro
    refine e9.trans (congrArg (headGQ _ _ _ _ _ _ _) ?_)
    sl_unfold_words
    exact View.read_writes_full (Val := Elt F) arg9.view arg9.view.junk (off := ![0, 0]) inb_S1x128_S1x128_0_0 _ []
  isplitl [H10]
  · iexists _; isplitr; swap; · iexact H10
    ipureintro
    refine e10.trans (congrArg (headGK _ _ _ _ _ _ _) ?_)
    sl_unfold_words
    exact View.read_writes_full (Val := Elt F) arg10.view arg10.view.junk (off := ![0, 0]) inb_S1x128_S1x128_0_0 _ []
  isplitl [H11]; · iexists _; iexact H11
  isplitl [H12]; · iexists _; iexact H12
  isplitl [H13]; · iexists _; iexact H13
  isplitl [H14]; · iexists _; iexact H14
  isplitl [H15]; · iexists _; iexact H15
  iexists _; iexact H16

/-- The body at a later head: the gains' gradients go on from what the heads before left. -/
theorem sound_later (hc : ¬ (Scalar.cmpi .ne (Scalar.extui (Scalar.cmpi .eq (BitVec.ofNat 32 (i 0).val) 0#32)) 0#32 : BitVec 1) = 1#1) (K : PUnit → sProp 𝕄) :
    iprop(owns (c : Thread nD τ) arg1 fullShare q ∗ owns (c : Thread nD τ) arg2 fullShare k ∗ owns (c : Thread nD τ) arg3 fullShare v ∗ owns (c : Thread nD τ) arg4 fullShare gq ∗ owns (c : Thread nD τ) arg5 fullShare gk ∗ owns (c : Thread nD τ) arg6 fullShare dO ∗ owns (c : Thread nD τ) arg7 fullShare o ∗ (∃ d, owns (c : Thread nD τ) arg8 fullShare d) ∗ owns (c : Thread nD τ) arg9 fullShare G9 ∗ owns (c : Thread nD τ) arg10 fullShare G10 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)
        ∗ (iprop(owns (c : Thread nD τ) arg1 fullShare q ∗ owns (c : Thread nD τ) arg2 fullShare k ∗ owns (c : Thread nD τ) arg3 fullShare v ∗ owns (c : Thread nD τ) arg4 fullShare gq ∗ owns (c : Thread nD τ) arg5 fullShare gk ∗ owns (c : Thread nD τ) arg6 fullShare dO ∗ owns (c : Thread nD τ) arg7 fullShare o ∗ owns (c : Thread nD τ) arg8 fullShare (headD3 q k v gq gk dO o) ∗ owns (c : Thread nD τ) arg9 fullShare (headGQ q k v gq gk dO o G9) ∗ owns (c : Thread nD τ) arg10 fullShare (headGK q k v gq gk dO o G10) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f)) -∗ K ⟨⟩))
      ⊢ wp Idealize.ShloMosaic.frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_attn_bwd_eq_skeleton]; unfold cc0_attn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, H11⟩, ⟨%f12, H12⟩, ⟨%f13, H13⟩, ⟨%f14, H14⟩, ⟨%f15, H15⟩, ⟨%f16, H16⟩, Hk⟩
  subst hf1 hf2 hf3 hf4 hf5 hf6 hf7 hf9 hf10
  sl_exec
  sl_step
  have e3 : View.readAt (Elt F) arg3.view (Rect.unit (s := S1x4096x128) ![0, 0, 0] S1x4096x128.size inb_S1x4096x128_S1x4096x128_0_0_0).toLoadRect f3 = arg3.view.read (Elt F) f3 :=
    (View.readAt_eq_ld _ _ _).trans (View.ld_unit_zero (S := S1x4096x128) (off := ![0, 0, 0]) (funext fun a => by fin_cases a <;> rfl) _ _)
  have e16 : View.readAt (Elt F) arg16.view (Rect.unit (s := S4096x128) ![0, 0] S4096x128.size inb_S4096x128_S4096x128_0_0).toLoadRect fL4 = arg16.view.read (Elt F) fL4 :=
    (View.readAt_eq_ld _ _ _).trans (View.ld_unit_zero (S := S4096x128) (off := ![0, 0]) (funext fun a => by fin_cases a <;> rfl) _ _)
  obtain ⟨e8, e9, e10⟩ := left_eq (q := arg1.view.read (Elt F) f1) (k := arg2.view.read (Elt F) f2) (v := arg3.view.read (Elt F) f3) (gq := arg4.view.read (Elt F) f4) (gk := arg5.view.read (Elt F) f5) (dO := arg6.view.read (Elt F) f6) (o := arg7.view.read (Elt F) f7)
    hL3 hL7 (by sl_unfold_words; exact (View.read_writes_full (Val := Elt F) arg13.view arg13.view.junk (off := ![0, 0]) inb_S4096x128_S4096x128_0_0 _ []).trans (congrArg k0_pay113 e3))
    (by sl_unfold_words; exact View.read_writes_full (Val := Elt F) arg15.view arg15.view.junk (off := ![0, 0]) inb_S4096x128_S4096x128_0_0 _ [])
    (by sl_unfold_words; exact View.read_writes_full (Val := Elt F) arg16.view arg16.view.junk (off := ![0, 0]) inb_S4096x128_S4096x128_0_0 _ [])
    hL14 hL16 hL18 hL23 hL25 hL30 hL32
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    ipureintro
    rw [View.read_writes_cons_put _ _ _ _ _ rfl, View.writes_nil, e16]
    exact e8
  isplitl [H9]
  · iexists _; isplitr; swap; · iexact H9
    ipureintro
    exact e9
  isplitl [H10]
  · iexists _; isplitr; swap; · iexact H10
    ipureintro
    exact e10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal
-- ==== Proof.Run.Launch.lean ====
/- The run: sixteen calls of the body, one per head, each leaving its head's block of the gradients; the
   gains' gradients run through all of them. -/
module

public import proofs.«01_k».proof.Proof.Run.Body
public import Idealize.ShloMosaic.Lib.Pipeline.FrameBody
public import Idealize.ShloMosaic.Lib.Claim

@[expose] public section

set_option maxRecDepth 16384

noncomputable section

namespace Cert.KernelIdeal

open Idealize.ShloMosaic Idealize.ShloMosaic.TcCoe Idealize.ShloMosaic.Tactic Idealize.ShloMosaic.ValueIdx Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The gain's gradient of the queries after the head of point `n`. -/
def gqAt (c : Dev nD) : ℕ → S1x128.Idx → Elt F .f32
  | 0 => if h : 0 < cfg0.N then (fun t : Fin cfg0.N => headGQ (iblk m c 0 t) (iblk m c 1 t) (iblk m c 2 t) (iblk m c 3 t) (iblk m c 4 t) (iblk m c 5 t) (iblk m c 6 t) k0_pay1) ⟨0, h⟩ else k0_pay1
  | n + 1 => if h : n + 1 < cfg0.N then (fun t : Fin cfg0.N => headGQ (iblk m c 0 t) (iblk m c 1 t) (iblk m c 2 t) (iblk m c 3 t) (iblk m c 4 t) (iblk m c 5 t) (iblk m c 6 t) (gqAt c n)) ⟨n + 1, h⟩ else gqAt c n

/-- The gain's gradient of the keys after the head of point `n`. -/
def gkAt (c : Dev nD) : ℕ → S1x128.Idx → Elt F .f32
  | 0 => if h : 0 < cfg0.N then (fun t : Fin cfg0.N => headGK (iblk m c 0 t) (iblk m c 1 t) (iblk m c 2 t) (iblk m c 3 t) (iblk m c 4 t) (iblk m c 5 t) (iblk m c 6 t) k0_pay2) ⟨0, h⟩ else k0_pay2
  | n + 1 => if h : n + 1 < cfg0.N then (fun t : Fin cfg0.N => headGK (iblk m c 0 t) (iblk m c 1 t) (iblk m c 2 t) (iblk m c 3 t) (iblk m c 4 t) (iblk m c 5 t) (iblk m c 6 t) (gkAt c n)) ⟨n + 1, h⟩ else gkAt c n

/-- The block of the gradient array left at a point. -/
def d3At (c : Dev nD) (t : Fin cfg0.N) : S3x4096x128.Idx → Elt F .bf16 := headD3 (iblk m c 0 t) (iblk m c 1 t) (iblk m c 2 t) (iblk m c 3 t) (iblk m c 4 t) (iblk m c 5 t) (iblk m c 6 t)

theorem gqAt_first (c : Dev nD) (t : Fin cfg0.N) (h0 : t.val = 0) : gqAt m c t.val = headGQ (iblk m c 0 t) (iblk m c 1 t) (iblk m c 2 t) (iblk m c 3 t) (iblk m c 4 t) (iblk m c 5 t) (iblk m c 6 t) k0_pay1 := by
  obtain ⟨n, hn⟩ := t
  subst h0
  unfold gqAt
  rw [dif_pos hn]

theorem gqAt_later (c : Dev nD) (t : Fin cfg0.N) (h0 : t.val ≠ 0) : gqAt m c t.val = headGQ (iblk m c 0 t) (iblk m c 1 t) (iblk m c 2 t) (iblk m c 3 t) (iblk m c 4 t) (iblk m c 5 t) (iblk m c 6 t) (gqAt m c (t.val - 1)) := by
  obtain ⟨n, hn⟩ := t
  obtain _ | n := n
  · exact absurd rfl h0
  · show gqAt m c (n + 1) = _
    rw [gqAt, dif_pos hn]
    rfl

theorem gkAt_first (c : Dev nD) (t : Fin cfg0.N) (h0 : t.val = 0) : gkAt m c t.val = headGK (iblk m c 0 t) (iblk m c 1 t) (iblk m c 2 t) (iblk m c 3 t) (iblk m c 4 t) (iblk m c 5 t) (iblk m c 6 t) k0_pay2 := by
  obtain ⟨n, hn⟩ := t
  subst h0
  unfold gkAt
  rw [dif_pos hn]

theorem gkAt_later (c : Dev nD) (t : Fin cfg0.N) (h0 : t.val ≠ 0) : gkAt m c t.val = headGK (iblk m c 0 t) (iblk m c 1 t) (iblk m c 2 t) (iblk m c 3 t) (iblk m c 4 t) (iblk m c 5 t) (iblk m c 6 t) (gkAt m c (t.val - 1)) := by
  obtain ⟨n, hn⟩ := t
  obtain _ | n := n
  · exact absurd rfl h0
  · show gkAt m c (n + 1) = _
    rw [gkAt, dif_pos hn]
    rfl

/-- What the launch's buffers hold around each call of the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => d3At m c t
    | ⟨8, _⟩ => gqAt m c t.val
    | ⟨9, _⟩ => gkAt m c t.val
  Φ _ := Pipeline.ΦA spec0 c
  q := Pipeline.shareOf spec0
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = d3At m c t := by dsimp only [dats]
theorem after0_8 (c : Dev nD) (t : Fin cfg0.N) : (dats m 0 c).after 8 t = gqAt m c t.val := by dsimp only [dats]
theorem after0_9 (c : Dev nD) (t : Fin cfg0.N) : (dats m 0 c).after 9 t = gkAt m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8 (c : Dev nD) (t : Fin cfg0.N) (h0 : t.val ≠ 0) (d) : (dats m 0 c).before 8 t d = gqAt m c (t.val - 1) :=
  ((dats m 0 c).before_out_kept 8 rfl t h0 (by
    refine Bool.eq_false_iff.mpr fun hf => ?_
    have h1 := (flush0_8 _).mp hf
    have h2 : t.val < 16 := lt_of_lt_of_eq t.isLt N_0
    have h3 : (t.val - 1) % 16 = 15 := h1
    omega) (fun _ => rfl) (fun _ _ => rfl) d).trans (after0_8 m c _)
theorem before0_9 (c : Dev nD) (t : Fin cfg0.N) (h0 : t.val ≠ 0) (d) : (dats m 0 c).before 9 t d = gkAt m c (t.val - 1) :=
  ((dats m 0 c).before_out_kept 9 rfl t h0 (by
    refine Bool.eq_false_iff.mpr fun hf => ?_
    have h1 := (flush0_9 _).mp hf
    have h2 : t.val < 16 := lt_of_lt_of_eq t.isLt N_0
    have h3 : (t.val - 1) % 16 = 15 := h1
    omega) (fun _ => rfl) (fun _ _ => rfl) d).trans (after0_9 m c _)

/-- The first head's test holds at the first point alone. -/
theorem cond_iff : ∀ t : Fin grid0.N, ((Scalar.cmpi .ne (Scalar.extui (Scalar.cmpi .eq (BitVec.ofNat 32 (grid0.coords t 0).val) 0#32)) 0#32 : BitVec 1) = 1#1) ↔ t.val = 0 := by
  decide +kernel

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem scratch_in (c : Dev nD) (b : Ref sig .tc) (f : Buf (Elt F) ((c : Thread nD τ).loc b)) :
    (iprop(((c : Thread nD τ).loc b) ↦{fullShare} f) : sProp 𝕄) ⊢ iprop(∃ f, (Memref.whole b).view.loc (c : Thread nD τ) ↦[(Memref.whole b).view.set]{fullShare} f) := by
  rw [show (Memref.whole b).view.set = Finset.univ from View.set_whole b]
  iintro H
  iexists f
  iexact H

theorem scratch_out (c : Dev nD) (b : Ref sig .tc) (f : Buf (Elt F) ((Memref.whole b).view.loc (c : Thread nD τ))) :
    (iprop((Memref.whole b).view.loc (c : Thread nD τ) ↦[(Memref.whole b).view.set]{fullShare} f) : sProp 𝕄) ⊢ iprop(∃ f : Buf (Elt F) ((c : Thread nD τ).loc b), ((c : Thread nD τ).loc b) ↦{fullShare} f) := by
  rw [show (Memref.whole b).view.set = Finset.univ from View.set_whole b]
  iintro H
  iexists f
  iexact H

set_option maxHeartbeats 1000000 in
/-- The body at any point. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scopedRest0_eq]
  by_cases h0 : t.val = 0
  · rw [gqAt_first m c t h0, gkAt_first m c t h0]
    iintro ⟨⟨⟨⟨%s0, S0⟩, ⟨%s1, S1⟩, ⟨%s2, S2⟩, ⟨%s3, S3⟩, ⟨%s4, S4⟩, ⟨%s5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_first c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((cond_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [S0]; · iapply (scratch_in c cc0_scratch0 s0); iexact S0
    isplitl [S1]; · iapply (scratch_in c cc0_scratch1 s1); iexact S1
    isplitl [S2]; · iapply (scratch_in c cc0_scratch2 s2); iexact S2
    isplitl [S3]; · iapply (scratch_in c cc0_scratch3 s3); iexact S3
    isplitl [S4]; · iapply (scratch_in c cc0_scratch4 s4); iexact S4
    isplitl [S5]; · iapply (scratch_in c cc0_scratch5 s5); iexact S5
    iintro ⟨H0, H1, H2, H3, H4, H5, H6, H7, H8, H9, ⟨%u0, S0⟩, ⟨%u1, S1⟩, ⟨%u2, S2⟩, ⟨%u3, S3⟩, ⟨%u4, S4⟩, ⟨%u5, S5⟩⟩
    isplitl [S0 S1 S2 S3 S4 S5 Hr]
    · isplitr [Hr]; swap; · iexact Hr
      isplitl [S0]; · iapply (scratch_out c cc0_scratch0 u0); iexact S0
      isplitl [S1]; · iapply (scratch_out c cc0_scratch1 u1); iexact S1
      isplitl [S2]; · iapply (scratch_out c cc0_scratch2 u2); iexact S2
      isplitl [S3]; · iapply (scratch_out c cc0_scratch3 u3); iexact S3
      isplitl [S4]; · iapply (scratch_out c cc0_scratch4 u4); iexact S4
      iapply (scratch_out c cc0_scratch5 u5); iexact S5
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before0_8 m c t h0, before0_9 m c t h0]
    rw [gqAt_later m c t h0, gkAt_later m c t h0]
    iintro ⟨⟨⟨⟨%s0, S0⟩, ⟨%s1, S1⟩, ⟨%s2, S2⟩, ⟨%s3, S3⟩, ⟨%s4, S4⟩, ⟨%s5, S5⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_later c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (gqAt m c (t.val - 1)) (gkAt m c (t.val - 1)) (fun hc => h0 ((cond_iff t).mp hc)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [S0]; · iapply (scratch_in c cc0_scratch0 s0); iexact S0
    isplitl [S1]; · iapply (scratch_in c cc0_scratch1 s1); iexact S1
    isplitl [S2]; · iapply (scratch_in c cc0_scratch2 s2); iexact S2
    isplitl [S3]; · iapply (scratch_in c cc0_scratch3 s3); iexact S3
    isplitl [S4]; · iapply (scratch_in c cc0_scratch4 s4); iexact S4
    isplitl [S5]; · iapply (scratch_in c cc0_scratch5 s5); iexact S5
    iintro ⟨H0, H1, H2, H3, H4, H5, H6, H7, H8, H9, ⟨%u0, S0⟩, ⟨%u1, S1⟩, ⟨%u2, S2⟩, ⟨%u3, S3⟩, ⟨%u4, S4⟩, ⟨%u5, S5⟩⟩
    isplitl [S0 S1 S2 S3 S4 S5 Hr]
    · isplitr [Hr]; swap; · iexact Hr
      isplitl [S0]; · iapply (scratch_out c cc0_scratch0 u0); iexact S0
      isplitl [S1]; · iapply (scratch_out c cc0_scratch1 u1); iexact S1
      isplitl [S2]; · iapply (scratch_out c cc0_scratch2 u2); iexact S2
      isplitl [S3]; · iapply (scratch_out c cc0_scratch3 u3); iexact S3
      isplitl [S4]; · iapply (scratch_out c cc0_scratch4 u4); iexact S4
      iapply (scratch_out c cc0_scratch5 u5); iexact S5
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, the arrays at what the calls left, the counters at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

/-- The frame, at any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main m ρ))

end Cert.KernelIdeal
-- ==== Proof.Run.SameBody.lean ====
/- The kernel's body is the same program in its two readings. -/
module

public import proofs.«01_k».proof.Defs
public import proofs.«01_k».proof.Proof.Gen.Kernel
public import proofs.«01_k».proof.Proof.Gen.KernelIdeal

@[expose] public section

set_option maxRecDepth 16384
set_option maxHeartbeats 1000000
set_option smartUnfolding false

noncomputable section

namespace Cert.Proof

open Idealize.ShloMosaic Idealize.ShloMosaic.TcCoe Idealize.SL.Sem

theorem body_eq : @Cert.Kernel.cc0_attn_bwd Bits _ _ = @Cert.KernelIdeal.cc0_attn_bwd Bits _ _ := by
  delta Cert.Kernel.cc0_attn_bwd Cert.KernelIdeal.cc0_attn_bwd
    Cert.Kernel.cc0_attn_bwd.match_1 Cert.Kernel.cc0_attn_bwd.match_3 Cert.Kernel.cc0_attn_bwd.match_5 Cert.Kernel.cc0_attn_bwd.match_7
    Cert.KernelIdeal.cc0_attn_bwd.match_1 Cert.KernelIdeal.cc0_attn_bwd.match_3 Cert.KernelIdeal.cc0_attn_bwd.match_5 Cert.KernelIdeal.cc0_attn_bwd.match_7
  rfl

end Cert.Proof

end
-- ==== Proof.Run.SameMain.lean ====
/- The host code is the same program in its two readings. -/
module

public import proofs.«01_k».proof.Defs
public import proofs.«01_k».proof.Proof.Gen.Kernel
public import proofs.«01_k».proof.Proof.Gen.KernelIdeal

@[expose] public section

set_option maxRecDepth 16384
set_option maxHeartbeats 1000000
set_option smartUnfolding false

noncomputable section

namespace Cert.Proof

open Idealize.ShloMosaic Idealize.ShloMosaic.TcCoe Idealize.SL.Sem

theorem part0_eq (f : Cert.Kernel.Facts) (g : Cert.KernelIdeal.Facts) (c) :
    @Cert.Kernel.main_part0 Bits _ f c = @Cert.KernelIdeal.main_part0 Bits _ g c := by
  delta Cert.Kernel.main_part0 Cert.KernelIdeal.main_part0
  rfl

theorem part1_eq (f : Cert.Kernel.Facts) (g : Cert.KernelIdeal.Facts) (c) :
    @Cert.Kernel.main_part1 Bits _ f c = @Cert.KernelIdeal.main_part1 Bits _ g c := by
  delta Cert.Kernel.main_part1 Cert.KernelIdeal.main_part1
  rfl

end Cert.Proof

end
-- ==== Proof.Run.Same.lean ====
/- The frame of the kernel from the frame of its ideal reading: the two are one program. -/
module

public import proofs.«01_k».proof.Defs
public import proofs.«01_k».proof.Proof.Run.SameBody
public import proofs.«01_k».proof.Proof.Run.SameMain
public import proofs.«01_k».proof.Proof.Run.Launch

@[expose] public section

set_option maxRecDepth 16384
set_option maxHeartbeats 1000000

noncomputable section

namespace Cert.Proof

open Idealize.ShloMosaic Idealize.ShloMosaic.TcCoe Idealize.SL.Sem

theorem defs0_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) =>
    show Cert.Kernel.cc0_attn_bwd _ _ _ _ _ _ _ _ _ _ _ _ _ _ _ _ _ _ _ _ _ _ _ _ _ _ _ _ _ _ _ _ _ = Cert.KernelIdeal.cc0_attn_bwd _ _ _ _ _ _ _ _ _ _ _ _ _ _ _ _ _ _ _ _ _ _ _ _ _ _ _ _ _ _ _ _ _
    rw [body_eq]
    rfl
  | ⟨_ + 1, h⟩, _ => exact absurd h (Nat.not_lt.2 (Nat.le_add_left _ _))

theorem defs_eq : @Cert.Kernel.defs Bits _ _ = @Cert.KernelIdeal.defs Bits _ _ := by
  unfold Cert.Kernel.defs Cert.KernelIdeal.defs
  rw [defs0_eq]
  rfl

theorem main_eq : @Cert.Kernel.main Bits _ _ = @Cert.KernelIdeal.main Bits _ _ := by
  unfold Cert.Kernel.main Cert.KernelIdeal.main
  funext d
  rw [part0_eq, part1_eq]
  rfl

theorem frame_kernel : Cert.quiescent_Kernel := by
  intro m ρ _
  rw [defs_eq, main_eq]
  exact Cert.KernelIdeal.frame_any (F := Bits) m ρ

end Cert.Proof

end
-- ==== Proof.Value.Ops.lean ====
/- Arrays of two axes that hold real numbers, and how each operation of the kernel acts on them: the
   elementwise ones, a slice, a concatenation of four pieces, the three products, a sum along rows. -/
module

public import Idealize.ShloMosaic.Lib.MatmulPlain
public import Idealize.ShloMosaic.Lib.Pipeline.Value
public import Idealize.ShloMosaic.Lib.ValueIdxCore
public import Mathlib.Tactic.Ring
public import Mathlib.Tactic.Linarith

@[expose] public section

noncomputable section

namespace Cert.Reals

open Idealize.ShloMosaic Idealize.ShloMosaic.ValueIdx
open scoped BigOperators

/-- The shape of `n` rows and `m` columns. -/
abbrev Sh (n m : ℕ) : Shape := ⟨2, ![n, m]⟩

/-- The array holds the reals `x`, read by row and column. -/
def Is {n m : ℕ} (X : (Sh n m).Idx → EReal) (x : ℕ → ℕ → ℝ) : Prop :=
  ∀ i, X i = ((x (i 0).val (i 1).val : ℝ) : EReal)

variable {n m : ℕ} {φ ψ : FTy}

theorem Is.congr {X : (Sh n m).Idx → EReal} {x y : ℕ → ℕ → ℝ} (h : Is X x) (e : ∀ r < n, ∀ c < m, x r c = y r c) : Is X y :=
  fun i => by rw [h i, e _ (i 0).isLt _ (i 1).isLt]

theorem Is.at {X : (Sh n m).Idx → EReal} {x : ℕ → ℕ → ℝ} (h : Is X x) (r : Fin n) (c : Fin m) :
    X (ix2 r c) = ((x r.val c.val : ℝ) : EReal) := h (ix2 r c)

theorem Is.intro {X : (Sh n m).Idx → EReal} {x : ℕ → ℕ → ℝ} (h : ∀ (r : Fin n) (c : Fin m), X (ix2 r c) = ((x r.val c.val : ℝ) : EReal)) : Is X x :=
  fun i => by
    exact (congrArg X (eq_ix2 i)).trans (h (i 0) (i 1))

/-- A sum over a coordinate of a real function of its value. -/
theorem sum_coe {k : ℕ} (f : ℕ → ℝ) : (∑ i : Fin k, ((f i.val : ℝ) : EReal)) = ((∑ i ∈ Finset.range k, f i : ℝ) : EReal) := by
  rw [← Fin.sum_univ_eq_sum_range]
  exact (map_sum (⟨⟨Real.toEReal, EReal.coe_zero⟩, EReal.coe_add⟩ : ℝ →+ EReal) _ _).symm

section Elementwise
variable {X Y : FVec Ideal (Sh n m) φ} {x y : ℕ → ℕ → ℝ}

theorem Is.mul (hX : Is X x) (hY : Is Y y) : Is (mulf X Y) (fun r c => x r c * y r c) := fun i => by
  show (X i * Y i : EReal) = _
  rw [hX i, hY i, ← EReal.coe_mul]
theorem Is.add (hX : Is X x) (hY : Is Y y) : Is (addf X Y) (fun r c => x r c + y r c) := fun i => by
  show (X i + Y i : EReal) = _
  rw [hX i, hY i, ← EReal.coe_add]
theorem Is.sub (hX : Is X x) (hY : Is Y y) : Is (subf X Y) (fun r c => x r c - y r c) := fun i => by
  show (X i - Y i : EReal) = _
  rw [hX i, hY i, ← EReal.coe_sub]
theorem Is.max (hX : Is X x) (hY : Is Y y) : Is (maximumf X Y) (fun r c => Max.max (x r c) (y r c)) := fun i => by
  show Max.max (X i : EReal) (Y i) = _
  rw [hX i, hY i, ← EReal.coe_strictMono.monotone.map_max]
theorem Is.abs (hX : Is X x) : Is (absf X) (fun r c => |x r c|) := fun i => by
  show Max.max (X i : EReal) (-(X i)) = _
  rw [hX i, ← EReal.coe_neg, ← EReal.coe_strictMono.monotone.map_max]; rfl
theorem Is.exp (hX : Is X x) : Is (Idealize.ShloMosaic.exp X) (fun r c => Real.exp (x r c)) := fun i => by
  show Ideal.exp (X i : EReal) = _
  rw [hX i]; rfl
theorem Is.log (hX : Is X x) (h : ∀ r c, 0 < x r c) : Is (Idealize.ShloMosaic.log X) (fun r c => Real.log (x r c)) := fun i => by
  show Ideal.log (X i : EReal) = _
  rw [hX i]
  show (if x (i 0).val (i 1).val ≤ 0 then (⊥ : EReal) else _) = _
  rw [if_neg (not_le.2 (h _ _))]
theorem Is.rsqrt (hX : Is X x) (h : ∀ r c, 0 < x r c) : Is (Idealize.ShloMosaic.rsqrt X) (fun r c => (√(x r c))⁻¹) := fun i => by
  show Ideal.rsqrt (X i : EReal) = _
  rw [hX i]
  show (if x (i 0).val (i 1).val < 0 then (⊥ : EReal) else _) = _
  rw [if_neg (not_lt.2 (h _ _).le), if_neg (h _ _).ne']
theorem Is.div (hX : Is X x) (hY : Is Y y) (h : ∀ r c, y r c ≠ 0) : Is (divf X Y) (fun r c => x r c / y r c) := fun i => by
  show Ideal.div (X i : EReal) (Y i) = _
  rw [hX i, hY i, Ideal.div_coe (h _ _), ← EReal.coe_mul]
  congr 1; ring
theorem Is.trunc (hX : Is X x) (h : ψ.bits < φ.bits) : Is (truncf ψ X h) x := fun i => hX i
theorem Is.ext (hX : Is X x) (h : φ.bits < ψ.bits) : Is (extf ψ X h) x := fun i => hX i
end Elementwise

/-- A splat of a word that names the real `a`. -/
theorem Is.splat {φ : FTy} {a : ℝ} (b : Ideal φ) (h : (b : EReal) = ((a : ℝ) : EReal)) :
    Is (n := n) (m := m) (broadcast (Sh n m) b) (fun _ _ => a) := fun i => h

theorem Is.cast {X : FVec Ideal (Sh n m) φ} {x : ℕ → ℕ → ℝ} (hX : Is X x) (h : (Sh n m).ShapeCasts (Sh n m)) :
    Is (shapeCast (Sh n m) X h) x := by
  rw [shapeCast_self]; exact hX

/-- A selection between two arrays by a condition on the row and the column. -/
theorem Is.select {X Y : FVec Ideal (Sh n m) φ} {x y : ℕ → ℕ → ℝ} (M : IVec (Sh n m) 1) (p : ℕ → ℕ → Prop) [∀ r c, Decidable (p r c)]
    (hM : ∀ i, M i = 1#1 ↔ p (i 0).val (i 1).val) (hX : Is X x) (hY : Is Y y) :
    Is (select M X Y) (fun r c => if p r c then x r c else y r c) := fun i => by
  show (if M i = 1#1 then X i else Y i : EReal) = (((if p (i 0).val (i 1).val then x (i 0).val (i 1).val else y (i 0).val (i 1).val : ℝ)) : EReal)
  by_cases h : p (i 0).val (i 1).val
  · rw [if_pos ((hM i).2 h), if_pos h]; exact hX i
  · rw [if_neg (fun e => h ((hM i).1 e)), if_neg h]; exact hY i

/-- A slice of all rows and the columns from `o` on. -/
theorem Is.slice {m' : ℕ} {X : FVec Ideal (Sh n m) φ} {x : ℕ → ℕ → ℝ} (hX : Is X x) (o : ℕ) (h : (Sh n m).Slices ![0, o] (Sh n m')) :
    Is (extractStridedSlice (Sh n m') ![0, o] X h) (fun r c => x r (o + c)) := Is.intro fun r c => by
  have hc : o + c.val < m := by
    have h1 : o + m' ≤ m := h.2 1
    have h2 := c.isLt
    omega
  have := extractStridedSlice_apply ![0, o] X h (ix2 r c) (ix2 r ⟨o + c.val, hc⟩) (fun a => by
    match a with
    | ⟨0, _⟩ => show r.val = 0 + r.val; omega
    | ⟨1, _⟩ => rfl)
  rw [this, hX.at]

/-- Four pieces of 128 columns side by side. -/
theorem Is.cat {X0 X1 X2 X3 : FVec Ideal (Sh n 128) φ} {x0 x1 x2 x3 : ℕ → ℕ → ℝ} (h0 : Is X0 x0) (h1 : Is X1 x1) (h2 : Is X2 x2) (h3 : Is X3 x3)
    (h : Shape.Concatenates [Sh n 128, Sh n 128, Sh n 128, Sh n 128] (Sh n 512) 1) :
    Is (concatenate (Sh n 512) 1 [⟨Sh n 128, X0⟩, ⟨Sh n 128, X1⟩, ⟨Sh n 128, X2⟩, ⟨Sh n 128, X3⟩] h)
      (fun r c => if c < 128 then x0 r c else if c < 256 then x1 r (c - 128) else if c < 384 then x2 r (c - 256) else x3 r (c - 384)) := Is.intro fun r c => by
  have hlt := c.isLt
  have key : ∀ (k : ℕ) (hk : k < 4) (Xk : FVec Ideal (Sh n 128) φ) (xk : ℕ → ℕ → ℝ),
      ([⟨Sh n 128, X0⟩, ⟨Sh n 128, X1⟩, ⟨Sh n 128, X2⟩, ⟨Sh n 128, X3⟩] : List ((s : Shape) × (s.Idx → Ideal φ)))[k]'hk = ⟨Sh n 128, Xk⟩ → Is Xk xk →
      (((([⟨Sh n 128, X0⟩, ⟨Sh n 128, X1⟩, ⟨Sh n 128, X2⟩, ⟨Sh n 128, X3⟩] : List ((s : Shape) × (s.Idx → Ideal φ))).take k).map (·.1)).map
        fun s => if h : s.rank = (Sh n 512).rank then s.size ((1 : Fin (Sh n 512).rank).cast h.symm) else 0).sum = 128 * k →
      128 * k ≤ c.val → c.val < 128 * k + 128 →
      concatenate (Sh n 512) 1 [⟨Sh n 128, X0⟩, ⟨Sh n 128, X1⟩, ⟨Sh n 128, X2⟩, ⟨Sh n 128, X3⟩] h (ix2 r c) = ((xk r.val (c.val - 128 * k) : ℝ) : EReal) := by
    intro k hk Xk xk e hXk hs hl hu
    have := concatenate_apply_piece (t := Sh n 512) (α := Ideal φ) 1 [⟨Sh n 128, X0⟩, ⟨Sh n 128, X1⟩, ⟨Sh n 128, X2⟩, ⟨Sh n 128, X3⟩] h (ix2 r c) k hk (Sh n 128) Xk e rfl (128 * k) hs
      (ix2 r ⟨c.val - 128 * k, by omega⟩) (fun b hb => by
        match b with
        | ⟨0, _⟩ => rfl
        | ⟨1, _⟩ => exact absurd rfl hb) (by show 128 * k + (c.val - 128 * k) = c.val; omega)
    rw [this, hXk.at]
  by_cases c1 : c.val < 128
  · rw [if_pos c1]; exact key 0 (by omega) X0 x0 rfl h0 rfl (by omega) (by omega)
  rw [if_neg c1]
  by_cases c2 : c.val < 256
  · rw [if_pos c2]; exact key 1 (by omega) X1 x1 rfl h1 rfl (by omega) (by omega)
  rw [if_neg c2]
  by_cases c3 : c.val < 384
  · rw [if_pos c3]; exact key 2 (by omega) X2 x2 rfl h2 rfl (by omega) (by omega)
  rw [if_neg c3]; exact key 3 (by omega) X3 x3 rfl h3 rfl (by omega) (by omega)

section Products
variable {k : ℕ}

/-- A product of rows by columns. -/
theorem Is.dotNN {X : FVec Ideal (Sh n k) φ} {Y : FVec Ideal (Sh k m) ψ} {x y : ℕ → ℕ → ℝ} (hX : Is X x) (hY : Is Y y)
    (D : DotDims (Sh n k) (Sh k m) (Sh n m)) (hD : D = DotDims.plain n k m) (prec : Option ContractPrecision) :
    Is (matmul D prec X Y (constant (Sh n m) .f32 0x00000000#32)) (fun r c => ∑ d ∈ Finset.range k, x r d * y d c) := Is.intro fun r c => by
  subst hD
  show FloatOps.matmul (DotDims.plain n k m) prec X Y (constant (Sh n m) .f32 0x00000000#32) (ix2 r c) = _
  rw [Ideal.matmul_plain_apply]
  have e : ∀ d : Fin k, (X (ix2 r d) * Y (ix2 d c) : EReal) = ((x r.val d.val * y d.val c.val : ℝ) : EReal) := fun d => by
    rw [hX.at, hY.at, EReal.coe_mul]
  rw [Finset.sum_congr rfl fun d _ => e d, sum_coe (fun d => x r.val d * y d c.val)]
  show Ideal.ofBits .f32 0x00000000#32 + _ = _
  rw [Ideal.ofBits_zero_f32, zero_add]

/-- A product of rows by rows. -/
theorem Is.dotNT {X : FVec Ideal (Sh n k) φ} {Y : FVec Ideal (Sh m k) ψ} {x y : ℕ → ℕ → ℝ} (hX : Is X x) (hY : Is Y y)
    (D : DotDims (Sh n k) (Sh m k) (Sh n m)) (hD : D = DotDims.transposedRhs n k m) (prec : Option ContractPrecision) :
    Is (matmul D prec X Y (constant (Sh n m) .f32 0x00000000#32)) (fun r c => ∑ d ∈ Finset.range k, x r d * y c d) := Is.intro fun r c => by
  subst hD
  show FloatOps.matmul (DotDims.transposedRhs n k m) prec X Y (constant (Sh n m) .f32 0x00000000#32) (ix2 r c) = _
  rw [Ideal.matmul_transposedRhs_apply]
  have e : ∀ d : Fin k, (X (ix2 r d) * Y (ix2 c d) : EReal) = ((x r.val d.val * y c.val d.val : ℝ) : EReal) := fun d => by
    rw [hX.at, hY.at, EReal.coe_mul]
  rw [Finset.sum_congr rfl fun d _ => e d, sum_coe (fun d => x r.val d * y c.val d)]
  show Ideal.ofBits .f32 0x00000000#32 + _ = _
  rw [Ideal.ofBits_zero_f32, zero_add]

/-- A product of columns by columns. -/
theorem Is.dotTN {X : FVec Ideal (Sh k n) φ} {Y : FVec Ideal (Sh k m) ψ} {x y : ℕ → ℕ → ℝ} (hX : Is X x) (hY : Is Y y)
    (D : DotDims (Sh k n) (Sh k m) (Sh n m)) (hr : D.contr.rank = 1) (hs : D.contr.size ⟨0, by omega⟩ = k)
    (hl : ∀ (i : (Sh n m).Idx) (j : D.contr.Idx), (D.lhsIdx i j 0).val = (j ⟨0, by omega⟩).val ∧ (D.lhsIdx i j 1).val = (i 0).val)
    (hR : ∀ (i : (Sh n m).Idx) (j : D.contr.Idx), (D.rhsIdx i j 0).val = (j ⟨0, by omega⟩).val ∧ (D.rhsIdx i j 1).val = (i 1).val)
    (prec : Option ContractPrecision) :
    Is (matmul D prec X Y (constant (Sh n m) .f32 0x00000000#32)) (fun r c => ∑ d ∈ Finset.range k, x d r * y d c) := fun i => by
  show FloatOps.matmul D prec X Y (constant (Sh n m) .f32 0x00000000#32) i = _
  rw [Ideal.matmul_apply, ← Equiv.sum_comp (contrEquiv1 D k hr hs).symm]
  have e : ∀ d : Fin k, (X (D.lhsIdx i ((contrEquiv1 D k hr hs).symm d)) * Y (D.rhsIdx i ((contrEquiv1 D k hr hs).symm d)) : EReal)
      = ((x d.val (i 0).val * y d.val (i 1).val : ℝ) : EReal) := fun d => by
    have hk := contrEquiv1_symm_val D k hr hs d
    rw [hX, hY, (hl _ _).1, (hl _ _).2, (hR _ _).1, (hR _ _).2, hk, EReal.coe_mul]
  rw [Finset.sum_congr rfl fun d _ => e d, sum_coe (fun d => x d (i 0).val * y d (i 1).val)]
  show Ideal.ofBits .f32 0x00000000#32 + _ = _
  rw [Ideal.ofBits_zero_f32, zero_add]
end Products

section Rows

/-- The sum of each row, as one column. -/
theorem Is.rowSum {X : FVec Ideal (Sh n m) .f32} {x : ℕ → ℕ → ℝ} (hX : Is X x) (acc : BitVec FTy.f32.bits)
    (h : (Sh n m).Reduces [1] ⟨1, ![n]⟩) (hφ : FKind.Formats .f32) (hacc : acc = FKind.add.neutral .f32 hφ)
    (hc : (⟨1, ![n]⟩ : Shape).ShapeCasts (Sh n 1)) :
    Is (shapeCast (Sh n 1) (multiReduction .add [1] ⟨1, ![n]⟩ X acc h hφ hacc) hc) (fun r _ => ∑ d ∈ Finset.range m, x r d) := Is.intro fun r c => by
  have hc0 : c.val = 0 := by have := c.isLt; omega
  rw [shapeCast_apply _ hc (ix2 r c) (ix1 r) (by rw [Shape.rowMajor_val_one, Shape.rowMajor_val_two]; show r.val = r.val * 1 + c.val; omega)]
  rw [Ideal.multiReduction_add_single]
  show (∑ k : Fin m, X (h.lift (ix1 r) k) : EReal) = _
  have e : ∀ k : Fin m, X (h.lift (ix1 r) k) = ((x r.val k.val : ℝ) : EReal) := fun k => by
    rw [hX]; rfl
  rw [Finset.sum_congr rfl fun k _ => e k, sum_coe (fun d => x r d)]

/-- The sum of each column, as one row. -/
theorem Is.colSum {X : FVec Ideal (Sh n m) .f32} {x : ℕ → ℕ → ℝ} (hX : Is X x) (acc : BitVec FTy.f32.bits)
    (h : (Sh n m).Reduces [0] ⟨1, ![m]⟩) (hφ : FKind.Formats .f32) (hacc : acc = FKind.add.neutral .f32 hφ)
    (hc : (⟨1, ![m]⟩ : Shape).ShapeCasts (Sh 1 m)) :
    Is (shapeCast (Sh 1 m) (multiReduction .add [0] ⟨1, ![m]⟩ X acc h hφ hacc) hc) (fun _ c => ∑ d ∈ Finset.range n, x d c) := Is.intro fun r c => by
  have hr0 : r.val = 0 := by have := r.isLt; omega
  rw [shapeCast_apply _ hc (ix2 r c) (ix1 c) (by rw [Shape.rowMajor_val_one, Shape.rowMajor_val_two]; show c.val = r.val * m + c.val; rw [hr0]; omega)]
  rw [Ideal.multiReduction_add_single]
  show (∑ k : Fin n, X (h.lift (ix1 c) k) : EReal) = _
  have e : ∀ k : Fin n, X (h.lift (ix1 c) k) = ((x k.val c.val : ℝ) : EReal) := fun k => by
    rw [hX]; rfl
  rw [Finset.sum_congr rfl fun k _ => e k, sum_coe (fun d => x d c)]

/-- One column spread over all columns. -/
theorem Is.spreadCol {k : ℕ} {X : FVec Ideal (Sh n 1) φ} {x : ℕ → ℕ → ℝ} (hX : Is X x) (h : (Sh n 1).Broadcasts (Sh n k)) (hn : n ≠ 1) :
    Is (broadcastTo (Sh n k) X h) (fun r _ => x r 0) := Is.intro fun r c => by
  rw [broadcastTo_apply X h (ix2 r c) (ix2 r 0) (fun a => by
    match a with
    | ⟨0, _⟩ => exact (if_neg hn).symm
    | ⟨1, _⟩ => rfl), hX.at]
  rfl

/-- One row spread over all rows. -/
theorem Is.spreadRow {k : ℕ} {X : FVec Ideal (Sh 1 m) φ} {x : ℕ → ℕ → ℝ} (hX : Is X x) (h : (Sh 1 m).Broadcasts (Sh k m)) (hm : m ≠ 1) :
    Is (broadcastTo (Sh k m) X h) (fun _ c => x 0 c) := Is.intro fun r c => by
  rw [broadcastTo_apply X h (ix2 r c) (ix2 0 c) (fun a => by
    match a with
    | ⟨0, _⟩ => rfl
    | ⟨1, _⟩ => exact (if_neg hm).symm), hX.at]
  rfl

end Rows

end Cert.Reals

end
-- ==== Proof.Value.Spec.lean ====
/- The backward pass of one head of stick-breaking attention over the real numbers: positions and
   coordinates are natural numbers, 4096 positions of 128 coordinates. -/
module

public import Mathlib.Algebra.BigOperators.Intervals
public import Mathlib.Analysis.SpecialFunctions.Log.Basic
public import Mathlib.Tactic.Ring
public import Mathlib.Tactic.Linarith
public import Mathlib.Tactic.Positivity

@[expose] public section

noncomputable section

namespace Cert.Reals

open scoped BigOperators
open Finset (range Ico)

/-- The log of one minus the gate of the score `z`: minus its softplus. -/
def lkeep (z : ℝ) : ℝ := 0 - (max z 0 + Real.log (1 + Real.exp (0 - |z|)))

section Head
variable (sc : ℝ) (qn kn v g o : ℕ → ℕ → ℝ)

/-- The product of row `t` of one array with row `s` of another. -/
def rdot (a b : ℕ → ℕ → ℝ) (t s : ℕ) : ℝ := ∑ d ∈ range 128, a t d * b s d
/-- The scaled score. -/
def zz (t s : ℕ) : ℝ := rdot qn kn t s * sc
/-- The log keep term of a pair, for earlier keys only. -/
def LL (t s : ℕ) : ℝ := if s < t then lkeep (zz sc qn kn t s) else 0
/-- The sum of the log keep terms from key `s` on. -/
def SS (t s : ℕ) : ℝ := ∑ u ∈ Ico s 4096, LL sc qn kn t u
/-- The weight of a pair. -/
def AA (t s : ℕ) : ℝ :=
  if s < t then Real.exp (zz sc qn kn t s + lkeep (zz sc qn kn t s) + (SS sc qn kn t s - LL sc qn kn t s)) else 0
/-- The weight times its cotangent. -/
def WW (t s : ℕ) : ℝ := AA sc qn kn t s * rdot g v t s
/-- The sum of those from key `s` on. -/
def VV (t s : ℕ) : ℝ := ∑ u ∈ Ico s 4096, WW sc qn kn v g t u
/-- The gate of a pair. -/
def GG (t s : ℕ) : ℝ := Real.exp (zz sc qn kn t s + lkeep (zz sc qn kn t s))
/-- The sum of all the weighted cotangents of a query, taken from the output. -/
def TT (t : ℕ) : ℝ := ∑ d ∈ range 128, g t d * o t d
/-- The cotangent of the product of a query and a key. -/
def ZZ (t s : ℕ) : ℝ :=
  (WW sc qn kn v g t s * (1 - GG sc qn kn t s)
    - (if s < t then (TT g o t - VV sc qn kn v g t s) * GG sc qn kn t s else 0)) * sc

theorem LL_of_le {t s : ℕ} (h : t ≤ s) : LL sc qn kn t s = 0 := if_neg (not_lt.2 h)
theorem AA_of_le {t s : ℕ} (h : t ≤ s) : AA sc qn kn t s = 0 := if_neg (not_lt.2 h)
theorem WW_of_le {t s : ℕ} (h : t ≤ s) : WW sc qn kn v g t s = 0 := by rw [WW, AA_of_le _ _ _ h, zero_mul]
theorem ZZ_of_le {t s : ℕ} (h : t ≤ s) : ZZ sc qn kn v g o t s = 0 := by
  rw [ZZ, WW_of_le _ _ _ _ _ h, if_neg (not_lt.2 h)]; ring
end Head

/-- A sum over the last columns of a piece, as a sum over columns. -/
theorem piece_tail (f : ℕ → ℝ) (o c : ℕ) : ∑ k ∈ Ico c 128, f (o + k) = ∑ k ∈ Ico (o + c) (o + 128), f k := by
  rw [Finset.sum_Ico_add f c 128 o, Nat.add_comm c o, Nat.add_comm 128 o]

/-- A sum over a piece, as a sum over columns. -/
theorem piece_all (f : ℕ → ℝ) (o : ℕ) : ∑ k ∈ range 128, f (o + k) = ∑ k ∈ Ico o (o + 128), f k := by
  rw [Finset.range_eq_Ico, piece_tail, Nat.add_zero]

/-- A block's suffix sums from its four pieces, the last piece first. -/
theorem suffix_pieces (f : ℕ → ℝ) (a : ℝ) (c : ℕ) (h : c < 512) :
    (if c < 128 then ∑ k ∈ Ico c 128, f (0 + k) + (a + ∑ k ∈ range 128, f (384 + k) + ∑ k ∈ range 128, f (256 + k) + ∑ k ∈ range 128, f (128 + k))
      else if c < 256 then ∑ k ∈ Ico (c - 128) 128, f (128 + k) + (a + ∑ k ∈ range 128, f (384 + k) + ∑ k ∈ range 128, f (256 + k))
      else if c < 384 then ∑ k ∈ Ico (c - 256) 128, f (256 + k) + (a + ∑ k ∈ range 128, f (384 + k))
      else ∑ k ∈ Ico (c - 384) 128, f (384 + k) + a) = a + ∑ k ∈ Ico c 512, f k := by
  simp only [piece_tail, piece_all]
  have e4 : ∀ c, c ≤ 512 → 384 ≤ c → ∑ k ∈ Ico c 512, f k = ∑ k ∈ Ico c (384 + 128), f k := fun c _ _ => rfl
  have e3 : ∀ c, 256 ≤ c → c ≤ 384 → ∑ k ∈ Ico c 512, f k = ∑ k ∈ Ico c (256 + 128), f k + ∑ k ∈ Ico 384 (384 + 128), f k := fun c _ h =>
    (Finset.sum_Ico_consecutive f h (by omega)).symm
  have e2 : ∀ c, 128 ≤ c → c ≤ 256 → ∑ k ∈ Ico c 512, f k = ∑ k ∈ Ico c (128 + 128), f k + ∑ k ∈ Ico 256 512, f k := fun c _ h =>
    (Finset.sum_Ico_consecutive f h (by omega)).symm
  have e1 : ∀ c, c ≤ 128 → ∑ k ∈ Ico c 512, f k = ∑ k ∈ Ico c (0 + 128), f k + ∑ k ∈ Ico 128 512, f k := fun c h =>
    (Finset.sum_Ico_consecutive f h (by omega)).symm
  have s3 := e3 256 (by omega) (by omega)
  have s2 := e2 128 (by omega) (by omega)
  by_cases c1 : c < 128
  · rw [if_pos c1, e1 c (by omega), s2, s3, Nat.zero_add]; ring
  rw [if_neg c1]
  by_cases c2 : c < 256
  · rw [if_pos c2, e2 c (by omega) (by omega), s3, show 128 + (c - 128) = c by omega]; ring
  rw [if_neg c2]
  by_cases c3 : c < 384
  · rw [if_pos c3, e3 c (by omega) (by omega), show 256 + (c - 256) = c by omega]; ring
  rw [if_neg c3, show 384 + (c - 384) = c by omega]; ring

/-- The sum of a block from its four pieces. -/
theorem total_pieces (f : ℕ → ℝ) (a : ℝ) :
    a + ∑ k ∈ range 128, f (384 + k) + ∑ k ∈ range 128, f (256 + k) + ∑ k ∈ range 128, f (128 + k) + ∑ k ∈ range 128, f (0 + k)
      = a + ∑ k ∈ Ico 0 512, f k := by
  have := suffix_pieces f a 0 (by omega)
  rw [if_pos (by omega), ← Finset.range_eq_Ico] at this
  rw [← this, Finset.range_eq_Ico]; ring

/-- A suffix sum from inside a block: the block's own part and what comes after the block. -/
theorem suffix_block (f : ℕ → ℝ) (b c : ℕ) (hc : c ≤ 512) (hb : b + 512 ≤ 4096) :
    ∑ u ∈ Ico (b + 512) 4096, f u + ∑ k ∈ Ico c 512, f (b + k) = ∑ u ∈ Ico (b + c) 4096, f u := by
  rw [Finset.sum_Ico_add f c 512 b, Nat.add_comm c b, Nat.add_comm 512 b, add_comm,
    Finset.sum_Ico_consecutive f (by omega) hb]

end Cert.Reals

end
-- ==== Proof.Value.Block.lean ====
/- What one pair of blocks of the attention backward computes, over the real numbers: the scores, the
   log keep terms, their suffix sums, the weights, the weighted cotangents and their suffix sums. -/
module

public import proofs.«01_k».proof.Proof.Run.Steps
public import proofs.«01_k».proof.Proof.Value.Ops
public import proofs.«01_k».proof.Proof.Value.Spec
public import Idealize.ShloMosaic.Lib.IdealHost

@[expose] public section

set_option maxRecDepth 16384

noncomputable section

namespace Cert.KernelIdeal

open Idealize.ShloMosaic Idealize.ShloMosaic.TcCoe Idealize.ShloMosaic.ValueIdx Cert.KernelIdeal.Gen Cert.Reals
open scoped BigOperators
open Finset (range Ico)

/-! ## Constants -/

theorem one_word : (FloatOps.ofBits .f32 0x3F800000#32 : Ideal .f32) = ((1 : ℝ) : EReal) := by
  show Ideal.ofBits .f32 0x3F800000#32 = _
  simp [Ideal.ofBits, Ideal.ieee, -EReal.coe_mul]; norm_num
theorem zero_word : (FloatOps.ofBits .f32 0x00000000#32 : Ideal .f32) = ((0 : ℝ) : EReal) := Ideal.ofBits_zero_f32
/-- The score scale, as the real number its word names. -/
def sc : ℝ := (Ideal.ofBits .f32 0x3DB504F3#32).toReal
theorem sc_word : (FloatOps.ofBits .f32 0x3DB504F3#32 : Ideal .f32) = ((sc : ℝ) : EReal) := by
  show Ideal.ofBits .f32 0x3DB504F3#32 = _
  refine (EReal.coe_toReal ?_ ?_).symm <;> simp [Ideal.ofBits, Ideal.ieee, -EReal.coe_mul]

/-! ## The table of ones and the mask -/

/-- The table the suffix sums are taken with: ones on and below the diagonal, then ones everywhere. -/
def triR (k c : ℕ) : ℝ := if c ≤ k ∨ 128 ≤ c then 1 else 0

theorem slt_nat {a b : ℕ} (ha : a < 2 ^ 31) (hb : b < 2 ^ 31) : (BitVec.ofNat 32 a).slt (BitVec.ofNat 32 b) = decide (a < b) := by
  simp only [BitVec.slt, BitVec.toInt_eq_toNat_cond, BitVec.toNat_ofNat, Nat.mod_eq_of_lt (show a < 2 ^ 32 by omega), Nat.mod_eq_of_lt (show b < 2 ^ 32 by omega)]
  rw [if_pos (by omega), if_pos (by omega)]
  simp
theorem sle_nat {a b : ℕ} (ha : a < 2 ^ 31) (hb : b < 2 ^ 31) : (BitVec.ofNat 32 a).sle (BitVec.ofNat 32 b) = decide (a ≤ b) := by
  simp only [BitVec.sle, BitVec.toInt_eq_toNat_cond, BitVec.toNat_ofNat, Nat.mod_eq_of_lt (show a < 2 ^ 32 by omega), Nat.mod_eq_of_lt (show b < 2 ^ 32 by omega)]
  rw [if_pos (by omega), if_pos (by omega)]
  simp

theorem mask_is (i : S512x512.Idx) : k0_pay117 i = 1#1 ↔ (i 1).val < (i 0).val := by
  show BitVec.ofBool ((iota .tc S512x512 32 [1] iota_S512x512_d1_w32 i).slt (iota .tc S512x512 32 [0] iota_S512x512_d0_w32 i)) = 1#1 ↔ _
  have h0 : (i 0).val < 512 := (i 0).isLt
  have h1 : (i 1).val < 512 := (i 1).isLt
  rw [iota_single_apply, iota_single_apply, slt_nat (by omega) (by omega)]
  by_cases h : (i 1).val < (i 0).val <;> simp [h]

theorem tri_is : Is (n := 128) (m := 256) (k0_pay116 (F := Ideal)) triR := fun i => by
  have h0 : (i 0).val < 128 := (i 0).isLt
  have h1 : (i 1).val < 256 := (i 1).isLt
  show (if (BitVec.ofBool ((iota .tc S128x256 32 [1] iota_S128x256_d1_w32 i).sle (iota .tc S128x256 32 [0] iota_S128x256_d0_w32 i))
      ||| BitVec.ofBool ((BitVec.ofNat 32 128).sle (iota .tc S128x256 32 [1] iota_S128x256_d1_w32 i))) = 1#1
    then (FloatOps.ofBits .f32 0x3F800000#32 : Ideal .f32) else (FloatOps.ofBits .f32 0x00000000#32 : Ideal .f32)) = _
  rw [iota_single_apply, iota_single_apply, sle_nat (by omega) (by omega), sle_nat (by omega) (by omega), one_word, zero_word, triR]
  by_cases a : (i 1).val ≤ (i 0).val <;> by_cases b : 128 ≤ (i 1).val <;> simp [a, b]

/-! ## The suffix sums of one piece -/

/-- A piece times the table: suffix sums in the first 128 columns, the whole sum in the others. -/
def pieceR (x : ℕ → ℕ → ℝ) (o r c : ℕ) : ℝ := if c < 128 then ∑ k ∈ Ico c 128, x r (o + k) else ∑ k ∈ range 128, x r (o + k)

theorem tri_sum (f : ℕ → ℝ) (c : ℕ) : ∑ d ∈ range 128, f d * triR d c = if c < 128 then ∑ k ∈ Ico c 128, f k else ∑ k ∈ range 128, f k := by
  by_cases h : c < 128
  · rw [if_pos h]
    simp only [triR, mul_ite, mul_one, mul_zero]
    rw [← Finset.sum_filter]
    refine Finset.sum_congr ?_ fun _ _ => rfl
    ext k; simp only [Finset.mem_filter, Finset.mem_range, Finset.mem_Ico]; omega
  · rw [if_neg h]
    refine Finset.sum_congr rfl fun k _ => ?_
    rw [triR, if_pos (Or.inr (by omega)), mul_one]

section Suffix
variable {X : FVec Ideal S512x512 .f32} {x : ℕ → ℕ → ℝ} (hX : Is (n := 512) (m := 512) X x)
include hX

/-- One piece of 128 columns, its high and its low part each times the table. -/
theorem piece_is (o : ℕ) (h : S512x512.Slices ![0, o] S512x128) :
    Is (n := 512) (m := 256)
      (addf
        (matmul dot_S512x128_S128x256_S512x256_1_0_0_1_n_n none (truncf .bf16 (extractStridedSlice S512x128 ![0, o] X h) bitsLt_bf16_f32) (k0_pay116 (F := Ideal)) (constant S512x256 .f32 0x00000000#32))
        (matmul dot_S512x128_S128x256_S512x256_1_0_0_1_n_n none
          (truncf .bf16 (subf (extractStridedSlice S512x128 ![0, o] X h) (extf .f32 (truncf .bf16 (extractStridedSlice S512x128 ![0, o] X h) bitsLt_bf16_f32) bitsLt_bf16_f32)) bitsLt_bf16_f32)
          (k0_pay116 (F := Ideal)) (constant S512x256 .f32 0x00000000#32)))
      (pieceR x o) := by
  have hs := hX.slice (m' := 128) o h
  have hi := (hs.trunc (ψ := .bf16) bitsLt_bf16_f32).dotNN tri_is dot_S512x128_S128x256_S512x256_1_0_0_1_n_n rfl none
  have lo := ((hs.sub ((hs.trunc (ψ := .bf16) bitsLt_bf16_f32).ext (ψ := .f32) bitsLt_bf16_f32)).trunc (ψ := .bf16) bitsLt_bf16_f32).dotNN tri_is dot_S512x128_S128x256_S512x256_1_0_0_1_n_n rfl none
  refine (hi.add lo).congr fun r _ c _ => ?_
  rw [tri_sum (fun d => x r (o + d)), pieceR]
  simp
end Suffix

theorem lo_is {P : FVec Ideal S512x256 .f32} {x : ℕ → ℕ → ℝ} {o : ℕ} (h : Is (n := 512) (m := 256) P (pieceR x o)) :
    Is (n := 512) (m := 128) (extractStridedSlice S512x128 ![0, 0] P slices_S512x256_o0_0_S512x128) (fun r c => ∑ k ∈ Ico c 128, x r (o + k)) :=
  (h.slice (m' := 128) 0 slices_S512x256_o0_0_S512x128).congr fun r _ c hc => by
    rw [pieceR, if_pos (by omega), Nat.zero_add]

theorem hi_is {P : FVec Ideal S512x256 .f32} {x : ℕ → ℕ → ℝ} {o : ℕ} (h : Is (n := 512) (m := 256) P (pieceR x o)) :
    Is (n := 512) (m := 128) (extractStridedSlice S512x128 ![0, 128] P slices_S512x256_o0_128_S512x128) (fun r _ => ∑ k ∈ range 128, x r (o + k)) :=
  (h.slice (m' := 128) 128 slices_S512x256_o0_128_S512x128).congr fun r _ c hc => by
    rw [pieceR, if_neg (by omega)]

/-! ## Scores -/

section Score
variable {QB KB : FVec Ideal S512x128 .bf16} {q k : ℕ → ℕ → ℝ} (hq : Is (n := 512) (m := 128) QB q) (hk : Is (n := 512) (m := 128) KB k)
include hq hk

theorem dots_is : Is (n := 512) (m := 512)
    (matmul dot_S512x128_S512x128_S512x512_1_1_0_0_n_n none QB KB (constant S512x512 .f32 0x00000000#32)) (fun r c => rdot q k r c) :=
  hq.dotNT hk dot_S512x128_S512x128_S512x512_1_1_0_0_n_n rfl none

theorem score_is : Is (n := 512) (m := 512) (k0_pay4 (F := Ideal) QB KB) (fun r c => rdot q k r c * sc) :=
  (dots_is hq hk).mul (Is.splat _ sc_word)

theorem score_is' : Is (n := 512) (m := 512) (k0_pay66 (F := Ideal) QB KB) (fun r c => rdot q k r c * sc) :=
  (dots_is hq hk).mul (Is.splat _ sc_word)

end Score

/-- Minus the softplus of an array of scores. -/
theorem keep_is {Z : FVec Ideal S512x512 .f32} {z : ℕ → ℕ → ℝ} (hz : Is (n := 512) (m := 512) Z z) :
    Is (n := 512) (m := 512)
      (subf (broadcast S512x512 (Scalar.ofBits .f32 0x00000000#32 : Ideal .f32))
        (addf (maximumf Z (broadcast S512x512 (Scalar.ofBits .f32 0x00000000#32 : Ideal .f32)))
          (log (addf (broadcast S512x512 (Scalar.ofBits .f32 0x3F800000#32 : Ideal .f32))
            (exp (subf (broadcast S512x512 (Scalar.ofBits .f32 0x00000000#32 : Ideal .f32)) (absf Z)))))))
      (fun r c => lkeep (z r c)) := by
  have z0 : Is (n := 512) (m := 512) (broadcast S512x512 (Scalar.ofBits .f32 0x00000000#32 : Ideal .f32)) (fun _ _ => 0) := Is.splat _ zero_word
  have z1 : Is (n := 512) (m := 512) (broadcast S512x512 (Scalar.ofBits .f32 0x3F800000#32 : Ideal .f32)) (fun _ _ => 1) := Is.splat _ one_word
  exact z0.sub ((hz.max z0).add ((z1.add (z0.sub hz.abs).exp).log fun r c => by positivity))

end Cert.KernelIdeal

end
-- ==== Proof.Value.Steps.lean ====
/- One block of keys against one block of queries over the real numbers: the carried sums, the
   weights, and what the block adds to the three gradients. -/
module

public import proofs.«01_k».proof.Proof.Value.Block

@[expose] public section

set_option maxRecDepth 16384

noncomputable section

namespace Cert.KernelIdeal

open Idealize.ShloMosaic Idealize.ShloMosaic.TcCoe Idealize.ShloMosaic.ValueIdx Cert.KernelIdeal.Gen Cert.Reals
open scoped BigOperators
open Finset (range Ico)

/-- One piece of 128 columns, its high and its low part each times the table. -/
abbrev pieceA (X : FVec Ideal S512x512 .f32) (o : ℕ) (h : S512x512.Slices ![0, o] S512x128) : FVec Ideal S512x256 .f32 :=
  addf
    (matmul dot_S512x128_S128x256_S512x256_1_0_0_1_n_n none (truncf .bf16 (extractStridedSlice S512x128 ![0, o] X h) bitsLt_bf16_f32) (k0_pay116 (F := Ideal)) (constant S512x256 .f32 0x00000000#32))
    (matmul dot_S512x128_S128x256_S512x256_1_0_0_1_n_n none
      (truncf .bf16 (subf (extractStridedSlice S512x128 ![0, o] X h) (extf .f32 (truncf .bf16 (extractStridedSlice S512x128 ![0, o] X h) bitsLt_bf16_f32) bitsLt_bf16_f32)) bitsLt_bf16_f32)
      (k0_pay116 (F := Ideal)) (constant S512x256 .f32 0x00000000#32))
/-- The suffix sums of a piece. -/
abbrev loA (P : FVec Ideal S512x256 .f32) : FVec Ideal S512x128 .f32 := extractStridedSlice S512x128 ![0, 0] P slices_S512x256_o0_0_S512x128
/-- The whole sum of a piece. -/
abbrev hiA (P : FVec Ideal S512x256 .f32) : FVec Ideal S512x128 .f32 := extractStridedSlice S512x128 ![0, 128] P slices_S512x256_o0_128_S512x128
/-- The carried sum after the last piece, after the last two, the last three, and all four. -/
abbrev c3A (X : FVec Ideal S512x512 .f32) (C : FVec Ideal S512x128 .f32) : FVec Ideal S512x128 .f32 := addf C (hiA (pieceA X 384 slices_S512x512_o0_384_S512x128))
abbrev c2A (X : FVec Ideal S512x512 .f32) (C : FVec Ideal S512x128 .f32) : FVec Ideal S512x128 .f32 := addf (c3A X C) (hiA (pieceA X 256 slices_S512x512_o0_256_S512x128))
abbrev c1A (X : FVec Ideal S512x512 .f32) (C : FVec Ideal S512x128 .f32) : FVec Ideal S512x128 .f32 := addf (c2A X C) (hiA (pieceA X 128 slices_S512x512_o0_128_S512x128))
abbrev c0A (X : FVec Ideal S512x512 .f32) (C : FVec Ideal S512x128 .f32) : FVec Ideal S512x128 .f32 := addf (c1A X C) (hiA (pieceA X 0 slices_S512x512_o0_0_S512x128))
/-- The suffix sums of a block with the carried sum. -/
abbrev sufA (X : FVec Ideal S512x512 .f32) (C : FVec Ideal S512x128 .f32) : FVec Ideal S512x512 .f32 :=
  concatenate S512x512 1 [⟨S512x128, addf (loA (pieceA X 0 slices_S512x512_o0_0_S512x128)) (c1A X C)⟩,
    ⟨S512x128, addf (loA (pieceA X 128 slices_S512x512_o0_128_S512x128)) (c2A X C)⟩,
    ⟨S512x128, addf (loA (pieceA X 256 slices_S512x512_o0_256_S512x128)) (c3A X C)⟩,
    ⟨S512x128, addf (loA (pieceA X 384 slices_S512x512_o0_384_S512x128)) C⟩]
    concatenates_S512x128_S512x128_S512x128_S512x128_S512x512_d1

section Suffix
variable {X : FVec Ideal S512x512 .f32} {C : FVec Ideal S512x128 .f32} {x : ℕ → ℕ → ℝ} {a : ℕ → ℝ}
  (hX : Is (n := 512) (m := 512) X x) (hC : Is (n := 512) (m := 128) C (fun r _ => a r))
include hX hC

theorem c3_is : Is (n := 512) (m := 128) (c3A X C) (fun r _ => a r + ∑ k ∈ range 128, x r (384 + k)) :=
  hC.add (hi_is (piece_is hX 384 slices_S512x512_o0_384_S512x128))
theorem c2_is : Is (n := 512) (m := 128) (c2A X C) (fun r _ => a r + ∑ k ∈ range 128, x r (384 + k) + ∑ k ∈ range 128, x r (256 + k)) :=
  (c3_is hX hC).add (hi_is (piece_is hX 256 slices_S512x512_o0_256_S512x128))
theorem c1_is : Is (n := 512) (m := 128) (c1A X C)
    (fun r _ => a r + ∑ k ∈ range 128, x r (384 + k) + ∑ k ∈ range 128, x r (256 + k) + ∑ k ∈ range 128, x r (128 + k)) :=
  (c2_is hX hC).add (hi_is (piece_is hX 128 slices_S512x512_o0_128_S512x128))
theorem total_is : Is (n := 512) (m := 128) (c0A X C) (fun r _ => a r + ∑ k ∈ Ico 0 512, x r k) :=
  ((c1_is hX hC).add (hi_is (piece_is hX 0 slices_S512x512_o0_0_S512x128))).congr fun r _ c _ => total_pieces (x r) (a r)

theorem suffix_is : Is (n := 512) (m := 512) (sufA X C) (fun r c => a r + ∑ k ∈ Ico c 512, x r k) :=
  (Is.cat ((lo_is (piece_is hX 0 slices_S512x512_o0_0_S512x128)).add (c1_is hX hC))
    ((lo_is (piece_is hX 128 slices_S512x512_o0_128_S512x128)).add (c2_is hX hC))
    ((lo_is (piece_is hX 256 slices_S512x512_o0_256_S512x128)).add (c3_is hX hC))
    ((lo_is (piece_is hX 384 slices_S512x512_o0_384_S512x128)).add hC)
    concatenates_S512x128_S512x128_S512x128_S512x128_S512x512_d1).congr fun r _ c hc => suffix_pieces (x r) (a r) c hc
end Suffix

theorem zeros_is : Is (n := 512) (m := 128) (k0_pay65 (F := Ideal)) (fun _ _ => 0) := Is.splat _ zero_word

/-- A product of the columns of a block with the columns of another. -/
theorem tn_is {X : FVec Ideal S512x512 .bf16} {Y : FVec Ideal S512x128 .bf16} {x y : ℕ → ℕ → ℝ}
    (hX : Is (n := 512) (m := 512) X x) (hY : Is (n := 512) (m := 128) Y y) :
    Is (n := 512) (m := 128) (matmul dot_S512x512_S512x128_S512x128_0_0_1_1_n_n none X Y (constant S512x128 .f32 0x00000000#32))
      (fun r c => ∑ d ∈ range 512, x d r * y d c) :=
  hX.dotTN hY dot_S512x512_S512x128_S512x128_0_0_1_1_n_n rfl rfl (fun _ _ => ⟨rfl, rfl⟩) (fun _ _ => ⟨rfl, rfl⟩) none

section Real
variable (q k g v : ℕ → ℕ → ℝ) (tot cr crd : ℕ → ℝ)
/-- The scores of a block. -/
def zB (r c : ℕ) : ℝ := rdot q k r c * sc
/-- The log keep terms of an earlier block. -/
def lB (r c : ℕ) : ℝ := lkeep (zB q k r c)
/-- The gates. -/
def gB (r c : ℕ) : ℝ := Real.exp (zB q k r c + lB q k r c)
/-- The weights of an earlier block. -/
def aB (r c : ℕ) : ℝ := Real.exp (zB q k r c + lB q k r c + (cr r + ∑ u ∈ Ico c 512, lB q k r u - lB q k r c))
/-- The weighted cotangents. -/
def wB (r c : ℕ) : ℝ := aB q k cr r c * rdot g v r c
/-- The cotangents of the products. -/
def dB (r c : ℕ) : ℝ :=
  (wB q k g v cr r c * (1 - gB q k r c) - (tot r - (crd r + ∑ u ∈ Ico c 512, wB q k g v cr r u)) * gB q k r c) * sc
/-- The same of the masked diagonal block. -/
def lD (r c : ℕ) : ℝ := if c < r then lB q k r c else 0
def aD (r c : ℕ) : ℝ := if c < r then Real.exp (zB q k r c + lB q k r c + (0 + ∑ u ∈ Ico c 512, lD q k r u - lD q k r c)) else 0
def wD (r c : ℕ) : ℝ := aD q k r c * rdot g v r c
def dD (r c : ℕ) : ℝ :=
  (wD q k g v r c * (1 - gB q k r c) - (if c < r then (tot r - (0 + ∑ u ∈ Ico c 512, wD q k g v r u)) * gB q k r c else 0)) * sc
end Real

section Steps
variable {QB KB GB VB : FVec Ideal S512x128 .bf16} {TOT : FVec Ideal S512x1 .f32} {CR CRD : FVec Ideal S512x128 .f32}
  {q k g v : ℕ → ℕ → ℝ} {tot cr crd : ℕ → ℝ}
  (hq : Is (n := 512) (m := 128) QB q) (hk : Is (n := 512) (m := 128) KB k) (hg : Is (n := 512) (m := 128) GB g) (hv : Is (n := 512) (m := 128) VB v)
  (ht : Is (n := 512) (m := 1) TOT (fun r _ => tot r))
  (hc : Is (n := 512) (m := 128) CR (fun r _ => cr r)) (hd : Is (n := 512) (m := 128) CRD (fun r _ => crd r))

include hq hk in
theorem keepIn_is : Is (n := 512) (m := 512) (k0_pay5 (F := Ideal) QB KB) (lB q k) := keep_is (score_is hq hk)
include hq hk in
theorem keepDg_is : Is (n := 512) (m := 512) (k0_pay67 (F := Ideal) QB KB) (lB q k) := keep_is (score_is' hq hk)

include hq hk hc in
theorem crIn_is : Is (n := 512) (m := 128) (crIn (k0_pay116 (F := Ideal)) QB KB CR) (fun r _ => cr r + ∑ u ∈ Ico 0 512, lB q k r u) :=
  total_is (keepIn_is hq hk) hc

include hq hk hc in
theorem abIn_is : Is (n := 512) (m := 512) (abIn (k0_pay116 (F := Ideal)) QB KB CR) (aB q k cr) :=
  (((score_is hq hk).add (keepIn_is hq hk)).add ((suffix_is (keepIn_is hq hk) hc).sub (keepIn_is hq hk))).exp.trunc bitsLt_bf16_f32

include hq hk hg hv hc in
theorem dlaIn_is : Is (n := 512) (m := 512) (dlaIn (k0_pay116 (F := Ideal)) QB GB KB VB CR) (wB q k g v cr) :=
  ((abIn_is hq hk hc).ext bitsLt_bf16_f32).mul (dots_is hg hv)

include hq hk hg hv hc hd in
theorem crdIn_is : Is (n := 512) (m := 128) (crdIn (k0_pay116 (F := Ideal)) QB GB KB VB CR CRD) (fun r _ => crd r + ∑ u ∈ Ico 0 512, wB q k g v cr r u) :=
  total_is (dlaIn_is hq hk hg hv hc) hd

include hq hk hg hv ht hc hd in
theorem dzIn_is : Is (n := 512) (m := 512)
    (k0_pay31 (k0_pay116 (F := Ideal)) TOT (k0_pay4 QB KB) (k0_pay5 QB KB) (dlaIn (k0_pay116 (F := Ideal)) QB GB KB VB CR)
      (s20In (k0_pay116 (F := Ideal)) QB GB KB VB CR CRD) (s21In (k0_pay116 (F := Ideal)) QB GB KB VB CR CRD)
      (s23In (k0_pay116 (F := Ideal)) QB GB KB VB CR) (s24In (k0_pay116 (F := Ideal)) QB GB KB VB CR) zero256) (dB q k g v tot cr crd) :=
  ((((dlaIn_is hq hk hg hv hc).mul ((Is.splat _ one_word).sub ((score_is hq hk).add (keepIn_is hq hk)).exp)).sub
    (((ht.spreadCol broadcasts_S512x1_S512x512 (by decide)).sub (suffix_is (dlaIn_is hq hk hg hv hc) hd)).mul ((score_is hq hk).add (keepIn_is hq hk)).exp)).mul
    (Is.splat _ sc_word)).trunc bitsLt_bf16_f32

include hq hk hg hv ht hc hd in
theorem dqIn_is {DQ : FVec Ideal S512x128 .f32} {dq : ℕ → ℕ → ℝ} (h : Is (n := 512) (m := 128) DQ dq) :
    Is (n := 512) (m := 128) (dqIn (k0_pay116 (F := Ideal)) QB GB TOT KB VB CR CRD DQ) (fun r d => dq r d + ∑ c ∈ range 512, dB q k g v tot cr crd r c * k c d) :=
  h.add ((dzIn_is hq hk hg hv ht hc hd).dotNN hk dot_S512x512_S512x128_S512x128_1_0_0_1_n_n rfl none)

include hq hk hg hv ht hc hd in
theorem dkIn_is {DK : FVec Ideal S512x128 .f32} {dk : ℕ → ℕ → ℝ} (h : Is (n := 512) (m := 128) DK dk) :
    Is (n := 512) (m := 128) (dkIn (k0_pay116 (F := Ideal)) QB GB TOT KB VB CR CRD DK) (fun c d => dk c d + ∑ r ∈ range 512, dB q k g v tot cr crd r c * q r d) :=
  (h.add (tn_is (dzIn_is hq hk hg hv ht hc hd) hq)).cast shapeCasts_S512x128_S512x128

include hq hk hg hc in
theorem dvIn_is {DV : FVec Ideal S512x128 .f32} {dv : ℕ → ℕ → ℝ} (h : Is (n := 512) (m := 128) DV dv) :
    Is (n := 512) (m := 128) (dvIn (k0_pay116 (F := Ideal)) QB GB KB CR DV) (fun c d => dv c d + ∑ r ∈ range 512, aB q k cr r c * g r d) :=
  (h.add (tn_is (abIn_is hq hk hc) hg)).cast shapeCasts_S512x128_S512x128

/-! ## The diagonal block -/

include hq hk in
theorem keepMask_is : Is (n := 512) (m := 512) (k0_pay68 (F := Ideal) k0_pay117 QB KB) (lD q k) :=
  Is.select k0_pay117 (fun r c => c < r) mask_is (keepDg_is hq hk) (Is.splat _ zero_word)

include hq hk in
theorem crDg_is : Is (n := 512) (m := 128) (crDg (k0_pay116 (F := Ideal)) k0_pay117 QB KB) (fun r _ => 0 + ∑ u ∈ Ico 0 512, lD q k r u) := by
  have h := total_is (a := fun _ => 0) (keepMask_is hq hk) zeros_is
  have e : crDg (k0_pay116 (F := Ideal)) k0_pay117 QB KB = c0A (k0_pay68 (F := Ideal) k0_pay117 QB KB) k0_pay65 := by
    delta crDg k0_pay79 k0_pay77 k0_pay75 k0_pay73 k0_pay72 k0_pay74 k0_pay76 k0_pay78 k0_pay70 k0_pay71 k0_pay69 zero256
    rfl
  exact e ▸ h

include hq hk in
theorem abDg_is : Is (n := 512) (m := 512) (abDg (k0_pay116 (F := Ideal)) k0_pay117 QB KB) (aD q k) :=
  (Is.select k0_pay117 (fun r c => c < r) mask_is
    (((score_is' hq hk).add (keepDg_is hq hk)).add ((suffix_is (a := fun _ => 0) (keepMask_is hq hk) zeros_is).sub (keepMask_is hq hk))).exp
    (Is.splat _ zero_word)).trunc bitsLt_bf16_f32

include hq hk hg hv in
theorem dlaDg_is : Is (n := 512) (m := 512) (dlaDg (k0_pay116 (F := Ideal)) k0_pay117 QB GB KB VB) (wD q k g v) :=
  ((abDg_is hq hk).ext bitsLt_bf16_f32).mul (dots_is hg hv)

include hq hk hg hv in
theorem crdDg_is : Is (n := 512) (m := 128) (crdDg (k0_pay116 (F := Ideal)) k0_pay117 QB GB KB VB) (fun r _ => 0 + ∑ u ∈ Ico 0 512, wD q k g v r u) :=
  total_is (a := fun _ => 0) (dlaDg_is hq hk hg hv) zeros_is

include hq hk hg hv in
theorem latDg_is : Is (n := 512) (m := 512) (latDg (k0_pay116 (F := Ideal)) k0_pay117 QB GB KB VB) (fun r c => 0 + ∑ u ∈ Ico c 512, wD q k g v r u) :=
  suffix_is (a := fun _ => 0) (dlaDg_is hq hk hg hv) zeros_is

include hq hk hg hv ht in
theorem dzDg_is : Is (n := 512) (m := 512)
    (k0_pay92 (F := Ideal) k0_pay117 TOT (k0_pay66 QB KB) (k0_pay67 QB KB) (dlaDg (k0_pay116 (F := Ideal)) k0_pay117 QB GB KB VB)
      (latDg (k0_pay116 (F := Ideal)) k0_pay117 QB GB KB VB)) (dD q k g v tot) :=
  ((((dlaDg_is hq hk hg hv).mul ((Is.splat _ one_word).sub ((score_is' hq hk).add (keepDg_is hq hk)).exp)).sub
    (Is.select k0_pay117 (fun r c => c < r) mask_is
      (((ht.spreadCol broadcasts_S512x1_S512x512 (by decide)).sub (latDg_is hq hk hg hv)).mul ((score_is' hq hk).add (keepDg_is hq hk)).exp)
      (Is.splat _ zero_word))).mul (Is.splat _ sc_word)).trunc bitsLt_bf16_f32

include hq hk hg hv ht in
theorem dqDg_is : Is (n := 512) (m := 128) (dqDg (k0_pay116 (F := Ideal)) k0_pay117 QB GB TOT KB VB) (fun r d => 0 + ∑ c ∈ range 512, dD q k g v tot r c * k c d) :=
  zeros_is.add ((dzDg_is hq hk hg hv ht).dotNN hk dot_S512x512_S512x128_S512x128_1_0_0_1_n_n rfl none)

include hq hk hg hv ht in
theorem dkDg_is {DK : FVec Ideal S512x128 .f32} {dk : ℕ → ℕ → ℝ} (h : Is (n := 512) (m := 128) DK dk) :
    Is (n := 512) (m := 128) (dkDg (k0_pay116 (F := Ideal)) k0_pay117 QB GB TOT KB VB DK) (fun c d => dk c d + ∑ r ∈ range 512, dD q k g v tot r c * q r d) :=
  (h.add (tn_is (dzDg_is hq hk hg hv ht) hq)).cast shapeCasts_S512x128_S512x128

include hq hk hg in
theorem dvDg_is {DV : FVec Ideal S512x128 .f32} {dv : ℕ → ℕ → ℝ} (h : Is (n := 512) (m := 128) DV dv) :
    Is (n := 512) (m := 128) (dvDg (k0_pay116 (F := Ideal)) k0_pay117 QB GB KB DV) (fun c d => dv c d + ∑ r ∈ range 512, aD q k r c * g r d) :=
  (h.add (tn_is (abDg_is hq hk) hg)).cast shapeCasts_S512x128_S512x128

end Steps

end Cert.KernelIdeal

end
-- ==== Proof.Value.Pair.lean ====
/- One head's loops over the real numbers: what each block adds is a part of the whole sums. -/
module

public import proofs.«01_k».proof.Proof.Value.Steps
public import proofs.«01_k».proof.Proof.Run.Forms

@[expose] public section

set_option maxRecDepth 16384

noncomputable section

namespace Cert.KernelIdeal

open Idealize.ShloMosaic Idealize.ShloMosaic.TcCoe Idealize.ShloMosaic.ValueIdx Cert.KernelIdeal.Gen Cert.Reals
open scoped BigOperators
open Finset (range Ico)

/-! ### The real numbers -/

section Real
variable (qn kn v g o : ℕ → ℕ → ℝ)

/-- The rows from `T` on. -/
abbrev rows (x : ℕ → ℕ → ℝ) (T : ℕ) : ℕ → ℕ → ℝ := fun r d => x (T + r) d

/-- The sum from the end of a block on is the sum of the later blocks and of the rest of the block. -/
theorem block_rest (f : ℕ → ℝ) (S c : ℕ) (hc : c ≤ 512) (hS : S + 512 ≤ 4096) (l : ℕ → ℝ) (hl : ∀ u < 512, l u = f (S + u)) :
    ∑ u ∈ Ico (S + 512) 4096, f u + ∑ u ∈ Ico c 512, l u = ∑ u ∈ Ico (S + c) 4096, f u := by
  rw [← suffix_block f S c hc hS]
  refine congrArg _ (Finset.sum_congr rfl fun u hu => hl u ?_)
  exact (Finset.mem_Ico.1 hu).2

section In
variable {T S : ℕ} (h : S + 512 ≤ T) (hS : S + 512 ≤ 4096)
include h

theorem lB_eq (r : ℕ) {c : ℕ} (hc : c < 512) : lB (rows qn T) (rows kn S) r c = LL sc qn kn (T + r) (S + c) := by
  rw [LL, if_pos (by omega)]; rfl

include hS

theorem crB_eq (r : ℕ) : SS sc qn kn (T + r) (S + 512) + ∑ u ∈ Ico 0 512, lB (rows qn T) (rows kn S) r u = SS sc qn kn (T + r) S :=
  block_rest _ S 0 (by omega) hS _ fun u hu => lB_eq qn kn h r hu

theorem aB_eq (r : ℕ) {c : ℕ} (hc : c < 512) :
    aB (rows qn T) (rows kn S) (fun r => SS sc qn kn (T + r) (S + 512)) r c = AA sc qn kn (T + r) (S + c) := by
  have e : SS sc qn kn (T + r) (S + 512) + ∑ u ∈ Ico c 512, lB (rows qn T) (rows kn S) r u = SS sc qn kn (T + r) (S + c) :=
    block_rest _ S c hc.le hS _ fun u hu => lB_eq qn kn h r hu
  rw [AA, if_pos (by omega), aB, e, lB_eq qn kn h r hc, LL, if_pos (by omega)]; rfl

theorem wB_eq (r : ℕ) {c : ℕ} (hc : c < 512) :
    wB (rows qn T) (rows kn S) (rows g T) (rows v S) (fun r => SS sc qn kn (T + r) (S + 512)) r c = WW sc qn kn v g (T + r) (S + c) := by
  rw [wB, aB_eq qn kn h hS r hc]; rfl

theorem crdB_eq (r : ℕ) : VV sc qn kn v g (T + r) (S + 512)
      + ∑ u ∈ Ico 0 512, wB (rows qn T) (rows kn S) (rows g T) (rows v S) (fun r => SS sc qn kn (T + r) (S + 512)) r u = VV sc qn kn v g (T + r) S :=
  block_rest _ S 0 (by omega) hS _ fun u hu => wB_eq qn kn v g h hS r hu

theorem dB_eq (r : ℕ) {c : ℕ} (hc : c < 512) :
    dB (rows qn T) (rows kn S) (rows g T) (rows v S) (fun r => TT g o (T + r)) (fun r => SS sc qn kn (T + r) (S + 512))
      (fun r => VV sc qn kn v g (T + r) (S + 512)) r c = ZZ sc qn kn v g o (T + r) (S + c) := by
  have e : VV sc qn kn v g (T + r) (S + 512)
      + ∑ u ∈ Ico c 512, wB (rows qn T) (rows kn S) (rows g T) (rows v S) (fun r => SS sc qn kn (T + r) (S + 512)) r u = VV sc qn kn v g (T + r) (S + c) :=
    block_rest _ S c hc.le hS _ fun u hu => wB_eq qn kn v g h hS r hu
  rw [ZZ, if_pos (by omega), dB, e, wB_eq qn kn v g h hS r hc]; rfl
end In

section Dg
variable {T : ℕ} (hT : T + 512 ≤ 4096)

theorem lD_eq (r : ℕ) {c : ℕ} (_ : c < 512) : lD (rows qn T) (rows kn T) r c = LL sc qn kn (T + r) (T + c) := by
  unfold lD LL
  by_cases h : c < r
  · rw [if_pos h, if_pos (by omega)]; rfl
  · rw [if_neg h, if_neg (by omega)]

theorem SS_late {r : ℕ} (hr : r < 512) : SS sc qn kn (T + r) (T + 512) = 0 :=
  Finset.sum_eq_zero fun u hu => LL_of_le _ _ _ (by have := (Finset.mem_Ico.1 hu).1; omega)
theorem VV_late {r : ℕ} (hr : r < 512) : VV sc qn kn v g (T + r) (T + 512) = 0 :=
  Finset.sum_eq_zero fun u hu => WW_of_le _ _ _ _ _ (by have := (Finset.mem_Ico.1 hu).1; omega)

include hT

theorem crD_eq {r : ℕ} (hr : r < 512) {c : ℕ} (hc : c ≤ 512) : 0 + ∑ u ∈ Ico c 512, lD (rows qn T) (rows kn T) r u = SS sc qn kn (T + r) (T + c) := by
  rw [← SS_late qn kn (T := T) hr]
  exact block_rest _ T c hc hT _ fun u hu => lD_eq qn kn r hu

theorem aD_eq {r : ℕ} (hr : r < 512) {c : ℕ} (hc : c < 512) : aD (rows qn T) (rows kn T) r c = AA sc qn kn (T + r) (T + c) := by
  unfold aD AA
  rw [crD_eq qn kn hT hr hc.le, lD_eq qn kn r hc]
  by_cases h : c < r
  · rw [if_pos h, if_pos (by omega)]; rfl
  · rw [if_neg h, if_neg (by omega)]

theorem wD_eq {r : ℕ} (hr : r < 512) {c : ℕ} (hc : c < 512) :
    wD (rows qn T) (rows kn T) (rows g T) (rows v T) r c = WW sc qn kn v g (T + r) (T + c) := by
  rw [wD, aD_eq qn kn hT hr hc]; rfl

theorem crdD_eq {r : ℕ} (hr : r < 512) {c : ℕ} (hc : c ≤ 512) :
    0 + ∑ u ∈ Ico c 512, wD (rows qn T) (rows kn T) (rows g T) (rows v T) r u = VV sc qn kn v g (T + r) (T + c) := by
  rw [← VV_late qn kn v g (T := T) hr]
  exact block_rest _ T c hc hT _ fun u hu => wD_eq qn kn v g hT hr hu

theorem dD_eq {r : ℕ} (hr : r < 512) {c : ℕ} (hc : c < 512) :
    dD (rows qn T) (rows kn T) (rows g T) (rows v T) (fun r => TT g o (T + r)) r c = ZZ sc qn kn v g o (T + r) (T + c) := by
  unfold dD ZZ
  rw [crdD_eq qn kn v g hT hr hc.le, wD_eq qn kn v g hT hr hc]
  by_cases h : c < r
  · rw [if_pos h, if_pos (by omega)]; rfl
  · rw [if_neg h, if_neg (by omega)]; rfl
end Dg

/-- The sum over the queries before `T`, and over the block of queries from `T` on for the keys from `B` on. -/
def gR (f x : ℕ → ℕ → ℝ) (T B s d : ℕ) : ℝ :=
  ∑ t ∈ range T, f t s * x t d + if B ≤ s ∧ s < T + 512 then ∑ r ∈ range 512, f (T + r) s * x (T + r) d else 0
/-- The sum over the queries before `T` and over the block of queries from `T` on. -/
def gS (f x : ℕ → ℕ → ℝ) (T s d : ℕ) : ℝ := ∑ t ∈ range T, f t s * x t d + ∑ r ∈ range 512, f (T + r) s * x (T + r) d
/-- The sum over the queries before `T`. -/
def gT (f x : ℕ → ℕ → ℝ) (T s d : ℕ) : ℝ := ∑ t ∈ range T, f t s * x t d

theorem gR_add (f x : ℕ → ℕ → ℝ) (T S c d : ℕ) (hc : c < 512) (l : ℕ → ℝ) (hl : ∀ r < 512, l r = f (T + r) (S + c)) :
    gR f x T (S + 512) (S + c) d + ∑ r ∈ range 512, l r * x (T + r) d = gS f x T (S + c) d := by
  unfold gR gS
  rw [if_neg (by omega), add_zero]
  exact congrArg _ (Finset.sum_congr rfl fun r hr => by rw [hl r (Finset.mem_range.1 hr)])

theorem gT_add (f x : ℕ → ℕ → ℝ) (T S c d : ℕ) (l : ℕ → ℝ) (hl : ∀ r < 512, l r = f (T + r) (S + c)) :
    gT f x T (S + c) d + ∑ r ∈ range 512, l r * x (T + r) d = gS f x T (S + c) d := by
  unfold gT gS
  exact congrArg _ (Finset.sum_congr rfl fun r hr => by rw [hl r (Finset.mem_range.1 hr)])

theorem gR_put (f x : ℕ → ℕ → ℝ) (t j s d : ℕ) (h : j < t) :
    (if 512 * j ≤ s ∧ s < 512 * (j + 1) then gS f x (512 * t) s d else gR f x (512 * t) (512 * j + 512) s d) = gR f x (512 * t) (512 * j) s d := by
  unfold gR gS
  by_cases h1 : 512 * j ≤ s ∧ s < 512 * (j + 1)
  · rw [if_pos h1, if_pos (by omega)]
  · rw [if_neg h1]
    refine congrArg _ (if_congr ?_ rfl rfl)
    omega

theorem gT_put (f x : ℕ → ℕ → ℝ) (t s d : ℕ) :
    (if 512 * t ≤ s ∧ s < 512 * (t + 1) then gS f x (512 * t) s d else gT f x (512 * t) s d) = gR f x (512 * t) (512 * t) s d := by
  unfold gR gS gT
  by_cases h1 : 512 * t ≤ s ∧ s < 512 * (t + 1)
  · rw [if_pos h1, if_pos (by omega)]
  · rw [if_neg h1, if_neg (by omega), add_zero]

theorem gT_zero (f x : ℕ → ℕ → ℝ) (s d : ℕ) : 0 = gT f x (512 * 0) s d := by
  unfold gT
  rw [Nat.mul_zero, Finset.sum_range_zero]

theorem gR_end (f x : ℕ → ℕ → ℝ) (T s d : ℕ) (hf : ∀ t, t ≤ s → f t s = 0) : gR f x T 0 s d = gT f x (T + 512) s d := by
  unfold gR gT
  rw [Finset.sum_range_add]
  refine congrArg _ ?_
  by_cases h : 0 ≤ s ∧ s < T + 512
  · rw [if_pos h]
  · rw [if_neg h]
    exact (Finset.sum_eq_zero fun r hr => by rw [hf _ (by have := Finset.mem_range.1 hr; omega), zero_mul]).symm

/-- A sum over the columns of a block, as a sum over keys. -/
theorem block_sum (f : ℕ → ℝ) (S : ℕ) : ∑ c ∈ range 512, f (S + c) = ∑ s ∈ Ico S (S + 512), f s := by
  rw [Finset.range_eq_Ico, Finset.sum_Ico_add f 0 512 S, Nat.zero_add, Nat.add_comm 512 S]

/-- A block of keys added to the sum over the later keys. -/
theorem q_add (f k : ℕ → ℝ) (S E : ℕ) (h : S + 512 ≤ E) (l : ℕ → ℝ) (hl : ∀ c < 512, l c = f (S + c)) :
    ∑ u ∈ Ico (S + 512) E, f u * k u + ∑ c ∈ range 512, l c * k (S + c) = ∑ u ∈ Ico S E, f u * k u := by
  have e : ∑ c ∈ range 512, l c * k (S + c) = ∑ c ∈ range 512, f (S + c) * k (S + c) :=
    Finset.sum_congr rfl fun c hc => by rw [hl c (Finset.mem_range.1 hc)]
  rw [e, block_sum (fun u => f u * k u) S, add_comm]
  exact Finset.sum_Ico_consecutive _ (by omega) h
theorem q_zero (f k : ℕ → ℝ) (S : ℕ) (l : ℕ → ℝ) (hl : ∀ c < 512, l c = f (S + c)) :
    0 + ∑ c ∈ range 512, l c * k (S + c) = ∑ u ∈ Ico S (S + 512), f u * k u := by
  rw [← q_add f k S (S + 512) le_rfl l hl, Finset.Ico_self, Finset.sum_empty]
end Real

/-! ### Reading and writing blocks of rows -/

section Rows
variable {x : ℕ → ℕ → ℝ}

/-- A block of 512 rows read from a head's array. -/
theorem ldW_is {X : S4096x128.Idx → Elt Ideal .f32} (hX : Is (n := 4096) (m := 128) X x) {off : Fin 2 → ℕ} {t : ℕ} (h : off = ![512 * t, 0])
    (inb : ∀ a, off a + S512x128.size a ≤ S4096x128.size a) :
    Is (n := 512) (m := 128) (View.ld (Val := Elt Ideal) (S := S4096x128) (e' := .f32) X (Rect.unit (s := S4096x128) off S512x128.size inb)) (rows x (512 * t)) := by
  subst h
  intro i
  refine (hX _).trans ?_
  show ((x (512 * t + 1 * (i 0).val) (0 + 1 * (i 1).val) : ℝ) : EReal) = _
  rw [Nat.one_mul, Nat.one_mul, Nat.zero_add]

/-- The same in the narrow format. -/
theorem ldB_is {X : S4096x128.Idx → Elt Ideal .bf16} (hX : Is (n := 4096) (m := 128) X x) {off : Fin 2 → ℕ} {t : ℕ} (h : off = ![512 * t, 0])
    (inb : ∀ a, off a + S512x128.size a ≤ S4096x128.size a) :
    Is (n := 512) (m := 128) (View.ld (Val := Elt Ideal) (S := S4096x128) (e' := .bf16) X (Rect.unit (s := S4096x128) off S512x128.size inb)) (rows x (512 * t)) :=
  ldW_is (X := X) hX h inb

/-- A block of 512 rows written into a head's array. -/
theorem put_is {X : S4096x128.Idx → Elt Ideal .f32} (hX : Is (n := 4096) (m := 128) X x) {off : Fin 2 → ℕ} {t : ℕ} (h : off = ![512 * t, 0]) {w : FVec Ideal S512x128 .f32} {y : ℕ → ℕ → ℝ}
    (hw : Is (n := 512) (m := 128) w (rows y (512 * t))) :
    Is (n := 4096) (m := 128) (VecWindow.put (s := S4096x128) X off S512x128.size w)
      (fun s d => if 512 * t ≤ s ∧ s < 512 * (t + 1) then y s d else x s d) := by
  intro i
  rw [put_rows X h]
  by_cases hi : 512 * t ≤ (i 0).val ∧ (i 0).val < 512 * (t + 1)
  · rw [if_pos hi]
    refine (hw (lrow i)).trans ?_
    show ((y (512 * t + (i 0).val % 512) (i 1).val : ℝ) : EReal) = ((if _ then _ else _ : ℝ) : EReal)
    rw [if_pos hi, show 512 * t + (i 0).val % 512 = (i 0).val by omega]
  · rw [if_neg hi]
    refine (hX i).trans ?_
    show _ = ((if _ then _ else _ : ℝ) : EReal)
    rw [if_neg hi]
end Rows

theorem off6_eq : ∀ (t : Fin k0_t3_loop.trips) (k : Fin (k0_t4_loop t).trips), k0_off6 t k = ![512 * (t.val - (k.val + 1)), 0] := by decide +kernel
theorem trips4 : ∀ t : Fin k0_t3_loop.trips, (k0_t4_loop t).trips = t.val := by decide +kernel

end Cert.KernelIdeal

end
-- ==== Proof.Value.Loops.lean ====
/- One head's loops over the real numbers: the sums each loop has done. -/
module

public import proofs.«01_k».proof.Proof.Value.Pair

@[expose] public section

set_option maxRecDepth 16384

noncomputable section

namespace Cert.KernelIdeal

open Idealize.ShloMosaic Idealize.ShloMosaic.TcCoe Idealize.ShloMosaic.ValueIdx Cert.KernelIdeal.Gen Cert.Reals
open scoped BigOperators
open Finset (range Ico)

/-! ### The loops -/

section Loops
variable {KN VB QN DO : Arr Ideal .bf16} {O : Arr Ideal .f32} {qn kn v g o : ℕ → ℕ → ℝ}
  (hq : Is (n := 4096) (m := 128) QN qn) (hk : Is (n := 4096) (m := 128) KN kn) (hv : Is (n := 4096) (m := 128) VB v)
  (hg : Is (n := 4096) (m := 128) DO g) (ho : Is (n := 4096) (m := 128) O o)

include hg ho in
theorem tot_is (t : Fin k0_t3_loop.trips) : Is (n := 512) (m := 1) (totRows DO O t) (fun r _ => TT g o (512 * t.val + r)) :=
  ((Is.ext (φ := .bf16) (ψ := .f32) (ldB_is hg (k0_off5_eq t) (k0_off5_inb t)) bitsLt_bf16_f32).mul
    (Is.cast (φ := .f32) (ldW_is ho (k0_off5_eq t) (k0_off5_inb t)) shapeCasts_S512x128_S512x128)).rowSum 0x00000000#32 reduces_S512x128_S512 (.inl rfl) rfl shapeCasts_S512_S512x1

/-- What the loop over earlier keys has summed once the keys from `B` on are done, for the queries from `T` on. -/
structure InIs (qn kn v g o : ℕ → ℕ → ℝ) (T B : ℕ) (s : InSt Ideal) : Prop where
  dq : Is (n := 512) (m := 128) s.1.1 (fun r d => ∑ u ∈ Ico B (T + 512), ZZ sc qn kn v g o (T + r) u * kn u d)
  cr : Is (n := 512) (m := 128) s.1.2.1 (fun r _ => SS sc qn kn (T + r) B)
  crd : Is (n := 512) (m := 128) s.1.2.2 (fun r _ => VV sc qn kn v g (T + r) B)
  dk : Is (n := 4096) (m := 128) s.2.1 (gR (ZZ sc qn kn v g o) qn T B)
  dv : Is (n := 4096) (m := 128) s.2.2 (gR (AA sc qn kn) g T B)

include hq hk hv hg in
theorem step_is (t : Fin k0_t3_loop.trips) (k : Fin (k0_t4_loop t).trips) (TOT : FVec Ideal S512x1 .f32)
    (htot : Is (n := 512) (m := 1) TOT (fun r _ => TT g o (512 * t.val + r))) (s : InSt Ideal)
    (h : InIs qn kn v g o (512 * t.val) (512 * (t.val - k.val)) s) :
    InIs qn kn v g o (512 * t.val) (512 * (t.val - (k.val + 1)))
      (inStep k0_pay116 KN VB (View.ld (Val := Elt Ideal) QN (rq t)) (View.ld (Val := Elt Ideal) DO (rq t)) TOT t k s) := by
  have hkt : k.val < t.val := by have := k.isLt; exact this.trans_eq (trips4 t)
  have ht8 : t.val < 8 := by have := t.isLt; exact this.trans_eq trips3
  obtain ⟨j, hj⟩ : ∃ j, j = t.val - (k.val + 1) := ⟨_, rfl⟩
  have e6 : k0_off6 t k = ![512 * j, 0] := by rw [hj]; exact off6_eq t k
  have eB : 512 * (t.val - k.val) = 512 * j + 512 := by omega
  rw [← hj]
  rw [eB] at h
  have hST : 512 * j + 512 ≤ 512 * t.val := by omega
  have hS : 512 * j + 512 ≤ 4096 := by omega
  have q' := ldB_is hq (k0_off5_eq t) (k0_off5_inb t)
  have g' := ldB_is hg (k0_off5_eq t) (k0_off5_inb t)
  have k' := ldB_is hk e6 (k0_off6_inb t k)
  have v' := ldB_is hv e6 (k0_off6_inb t k)
  have dk' := ldW_is h.dk e6 (k0_off6_inb t k)
  have dv' := ldW_is h.dv e6 (k0_off6_inb t k)
  refine ⟨?_, ?_, ?_, ?_, ?_⟩
  · exact (dqIn_is q' k' g' v' htot h.cr h.crd h.dq).congr fun r _ d _ =>
      q_add (fun u => ZZ sc qn kn v g o (512 * t.val + r) u) (fun u => kn u d) (512 * j) (512 * t.val + 512) (by omega) _ fun c hc =>
        dB_eq qn kn v g o hST hS r hc
  · exact (crIn_is q' k' h.cr).congr fun r hr d hd => crB_eq qn kn hST hS r
  · exact (crdIn_is q' k' g' v' h.cr h.crd).congr fun r hr d hd => crdB_eq qn kn v g hST hS r
  · have a1 := dkIn_is q' k' g' v' htot h.cr h.crd dk'
    have a2 := a1.congr (y := rows (gS (ZZ sc qn kn v g o) qn (512 * t.val)) (512 * j)) fun c hc d _ =>
      gR_add (ZZ sc qn kn v g o) qn (512 * t.val) (512 * j) c d hc _ fun r _ => dB_eq qn kn v g o hST hS r hc
    have a3 := put_is h.dk e6 a2
    exact a3.congr fun s _ d _ => gR_put (ZZ sc qn kn v g o) qn t.val j s d (by omega)
  · have a1 := dvIn_is q' k' g' h.cr dv'
    have a2 := a1.congr (y := rows (gS (AA sc qn kn) g (512 * t.val)) (512 * j)) fun c hc d _ =>
      gR_add (AA sc qn kn) g (512 * t.val) (512 * j) c d hc _ fun r _ => aB_eq qn kn hST hS r hc
    have a3 := put_is h.dv e6 a2
    exact a3.congr fun s _ d _ => gR_put (AA sc qn kn) g t.val j s d (by omega)

/-- The gradients of keys and values from the queries before `T`. -/
structure OutIs (qn kn v g o : ℕ → ℕ → ℝ) (T : ℕ) (DK DV : Arr Ideal .f32) : Prop where
  dk : Is (n := 4096) (m := 128) DK (gT (ZZ sc qn kn v g o) qn T)
  dv : Is (n := 4096) (m := 128) DV (gT (AA sc qn kn) g T)

include hq hk hv hg ho in
theorem init_is (t : Fin k0_t3_loop.trips) (DK DV : Arr Ideal .f32) (h : OutIs qn kn v g o (512 * t.val) DK DV) :
    InIs qn kn v g o (512 * t.val) (512 * t.val) (inInit k0_pay116 k0_pay117 KN VB QN DO O t DK DV) := by
  have ht8 : t.val < 8 := by have := t.isLt; exact this.trans_eq trips3
  have hT : 512 * t.val + 512 ≤ 4096 := by omega
  have q' := ldB_is hq (k0_off5_eq t) (k0_off5_inb t)
  have g' := ldB_is hg (k0_off5_eq t) (k0_off5_inb t)
  have k' := ldB_is hk (k0_off5_eq t) (k0_off5_inb t)
  have v' := ldB_is hv (k0_off5_eq t) (k0_off5_inb t)
  have dk' := ldW_is h.dk (k0_off5_eq t) (k0_off5_inb t)
  have dv' := ldW_is h.dv (k0_off5_eq t) (k0_off5_inb t)
  have htot := tot_is hg ho t
  refine ⟨?_, ?_, ?_, ?_, ?_⟩
  · exact (dqDg_is q' k' g' v' htot).congr fun r hr d _ =>
      q_zero (fun u => ZZ sc qn kn v g o (512 * t.val + r) u) (fun u => kn u d) (512 * t.val) _ fun c hc => dD_eq qn kn v g o hT hr hc
  · exact (crDg_is q' k').congr fun r hr d hd => crD_eq qn kn hT hr (Nat.zero_le _)
  · exact (crdDg_is q' k' g' v').congr fun r hr d hd => crdD_eq qn kn v g hT hr (Nat.zero_le _)
  · exact (put_is h.dk (k0_off5_eq t) (y := gS (ZZ sc qn kn v g o) qn (512 * t.val)) ((dkDg_is q' k' g' v' htot dk').congr fun c hc d _ =>
      gT_add (ZZ sc qn kn v g o) qn (512 * t.val) (512 * t.val) c d _ fun r hr => dD_eq qn kn v g o hT hr hc)).congr fun s _ d _ =>
      gT_put (ZZ sc qn kn v g o) qn t.val s d
  · exact (put_is h.dv (k0_off5_eq t) (y := gS (AA sc qn kn) g (512 * t.val)) ((dvDg_is q' k' g' dv').congr fun c hc d _ =>
      gT_add (AA sc qn kn) g (512 * t.val) (512 * t.val) c d _ fun r hr => aD_eq qn kn hT hr hc)).congr fun s _ d _ =>
      gT_put (AA sc qn kn) g t.val s d

include hq hk hv hg ho in
theorem inSt_is (t : Fin k0_t3_loop.trips) (DK DV : Arr Ideal .f32) (h : OutIs qn kn v g o (512 * t.val) DK DV) (n : ℕ) (hn : n ≤ (k0_t4_loop t).trips) :
    InIs qn kn v g o (512 * t.val) (512 * (t.val - n))
      (inSt k0_pay116 KN VB (View.ld (Val := Elt Ideal) QN (rq t)) (View.ld (Val := Elt Ideal) DO (rq t)) (totRows DO O t) t
        (inInit k0_pay116 k0_pay117 KN VB QN DO O t DK DV) n) := by
  induction n with
  | zero => exact init_is hq hk hv hg ho t DK DV h
  | succ n ih =>
    rw [inSt_succ _ _ _ _ _ _ t _ ⟨n, hn⟩]
    exact step_is hq hk hv hg t ⟨n, hn⟩ _ (tot_is hg ho t) _ (ih (by omega))

include hq hk hv hg ho in
theorem inEnd_is (t : Fin k0_t3_loop.trips) (DK DV : Arr Ideal .f32) (h : OutIs qn kn v g o (512 * t.val) DK DV) :
    InIs qn kn v g o (512 * t.val) 0 (inEnd k0_pay116 k0_pay117 KN VB QN DO O t DK DV) := by
  have e := inSt_is hq hk hv hg ho t DK DV h _ le_rfl
  have e0 : 512 * (t.val - (k0_t4_loop t).trips) = 0 := by rw [trips4]; omega
  rw [e0] at e
  exact e

theorem kvSt_succ {F : FTy → Type} [FloatOps F] (v25 : FVec F S128x256 .bf16) (v28 : IVec S512x512 1) (KN VB QN DO : Arr F .bf16) (O : Arr F .f32) (t : Fin k0_t3_loop.trips) :
    kvSt v25 v28 KN VB QN DO O (t.val + 1)
      = (inEnd v25 v28 KN VB QN DO O t (kvSt v25 v28 KN VB QN DO O t.val).1 (kvSt v25 v28 KN VB QN DO O t.val).2).2 := by
  unfold kvSt
  rw [outSt_succ]
  unfold outStep
  rfl

include hq hk hv hg ho in
theorem kvSt_is (n : ℕ) (hn : n ≤ k0_t3_loop.trips) :
    OutIs qn kn v g o (512 * n) (kvSt k0_pay116 k0_pay117 KN VB QN DO O n).1 (kvSt k0_pay116 k0_pay117 KN VB QN DO O n).2 := by
  induction n with
  | zero =>
    exact ⟨(Is.cast (n := 4096) (m := 128) (φ := .f32) (Is.splat (φ := .f32) _ zero_word) shapeCasts_S4096x128_S4096x128).congr fun s _ d _ => gT_zero _ _ s d,
      (Is.cast (n := 4096) (m := 128) (φ := .f32) (Is.splat (φ := .f32) _ zero_word) shapeCasts_S4096x128_S4096x128).congr fun s _ d _ => gT_zero _ _ s d⟩
  | succ n ih =>
    have e := inEnd_is hq hk hv hg ho ⟨n, hn⟩ _ _ (ih (by omega))
    have ek := kvSt_succ k0_pay116 k0_pay117 KN VB QN DO O ⟨n, hn⟩
    rw [show n + 1 = (⟨n, hn⟩ : Fin k0_t3_loop.trips).val + 1 from rfl, ek]
    exact ⟨e.dk.congr fun s _ d _ => gR_end (ZZ sc qn kn v g o) qn (512 * n) s d fun t h => ZZ_of_le _ _ _ _ _ _ h,
      e.dv.congr fun s _ d _ => gR_end (AA sc qn kn) g (512 * n) s d fun t h => AA_of_le _ _ _ h⟩

include hq hk hv hg ho in
theorem dqA_is : Is (n := 4096) (m := 128) (dqA k0_pay116 k0_pay117 KN VB QN DO O) (fun t d => ∑ s ∈ range 4096, ZZ sc qn kn v g o t s * kn s d) := by
  intro i
  have hi : (i 0).val < 4096 := (i 0).isLt
  have e := inEnd_is hq hk hv hg ho (blk _ trips3 i) _ _ (kvSt_is hq hk hv hg ho (blk _ trips3 i).val (blk _ trips3 i).isLt.le)
  refine ((e.dq.cast shapeCasts_S512x128_S512x128) (lrow i)).trans ?_
  show ((∑ u ∈ Ico 0 (512 * ((i 0).val / 512) + 512), ZZ sc qn kn v g o (512 * ((i 0).val / 512) + (i 0).val % 512) u * kn u (i 1).val : ℝ) : EReal) = _
  rw [show 512 * ((i 0).val / 512) + (i 0).val % 512 = (i 0).val by omega, ← Finset.range_eq_Ico]
  refine congrArg _ (Finset.sum_subset (fun u hu => ?_) fun u _ hu => ?_)
  · rw [Finset.mem_range] at hu ⊢; omega
  · rw [Finset.mem_range] at hu
    rw [ZZ_of_le _ _ _ _ _ _ (by omega), zero_mul]
end Loops

end Cert.KernelIdeal

end
-- ==== Proof.Value.Norm.lean ====
/- The head norms over the real numbers: forward, the way back, and the gradient of the gain. -/
module

public import proofs.«01_k».proof.Proof.Value.Loops

@[expose] public section

set_option maxRecDepth 16384

noncomputable section

namespace Cert.KernelIdeal

open Idealize.ShloMosaic Idealize.ShloMosaic.TcCoe Idealize.ShloMosaic.ValueIdx Cert.KernelIdeal.Gen Cert.Reals
open scoped BigOperators
open Finset (range Ico)

/-- The small number of the norm, as the real number its word names. -/
def eps : ℝ := (Ideal.ofBits .f32 0x358637BD#32).toReal
theorem eps_word : (FloatOps.ofBits .f32 0x358637BD#32 : Ideal .f32) = ((eps : ℝ) : EReal) := by
  show Ideal.ofBits .f32 0x358637BD#32 = _
  refine (EReal.coe_toReal ?_ ?_).symm <;> simp [Ideal.ofBits, Ideal.ieee, -EReal.coe_mul]
theorem eps_pos : 0 < eps := by
  unfold eps
  simp [Ideal.ofBits, Ideal.ieee, -EReal.coe_mul]
theorem w128_word : (FloatOps.ofBits .f32 0x43000000#32 : Ideal .f32) = ((128 : ℝ) : EReal) := by
  show Ideal.ofBits .f32 0x43000000#32 = _
  simp [Ideal.ofBits, Ideal.ieee, -EReal.coe_mul]; norm_num

section Real
variable (x dy : ℕ → ℕ → ℝ) (w : ℕ → ℝ)
/-- One over the root mean square of a row. -/
def rr (t : ℕ) : ℝ := (√((∑ d ∈ range 128, x t d * x t d) / 128 + eps))⁻¹
/-- The row over its root mean square. -/
def nrm (t d : ℕ) : ℝ := x t d * rr x t
/-- The normed row times the gain. -/
def normed (t d : ℕ) : ℝ := x t d * rr x t * w d
/-- The gradient of the row from the gradient of the normed row times the gain. -/
def back (t d : ℕ) : ℝ := rr x t * (dy t d * w d - nrm x t d * ((∑ e ∈ range 128, dy t e * w e * nrm x t e) / 128))
end Real

/-- An array of `n` by `m` with a leading unit coordinate holds the real numbers `x`. -/
def Is3 {n m : ℕ} (X : (⟨3, ![1, n, m]⟩ : Shape).Idx → EReal) (x : ℕ → ℕ → ℝ) : Prop :=
  ∀ i, X i = ((x (i 1).val (i 2).val : ℝ) : EReal)

theorem Is3.drop {n m : ℕ} {φ : FTy} {X : FVec Ideal ⟨3, ![1, n, m]⟩ φ} {x : ℕ → ℕ → ℝ} (hX : Is3 X x)
    (h : (⟨3, ![1, n, m]⟩ : Shape).ShapeCasts (Sh n m)) : Is (shapeCast (Sh n m) X h) x := fun i =>
  (shapeCast_dropUnit_apply ![n, m] X h i).trans (hX _)

theorem _root_.Cert.Reals.Is.unit {n m : ℕ} {φ : FTy} {X : FVec Ideal (Sh n m) φ} {x : ℕ → ℕ → ℝ} (hX : Is X x)
    (h : (Sh n m).ShapeCasts ⟨3, ![1, n, m]⟩) : Is3 (shapeCast ⟨3, ![1, n, m]⟩ X h) x := fun i =>
  (shapeCast_addUnit_apply ![n, m] X h i).trans (hX _)

/-- A block of 512 rows read from an array of a head with a leading unit coordinate. -/
theorem ld3_is {X : S1x4096x128.Idx → Elt Ideal .f32} {x : ℕ → ℕ → ℝ} (hX : Is3 (n := 4096) (m := 128) X x) {off : Fin 3 → ℕ} {t : ℕ} (h : off = ![0, 512 * t, 0])
    (inb : ∀ a, off a + S1x512x128.size a ≤ S1x4096x128.size a) :
    Is3 (n := 512) (m := 128) (View.ld (Val := Elt Ideal) (S := S1x4096x128) (e' := .f32) X (Rect.unit (s := S1x4096x128) off S1x512x128.size inb)) (rows x (512 * t)) := by
  subst h
  intro i
  refine (hX _).trans ?_
  show ((x (512 * t + 1 * (i 1).val) (0 + 1 * (i 2).val) : ℝ) : EReal) = _
  rw [Nat.one_mul, Nat.one_mul, Nat.zero_add]

section Block
variable {X : FVec Ideal S1x512x128 .f32} {x dy : ℕ → ℕ → ℝ} {DY : FVec Ideal S512x128 .f32} {W : FVec Ideal S1x128 .f32} {w s : ℕ → ℝ}
  (hX : Is3 (n := 512) (m := 128) X x) (hY : Is (n := 512) (m := 128) DY dy) (hW : Is (n := 1) (m := 128) W (fun _ d => w d))

theorem ms_pos (x : ℕ → ℕ → ℝ) (t : ℕ) : 0 < (∑ d ∈ range 128, x t d * x t d) / 128 + eps := by
  have := eps_pos
  have h : 0 ≤ ∑ d ∈ range 128, x t d * x t d := Finset.sum_nonneg fun d _ => mul_self_nonneg _
  positivity

include hX in
theorem rr_is : Is (n := 512) (m := 1) (k0_pay102 (F := Ideal) X) (fun r _ => rr x r) :=
  have h := hX.drop shapeCasts_S1x512x128_S512x128
  ((((h.mul h).rowSum 0x00000000#32 reduces_S512x128_S512 (.inl rfl) rfl shapeCasts_S512_S512x1).div (Is.splat _ w128_word) fun _ _ => by norm_num).add
    (Is.splat _ eps_word)).rsqrt fun r _ => ms_pos x r

include hX in
theorem nrm_is : Is (n := 512) (m := 128) (k0_pay103 (F := Ideal) X) (nrm x) :=
  (hX.drop shapeCasts_S1x512x128_S512x128).mul ((rr_is hX).spreadCol broadcasts_S512x1_S512x128 (by decide))

include hX hW in
theorem normed_is : Is (n := 512) (m := 128) (k0_pay111 (F := Ideal) X W) (normed x w) :=
  ((((nrm_is hX).mul (hW.spreadRow broadcasts_S1x128_S512x128 (by decide))).trunc bitsLt_bf16_f32).cast shapeCasts_S512x128_S512x128)

include hX hY hW in
theorem back_is : Is3 (n := 512) (m := 128) (k0_pay104 (F := Ideal) X DY W) (back x dy w) :=
  have h59 := hY.mul (hW.spreadRow broadcasts_S1x128_S512x128 (by decide))
  have h64 := ((h59.mul (nrm_is hX)).rowSum 0x00000000#32 reduces_S512x128_S512 (.inl rfl) rfl shapeCasts_S512_S512x1).div (Is.splat _ w128_word) fun _ _ => by norm_num
  ((((rr_is hX).spreadCol broadcasts_S512x1_S512x128 (by decide)).mul
    (h59.sub ((nrm_is hX).mul (h64.spreadCol broadcasts_S512x1_S512x128 (by decide))))).trunc bitsLt_bf16_f32).unit shapeCasts_S512x128_S1x512x128

include hX hY in
theorem gain_is {S : FVec Ideal S1x128 .f32} (hS : Is (n := 1) (m := 128) S (fun _ d => s d)) :
    Is (n := 1) (m := 128) (k0_pay105 (F := Ideal) X DY S) (fun _ d => s d + ∑ r ∈ range 512, dy r d * nrm x r d) :=
  (hS.cast shapeCasts_S1x128_S1x128).add ((hY.mul (nrm_is hX)).colSum 0x00000000#32 reduces_S512x128_S128 (.inl rfl) rfl shapeCasts_S128_S1x128)
end Block

/-! ### The arrays of a head -/

section Arrays
variable {Q : S1x4096x128.Idx → Elt Ideal .f32} {G : S1x128.Idx → Elt Ideal .f32} {x dy : ℕ → ℕ → ℝ} {w : ℕ → ℝ} {DY : Arr Ideal .f32}
  (hQ : Is3 (n := 4096) (m := 128) Q x) (hG : Is (n := 1) (m := 128) G (fun _ d => w d)) (hY : Is (n := 4096) (m := 128) DY dy)

theorem row_split (n : ℕ) : 512 * (n / 512) + n % 512 = n := by omega

include hQ hG

theorem qnA_is : Is (n := 4096) (m := 128) (qnA Q G) (normed x w) := by
  intro i
  refine (normed_is (ld3_is hQ (k0_off1_eq (blk _ trips1 i)) (k0_off1_inb (blk _ trips1 i))) hG (lrow i)).trans ?_
  show ((normed x w (512 * ((i 0).val / 512) + (i 0).val % 512) (i 1).val : ℝ) : EReal) = _
  rw [row_split]
theorem knA_is : Is (n := 4096) (m := 128) (knA Q G) (normed x w) := by
  intro i
  refine (normed_is (ld3_is hQ (k0_off3_eq (blk _ trips2 i)) (k0_off3_inb (blk _ trips2 i))) hG (lrow i)).trans ?_
  show ((normed x w (512 * ((i 0).val / 512) + (i 0).val % 512) (i 1).val : ℝ) : EReal) = _
  rw [row_split]

include hY

theorem dqRaw_is (y : S3x4096x128.Idx) : dqRaw Q G DY y = ((back x dy w (y 1).val (y 2).val : ℝ) : EReal) := by
  refine (back_is (ld3_is hQ (k0_off8_eq (blk3 _ trips6 y)) (k0_off8_inb (blk3 _ trips6 y)))
    (ldW_is hY (k0_off9_eq (blk3 _ trips6 y)) (k0_off9_inb (blk3 _ trips6 y))) hG (lrow3 y)).trans ?_
  show ((back x dy w (512 * ((y 1).val / 512) + (y 1).val % 512) (y 2).val : ℝ) : EReal) = _
  rw [row_split]
theorem dkRaw_is (y : S3x4096x128.Idx) : dkRaw Q G DY y = ((back x dy w (y 1).val (y 2).val : ℝ) : EReal) := by
  refine (back_is (ld3_is hQ (k0_off11_eq (blk3 _ trips7 y)) (k0_off11_inb (blk3 _ trips7 y)))
    (ldW_is hY (k0_off12_eq (blk3 _ trips7 y)) (k0_off12_inb (blk3 _ trips7 y))) hG (lrow3 y)).trans ?_
  show ((back x dy w (512 * ((y 1).val / 512) + (y 1).val % 512) (y 2).val : ℝ) : EReal) = _
  rw [row_split]

omit hG
omit hQ hY in
theorem block_add (f : ℕ → ℝ) (a : ℝ) (n : ℕ) : a + ∑ t ∈ range (512 * n), f t + ∑ r ∈ range 512, f (512 * n + r) = a + ∑ t ∈ range (512 * (n + 1)), f t := by
  rw [show 512 * (n + 1) = 512 * n + 512 by omega, Finset.sum_range_add, add_assoc]

theorem gqSt_is {S : S1x128.Idx → Elt Ideal .f32} {s : ℕ → ℝ} (hS : Is (n := 1) (m := 128) S (fun _ d => s d)) (n : ℕ) (hn : n ≤ k0_t6_loop.trips) :
    Is (n := 1) (m := 128) (gqSt Q DY S n) (fun _ d => s d + ∑ t ∈ range (512 * n), dy t d * nrm x t d) := by
  induction n with
  | zero => exact hS.congr fun r _ c _ => by simp
  | succ n ih =>
    unfold gqSt
    rw [dif_pos (Nat.lt_of_succ_le hn)]
    exact (gain_is (ld3_is hQ (k0_off8_eq ⟨n, hn⟩) (k0_off8_inb ⟨n, hn⟩)) (ldW_is hY (k0_off9_eq ⟨n, hn⟩) (k0_off9_inb ⟨n, hn⟩)) (ih (Nat.le_of_lt hn))).congr
      fun r _ c _ => block_add (fun t => dy t c * nrm x t c) (s c) n
theorem gkSt_is {S : S1x128.Idx → Elt Ideal .f32} {s : ℕ → ℝ} (hS : Is (n := 1) (m := 128) S (fun _ d => s d)) (n : ℕ) (hn : n ≤ k0_t7_loop.trips) :
    Is (n := 1) (m := 128) (gkSt Q DY S n) (fun _ d => s d + ∑ t ∈ range (512 * n), dy t d * nrm x t d) := by
  induction n with
  | zero => exact hS.congr fun r _ c _ => by simp
  | succ n ih =>
    unfold gkSt
    rw [dif_pos (Nat.lt_of_succ_le hn)]
    exact (gain_is (ld3_is hQ (k0_off11_eq ⟨n, hn⟩) (k0_off11_inb ⟨n, hn⟩)) (ldW_is hY (k0_off12_eq ⟨n, hn⟩) (k0_off12_inb ⟨n, hn⟩)) (ih (Nat.le_of_lt hn))).congr
      fun r _ c _ => block_add (fun t => dy t c * nrm x t c) (s c) n
end Arrays

/-! ### One head -/

section Head
variable {Q K Vv : S1x4096x128.Idx → Elt Ideal .f32} {GQ GK : S1x128.Idx → Elt Ideal .f32} {dO : Arr Ideal .bf16} {O : Arr Ideal .f32}
  {q k v g o : ℕ → ℕ → ℝ} {wq wk : ℕ → ℝ}

section Real
variable (q k v g o : ℕ → ℕ → ℝ) (wq wk : ℕ → ℝ)
/-- The gradient of a head's normed queries. -/
def dQn (t d : ℕ) : ℝ := ∑ s ∈ range 4096, ZZ sc (normed q wq) (normed k wk) v g o t s * normed k wk s d
/-- The gradient of a head's normed keys. -/
def dKn (s d : ℕ) : ℝ := ∑ t ∈ range 4096, ZZ sc (normed q wq) (normed k wk) v g o t s * normed q wq t d
/-- The gradient of a head's values. -/
def dVv (s d : ℕ) : ℝ := ∑ t ∈ range 4096, AA sc (normed q wq) (normed k wk) t s * g t d
end Real

variable (hQ : Is3 (n := 4096) (m := 128) Q q) (hK : Is3 (n := 4096) (m := 128) K k) (hV : Is3 (n := 4096) (m := 128) Vv v)
  (hGQ : Is (n := 1) (m := 128) GQ (fun _ d => wq d)) (hGK : Is (n := 1) (m := 128) GK (fun _ d => wk d))
  (hg : Is (n := 4096) (m := 128) dO g) (ho : Is (n := 4096) (m := 128) O o)
include hQ hK hV hGQ hGK hg ho

omit hQ hK hGQ hGK hg ho in
theorem vB_is : Is (n := 4096) (m := 128) (k0_pay113 (F := Ideal) Vv) v :=
  ((Is3.drop (φ := .f32) hV shapeCasts_S1x4096x128_S4096x128).trunc bitsLt_bf16_f32).cast shapeCasts_S4096x128_S4096x128

theorem headDQ_is : Is (n := 4096) (m := 128) (headDQ Q K Vv GQ GK dO O) (dQn q k v g o wq wk) :=
  dqA_is (qnA_is hQ hGQ) (knA_is hK hGK) (vB_is hV) hg ho

theorem headKV_is : OutIs (normed q wq) (normed k wk) v g o 4096 (headKV Q K Vv GQ GK dO O).1 (headKV Q K Vv GQ GK dO O).2 := by
  have h := kvSt_is (qnA_is hQ hGQ) (knA_is hK hGK) (vB_is hV) hg ho k0_t3_loop.trips le_rfl
  rw [show 512 * k0_t3_loop.trips = 4096 by rw [trips3]] at h
  exact h

theorem headDK_is : Is (n := 4096) (m := 128) (headKV Q K Vv GQ GK dO O).1 (dKn q k v g o wq wk) :=
  (headKV_is hQ hK hV hGQ hGK hg ho).dk

theorem headDV_is : Is (n := 4096) (m := 128) (headKV Q K Vv GQ GK dO O).2 (dVv q k g wq wk) :=
  (headKV_is hQ hK hV hGQ hGK hg ho).dv

/-- The three planes a head writes. -/
theorem headD3_is (y : S3x4096x128.Idx) : headD3 Q K Vv GQ GK dO O y
    = (((if (y 0).val = 0 then back q (dQn q k v g o wq wk) wq (y 1).val (y 2).val
        else if (y 0).val = 1 then back k (dKn q k v g o wq wk) wk (y 1).val (y 2).val
        else dVv q k g wq wk (y 1).val (y 2).val : ℝ)) : EReal) := by
  unfold headD3
  by_cases h0 : (y 0).val = 0
  · rw [if_pos h0, if_pos h0]
    exact dqRaw_is hQ hGQ (headDQ_is hQ hK hV hGQ hGK hg ho) y
  · rw [if_neg h0, if_neg h0]
    by_cases h1 : (y 0).val = 1
    · rw [if_pos h1, if_pos h1]
      exact dkRaw_is hK hGK (headDK_is hQ hK hV hGQ hGK hg ho) y
    · rw [if_neg h1, if_neg h1]
      exact (((headDV_is hQ hK hV hGQ hGK hg ho).trunc bitsLt_bf16_f32).unit shapeCasts_S4096x128_S1x4096x128) (lrowV y)

theorem headGQ_is {S : S1x128.Idx → Elt Ideal .f32} {s : ℕ → ℝ} (hS : Is (n := 1) (m := 128) S (fun _ d => s d)) :
    Is (n := 1) (m := 128) (headGQ Q K Vv GQ GK dO O S) (fun _ d => s d + ∑ t ∈ range 4096, dQn q k v g o wq wk t d * nrm q t d) := by
  have h := gqSt_is hQ (headDQ_is hQ hK hV hGQ hGK hg ho) hS k0_t6_loop.trips le_rfl
  rw [show 512 * k0_t6_loop.trips = 4096 by rw [trips6]] at h
  exact h
theorem headGK_is {S : S1x128.Idx → Elt Ideal .f32} {s : ℕ → ℝ} (hS : Is (n := 1) (m := 128) S (fun _ d => s d)) :
    Is (n := 1) (m := 128) (headGK Q K Vv GQ GK dO O S) (fun _ d => s d + ∑ t ∈ range 4096, dKn q k v g o wq wk t d * nrm k t d) := by
  have h := gkSt_is hK (headDK_is hQ hK hV hGQ hGK hg ho) hS k0_t7_loop.trips le_rfl
  rw [show 512 * k0_t7_loop.trips = 4096 by rw [trips7]] at h
  exact h
end Head

end Cert.KernelIdeal

end
-- ==== Proof.Value.Answer.lean ====
/- What both programs compute, over the real numbers: the gradients of the heads and of the two gains. -/
module

public import proofs.«01_k».proof.Proof.Value.Norm

@[expose] public section

noncomputable section

namespace Cert.KernelIdeal

open Cert.Reals
open scoped BigOperators
open Finset (range Ico)

variable (a : ℕ → ℕ → ℕ → ℝ) (wq wk : ℕ → ℝ) (g : ℕ → ℕ → ℝ)

/-- Head `n` of the packed projections: six heads of 128 features to a shard. -/
def hd (n t d : ℕ) : ℝ := a (n / 6) t (n % 6 * 128 + d)
/-- Head `h` of the cotangent. -/
def gh (h t d : ℕ) : ℝ := g t (h * 128 + d)
/-- The mean square of a row and the small number. -/
def msq (x : ℕ → ℕ → ℝ) (t : ℕ) : ℝ := (∑ d ∈ range 128, x t d * x t d) / 128 + eps
theorem msq_pos (x : ℕ → ℕ → ℝ) (t : ℕ) : 0 < msq x t := ms_pos x t

/-- The normed queries of head `h`. -/
def qh (h : ℕ) : ℕ → ℕ → ℝ := normed (hd a h) wq
/-- The normed keys of head `h`. -/
def kh (h : ℕ) : ℕ → ℕ → ℝ := normed (hd a (16 + h)) wk
/-- The output of head `h`. -/
def oo (h t d : ℕ) : ℝ := ∑ s ∈ range 4096, AA sc (qh a wq h) (kh a wk h) t s * hd a (32 + h) s d
/-- The gradient of the normed queries of head `h`. -/
def hDQ (h : ℕ) : ℕ → ℕ → ℝ := dQn (hd a h) (hd a (16 + h)) (hd a (32 + h)) (gh g h) (oo a wq wk h) wq wk
/-- The gradient of the normed keys of head `h`. -/
def hDK (h : ℕ) : ℕ → ℕ → ℝ := dKn (hd a h) (hd a (16 + h)) (hd a (32 + h)) (gh g h) (oo a wq wk h) wq wk
/-- The gradient of the values of head `h`. -/
def hDV (h : ℕ) : ℕ → ℕ → ℝ := dVv (hd a h) (hd a (16 + h)) (gh g h) wq wk
/-- The gradients of queries, keys and values, `2048` columns to a row. -/
def ansD3 (p t n : ℕ) : ℝ :=
  if p = 0 then back (hd a (n / 128)) (hDQ a wq wk g (n / 128)) wq t (n % 128)
  else if p = 1 then back (hd a (16 + n / 128)) (hDK a wq wk g (n / 128)) wk t (n % 128)
  else hDV a wq wk g (n / 128) t (n % 128)
/-- The gradient of the gain of the queries. -/
def ansGQ (d : ℕ) : ℝ := ∑ h ∈ range 16, ∑ t ∈ range 4096, hDQ a wq wk g h t d * nrm (hd a h) t d
/-- The gradient of the gain of the keys. -/
def ansGK (d : ℕ) : ℝ := ∑ h ∈ range 16, ∑ t ∈ range 4096, hDK a wq wk g h t d * nrm (hd a (16 + h)) t d

end Cert.KernelIdeal
-- ==== Proof.Value.Host.lean ====
/- Arrays of any shape that hold real numbers, and how each operation of the reference acts on them: the
   elementwise ones, the running sums along the last axis, a sum over the two leading axes. -/
module

public import Idealize.ShloMosaic.Lib.IdealHost
public import proofs.«01_k».proof.Proof.Value.Ops

@[expose] public section

noncomputable section

namespace Cert.Reals

open Idealize.ShloMosaic Idealize.ShloMosaic.ValueIdx
open scoped BigOperators
open Finset (range Ico)

/-- The array holds the reals `f`, index by index. -/
def Holds {s : Shape} (X : s.Idx → EReal) (f : s.Idx → ℝ) : Prop := ∀ i, X i = ((f i : ℝ) : EReal)

variable {s : Shape} {φ ψ : FTy}

theorem Holds.congr {X : s.Idx → EReal} {f g : s.Idx → ℝ} (h : Holds X f) (e : ∀ i, f i = g i) : Holds X g :=
  fun i => (h i).trans (congrArg _ (e i))

section Elementwise
variable {X Y : FVec Ideal s φ} {f g : s.Idx → ℝ}

theorem Holds.mul (hX : Holds X f) (hY : Holds Y g) : Holds (mulf X Y) (fun i => f i * g i) := fun i => by
  show (X i * Y i : EReal) = _
  rw [hX i, hY i, ← EReal.coe_mul]
theorem Holds.add (hX : Holds X f) (hY : Holds Y g) : Holds (addf X Y) (fun i => f i + g i) := fun i => by
  show (X i + Y i : EReal) = _
  rw [hX i, hY i, ← EReal.coe_add]
theorem Holds.sub (hX : Holds X f) (hY : Holds Y g) : Holds (subf X Y) (fun i => f i - g i) := fun i => by
  show (X i - Y i : EReal) = _
  rw [hX i, hY i, ← EReal.coe_sub]
theorem Holds.max (hX : Holds X f) (hY : Holds Y g) : Holds (maximumf X Y) (fun i => Max.max (f i) (g i)) := fun i => by
  show Max.max (X i : EReal) (Y i) = _
  rw [hX i, hY i, ← EReal.coe_strictMono.monotone.map_max]
theorem Holds.abs (hX : Holds X f) : Holds (Host.absf X) (fun i => |f i|) := fun i => by
  show Max.max (X i : EReal) (-(X i)) = _
  rw [hX i, ← EReal.coe_neg, ← EReal.coe_strictMono.monotone.map_max]; rfl
theorem Holds.neg (hX : Holds X f) : Holds (Host.negf X) (fun i => -f i) := fun i => by
  show (-(X i) : EReal) = _
  rw [hX i, ← EReal.coe_neg]
theorem Holds.exp (hX : Holds X f) : Holds (Host.exp X) (fun i => Real.exp (f i)) := fun i => by
  show Ideal.exp (X i : EReal) = _
  rw [hX i]; rfl
theorem Holds.log1p (hX : Holds X f) (h : ∀ i, 0 < f i) : Holds (Host.log1p X) (fun i => Real.log (1 + f i)) := fun i => by
  show Ideal.log (1 + X i : EReal) = _
  rw [hX i, ← EReal.coe_one, ← EReal.coe_add]
  show (if 1 + f i ≤ 0 then (⊥ : EReal) else _) = _
  rw [if_neg (not_le.2 (add_pos one_pos (h i)))]
theorem Holds.rsqrt (hX : Holds X f) (h : ∀ i, 0 < f i) : Holds (Host.rsqrt X) (fun i => (√(f i))⁻¹) := fun i => by
  show Ideal.rsqrt (X i : EReal) = _
  rw [hX i]
  show (if f i < 0 then (⊥ : EReal) else _) = _
  rw [if_neg (not_lt.2 (h i).le), if_neg (h i).ne']
theorem Holds.div (hX : Holds X f) (hY : Holds Y g) (h : ∀ i, g i ≠ 0) : Holds (Host.divf X Y) (fun i => f i / g i) := fun i => by
  show Ideal.div (X i : EReal) (Y i) = _
  rw [hX i, hY i, Ideal.div_coe (h i), ← EReal.coe_mul]
  congr 1; ring
theorem Holds.trunc (hX : Holds X f) (h : ψ.bits < φ.bits) : Holds (truncf ψ X h) f := fun i => hX i
theorem Holds.ext (hX : Holds X f) (h : φ.bits < ψ.bits) : Holds (extf ψ X h) f := fun i => hX i

/-- A selection by a condition on the index. -/
theorem Holds.select (M : IVec s 1) (p : s.Idx → Prop) [∀ i, Decidable (p i)] (hM : ∀ i, M i = 1#1 ↔ p i) (hX : Holds X f) (hY : Holds Y g) :
    Holds (select M X Y) (fun i => if p i then f i else g i) := fun i => by
  show (if M i = 1#1 then X i else Y i : EReal) = ((if p i then f i else g i : ℝ) : EReal)
  by_cases h : p i
  · rw [if_pos ((hM i).2 h), if_pos h]; exact hX i
  · rw [if_neg (fun e => h ((hM i).1 e)), if_neg h]; exact hY i

/-- A selection on "differs from itself" takes the second array. -/
theorem Holds.selectNe (Z : FVec Ideal s φ) (hY : Holds Y g) : Holds (Idealize.ShloMosaic.select (cmpf .une Z Z) X Y) g := fun i => by
  show (if Ideal.cmp .une (Z i : EReal) (Z i) = 1#1 then X i else Y i : EReal) = _
  rw [if_neg (by simp [Ideal.cmp])]; exact hY i

/-- A selection on "equals infinity" of an array of reals takes the second array. -/
theorem Holds.selectInf {W Z : FVec Ideal s φ} {z : s.Idx → ℝ} (hZ : Holds Z z) (hW : ∀ i, (W i : EReal) = ⊤) (hY : Holds Y g) :
    Holds (Idealize.ShloMosaic.select (cmpf .oeq Z W) X Y) g := fun i => by
  show (if Ideal.cmp .oeq (Z i : EReal) (W i) = 1#1 then X i else Y i : EReal) = _
  rw [if_neg (by rw [hZ i, hW i]; simp [Ideal.cmp])]; exact hY i
end Elementwise

/-- A sum of products of reals over a coordinate. -/
theorem sum_mul_coe {k : ℕ} (A B : Fin k → EReal) (a b : ℕ → ℝ) (hA : ∀ i, A i = ((a i.val : ℝ) : EReal)) (hB : ∀ i, B i = ((b i.val : ℝ) : EReal)) :
    (∑ i : Fin k, A i * B i) = ((∑ i ∈ range k, a i * b i : ℝ) : EReal) := by
  have e : ∀ i : Fin k, A i * B i = ((a i.val * b i.val : ℝ) : EReal) := fun i => by rw [hA i, hB i, EReal.coe_mul]
  exact (Finset.sum_congr rfl fun i _ => e i).trans (sum_coe fun i => a i * b i)

/-- Zero and a sum of reals over a coordinate. -/
theorem zero_add_sum_coe {k : ℕ} (z : EReal) (hz : z = 0) (A : Fin k → EReal) (a : ℕ → ℝ) (hA : ∀ i, A i = ((a i.val : ℝ) : EReal)) :
    (z + ∑ i : Fin k, A i) = ((∑ i ∈ range k, a i : ℝ) : EReal) := by
  rw [hz, zero_add]
  exact (Finset.sum_congr rfl fun i _ => hA i).trans (sum_coe a)

/-- The shape of three axes. -/
abbrev Sh3 (a b c : ℕ) : Shape := ⟨3, ![a, b, c]⟩

/-- The positions of a window one wide on the leading axes are those of its last axis. -/
def lastAxis (c : ℕ) : (Sh3 1 1 c).Idx ≃ Fin c where
  toFun w := w 2
  invFun k := ix3 (0 : Fin 1) (0 : Fin 1) k
  left_inv w := by
    refine Eq.trans ?_ (eq_ix3 w).symm
    exact congrArg₂ (fun x y => ix3 x y (w 2)) (Subsingleton.elim _ _) (Subsingleton.elim _ _)
  right_inv k := rfl

theorem foldl_add_eq {ι : Type} (l : List ι) (f : ι → EReal) (v : EReal) :
    l.foldl (fun r n => r + f n) v = v + (l.map f).sum := by
  induction l generalizing v with
  | nil => simp
  | cons x l ih => rw [List.foldl_cons, ih, List.map_cons, List.sum_cons, add_assoc]

theorem foldl_finRange {N : ℕ} (f : Fin N → EReal) : (List.finRange N).foldl (fun r n => r + f n) 0 = ∑ n : Fin N, f n := by
  rw [foldl_add_eq, zero_add, Fin.sum_univ_def]

/-- A running sum along the last axis: the sum of the window's places inside the array. -/
theorem Holds.window {a b c lo hi : ℕ} {X : FVec Ideal (Sh3 a b c) φ} {x : ℕ → ℕ → ℕ → ℝ} (hX : Holds X (fun i => x (i 0).val (i 1).val (i 2).val))
    (u : Shape) (z : FVec Ideal u φ) (hu : 0 < u.numel) (hz : ∀ i, (z i : EReal) = 0)
    (h : (Sh3 a b c).ReduceWindows ![1, 1, c] ![1, 1, 1] ![0, 0, lo] ![0, 0, hi] (Sh3 a b c)) :
    Holds (Host.reduceWindowAdd ![1, 1, c] ![1, 1, 1] ![0, 0, lo] ![0, 0, hi] X z h hu)
      (fun i => ∑ k ∈ range c, if lo ≤ (i 2).val + k ∧ (i 2).val + k - lo < c then x (i 0).val (i 1).val ((i 2).val + k - lo) else 0) := fun j => by
  show Host.reduceWindow (fun r y : EReal => r + y) ![1, 1, c] ![1, 1, 1] ![0, 0, lo] ![0, 0, hi] X (fun _ : u.Idx => (z (Shape.Idx.first hu) : EReal)) h hu j = _
  unfold Host.reduceWindow
  dsimp only
  rw [hz]
  rw [foldl_finRange]
  rw [← Equiv.sum_comp ((lastAxis c).symm.trans (Sh3 1 1 c).rowMajor)]
  refine (Finset.sum_congr rfl fun k _ => ?_).trans (sum_coe _)
  have hk := k.isLt
  have e0 : ∀ ax, ((Sh3 1 1 c).rowMajor.symm (((lastAxis c).symm.trans (Sh3 1 1 c).rowMajor) k) ax).val = (ix3 (0 : Fin 1) (0 : Fin 1) k ax).val := fun ax => by
    rw [Equiv.trans_apply, Equiv.symm_apply_apply]; rfl
  have w0 := e0 0
  have w1 := e0 1
  have w2 := e0 2
  have l0 := (j 0).isLt
  have l1 := (j 1).isLt
  by_cases hin : lo ≤ (j 2).val + k.val ∧ (j 2).val + k.val - lo < c
  · rw [if_pos hin]
    have hp : ∀ ax : Fin 3, (![0, 0, lo] : Fin 3 → ℕ) ax ≤ (j ax).val * (![1, 1, 1] : Fin 3 → ℕ) ax + ((Sh3 1 1 c).rowMajor.symm (((lastAxis c).symm.trans (Sh3 1 1 c).rowMajor) k) ax).val
        ∧ (j ax).val * (![1, 1, 1] : Fin 3 → ℕ) ax + ((Sh3 1 1 c).rowMajor.symm (((lastAxis c).symm.trans (Sh3 1 1 c).rowMajor) k) ax).val - (![0, 0, lo] : Fin 3 → ℕ) ax < (![a, b, c] : Fin 3 → ℕ) ax := fun ax => by
      rw [e0 ax]
      match ax with
      | ⟨0, _⟩ => exact ⟨Nat.zero_le _, by show (j 0).val * 1 + 0 - 0 < a; have : (j 0).val < a := l0; omega⟩
      | ⟨1, _⟩ => exact ⟨Nat.zero_le _, by show (j 1).val * 1 + 0 - 0 < b; have : (j 1).val < b := l1; omega⟩
      | ⟨2, _⟩ => show lo ≤ (j 2).val * 1 + k.val ∧ (j 2).val * 1 + k.val - lo < c; rw [Nat.mul_one]; exact hin
    refine (dif_pos hp).trans ?_
    refine (hX _).trans (congrArg Real.toEReal ?_)
    have v0 : (j 0).val * 1 + ((Sh3 1 1 c).rowMajor.symm (((lastAxis c).symm.trans (Sh3 1 1 c).rowMajor) k) 0).val - 0 = (j 0).val := by rw [w0]; show (j 0).val * 1 + 0 - 0 = _; omega
    have v1 : (j 1).val * 1 + ((Sh3 1 1 c).rowMajor.symm (((lastAxis c).symm.trans (Sh3 1 1 c).rowMajor) k) 1).val - 0 = (j 1).val := by rw [w1]; show (j 1).val * 1 + 0 - 0 = _; omega
    have v2 : (j 2).val * 1 + ((Sh3 1 1 c).rowMajor.symm (((lastAxis c).symm.trans (Sh3 1 1 c).rowMajor) k) 2).val - lo = (j 2).val + k.val - lo := by rw [w2, Nat.mul_one]; rfl
    show x _ _ _ = _
    exact (congrArg (fun n => x n _ _) v0).trans ((congrArg (fun n => x _ n _) v1).trans (congrArg (fun n => x _ _ n) v2))
  · rw [if_neg hin]
    refine (dif_neg fun hp => hin ?_).trans EReal.coe_zero.symm
    have := hp 2
    rw [w2] at this
    change lo ≤ (j 2).val * 1 + k.val ∧ (j 2).val * 1 + k.val - lo < c at this
    rw [Nat.mul_one] at this
    exact this

/-- A sum over the window to the right of a place is the sum of what is to its right. -/
theorem window_right (f : ℕ → ℝ) (c j : ℕ) : (∑ k ∈ range c, if 0 ≤ j + k ∧ j + k - 0 < c then f (j + k - 0) else 0) = ∑ u ∈ Ico j c, f u := by
  rw [Finset.sum_Ico_eq_sum_range]
  symm
  refine (Finset.sum_congr rfl fun k hk => ?_).trans (Finset.sum_subset (fun k hk => ?_) fun k _ hk => ?_)
  · rw [Finset.mem_range] at hk
    exact (if_pos ⟨Nat.zero_le _, by omega⟩).symm
  · rw [Finset.mem_range] at hk ⊢; omega
  · rw [Finset.mem_range] at hk
    exact if_neg (by omega)

/-- A sum over the window to the left of a place is the sum of what is up to it. -/
theorem window_left (f : ℕ → ℝ) (c j : ℕ) (hj : j ≤ c) :
    (∑ k ∈ range (c + 1), if c ≤ j + k ∧ j + k - c < c + 1 then f (j + k - c) else 0) = ∑ u ∈ range (j + 1), f u := by
  rw [Finset.range_eq_Ico, ← Finset.sum_Ico_consecutive _ (Nat.zero_le (c - j)) (by omega : c - j ≤ c + 1),
    Finset.sum_eq_zero (fun k hk => by rw [Finset.mem_Ico] at hk; exact if_neg (by omega)), zero_add, Finset.sum_Ico_eq_sum_range,
    show c + 1 - (c - j) = j + 1 from by omega]
  refine Finset.sum_congr rfl fun k hk => ?_
  rw [Finset.mem_range] at hk
  rw [if_pos (by omega)]
  congr 1; omega

/-- A sum over the two leading axes. -/
theorem Holds.lead {a b c : ℕ} {X : FVec Ideal (Sh3 a b c) φ} {x : ℕ → ℕ → ℕ → ℝ} (hX : Holds X (fun i => x (i 0).val (i 1).val (i 2).val))
    (u : Shape) (z : FVec Ideal u φ) (hu : 0 < u.numel) (hz : ∀ i, (z i : EReal) = 0)
    (h : (Sh3 a b c).ReducesTo [0, 1] ⟨1, ![c]⟩) :
    Holds (Host.reduceAdd X z h hu) (fun i => ∑ t ∈ range a, ∑ q ∈ range b, x t q (i 0).val) := fun j => by
  show (z (Shape.Idx.first hu) : EReal) + ∑ i ∈ Finset.univ.filter (fun i => h.drop i = j), (X i : EReal) = _
  rw [hz, zero_add]
  have hd : ∀ i : (Sh3 a b c).Idx, (h.drop i 0 : ℕ) = (i 2).val := fun i => h.drop_apply_val_of_eq i 0 2 (by show 0 < 1; decide) rfl
  have e : ∑ i ∈ Finset.univ.filter (fun i => h.drop i = j), (X i : EReal) = ∑ p : Fin a × Fin b, ((x p.1.val p.2.val (j 0).val : ℝ) : EReal) := by
    refine Finset.sum_nbij' (fun i => ((i 0 : Fin a), (i 1 : Fin b))) (fun p => ix3 p.1 p.2 (j 0)) (fun _ _ => Finset.mem_univ _) (fun p _ => ?_) (fun i hi => ?_) (fun p _ => rfl) (fun i hi => ?_)
    · rw [Finset.mem_filter]
      refine ⟨Finset.mem_univ _, funext fun ax => Fin.ext ?_⟩
      match ax with
      | ⟨0, _⟩ => exact hd _
    · have h2 : (i 2).val = (j 0).val := (hd i).symm.trans (congrArg (fun y : (⟨1, ![c]⟩ : Shape).Idx => (y 0).val) (Finset.mem_filter.1 hi).2)
      refine (congrArg (fun y => ix3 (i 0) (i 1) y) (Fin.ext h2.symm : (j 0 : Fin c) = i 2)).trans (eq_ix3 i).symm
    · have h2 : (i 2).val = (j 0).val := (hd i).symm.trans (congrArg (fun y : (⟨1, ![c]⟩ : Shape).Idx => (y 0).val) (Finset.mem_filter.1 hi).2)
      exact (hX i).trans (congrArg (fun n => ((x (i 0).val (i 1).val n : ℝ) : EReal)) h2)
  rw [e, Fintype.sum_prod_type]
  refine (Finset.sum_congr rfl fun t _ => sum_coe fun q => x t.val q (j 0).val).trans ?_
  exact sum_coe fun t => ∑ q ∈ range b, x t q (j 0).val

end Cert.Reals
-- ==== Proof.Value.Entry.lean ====
/- The output array the host hands to the kernel: what the reference's own forward lines compute. -/
module

public import proofs.«01_k».proof.Proof.Gen.KernelIdeal.Frame
public import proofs.«01_k».proof.Proof.Gen.ReferenceIdeal.Read
public import Idealize.ShloMosaic.Lib.Claim

@[expose] public section

set_option maxRecDepth 16384

noncomputable section

namespace Cert.KernelIdeal.Entry

open Idealize.ShloMosaic Idealize.ShloMosaic.TcCoe Idealize.ShloMosaic.StableHlo Cert.KernelIdeal Cert.KernelIdeal.Gen

variable {F : FTy → Type} [FloatOps F]

section Chunks
variable (U : Valuation τ sig (Elt F))

/-- The launch contents of the three arguments the forward lines read. -/
abbrev a0 : (⟨S8x4096x768, .f32⟩ : BufTy).Contents (Elt F) := U (Proc.devRef .tc main_arg0)
abbrev a1 : (⟨S1x128, .f32⟩ : BufTy).Contents (Elt F) := U (Proc.devRef .tc main_arg1)
abbrev a2 : (⟨S1x128, .f32⟩ : BufTy).Contents (Elt F) := U (Proc.devRef .tc main_arg2)

set_option maxHeartbeats 1000000 in
theorem c0_v5 : after hostOps0 U (Proc.devRef .tc main_v5) = ReferenceIdeal.Read.val_main_v7 (F := F) (a0 U) := by
  after_results_simp
  rfl
set_option maxHeartbeats 1000000 in
theorem c0_v43 : after hostOps0 U (Proc.devRef .tc main_v43) = ReferenceIdeal.Read.val_main_v51 (F := F)  := by
  after_results_simp
  rfl
set_option maxHeartbeats 1000000 in
theorem c0_v36 : after hostOps0 U (Proc.devRef .tc main_v36) = ReferenceIdeal.Read.val_main_v44 (F := F) (a0 U) (a1 U) (a2 U) := by
  after_results_simp
  rfl
set_option maxHeartbeats 1000000 in
theorem c0_v44 : after hostOps0 U (Proc.devRef .tc main_v44) = ReferenceIdeal.Read.val_main_v52 (F := F) (a0 U) (a1 U) (a2 U) := by
  after_results_simp
  rfl

variable (x0 : (⟨S8x4096x768, .f32⟩ : BufTy).Contents (Elt F)) (x1 x2 : (⟨S1x128, .f32⟩ : BufTy).Contents (Elt F))
set_option maxHeartbeats 1000000 in
theorem c1_v45 (h0 : U (Proc.devRef .tc main_v44) = ReferenceIdeal.Read.val_main_v52 (F := F) x0 x1 x2) :
    after hostOps0_1 U (Proc.devRef .tc main_v45) = ReferenceIdeal.Read.val_main_v53_0 (F := F) x0 x1 x2 := by
  after_results_simp
  simp only [h0] <;> rfl
set_option maxHeartbeats 1000000 in
theorem k1_v5 : after hostOps0_1 U (Proc.devRef .tc main_v5) = U (Proc.devRef .tc main_v5) := by
  after_results_simp
set_option maxHeartbeats 1000000 in
theorem k1_v36 : after hostOps0_1 U (Proc.devRef .tc main_v36) = U (Proc.devRef .tc main_v36) := by
  after_results_simp
set_option maxHeartbeats 1000000 in
theorem k1_v43 : after hostOps0_1 U (Proc.devRef .tc main_v43) = U (Proc.devRef .tc main_v43) := by
  after_results_simp
set_option maxHeartbeats 1000000 in
theorem c2_cst_6 : after hostOps0_2 U (Proc.devRef .tc main_cst_6) = ReferenceIdeal.Read.val_main_cst_8 (F := F) := by
  after_results_simp
  rfl
set_option maxHeartbeats 1000000 in
theorem k2_v5 : after hostOps0_2 U (Proc.devRef .tc main_v5) = U (Proc.devRef .tc main_v5) := by
  after_results_simp
set_option maxHeartbeats 1000000 in
theorem k2_v36 : after hostOps0_2 U (Proc.devRef .tc main_v36) = U (Proc.devRef .tc main_v36) := by
  after_results_simp
set_option maxHeartbeats 1000000 in
theorem k2_v43 : after hostOps0_2 U (Proc.devRef .tc main_v43) = U (Proc.devRef .tc main_v43) := by
  after_results_simp
set_option maxHeartbeats 1000000 in
theorem k2_v45 : after hostOps0_2 U (Proc.devRef .tc main_v45) = U (Proc.devRef .tc main_v45) := by
  after_results_simp
set_option maxHeartbeats 1000000 in
theorem c3_v46 (h0 : U (Proc.devRef .tc main_cst_6) = ReferenceIdeal.Read.val_main_cst_8 (F := F)) (h1 : U (Proc.devRef .tc main_v43) = ReferenceIdeal.Read.val_main_v51 (F := F)) (h2 : U (Proc.devRef .tc main_v45) = ReferenceIdeal.Read.val_main_v53_0 (F := F) x0 x1 x2) :
    after hostOps0_3 U (Proc.devRef .tc main_v46) = ReferenceIdeal.Read.val_main_v54_0 (F := F) x0 x1 x2 := by
  after_results_simp
  simp only [h0, h1, h2] <;> rfl
set_option maxHeartbeats 1000000 in
theorem k3_v5 : after hostOps0_3 U (Proc.devRef .tc main_v5) = U (Proc.devRef .tc main_v5) := by
  after_results_simp
set_option maxHeartbeats 1000000 in
theorem k3_v36 : after hostOps0_3 U (Proc.devRef .tc main_v36) = U (Proc.devRef .tc main_v36) := by
  after_results_simp
set_option maxHeartbeats 1000000 in
theorem k3_v43 : after hostOps0_3 U (Proc.devRef .tc main_v43) = U (Proc.devRef .tc main_v43) := by
  after_results_simp
set_option maxHeartbeats 1000000 in
theorem c4_v47 (h0 : U (Proc.devRef .tc main_v46) = ReferenceIdeal.Read.val_main_v54_0 (F := F) x0 x1 x2) :
    after hostOps0_4 U (Proc.devRef .tc main_v47) = ReferenceIdeal.Read.val_main_v55 (F := F) x0 x1 x2 := by
  after_results_simp
  simp only [h0] <;> rfl
set_option maxHeartbeats 1000000 in
theorem k4_v5 : after hostOps0_4 U (Proc.devRef .tc main_v5) = U (Proc.devRef .tc main_v5) := by
  after_results_simp
set_option maxHeartbeats 1000000 in
theorem k4_v36 : after hostOps0_4 U (Proc.devRef .tc main_v36) = U (Proc.devRef .tc main_v36) := by
  after_results_simp
set_option maxHeartbeats 1000000 in
theorem k4_v43 : after hostOps0_4 U (Proc.devRef .tc main_v43) = U (Proc.devRef .tc main_v43) := by
  after_results_simp
set_option maxHeartbeats 1000000 in
theorem k4_v46 : after hostOps0_4 U (Proc.devRef .tc main_v46) = U (Proc.devRef .tc main_v46) := by
  after_results_simp
set_option maxHeartbeats 1000000 in
theorem c5_v48 (h0 : U (Proc.devRef .tc main_v46) = ReferenceIdeal.Read.val_main_v54_0 (F := F) x0 x1 x2) (h1 : U (Proc.devRef .tc main_v47) = ReferenceIdeal.Read.val_main_v55 (F := F) x0 x1 x2) :
    after hostOps0_5 U (Proc.devRef .tc main_v48) = ReferenceIdeal.Read.val_main_v56 (F := F) x0 x1 x2 := by
  after_results_simp
  simp only [h0, h1] <;> rfl
set_option maxHeartbeats 1000000 in
theorem k5_v5 : after hostOps0_5 U (Proc.devRef .tc main_v5) = U (Proc.devRef .tc main_v5) := by
  after_results_simp
set_option maxHeartbeats 1000000 in
theorem k5_v36 : after hostOps0_5 U (Proc.devRef .tc main_v36) = U (Proc.devRef .tc main_v36) := by
  after_results_simp
set_option maxHeartbeats 1000000 in
theorem k5_v43 : after hostOps0_5 U (Proc.devRef .tc main_v43) = U (Proc.devRef .tc main_v43) := by
  after_results_simp
set_option maxHeartbeats 1000000 in
theorem c6_v49 (h0 : U (Proc.devRef .tc main_v36) = ReferenceIdeal.Read.val_main_v44 (F := F) x0 x1 x2) :
    after hostOps0_6 U (Proc.devRef .tc main_v49) = ReferenceIdeal.Read.val_main_v57_0 (F := F) x0 x1 x2 := by
  after_results_simp
  simp only [h0] <;> rfl
set_option maxHeartbeats 1000000 in
theorem k6_v5 : after hostOps0_6 U (Proc.devRef .tc main_v5) = U (Proc.devRef .tc main_v5) := by
  after_results_simp
set_option maxHeartbeats 1000000 in
theorem k6_v43 : after hostOps0_6 U (Proc.devRef .tc main_v43) = U (Proc.devRef .tc main_v43) := by
  after_results_simp
set_option maxHeartbeats 1000000 in
theorem k6_v48 : after hostOps0_6 U (Proc.devRef .tc main_v48) = U (Proc.devRef .tc main_v48) := by
  after_results_simp
set_option maxHeartbeats 1000000 in
theorem c7_v51 (h0 : U (Proc.devRef .tc main_v48) = ReferenceIdeal.Read.val_main_v56 (F := F) x0 x1 x2) (h1 : U (Proc.devRef .tc main_v49) = ReferenceIdeal.Read.val_main_v57_0 (F := F) x0 x1 x2) :
    after hostOps0_7 U (Proc.devRef .tc main_v51) = ReferenceIdeal.Read.val_main_v59 (F := F) x0 x1 x2 := by
  after_results_simp
  simp only [h0, h1] <;> rfl
set_option maxHeartbeats 1000000 in
theorem c7_cst_7 : after hostOps0_7 U (Proc.devRef .tc main_cst_7) = ReferenceIdeal.Read.val_main_cst_9 (F := F) := by
  after_results_simp
  rfl
set_option maxHeartbeats 1000000 in
theorem k7_v5 : after hostOps0_7 U (Proc.devRef .tc main_v5) = U (Proc.devRef .tc main_v5) := by
  after_results_simp
set_option maxHeartbeats 1000000 in
theorem k7_v43 : after hostOps0_7 U (Proc.devRef .tc main_v43) = U (Proc.devRef .tc main_v43) := by
  after_results_simp
set_option maxHeartbeats 1000000 in
theorem c8_v52 (h0 : U (Proc.devRef .tc main_cst_7) = ReferenceIdeal.Read.val_main_cst_9 (F := F)) (h1 : U (Proc.devRef .tc main_v43) = ReferenceIdeal.Read.val_main_v51 (F := F)) (h2 : U (Proc.devRef .tc main_v51) = ReferenceIdeal.Read.val_main_v59 (F := F) x0 x1 x2) :
    after hostOps0_8 U (Proc.devRef .tc main_v52) = ReferenceIdeal.Read.val_main_v60_0 (F := F) x0 x1 x2 := by
  after_results_simp
  simp only [h0, h1, h2] <;> rfl
set_option maxHeartbeats 1000000 in
theorem k8_v5 : after hostOps0_8 U (Proc.devRef .tc main_v5) = U (Proc.devRef .tc main_v5) := by
  after_results_simp
set_option maxHeartbeats 1000000 in
theorem c9_v55 (h0 : U (Proc.devRef .tc main_v5) = ReferenceIdeal.Read.val_main_v7 (F := F) x0) (h1 : U (Proc.devRef .tc main_v52) = ReferenceIdeal.Read.val_main_v60_0 (F := F) x0 x1 x2) :
    after hostOps0_9 U (Proc.devRef .tc main_v55) = shapeCast S4096x2048 (ReferenceIdeal.Read.val_main_v62 (F := F) x0 x1 x2) shapeCasts_S4096x16x128_S4096x2048 := by
  after_results_simp
  simp only [h0, h1] <;> rfl
end Chunks

theorem after_flat (l : List (List (HloOp τ sig (Elt F)))) (o : List (HloOp τ sig (Elt F))) (U : Valuation τ sig (Elt F)) :
    after (List.flatten (o :: l)) U = after (List.flatten l) (after o U) := by
  rw [List.flatten_cons]
  induction o generalizing U with
  | nil => rfl
  | cons x o ih => exact ih _

set_option maxHeartbeats 1000000 in
/-- The output array at the kernel's entry. -/
theorem V_main_v55 (m : (ℓ : Loc nD τ sig) → Buf (Elt F) ℓ) (c : Dev nD) : V m c main_v55
    = shapeCast S4096x2048 (ReferenceIdeal.Read.val_main_v62 (F := F) (m ((c : Thread nD τ).loc main_arg0)) (m ((c : Thread nD τ).loc main_arg1)) (m ((c : Thread nD τ).loc main_arg2)))
      shapeCasts_S4096x16x128_S4096x2048 := by
  show after (List.flatten [hostOps0, hostOps0_1, hostOps0_2, hostOps0_3, hostOps0_4, hostOps0_5, hostOps0_6, hostOps0_7, hostOps0_8, hostOps0_9]) (fun b => m (c, b)) (Proc.devRef .tc main_v55) = _
  rw [after_flat, after_flat, after_flat, after_flat, after_flat, after_flat, after_flat, after_flat, after_flat, after_flat]
  generalize hU0 : (fun b => m (c, b) : Valuation τ sig (Elt F)) = U0
  generalize hU1 : after hostOps0 U0 = U1
  generalize hU2 : after hostOps0_1 U1 = U2
  generalize hU3 : after hostOps0_2 U2 = U3
  generalize hU4 : after hostOps0_3 U3 = U4
  generalize hU5 : after hostOps0_4 U4 = U5
  generalize hU6 : after hostOps0_5 U5 = U6
  generalize hU7 : after hostOps0_6 U6 = U7
  generalize hU8 : after hostOps0_7 U7 = U8
  generalize hU9 : after hostOps0_8 U8 = U9
  have e5 : U1 (Proc.devRef .tc main_v5) = _ := hU1 ▸ c0_v5 U0
  have e36 : U1 (Proc.devRef .tc main_v36) = _ := hU1 ▸ c0_v36 U0
  have e43 : U1 (Proc.devRef .tc main_v43) = _ := hU1 ▸ c0_v43 U0
  have e44 : U1 (Proc.devRef .tc main_v44) = _ := hU1 ▸ c0_v44 U0
  have f45 : U2 (Proc.devRef .tc main_v45) = _ := hU2 ▸ c1_v45 U1 _ _ _ e44
  have f5 : U2 (Proc.devRef .tc main_v5) = _ := hU2 ▸ (k1_v5 U1).trans e5
  have f36 : U2 (Proc.devRef .tc main_v36) = _ := hU2 ▸ (k1_v36 U1).trans e36
  have f43 : U2 (Proc.devRef .tc main_v43) = _ := hU2 ▸ (k1_v43 U1).trans e43
  have g6 : U3 (Proc.devRef .tc main_cst_6) = _ := hU3 ▸ c2_cst_6 U2
  have g5 : U3 (Proc.devRef .tc main_v5) = _ := hU3 ▸ (k2_v5 U2).trans f5
  have g36 : U3 (Proc.devRef .tc main_v36) = _ := hU3 ▸ (k2_v36 U2).trans f36
  have g43 : U3 (Proc.devRef .tc main_v43) = _ := hU3 ▸ (k2_v43 U2).trans f43
  have g45 : U3 (Proc.devRef .tc main_v45) = _ := hU3 ▸ (k2_v45 U2).trans f45
  have h46 : U4 (Proc.devRef .tc main_v46) = _ := hU4 ▸ c3_v46 U3 _ _ _ g6 g43 g45
  have h5 : U4 (Proc.devRef .tc main_v5) = _ := hU4 ▸ (k3_v5 U3).trans g5
  have h36 : U4 (Proc.devRef .tc main_v36) = _ := hU4 ▸ (k3_v36 U3).trans g36
  have h43 : U4 (Proc.devRef .tc main_v43) = _ := hU4 ▸ (k3_v43 U3).trans g43
  have i47 : U5 (Proc.devRef .tc main_v47) = _ := hU5 ▸ c4_v47 U4 _ _ _ h46
  have i5 : U5 (Proc.devRef .tc main_v5) = _ := hU5 ▸ (k4_v5 U4).trans h5
  have i36 : U5 (Proc.devRef .tc main_v36) = _ := hU5 ▸ (k4_v36 U4).trans h36
  have i43 : U5 (Proc.devRef .tc main_v43) = _ := hU5 ▸ (k4_v43 U4).trans h43
  have i46 : U5 (Proc.devRef .tc main_v46) = _ := hU5 ▸ (k4_v46 U4).trans h46
  have j48 : U6 (Proc.devRef .tc main_v48) = _ := hU6 ▸ c5_v48 U5 _ _ _ i46 i47
  have j5 : U6 (Proc.devRef .tc main_v5) = _ := hU6 ▸ (k5_v5 U5).trans i5
  have j36 : U6 (Proc.devRef .tc main_v36) = _ := hU6 ▸ (k5_v36 U5).trans i36
  have j43 : U6 (Proc.devRef .tc main_v43) = _ := hU6 ▸ (k5_v43 U5).trans i43
  have l49 : U7 (Proc.devRef .tc main_v49) = _ := hU7 ▸ c6_v49 U6 _ _ _ j36
  have l5 : U7 (Proc.devRef .tc main_v5) = _ := hU7 ▸ (k6_v5 U6).trans j5
  have l43 : U7 (Proc.devRef .tc main_v43) = _ := hU7 ▸ (k6_v43 U6).trans j43
  have l48 : U7 (Proc.devRef .tc main_v48) = _ := hU7 ▸ (k6_v48 U6).trans j48
  have n51 : U8 (Proc.devRef .tc main_v51) = _ := hU8 ▸ c7_v51 U7 _ _ _ l48 l49
  have n7 : U8 (Proc.devRef .tc main_cst_7) = _ := hU8 ▸ c7_cst_7 U7
  have n5 : U8 (Proc.devRef .tc main_v5) = _ := hU8 ▸ (k7_v5 U7).trans l5
  have n43 : U8 (Proc.devRef .tc main_v43) = _ := hU8 ▸ (k7_v43 U7).trans l43
  have o52 : U9 (Proc.devRef .tc main_v52) = _ := hU9 ▸ c8_v52 U8 _ _ _ n7 n43 n51
  have o5 : U9 (Proc.devRef .tc main_v5) = _ := hU9 ▸ (k8_v5 U8).trans n5
  refine (c9_v55 U9 _ _ _ o5 o52).trans ?_
  rw [← hU0]

end Cert.KernelIdeal.Entry
-- ==== Proof.Value.RefNorms.lean ====
/- The reference's heads and their norms over the real numbers. -/
module

public import proofs.«01_k».proof.Proof.Gen.ReferenceIdeal.Read
public import proofs.«01_k».proof.Proof.Value.Answer
public import proofs.«01_k».proof.Proof.Value.Host

@[expose] public section

set_option maxRecDepth 16384

noncomputable section

namespace Cert.ReferenceIdeal.Real

open Idealize.ShloMosaic Idealize.ShloMosaic.TcCoe Idealize.ShloMosaic.ValueIdx Cert.ReferenceIdeal Cert.ReferenceIdeal.Gen Cert.ReferenceIdeal.Read Cert.Reals Cert.KernelIdeal
open scoped BigOperators
open Finset (range Ico)

variable (x0 : (⟨S8x4096x768, .f32⟩ : BufTy).Contents (Elt Ideal)) (x1 x2 : (⟨S1x128, .f32⟩ : BufTy).Contents (Elt Ideal))
  (x3 : (⟨S4096x2048, .bf16⟩ : BufTy).Contents (Elt Ideal))
variable (a : ℕ → ℕ → ℕ → ℝ) (wq wk : ℕ → ℝ) (g : ℕ → ℕ → ℝ)

theorem zero_word (i : S_.Idx) : (constant S_ .f32 0x00000000#32 i : Ideal .f32) = (0 : EReal) := by
  show Ideal.ofBits .f32 0x00000000#32 = _
  exact Ideal.ofBits_zero_f32
theorem half_word : (FloatOps.ofBits .f32 0xBF000000#32 : Ideal .f32) = ((-(1 / 2) : ℝ) : EReal) := by
  show Ideal.ofBits .f32 0xBF000000#32 = _
  simp [Ideal.ofBits, Ideal.ieee, -EReal.coe_mul, -EReal.coe_neg]; norm_num

theorem at2 (f : ℕ → ℕ → ℝ) {m m' n n' : ℕ} (e : m = m') (e' : n = n') : f m n = f m' n' := by rw [e, e']
theorem at3 (f : ℕ → ℕ → ℕ → ℝ) {l l' m m' n n' : ℕ} (e0 : l = l') (e : m = m') (e' : n = n') : f l m n = f l' m' n' := by rw [e0, e, e']

section Input
variable {x0} {a} (h0 : Holds (s := S8x4096x768) x0 (fun i => a (i 0).val (i 1).val (i 2).val))
include h0

theorem v2_is : Holds (s := S8x4096x6x128) (val_main_v2 (F := Ideal) x0) (fun i => a (i 0).val (i 1).val ((i 2).val * 128 + (i 3).val)) := fun i => by
  refine (val_main_v2_apply x0 i).trans ((h0 _).trans (congrArg Real.toEReal ?_))
  have l0 : (i 0).val < 8 := (i 0).isLt
  have l1 : (i 1).val < 4096 := (i 1).isLt
  have l2 : (i 2).val < 6 := (i 2).isLt
  have l3 : (i 3).val < 128 := (i 3).isLt
  exact at3 a (show ((((i 0).val * 4096 + (i 1).val) * 6 + (i 2).val) * 128 + (i 3).val) / 3145728 = (i 0).val by omega)
    (show ((((i 0).val * 4096 + (i 1).val) * 6 + (i 2).val) * 128 + (i 3).val) / 768 % 4096 = (i 1).val by omega)
    (show ((((i 0).val * 4096 + (i 1).val) * 6 + (i 2).val) * 128 + (i 3).val) % 768 = (i 2).val * 128 + (i 3).val by omega)
theorem v3_is : Holds (s := S4096x8x6x128) (val_main_v3 (F := Ideal) x0) (fun i => a (i 1).val (i 0).val ((i 2).val * 128 + (i 3).val)) := fun i =>
  (val_main_v3_apply x0 i).trans (v2_is h0 _)
theorem v4_is : Holds (s := S4096x48x128) (val_main_v4 (F := Ideal) x0) (fun i => hd a (i 1).val (i 0).val (i 2).val) := fun i => by
  refine (val_main_v4_apply x0 i).trans ((v3_is h0 _).trans (congrArg Real.toEReal ?_))
  have l0 : (i 0).val < 4096 := (i 0).isLt
  have l1 : (i 1).val < 48 := (i 1).isLt
  have l2 : (i 2).val < 128 := (i 2).isLt
  exact at3 a (show (((i 0).val * 48 + (i 1).val) * 128 + (i 2).val) / 768 % 8 = (i 1).val / 6 by omega)
    (show (((i 0).val * 48 + (i 1).val) * 128 + (i 2).val) / 6144 = (i 0).val by omega)
    (show (((i 0).val * 48 + (i 1).val) * 128 + (i 2).val) / 128 % 6 * 128 + (((i 0).val * 48 + (i 1).val) * 128 + (i 2).val) % 128 = (i 1).val % 6 * 128 + (i 2).val by omega)
theorem v5_is : Holds (s := S4096x16x128) (val_main_v5 (F := Ideal) x0) (fun i => hd a (i 1).val (i 0).val (i 2).val) := fun i =>
  (val_main_v5_apply x0 i).trans (v4_is h0 _)
theorem v6_is : Holds (s := S4096x16x128) (val_main_v6 (F := Ideal) x0) (fun i => hd a (16 + (i 1).val) (i 0).val (i 2).val) := fun i =>
  (val_main_v6_apply x0 i).trans (v4_is h0 _)
theorem v7_is : Holds (s := S4096x16x128) (val_main_v7 (F := Ideal) x0) (fun i => hd a (32 + (i 1).val) (i 0).val (i 2).val) := fun i =>
  (val_main_v7_apply x0 i).trans (v4_is h0 _)
end Input

section Cotangent
variable {x3} {g} (h3 : Holds (s := S4096x2048) x3 (fun i => g (i 0).val (i 1).val))
include h3

theorem v1_is : Holds (s := S4096x16x128) (val_main_v1 (F := Ideal) x3) (fun i => gh g (i 1).val (i 0).val (i 2).val) := fun i => by
  refine (val_main_v1_apply x3 i).trans (((val_main_v0_apply x3 _).trans (h3 _)).trans (congrArg Real.toEReal ?_))
  have l0 : (i 0).val < 4096 := (i 0).isLt
  have l1 : (i 1).val < 16 := (i 1).isLt
  have l2 : (i 2).val < 128 := (i 2).isLt
  exact at2 g (show (((i 0).val * 16 + (i 1).val) * 128 + (i 2).val) / 2048 = (i 0).val by omega)
    (show (((i 0).val * 16 + (i 1).val) * 128 + (i 2).val) % 2048 = (i 1).val * 128 + (i 2).val by omega)
theorem v63_is : Holds (s := S16x128x4096) (val_main_v63 (F := Ideal) x3) (fun i => gh g (i 0).val (i 2).val (i 1).val) := fun i =>
  (val_main_v63_apply x3 i).trans (v1_is h3 _)
end Cotangent

section Queries
variable {x0} {a} (h0 : Holds (s := S8x4096x768) x0 (fun i => a (i 0).val (i 1).val (i 2).val))
variable {x1} {wq} (h1 : Holds (s := S1x128) x1 (fun i => wq (i 1).val))
include h0

theorem v11_is : Holds (s := S4096x16) (val_main_v11 (F := Ideal) x0) (fun i => ∑ d ∈ range 128, hd a (i 1).val (i 0).val d * hd a (i 1).val (i 0).val d) := fun i =>
  (val_main_v11_apply x0 i).trans (zero_add_sum_coe _ (zero_word _) _ _ fun k => ((v5_is h0).mul (v5_is h0)) (idx_main_v11 i k))
theorem v14_is : Holds (s := S4096x16x1) (val_main_v14 (F := Ideal) x0) (fun i => (∑ d ∈ range 128, hd a (i 1).val (i 0).val d * hd a (i 1).val (i 0).val d) / 128) :=
  Holds.div (s := S4096x16x1) (φ := .f32) (fun i => (val_main_v12_apply x0 i).trans (v11_is h0 _)) (g := fun _ => 128) (fun i => (val_main_v13_apply i).trans w128_word) (fun _ => by norm_num)
theorem v16_is : Holds (s := S4096x16x1) (val_main_v16 (F := Ideal) x0) (fun i => msq (hd a (i 1).val) (i 0).val) :=
  Holds.add (s := S4096x16x1) (φ := .f32) (v14_is h0) (g := fun _ => eps) (fun i => (val_main_v15_apply i).trans eps_word)
theorem v17_is : Holds (s := S4096x16x1) (val_main_v17 (F := Ideal) x0) (fun i => rr (hd a (i 1).val) (i 0).val) :=
  Holds.rsqrt (s := S4096x16x1) (φ := .f32) (v16_is h0) (fun _ => msq_pos _ _)
theorem v20_is : Holds (s := S4096x16x1) (val_main_v20 (F := Ideal) x0) (fun i => -(1 / 2) * (rr (hd a (i 1).val) (i 0).val / msq (hd a (i 1).val) (i 0).val)) :=
  Holds.mul (s := S4096x16x1) (φ := .f32) (f := fun _ => -(1 / 2)) (fun i => (val_main_v19_apply i).trans half_word)
    (Holds.div (s := S4096x16x1) (φ := .f32) (v17_is h0) (v16_is h0) (fun _ => (msq_pos _ _).ne'))
theorem v21_is : Holds (s := S4096x16x128) (val_main_v21 (F := Ideal) x0) (fun i => rr (hd a (i 1).val) (i 0).val) := fun i =>
  (val_main_v21_apply x0 i).trans (v17_is h0 _)
theorem v22_is : Holds (s := S4096x16x128) (val_main_v22 (F := Ideal) x0) (fun i => nrm (hd a (i 1).val) (i 0).val (i 2).val) :=
  Holds.mul (s := S4096x16x128) (φ := .f32) (v5_is h0) (v21_is h0)
omit h0 in
include h1 in
theorem v23_is : Holds (s := S1x1x128) (val_main_v23 (F := Ideal) x1) (fun i => wq (i 2).val) := fun i => by
  refine (val_main_v23_apply x1 i).trans ((val_main_v8_apply x1 _).trans ((h1 _).trans (congrArg (fun n => ((wq n : ℝ) : EReal)) ?_)))
  have l2 : (i 2).val < 128 := (i 2).isLt
  show (i 2).val % 128 = _; omega
omit h0 in
include h1 in
theorem v24_is : Holds (s := S4096x16x128) (val_main_v24 (F := Ideal) x1) (fun i => wq (i 2).val) := fun i =>
  (val_main_v24_apply x1 i).trans (v23_is h1 _)
include h1 in
theorem v25_is : Holds (s := S4096x16x128) (val_main_v25 (F := Ideal) x0 x1) (fun i => normed (hd a (i 1).val) wq (i 0).val (i 2).val) :=
  Holds.mul (s := S4096x16x128) (φ := .f32) (v22_is h0) (v24_is h1)
end Queries

section Keys
variable {x0} {a} (h0 : Holds (s := S8x4096x768) x0 (fun i => a (i 0).val (i 1).val (i 2).val))
variable {x2} {wk} (h2 : Holds (s := S1x128) x2 (fun i => wk (i 1).val))
include h0

theorem v27_is : Holds (s := S4096x16) (val_main_v27 (F := Ideal) x0) (fun i => ∑ d ∈ range 128, hd a (16 + (i 1).val) (i 0).val d * hd a (16 + (i 1).val) (i 0).val d) := fun i =>
  (val_main_v27_apply x0 i).trans (zero_add_sum_coe _ (zero_word _) _ _ fun k => ((v6_is h0).mul (v6_is h0)) (idx_main_v27 i k))
theorem v30_is : Holds (s := S4096x16x1) (val_main_v30 (F := Ideal) x0) (fun i => (∑ d ∈ range 128, hd a (16 + (i 1).val) (i 0).val d * hd a (16 + (i 1).val) (i 0).val d) / 128) :=
  Holds.div (s := S4096x16x1) (φ := .f32) (fun i => (val_main_v28_apply x0 i).trans (v27_is h0 _)) (g := fun _ => 128) (fun i => (val_main_v29_apply i).trans w128_word) (fun _ => by norm_num)
theorem v32_is : Holds (s := S4096x16x1) (val_main_v32 (F := Ideal) x0) (fun i => msq (hd a (16 + (i 1).val)) (i 0).val) :=
  Holds.add (s := S4096x16x1) (φ := .f32) (v30_is h0) (g := fun _ => eps) (fun i => (val_main_v31_apply i).trans eps_word)
theorem v33_is : Holds (s := S4096x16x1) (val_main_v33 (F := Ideal) x0) (fun i => rr (hd a (16 + (i 1).val)) (i 0).val) :=
  Holds.rsqrt (s := S4096x16x1) (φ := .f32) (v32_is h0) (fun _ => msq_pos _ _)
theorem v36_is : Holds (s := S4096x16x1) (val_main_v36 (F := Ideal) x0) (fun i => -(1 / 2) * (rr (hd a (16 + (i 1).val)) (i 0).val / msq (hd a (16 + (i 1).val)) (i 0).val)) :=
  Holds.mul (s := S4096x16x1) (φ := .f32) (f := fun _ => -(1 / 2)) (fun i => (val_main_v35_apply i).trans half_word)
    (Holds.div (s := S4096x16x1) (φ := .f32) (v33_is h0) (v32_is h0) (fun _ => (msq_pos _ _).ne'))
theorem v37_is : Holds (s := S4096x16x128) (val_main_v37 (F := Ideal) x0) (fun i => rr (hd a (16 + (i 1).val)) (i 0).val) := fun i =>
  (val_main_v37_apply x0 i).trans (v33_is h0 _)
theorem v38_is : Holds (s := S4096x16x128) (val_main_v38 (F := Ideal) x0) (fun i => nrm (hd a (16 + (i 1).val)) (i 0).val (i 2).val) :=
  Holds.mul (s := S4096x16x128) (φ := .f32) (v6_is h0) (v37_is h0)
omit h0 in
include h2 in
theorem v39_is : Holds (s := S1x1x128) (val_main_v39 (F := Ideal) x2) (fun i => wk (i 2).val) := fun i => by
  refine (val_main_v39_apply x2 i).trans ((val_main_v9_apply x2 _).trans ((h2 _).trans (congrArg (fun n => ((wk n : ℝ) : EReal)) ?_)))
  have l2 : (i 2).val < 128 := (i 2).isLt
  show (i 2).val % 128 = _; omega
omit h0 in
include h2 in
theorem v40_is : Holds (s := S4096x16x128) (val_main_v40 (F := Ideal) x2) (fun i => wk (i 2).val) := fun i =>
  (val_main_v40_apply x2 i).trans (v39_is h2 _)
include h2 in
theorem v41_is : Holds (s := S4096x16x128) (val_main_v41 (F := Ideal) x0 x2) (fun i => normed (hd a (16 + (i 1).val)) wk (i 0).val (i 2).val) :=
  Holds.mul (s := S4096x16x128) (φ := .f32) (v38_is h0) (v40_is h2)
end Keys

end Cert.ReferenceIdeal.Real
-- ==== Proof.Value.RefPairs.lean ====
/- The reference's pairs of a query and a key over the real numbers: score, weight, gate and their gradient. -/
module

public import proofs.«01_k».proof.Proof.Value.RefNorms

@[expose] public section

set_option maxRecDepth 16384

noncomputable section

namespace Cert.ReferenceIdeal.Real

open Idealize.ShloMosaic Idealize.ShloMosaic.TcCoe Idealize.ShloMosaic.ValueIdx Cert.ReferenceIdeal Cert.ReferenceIdeal.Gen Cert.ReferenceIdeal.Read Cert.Reals Cert.KernelIdeal
open scoped BigOperators
open Finset (range Ico)

/-- The log of one plus the exponential, as it is computed. -/
def sp (z : ℝ) : ℝ := max z 0 + Real.log (1 + Real.exp (-|z|))

theorem lkeep_sp (z : ℝ) : lkeep z = -sp z := by unfold lkeep sp; rw [zero_sub, zero_sub]
theorem sp_neg (z : ℝ) : sp (-z) = sp z - z := by
  unfold sp
  rw [abs_neg]
  rcases le_total z 0 with h | h
  · rw [max_eq_left (by linarith), max_eq_right h]; ring
  · rw [max_eq_right (by linarith), max_eq_left h]; ring
theorem exp_sp (z : ℝ) : Real.exp (sp z) = 1 + Real.exp z := by
  unfold sp
  rw [Real.exp_add, Real.exp_log (add_pos one_pos (Real.exp_pos _))]
  rcases le_total z 0 with h | h
  · rw [max_eq_right h, abs_of_nonpos h, Real.exp_zero, neg_neg, one_mul]
  · rw [max_eq_left h, abs_of_nonneg h, mul_add, ← Real.exp_add, add_neg_cancel, Real.exp_zero]; ring
/-- One minus the gate. -/
theorem one_sub_gate (z : ℝ) : Real.exp (-z - sp (-z)) = 1 - Real.exp (z + lkeep z) := by
  rw [lkeep_sp, sp_neg, show -z - (sp z - z) = -sp z by ring, Real.exp_add, Real.exp_neg, exp_sp]
  have : (1 + Real.exp z) ≠ 0 := (add_pos one_pos (Real.exp_pos z)).ne'
  field_simp
  ring

section Generic
variable {s : Shape} {Z C C' C'' X T T' D D' : FVec Ideal s .f32} {f : s.Idx → ℝ}

theorem softplus_is (hZ : Holds Z f) (hC : Holds C (fun _ => 0)) (hC' : Holds C' (fun _ => 0)) :
    Holds (select (cmpf .une (subf Z C') (subf Z C')) X (addf (maximumf Z C) (Host.log1p (Host.exp (Host.negf (Host.absf (subf Z C')))))))
      (fun i => sp (f i)) :=
  Holds.selectNe _ (((hZ.max hC).add ((hZ.sub hC').abs.neg.exp.log1p fun i => Real.exp_pos _)).congr fun i => by
    show _ = max (f i) 0 + Real.log (1 + Real.exp (-|f i|))
    rw [sub_zero])

theorem slope_is {S : FVec Ideal s .f32} (hZ : Holds Z f) (hS : Holds S (fun i => sp (f i))) (hT : ∀ i, (T i : EReal) = ⊤) (hT' : ∀ i, (T' i : EReal) = ⊤) :
    Holds (Host.exp (subf (select (cmpf .oeq Z T) D Z) (select (cmpf .oeq S T') D' S))) (fun i => Real.exp (f i - sp (f i))) :=
  ((Holds.selectInf hZ hT hZ).sub (Holds.selectInf hS hT' hS)).exp
end Generic

theorem top_word (i : S_.Idx) : (constant S_ .f32 0x7F800000#32 i : Ideal .f32) = (⊤ : EReal) := by
  show Ideal.ofBits .f32 0x7F800000#32 = _
  simp [Ideal.ofBits, Ideal.ieee]

variable {x0 : (⟨S8x4096x768, .f32⟩ : BufTy).Contents (Elt Ideal)} {x1 x2 : (⟨S1x128, .f32⟩ : BufTy).Contents (Elt Ideal)}
  {x3 : (⟨S4096x2048, .bf16⟩ : BufTy).Contents (Elt Ideal)}
variable {a : ℕ → ℕ → ℕ → ℝ} {wq wk : ℕ → ℝ} {g : ℕ → ℕ → ℝ}
variable (h0 : Holds (s := S8x4096x768) x0 (fun i => a (i 0).val (i 1).val (i 2).val))
  (h1 : Holds (s := S1x128) x1 (fun i => wq (i 1).val)) (h2 : Holds (s := S1x128) x2 (fun i => wk (i 1).val))
  (h3 : Holds (s := S4096x2048) x3 (fun i => g (i 0).val (i 1).val))

/-- The score of a pair of head `h`. -/
def zr (a : ℕ → ℕ → ℕ → ℝ) (wq wk : ℕ → ℝ) (h t s : ℕ) : ℝ := zz sc (qh a wq h) (kh a wk h) t s

theorem mask_iff (i : S4096x4096.Idx) : val_main_v51 (F := Ideal) i = 1#1 ↔ (i 1).val < (i 0).val := by
  rw [val_main_v51_apply, val_main_v49_apply, val_main_v48_apply, val_main_v47_apply, val_main_v50_apply, val_main_v46_apply, val_main_v45_apply]
  show BitVec.ofBool ((BitVec.ofNat 32 (i 1).val).slt (BitVec.ofNat 32 (i 0).val)) = 1#1 ↔ _
  have l0 : (i 0).val < 4096 := (i 0).isLt
  have l1 : (i 1).val < 4096 := (i 1).isLt
  rw [slt_nat (by omega) (by omega)]
  by_cases h : (i 1).val < (i 0).val <;> simp [h]
theorem mask54 (i : S16x4096x4096.Idx) : val_main_v54_1 (F := Ideal) i = 1#1 ↔ (i 2).val < (i 1).val := by
  rw [val_main_v54_1_apply]; exact mask_iff _
theorem mask60 (i : S16x4096x4096.Idx) : val_main_v60_1 (F := Ideal) i = 1#1 ↔ (i 2).val < (i 1).val := by
  rw [val_main_v60_1_apply]; exact mask_iff _

theorem zero_is {s : Shape} {X : FVec Ideal s .f32} (h : ∀ i, (X i : EReal) = 0) : Holds X (fun _ => 0) := fun i => (h i).trans EReal.coe_zero.symm

section Scores
include h0 h1 h2

theorem v42_is : Holds (s := S16x4096x4096) (val_main_v42 (F := Ideal) x0 x1 x2) (fun i => rdot (qh a wq (i 0).val) (kh a wk (i 0).val) (i 1).val (i 2).val) := fun i =>
  (val_main_v42_apply x0 x1 x2 i).trans (sum_mul_coe _ _ (fun d => qh a wq (i 0).val (i 1).val d) (fun d => kh a wk (i 0).val (i 2).val d) (fun k => v25_is h0 h1 _) (fun k => v41_is h0 h2 _))
theorem v44_is : Holds (s := S16x4096x4096) (val_main_v44 (F := Ideal) x0 x1 x2) (fun i => zr a wq wk (i 0).val (i 1).val (i 2).val) :=
  Holds.mul (s := S16x4096x4096) (φ := .f32) (v42_is h0 h1 h2) (g := fun _ => sc) (fun i => (val_main_v43_apply i).trans sc_word)
theorem call0_v0_is : Holds (s := S16x4096x4096) (val_main_call0_v0 (F := Ideal) x0 x1 x2) (fun i => zr a wq wk (i 0).val (i 1).val (i 2).val) :=
  (Holds.neg (s := S16x4096x4096) (φ := .f32) (Holds.neg (s := S16x4096x4096) (φ := .f32) (v44_is h0 h1 h2))).congr fun i => neg_neg _
theorem call0_sp_is : Holds (s := S16x4096x4096) (val_main_call0_v1_0 (F := Ideal) x0 x1 x2) (fun i => sp (zr a wq wk (i 0).val (i 1).val (i 2).val)) :=
  softplus_is (s := S16x4096x4096) (call0_v0_is h0 h1 h2) (C := val_main_call0_call0_v0 (F := Ideal)) (C' := val_main_call0_call0_v2 (F := Ideal)) (X := val_main_call0_call0_v6 (F := Ideal) x0 x1 x2)
    (zero_is fun i => (val_main_call0_call0_v0_apply i).trans (zero_word _)) (zero_is fun i => (val_main_call0_call0_v2_apply i).trans (zero_word _))
theorem v53_1_is : Holds (s := S16x4096x4096) (val_main_v53_1 (F := Ideal) x0 x1 x2) (fun i => GG sc (qh a wq (i 0).val) (kh a wk (i 0).val) (i 1).val (i 2).val) :=
  (slope_is (s := S16x4096x4096) (call0_v0_is h0 h1 h2) (call0_sp_is h0 h1 h2) (T := val_main_call0_call0_v13 (F := Ideal)) (T' := val_main_call0_call0_v17 (F := Ideal))
    (D := val_main_call0_call0_v15 (F := Ideal)) (D' := val_main_call0_call0_v19 (F := Ideal))
    (fun i => (val_main_call0_call0_v13_apply i).trans (top_word _)) (fun i => (val_main_call0_call0_v17_apply i).trans (top_word _))).congr fun i => by
    show _ = Real.exp (_ + lkeep _)
    rw [lkeep_sp, ← sub_eq_add_neg]; rfl
theorem v53_0_is : Holds (s := S16x4096x4096) (val_main_v53_0 (F := Ideal) x0 x1 x2) (fun i => lkeep (zr a wq wk (i 0).val (i 1).val (i 2).val)) :=
  (Holds.neg (s := S16x4096x4096) (φ := .f32) (call0_sp_is h0 h1 h2)).congr fun i => (lkeep_sp _).symm
theorem v54_is : Holds (s := S16x4096x4096) (val_main_v54_0 (F := Ideal) x0 x1 x2) (fun i => LL sc (qh a wq (i 0).val) (kh a wk (i 0).val) (i 1).val (i 2).val) :=
  Holds.select (s := S16x4096x4096) (φ := .f32) _ (fun i => (i 2).val < (i 1).val) mask54 (v53_0_is h0 h1 h2)
    (zero_is fun i => ((val_main_call1_v2_apply i).trans (val_main_call1_v0_apply _)).trans (zero_word _))
theorem v55_is : Holds (s := S16x4096x4096) (val_main_v55 (F := Ideal) x0 x1 x2) (fun i => SS sc (qh a wq (i 0).val) (kh a wk (i 0).val) (i 1).val (i 2).val) :=
  (Holds.window (a := 16) (b := 4096) (c := 4096) (φ := .f32) (lo := 0) (hi := 4095) (X := val_main_v54_0 (F := Ideal) x0 x1 x2)
    (x := fun h t s => LL sc (qh a wq h) (kh a wk h) t s) (v54_is h0 h1 h2) S_ (val_main_call2_v0 (F := Ideal)) h_S_
    (fun i => (val_main_call2_v0_apply i).trans (zero_word _)) reduceWindows_S16x4096x4096_S16x4096x4096_w1s1p0_0_w1s1p0_0_w4096s1p0_4095).congr fun i =>
    window_right (fun s => LL sc (qh a wq (i 0).val) (kh a wk (i 0).val) (i 1).val s) 4096 (i 2).val
theorem v56_is : Holds (s := S16x4096x4096) (val_main_v56 (F := Ideal) x0 x1 x2)
    (fun i => SS sc (qh a wq (i 0).val) (kh a wk (i 0).val) (i 1).val (i 2).val - LL sc (qh a wq (i 0).val) (kh a wk (i 0).val) (i 1).val (i 2).val) :=
  Holds.sub (s := S16x4096x4096) (φ := .f32) (v55_is h0 h1 h2) (v54_is h0 h1 h2)
theorem call3_v0_is : Holds (s := S16x4096x4096) (val_main_call3_v0 (F := Ideal) x0 x1 x2) (fun i => -zr a wq wk (i 0).val (i 1).val (i 2).val) :=
  Holds.neg (s := S16x4096x4096) (φ := .f32) (v44_is h0 h1 h2)
theorem call3_sp_is : Holds (s := S16x4096x4096) (val_main_call3_v1_0 (F := Ideal) x0 x1 x2) (fun i => sp (-zr a wq wk (i 0).val (i 1).val (i 2).val)) :=
  softplus_is (s := S16x4096x4096) (call3_v0_is h0 h1 h2) (C := val_main_call3_call0_v0 (F := Ideal)) (C' := val_main_call3_call0_v2 (F := Ideal)) (X := val_main_call3_call0_v6 (F := Ideal) x0 x1 x2)
    (zero_is fun i => (val_main_call3_call0_v0_apply i).trans (zero_word _)) (zero_is fun i => (val_main_call3_call0_v2_apply i).trans (zero_word _))
theorem v57_1_is : Holds (s := S16x4096x4096) (val_main_v57_1 (F := Ideal) x0 x1 x2) (fun i => 1 - GG sc (qh a wq (i 0).val) (kh a wk (i 0).val) (i 1).val (i 2).val) :=
  (slope_is (s := S16x4096x4096) (call3_v0_is h0 h1 h2) (call3_sp_is h0 h1 h2) (T := val_main_call3_call0_v13 (F := Ideal)) (T' := val_main_call3_call0_v17 (F := Ideal))
    (D := val_main_call3_call0_v15 (F := Ideal)) (D' := val_main_call3_call0_v19 (F := Ideal))
    (fun i => (val_main_call3_call0_v13_apply i).trans (top_word _)) (fun i => (val_main_call3_call0_v17_apply i).trans (top_word _))).congr fun i => one_sub_gate _
theorem v57_0_is : Holds (s := S16x4096x4096) (val_main_v57_0 (F := Ideal) x0 x1 x2)
    (fun i => zr a wq wk (i 0).val (i 1).val (i 2).val + lkeep (zr a wq wk (i 0).val (i 1).val (i 2).val)) :=
  (Holds.neg (s := S16x4096x4096) (φ := .f32) (call3_sp_is h0 h1 h2)).congr fun i => by
    show -sp (-zr _ _ _ _ _ _) = _
    rw [sp_neg, lkeep_sp]; ring
/-- The weight of any pair, earlier or not. -/
def aw (a : ℕ → ℕ → ℕ → ℝ) (wq wk : ℕ → ℝ) (h t s : ℕ) : ℝ :=
  Real.exp (zr a wq wk h t s + lkeep (zr a wq wk h t s) + (SS sc (qh a wq h) (kh a wk h) t s - LL sc (qh a wq h) (kh a wk h) t s))
theorem v59_is : Holds (s := S16x4096x4096) (val_main_v59 (F := Ideal) x0 x1 x2) (fun i => aw a wq wk (i 0).val (i 1).val (i 2).val) :=
  Holds.exp (s := S16x4096x4096) (φ := .f32) (Holds.add (s := S16x4096x4096) (φ := .f32) (v57_0_is h0 h1 h2) (v56_is h0 h1 h2))
theorem v60_is : Holds (s := S16x4096x4096) (val_main_v60_0 (F := Ideal) x0 x1 x2) (fun i => AA sc (qh a wq (i 0).val) (kh a wk (i 0).val) (i 1).val (i 2).val) :=
  Holds.select (s := S16x4096x4096) (φ := .f32) _ (fun i => (i 2).val < (i 1).val) mask60 (v59_is h0 h1 h2)
    (zero_is fun i => ((val_main_call4_v2_apply i).trans (val_main_call4_v0_apply _)).trans (zero_word _))
theorem v61_is : Holds (s := S16x128x4096) (val_main_v61 (F := Ideal) x0 x1 x2) (fun i => oo a wq wk (i 0).val (i 2).val (i 1).val) := fun i =>
  ((val_main_v61_apply x0 x1 x2 i).trans (sum_mul_coe _ _ (fun s => hd a (32 + (i 0).val) s (i 1).val) (fun s => AA sc (qh a wq (i 0).val) (kh a wk (i 0).val) (i 2).val s)
    (fun k => v7_is h0 _) (fun k => v60_is h0 h1 h2 _))).trans (congrArg Real.toEReal (Finset.sum_congr rfl fun s _ => mul_comm _ _))
theorem v62_is : Holds (s := S4096x16x128) (val_main_v62 (F := Ideal) x0 x1 x2) (fun i => oo a wq wk (i 1).val (i 0).val (i 2).val) := fun i =>
  (val_main_v62_apply x0 x1 x2 i).trans (v61_is h0 h1 h2 _)
end Scores

section Gradient
include h0 h3
theorem v64_is : Holds (s := S16x4096x4096) (val_main_v64 (F := Ideal) x0 x3) (fun i => rdot (gh g (i 0).val) (hd a (32 + (i 0).val)) (i 1).val (i 2).val) := fun i =>
  (val_main_v64_apply x0 x3 i).trans (sum_mul_coe _ _ (fun d => gh g (i 0).val (i 1).val d) (fun d => hd a (32 + (i 0).val) (i 2).val d) (fun k => v63_is h3 _) (fun k => v7_is h0 _))
include h1 h2
theorem v65_is : Holds (s := S16x128x4096) (val_main_v65 (F := Ideal) x0 x1 x2 x3) (fun i => ∑ t ∈ range 4096, gh g (i 0).val t (i 1).val * AA sc (qh a wq (i 0).val) (kh a wk (i 0).val) t (i 2).val) := fun i =>
  (val_main_v65_apply x0 x1 x2 x3 i).trans (sum_mul_coe _ _ (fun t => gh g (i 0).val t (i 1).val) (fun t => AA sc (qh a wq (i 0).val) (kh a wk (i 0).val) t (i 2).val)
    (fun k => v63_is h3 _) (fun k => v60_is h0 h1 h2 _))
theorem v66_is : Holds (s := S4096x16x128) (val_main_v66 (F := Ideal) x0 x1 x2 x3) (fun i => hDV a wq wk g (i 1).val (i 0).val (i 2).val) := fun i => by
  refine (val_main_v66_apply x0 x1 x2 x3 i).trans ((v65_is h0 h1 h2 h3 _).trans (congrArg Real.toEReal ?_))
  unfold hDV dVv
  exact Finset.sum_congr rfl fun t _ => mul_comm _ _
/-- The weighted cotangent of a pair of head `h`. -/
def wr (a : ℕ → ℕ → ℕ → ℝ) (wq wk : ℕ → ℝ) (g : ℕ → ℕ → ℝ) (h t s : ℕ) : ℝ := WW sc (qh a wq h) (kh a wk h) (hd a (32 + h)) (gh g h) t s
theorem v68_is : Holds (s := S16x4096x4096) (val_main_v68 (F := Ideal) x0 x1 x2 x3) (fun i => wr a wq wk g (i 0).val (i 1).val (i 2).val) :=
  (Holds.mul (s := S16x4096x4096) (φ := .f32) (Holds.select (s := S16x4096x4096) (φ := .f32) _ (fun i => (i 2).val < (i 1).val) mask60 (v64_is h0 h3)
    (zero_is fun i => (val_main_call5_v0_apply i).trans (zero_word _))) (v59_is h0 h1 h2)).congr fun i => by
    show (if (i 2).val < (i 1).val then _ else (0 : ℝ)) * aw a wq wk _ _ _ = (if (i 2).val < (i 1).val then aw a wq wk _ _ _ else 0) * _
    by_cases h : (i 2).val < (i 1).val
    · rw [if_pos h, if_pos h, mul_comm]
    · rw [if_neg h, if_neg h, zero_mul, zero_mul]
theorem v71_is : Holds (s := S16x4096x4096) (val_main_v71 (F := Ideal) x0 x1 x2 x3) (fun i => ∑ u ∈ range ((i 2).val + 1), wr a wq wk g (i 0).val (i 1).val u) :=
  (Holds.window (a := 16) (b := 4096) (c := 4096) (φ := .f32) (lo := 4095) (hi := 0) (X := val_main_v68 (F := Ideal) x0 x1 x2 x3)
    (x := wr a wq wk g) (v68_is h0 h1 h2 h3) S_ (val_main_call7_v0 (F := Ideal)) h_S_
    (fun i => (val_main_call7_v0_apply i).trans (zero_word _)) reduceWindows_S16x4096x4096_S16x4096x4096_w1s1p0_0_w1s1p0_0_w4096s1p4095_0).congr fun i =>
    window_left (fun s => wr a wq wk g (i 0).val (i 1).val s) 4095 (i 2).val (Nat.le_of_lt_succ (i 2).isLt)
omit h0 h1 h2 h3 in
/-- What the earlier keys of a row hold, from the output: all of the row without what is from `s` on. -/
theorem before_eq (a : ℕ → ℕ → ℕ → ℝ) (wq wk : ℕ → ℝ) (g : ℕ → ℕ → ℝ) (h t s : ℕ) (hs : s ≤ 4096) :
    TT (gh g h) (oo a wq wk h) t - VV sc (qh a wq h) (kh a wk h) (hd a (32 + h)) (gh g h) t s = ∑ u ∈ range s, wr a wq wk g h t u := by
  have e : TT (gh g h) (oo a wq wk h) t = ∑ u ∈ range 4096, wr a wq wk g h t u := by
    unfold TT oo wr WW rdot
    simp only [Finset.mul_sum]
    rw [Finset.sum_comm]
    exact Finset.sum_congr rfl fun u _ => Finset.sum_congr rfl fun d _ => by ring
  rw [e, Finset.range_eq_Ico, Finset.range_eq_Ico, ← Finset.sum_Ico_consecutive _ (Nat.zero_le s) hs]
  exact add_sub_cancel_right _ _
theorem v72_is : Holds (s := S16x4096x4096) (val_main_v72 (F := Ideal) x0 x1 x2 x3)
    (fun i => TT (gh g (i 0).val) (oo a wq wk (i 0).val) (i 1).val - VV sc (qh a wq (i 0).val) (kh a wk (i 0).val) (hd a (32 + (i 0).val)) (gh g (i 0).val) (i 1).val (i 2).val) :=
  (Holds.add (s := S16x4096x4096) (φ := .f32) (Holds.neg (s := S16x4096x4096) (φ := .f32) (v68_is h0 h1 h2 h3)) (v71_is h0 h1 h2 h3)).congr fun i => by
    have l2 : (i 2).val < 4096 := (i 2).isLt
    rw [before_eq a wq wk g _ _ _ l2.le, Finset.sum_range_succ]
    ring
/-- The gradient of the product of a query and a key of head `h`. -/
def zg (a : ℕ → ℕ → ℕ → ℝ) (wq wk : ℕ → ℝ) (g : ℕ → ℕ → ℝ) (h t s : ℕ) : ℝ :=
  ZZ sc (qh a wq h) (kh a wk h) (hd a (32 + h)) (gh g h) (oo a wq wk h) t s
theorem v78_is : Holds (s := S16x4096x4096) (val_main_v78 (F := Ideal) x0 x1 x2 x3) (fun i => zg a wq wk g (i 0).val (i 1).val (i 2).val) := by
  have A := Holds.neg (s := S16x4096x4096) (φ := .f32) (Holds.mul (s := S16x4096x4096) (φ := .f32) (Holds.neg (s := S16x4096x4096) (φ := .f32) (v68_is h0 h1 h2 h3)) (v57_1_is h0 h1 h2))
  have B := Holds.select (s := S16x4096x4096) (φ := .f32) _ (fun i => (i 2).val < (i 1).val) mask54 (v72_is h0 h1 h2 h3) (zero_is fun i => (val_main_call8_v0_apply i).trans (zero_word _))
  have C := Holds.neg (s := S16x4096x4096) (φ := .f32) (Holds.neg (s := S16x4096x4096) (φ := .f32) (Holds.mul (s := S16x4096x4096) (φ := .f32) (Holds.neg (s := S16x4096x4096) (φ := .f32) B) (v53_1_is h0 h1 h2)))
  refine Holds.congr (Holds.mul (s := S16x4096x4096) (φ := .f32) (Holds.add (s := S16x4096x4096) (φ := .f32) A C) (g := fun _ => sc) (Y := val_main_v77 (F := Ideal)) (fun i => (val_main_v77_apply i).trans sc_word)) fun i => ?_
  show _ = (wr a wq wk g (i 0).val (i 1).val (i 2).val * (1 - _) - (if (i 2).val < (i 1).val then _ else 0)) * sc
  by_cases h : (i 2).val < (i 1).val
  · rw [if_pos h, if_pos h]; ring
  · rw [if_neg h, if_neg h]; ring
end Gradient

end Cert.ReferenceIdeal.Real
-- ==== Proof.Value.Blocks.lean ====
/- What each block of the kernel holds, over the real numbers: a head of the projections, of the cotangent, of the
   output, and the gains. -/
module

public import proofs.«01_k».proof.Proof.Run.Launch
public import proofs.«01_k».proof.Proof.Value.Answer
public import proofs.«01_k».proof.Proof.Value.Host
public import proofs.«01_k».proof.Proof.Value.Entry
public import proofs.«01_k».proof.Proof.Value.RefPairs
public import Idealize.ShloMosaic.Lib.Pipeline.ValueKit.Geometry

@[expose] public section

set_option maxRecDepth 16384

noncomputable section

namespace Cert.KernelIdeal

open Idealize.ShloMosaic Idealize.ShloMosaic.TcCoe Idealize.ShloMosaic.Tactic Idealize.ShloMosaic.ValueIdx Cert.KernelIdeal.Gen
open Idealize.ShloMosaic.Pipeline (Dat Cfg Window)
open Cert.Reals
open scoped BigOperators
open Finset (range Ico)

theorem idx0 : ∀ t : Fin cfg0.N, win0_0.index t = ![t.val / 6, 0, t.val % 6] := (by decide +kernel : ∀ t : Fin grid0.N, _)
theorem idx1 : ∀ t : Fin cfg0.N, win0_1.index t = ![(16 + t.val) / 6, 0, (16 + t.val) % 6] := (by decide +kernel : ∀ t : Fin grid0.N, _)
theorem idx2 : ∀ t : Fin cfg0.N, win0_2.index t = ![(32 + t.val) / 6, 0, (32 + t.val) % 6] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, 0, t.val] := (by decide +kernel : ∀ t : Fin grid0.N, _)

variable (m : (ℓ : Loc nD τ sig) → Buf (Elt Ideal) ℓ) (c : Dev nD)
variable {a : ℕ → ℕ → ℕ → ℝ} {wq wk : ℕ → ℝ} {g : ℕ → ℕ → ℝ}

/-- The arguments on a device, as real numbers. -/
structure Args (a : ℕ → ℕ → ℕ → ℝ) (wq wk : ℕ → ℝ) (g : ℕ → ℕ → ℝ) : Prop where
  q : Holds (s := S8x4096x768) (m ((c : Thread nD τ).loc main_arg0)) (fun i => a (i 0).val (i 1).val (i 2).val)
  gq : Holds (s := S1x128) (m ((c : Thread nD τ).loc main_arg1)) (fun i => wq (i 1).val)
  gk : Holds (s := S1x128) (m ((c : Thread nD τ).loc main_arg2)) (fun i => wk (i 1).val)
  g : Holds (s := S4096x2048) (m ((c : Thread nD τ).loc main_arg3)) (fun i => g (i 0).val (i 1).val)

variable {m c} (H : Args m c a wq wk g) (t : Fin cfg0.N)
include H

theorem block0 : Is3 (n := 4096) (m := 128) (iblk m c 0 t) (hd a t.val) := by
  intro y
  have e : iblk m c 0 t y = m ((c : Thread nD τ).loc main_arg0) ((win0_0.blk t).view.emb y) := by
    blk_simp [iblk]
    exact congrFun (V_main_arg0 m c) _
  refine e.trans ((H.q _).trans ?_)
  have h0 : (((win0_0.blk t).view.emb y) 0 : ℕ) = t.val / 6 := by
    have := (y 0).isLt
    blk_simp [idx0]
  have h1 : (((win0_0.blk t).view.emb y) 1 : ℕ) = (y 1).val := by
    blk_simp [idx0]
  have h2 : (((win0_0.blk t).view.emb y) 2 : ℕ) = t.val % 6 * 128 + (y 2).val := by
    blk_simp [idx0]
  show ((a _ _ _ : ℝ) : EReal) = ((a _ _ _ : ℝ) : EReal)
  rw [h0, h1, h2]

theorem block1 : Is3 (n := 4096) (m := 128) (iblk m c 1 t) (hd a (16 + t.val)) := by
  intro y
  have e : iblk m c 1 t y = m ((c : Thread nD τ).loc main_arg0) ((win0_1.blk t).view.emb y) := by
    blk_simp [iblk]
    exact congrFun (V_main_arg0 m c) _
  refine e.trans ((H.q _).trans ?_)
  have h0 : (((win0_1.blk t).view.emb y) 0 : ℕ) = (16 + t.val) / 6 := by
    have := (y 0).isLt
    blk_simp [idx1]
  have h1 : (((win0_1.blk t).view.emb y) 1 : ℕ) = (y 1).val := by
    blk_simp [idx1]
  have h2 : (((win0_1.blk t).view.emb y) 2 : ℕ) = (16 + t.val) % 6 * 128 + (y 2).val := by
    blk_simp [idx1]
  show ((a _ _ _ : ℝ) : EReal) = ((a _ _ _ : ℝ) : EReal)
  rw [h0, h1, h2]

theorem block2 : Is3 (n := 4096) (m := 128) (iblk m c 2 t) (hd a (32 + t.val)) := by
  intro y
  have e : iblk m c 2 t y = m ((c : Thread nD τ).loc main_arg0) ((win0_2.blk t).view.emb y) := by
    blk_simp [iblk]
    exact congrFun (V_main_arg0 m c) _
  refine e.trans ((H.q _).trans ?_)
  have h0 : (((win0_2.blk t).view.emb y) 0 : ℕ) = (32 + t.val) / 6 := by
    have := (y 0).isLt
    blk_simp [idx2]
  have h1 : (((win0_2.blk t).view.emb y) 1 : ℕ) = (y 1).val := by
    blk_simp [idx2]
  have h2 : (((win0_2.blk t).view.emb y) 2 : ℕ) = (32 + t.val) % 6 * 128 + (y 2).val := by
    blk_simp [idx2]
  show ((a _ _ _ : ℝ) : EReal) = ((a _ _ _ : ℝ) : EReal)
  rw [h0, h1, h2]

theorem block3 : Is (n := 1) (m := 128) (iblk m c 3 t) (fun _ d => wq d) := by
  intro y
  have e : iblk m c 3 t y = m ((c : Thread nD τ).loc main_arg1) ((win0_3.blk t).view.emb y) := by
    blk_simp [iblk]
    exact congrFun (V_main_arg1 m c) _
  refine e.trans ((H.gq _).trans ?_)
  have h1 : (((win0_3.blk t).view.emb y) 1 : ℕ) = (y 1).val := by
    blk_simp [idx3]
  show ((wq _ : ℝ) : EReal) = ((wq _ : ℝ) : EReal)
  rw [h1]

theorem block4 : Is (n := 1) (m := 128) (iblk m c 4 t) (fun _ d => wk d) := by
  intro y
  have e : iblk m c 4 t y = m ((c : Thread nD τ).loc main_arg2) ((win0_4.blk t).view.emb y) := by
    blk_simp [iblk]
    exact congrFun (V_main_arg2 m c) _
  refine e.trans ((H.gk _).trans ?_)
  have h1 : (((win0_4.blk t).view.emb y) 1 : ℕ) = (y 1).val := by
    blk_simp [idx4]
  show ((wk _ : ℝ) : EReal) = ((wk _ : ℝ) : EReal)
  rw [h1]

theorem block5 : Is (n := 4096) (m := 128) (iblk m c 5 t) (gh g t.val) := by
  intro y
  have e : iblk m c 5 t y = m ((c : Thread nD τ).loc main_arg3) ((win0_5.blk t).view.emb y) := by
    blk_simp [iblk]
    exact congrFun (V_main_arg3 m c) _
  refine e.trans ((H.g _).trans ?_)
  have h0 : (((win0_5.blk t).view.emb y) 0 : ℕ) = (y 0).val := by
    blk_simp [idx5]
  have h1 : (((win0_5.blk t).view.emb y) 1 : ℕ) = t.val * 128 + (y 1).val := by
    blk_simp [idx5]
  show ((g _ _ : ℝ) : EReal) = ((g _ _ : ℝ) : EReal)
  rw [h0, h1]

/-- The output handed to the kernel: the heads side by side. -/
theorem out_is : Holds (s := S4096x2048) (V m c main_v55) (fun i => oo a wq wk ((i 1).val / 128) (i 0).val ((i 1).val % 128)) := by
  intro i
  rw [congrFun (Entry.V_main_v55 m c) i]
  have h0 : (i 0).val < 4096 := (i 0).isLt
  have h1 : (i 1).val < 2048 := (i 1).isLt
  have e := shapeCast_apply (s := S4096x16x128) (t := S4096x2048) (ReferenceIdeal.Read.val_main_v62 (F := Ideal) (m ((c : Thread nD τ).loc main_arg0)) (m ((c : Thread nD τ).loc main_arg1)) (m ((c : Thread nD τ).loc main_arg2)))
    shapeCasts_S4096x16x128_S4096x2048 i (ix3 (n0 := 4096) (n1 := 16) (n2 := 128) ⟨(i 0).val, h0⟩ ⟨(i 1).val / 128, Nat.div_lt_of_lt_mul h1⟩ ⟨(i 1).val % 128, Nat.mod_lt _ (by decide)⟩) (by
      rw [Shape.rowMajor_val_three, Shape.rowMajor_val_two]
      show ((i 0).val * 16 + (i 1).val / 128) * 128 + (i 1).val % 128 = (i 0).val * 2048 + (i 1).val
      omega)
  exact e.trans (ReferenceIdeal.Real.v62_is H.q H.gq H.gk _)

theorem block6 : Is (n := 4096) (m := 128) (iblk m c 6 t) (oo a wq wk t.val) := by
  intro y
  have e : iblk m c 6 t y = V m c main_v55 ((win0_6.blk t).view.emb y) := by
    blk_simp [iblk]
  refine e.trans ((out_is H _).trans ?_)
  have h0 : (((win0_6.blk t).view.emb y) 0 : ℕ) = (y 0).val := by
    blk_simp [idx6]
  have h1 : (((win0_6.blk t).view.emb y) 1 : ℕ) = t.val * 128 + (y 1).val := by
    blk_simp [idx6]
  have hy : (y 1).val < 128 := (y 1).isLt
  show ((oo a wq wk _ _ _ : ℝ) : EReal) = ((oo a wq wk _ _ _ : ℝ) : EReal)
  rw [h0, h1, show (t.val * 128 + (y 1).val) / 128 = t.val by omega, show (t.val * 128 + (y 1).val) % 128 = (y 1).val by omega]

end Cert.KernelIdeal
-- ==== Proof.Value.Final.lean ====
/- What the kernel's three results hold at the end, over the real numbers. -/
module

public import proofs.«01_k».proof.Proof.Value.Blocks

@[expose] public section

set_option maxRecDepth 16384

noncomputable section

namespace Cert.KernelIdeal

open Idealize.ShloMosaic Idealize.ShloMosaic.TcCoe Idealize.ShloMosaic.Tactic Idealize.ShloMosaic.ValueIdx Cert.KernelIdeal.Gen
open Idealize.ShloMosaic.Pipeline (Dat Cfg Window)
open Cert.Reals
open scoped BigOperators
open Finset (range Ico)

variable {m : (ℓ : Loc nD τ sig) → Buf (Elt Ideal) ℓ} {c : Dev nD}
variable {a : ℕ → ℕ → ℕ → ℝ} {wq wk : ℕ → ℝ} {g : ℕ → ℕ → ℝ} (H : Args m c a wq wk g)
theorem covers7 : (cfg0.win 7).Covers := by decide +kernel
theorem whole8 : (cfg0.win 8).WholeAt t0_15 := by decide +kernel
theorem whole9 : (cfg0.win 9).WholeAt t0_15 := by decide +kernel
theorem ansD3_congr {a : ℕ → ℕ → ℕ → ℝ} {wq wk : ℕ → ℝ} {g : ℕ → ℕ → ℝ} {p p' t t' n n' : ℕ} (e0 : p = p') (e1 : t = t') (e2 : n = n') :
    ansD3 a wq wk g p t n = ansD3 a wq wk g p' t' n' := by
  rw [e0, e1, e2]

/-- The last point. -/
def lastPt : Fin cfg0.N := t0_15

include H

/-- The block of the gradients left at a point: its head's. -/
theorem d3At_is (t : Fin cfg0.N) (y : S3x4096x128.Idx) : d3At m c t y = ((ansD3 a wq wk g (y 0).val (y 1).val (t.val * 128 + (y 2).val) : ℝ) : EReal) := by
  have h := headD3_is (block0 H t) (block1 H t) (block2 H t) (block3 H t) (block4 H t) (block5 H t) (block6 H t) y
  refine h.trans (congrArg Real.toEReal ?_)
  have hy : (y 2).val < 128 := (y 2).isLt
  unfold ansD3
  rw [show (t.val * 128 + (y 2).val) / 128 = t.val by omega, show (t.val * 128 + (y 2).val) % 128 = (y 2).val by omega]
  rfl

/-- The gain's gradient of the queries after the heads up to a point's. -/
theorem gqAt_is (n : ℕ) (hn : n < cfg0.N) : Is (n := 1) (m := 128) (gqAt m c n) (fun _ d => ∑ h ∈ range (n + 1), ∑ t ∈ range 4096, hDQ a wq wk g h t d * nrm (hd a h) t d) := by
  induction n with
  | zero =>
    rw [gqAt_first m c ⟨0, hn⟩ rfl]
    have z : Is (n := 1) (m := 128) (k0_pay1 (F := Ideal)) (fun _ _ => (0 : ℝ)) := fun i => zero_word
    refine (headGQ_is (block0 H _) (block1 H _) (block2 H _) (block3 H _) (block4 H _) (block5 H _) (block6 H _) z).congr fun _ _ d _ => ?_
    rw [Finset.sum_range_one, zero_add]
    rfl
  | succ n ih =>
    have e := gqAt_later m c ⟨n + 1, hn⟩ (Nat.succ_ne_zero n)
    have f := (headGQ_is (block0 H ⟨n + 1, hn⟩) (block1 H ⟨n + 1, hn⟩) (block2 H ⟨n + 1, hn⟩) (block3 H ⟨n + 1, hn⟩) (block4 H ⟨n + 1, hn⟩) (block5 H ⟨n + 1, hn⟩) (block6 H ⟨n + 1, hn⟩) (ih (Nat.lt_of_succ_lt hn)))
    refine fun i => (congrFun e i).trans ((f i).trans (congrArg Real.toEReal ?_))
    exact (Finset.sum_range_succ _ (n + 1)).symm

/-- The gain's gradient of the keys after the heads up to a point's. -/
theorem gkAt_is (n : ℕ) (hn : n < cfg0.N) : Is (n := 1) (m := 128) (gkAt m c n) (fun _ d => ∑ h ∈ range (n + 1), ∑ t ∈ range 4096, hDK a wq wk g h t d * nrm (hd a (16 + h)) t d) := by
  induction n with
  | zero =>
    rw [gkAt_first m c ⟨0, hn⟩ rfl]
    have z : Is (n := 1) (m := 128) (k0_pay2 (F := Ideal)) (fun _ _ => (0 : ℝ)) := fun i => zero_word
    refine (headGK_is (block0 H _) (block1 H _) (block2 H _) (block3 H _) (block4 H _) (block5 H _) (block6 H _) z).congr fun _ _ d _ => ?_
    rw [Finset.sum_range_one, zero_add]
    rfl
  | succ n ih =>
    have e := gkAt_later m c ⟨n + 1, hn⟩ (Nat.succ_ne_zero n)
    have f := (headGK_is (block0 H ⟨n + 1, hn⟩) (block1 H ⟨n + 1, hn⟩) (block2 H ⟨n + 1, hn⟩) (block3 H ⟨n + 1, hn⟩) (block4 H ⟨n + 1, hn⟩) (block5 H ⟨n + 1, hn⟩) (block6 H ⟨n + 1, hn⟩) (ih (Nat.lt_of_succ_lt hn)))
    refine fun i => (congrFun e i).trans ((f i).trans (congrArg Real.toEReal ?_))
    exact (Finset.sum_range_succ _ (n + 1)).symm

/-- The gradients of queries, keys and values at the end. -/
theorem final_d3 : (dats m 0 c).arrAt 7 cfg0.N = fun i => ((ansD3 a wq wk g (i 0).val (i 1).val (i 2).val : ℝ) : EReal) := by
  refine (dats m 0 c).arrAt_eq_of_covers 7 _ covers7 fun t hf y => ?_
  have h0 : (y 0).val = (((win0_7.blk t).view.emb y) 0 : ℕ) := by
    blk_simp [idx7]
  have h1 : (y 1).val = (((win0_7.blk t).view.emb y) 1 : ℕ) := by
    blk_simp [idx7]
  have h2 : t.val * 128 + (y 2).val = (((win0_7.blk t).view.emb y) 2 : ℕ) := by
    blk_simp [idx7]
  rw [after0_7]
  refine (d3At_is H t _).trans (congrArg Real.toEReal ?_)
  exact ansD3_congr h0 h1 h2

/-- The gain's gradient of the queries at the end. -/
theorem final_gq : (dats m 0 c).arrAt 8 cfg0.N = fun i => ((ansGQ a wq wk g (i 1).val : ℝ) : EReal) := by
  refine (dats m 0 c).arrAt_eq_of_after_last 8 lastPt whole8 _ fun j => ?_
  blk_simp
  rw [after0_8]
  exact gqAt_is H 15 lastPt.isLt _

/-- The gain's gradient of the keys at the end. -/
theorem final_gk : (dats m 0 c).arrAt 9 cfg0.N = fun i => ((ansGK a wq wk g (i 1).val : ℝ) : EReal) := by
  refine (dats m 0 c).arrAt_eq_of_after_last 9 lastPt whole9 _ fun j => ?_
  blk_simp
  rw [after0_9]
  exact gkAt_is H 15 lastPt.isLt _

end Cert.KernelIdeal
-- ==== Proof.Value.Finite.lean ====
/- The precondition, read: every argument's element is a real number. -/
module

public import proofs.«01_k».proof.Defs
public import proofs.«01_k».proof.Proof.Value.Final
public import Idealize.ShloMosaic.Lib.ReduceAll

@[expose] public section

set_option maxRecDepth 16384

noncomputable section

namespace Cert.Pre_finite

open Idealize.ShloMosaic

theorem facts : Facts where
  bcast_S_S8x4096x768 := by decide
  reducesTo_S8x4096x768_S_d0_1_2 := by decide
  h_S_ := by decide
  bcast_S_S1x128 := by decide
  reducesTo_S1x128_S_d0_1 := by decide
  bitsLt_bf16_f32 := by decide
  bcast_S_S4096x2048 := by decide
  reducesTo_S4096x2048_S_d0_1 := by decide

instance : Subsingleton S_.Idx := ⟨fun x y => funext fun k => k.elim0⟩

/-- An extended real smaller in size than infinity is real. -/
theorem real_of_lt {x w : EReal} (hw : w = ⊤) (h : Ideal.cmp .olt (max x (-x)) w = 1#1) : x = ((x.toReal : ℝ) : EReal) := by
  subst hw
  have hlt : max x (-x) < ⊤ := by
    by_contra hn
    simp [Ideal.cmp, hn] at h
  refine (EReal.coe_toReal (fun e => ?_) (fun e => ?_)).symm
  · subst e; simp at hlt
  · subst e; simp at hlt

variable [Facts]
open Facts

theorem top_word (i : S_.Idx) : (constant S_ .f32 0x7F800000#32 i : Ideal .f32) = (⊤ : EReal) := by
  show Ideal.ofBits .f32 0x7F800000#32 = _
  simp [Ideal.ofBits, Ideal.ieee]

theorem all_real {x0 : FVec Ideal S8x4096x768 .f32} {x1 x2 : FVec Ideal S1x128 .f32} {x3 : FVec Ideal S4096x2048 .bf16} {j : S_.Idx}
    (h : fn (F := Ideal) x0 x1 x2 x3 j = 1#1) :
    (∀ i, (x0 i : EReal) = ((EReal.toReal (x0 i) : ℝ) : EReal)) ∧ (∀ i, (x1 i : EReal) = ((EReal.toReal (x1 i) : ℝ) : EReal))
    ∧ (∀ i, (x2 i : EReal) = ((EReal.toReal (x2 i) : ℝ) : EReal)) ∧ (∀ i, (x3 i : EReal) = ((EReal.toReal (x3 i) : ℝ) : EReal)) := by
  dsimp only [fn, fn_part1] at h
  obtain ⟨h, e3⟩ := IntOp.andi_eq_one.1 h
  obtain ⟨h, e2⟩ := IntOp.andi_eq_one.1 h
  obtain ⟨e0, e1⟩ := IntOp.andi_eq_one.1 h
  exact ⟨fun i => real_of_lt (top_word _) (Host.reduce_andi_all _ _ _ _ _ e0 i), fun i => real_of_lt (top_word _) (Host.reduce_andi_all _ _ _ _ _ e1 i),
    fun i => real_of_lt (top_word _) (Host.reduce_andi_all _ _ _ _ _ e2 i), fun i => real_of_lt (top_word _) (Host.reduce_andi_all _ _ _ _ _ e3 i)⟩

end Cert.Pre_finite

namespace Cert.KernelIdeal

open Idealize.ShloMosaic Idealize.ShloMosaic.TcCoe Idealize.ShloMosaic.ValueIdx Cert.KernelIdeal.Gen
open Cert.Reals

/-- An array of three axes as a function of three numbers. -/
def nat3 {n p q : ℕ} (X : (⟨3, ![n, p, q]⟩ : Shape).Idx → EReal) (i j k : ℕ) : ℝ :=
  if h : (i < n ∧ j < p) ∧ k < q then (X (ix3 ⟨i, h.1.1⟩ ⟨j, h.1.2⟩ ⟨k, h.2⟩)).toReal else 0
/-- An array of two axes as a function of two numbers. -/
def nat2 {n p : ℕ} (X : (⟨2, ![n, p]⟩ : Shape).Idx → EReal) (i j : ℕ) : ℝ :=
  if h : i < n ∧ j < p then (X (ix2 ⟨i, h.1⟩ ⟨j, h.2⟩)).toReal else 0

theorem nat3_is {n p q : ℕ} {X : (⟨3, ![n, p, q]⟩ : Shape).Idx → EReal} (hX : ∀ i, X i = ((X i).toReal : EReal)) (i : (⟨3, ![n, p, q]⟩ : Shape).Idx) :
    X i = ((nat3 X (i 0).val (i 1).val (i 2).val : ℝ) : EReal) := by
  have e : nat3 X (i 0).val (i 1).val (i 2).val = (X i).toReal := by
    unfold nat3
    refine (dif_pos (⟨⟨(i 0).isLt, (i 1).isLt⟩, (i 2).isLt⟩ : ((i 0).val < n ∧ (i 1).val < p) ∧ (i 2).val < q)).trans (congrArg (fun y => (X y).toReal) (funext fun k => ?_))
    match k with
    | ⟨0, _⟩ => rfl
    | ⟨1, _⟩ => rfl
    | ⟨2, _⟩ => rfl
  exact (hX i).trans (congrArg Real.toEReal e.symm)
theorem nat2_is {n p : ℕ} {X : (⟨2, ![n, p]⟩ : Shape).Idx → EReal} (hX : ∀ i, X i = ((X i).toReal : EReal)) (i : (⟨2, ![n, p]⟩ : Shape).Idx) :
    X i = ((nat2 X (i 0).val (i 1).val : ℝ) : EReal) := by
  have e : nat2 X (i 0).val (i 1).val = (X i).toReal := by
    unfold nat2
    refine (dif_pos (⟨(i 0).isLt, (i 1).isLt⟩ : (i 0).val < n ∧ (i 1).val < p)).trans (congrArg (fun y => (X y).toReal) (funext fun k => ?_))
    match k with
    | ⟨0, _⟩ => rfl
    | ⟨1, _⟩ => rfl
  exact (hX i).trans (congrArg Real.toEReal e.symm)

/-- Under the precondition the arguments are real numbers. -/
theorem args_of_pre {m : (ℓ : Loc nD τ sig) → Buf (Elt Ideal) ℓ} (h : Cert.Pre_KernelIdeal_finite (hPre_finite := Cert.Pre_finite.facts) m) (c : Dev nD) :
    ∃ a wq wk g, Args m c a wq wk g := by
  haveI := Cert.Pre_finite.facts
  obtain ⟨r0, r1, r2, r3⟩ := Cert.Pre_finite.all_real (congrFun (h c) (fun k => k.elim0))
  refine ⟨nat3 (n := 8) (p := 4096) (q := 768) (m ((c : Thread nD τ).loc main_arg0)), nat2 (n := 1) (p := 128) (m ((c : Thread nD τ).loc main_arg1)) 0,
    nat2 (n := 1) (p := 128) (m ((c : Thread nD τ).loc main_arg2)) 0, nat2 (n := 4096) (p := 2048) (m ((c : Thread nD τ).loc main_arg3)), ?_, ?_, ?_, ?_⟩
  · exact nat3_is r0
  · intro i
    have e := nat2_is r1 i
    rwa [show (i 0).val = 0 from Nat.lt_one_iff.1 (i 0).isLt] at e
  · intro i
    have e := nat2_is r2 i
    rwa [show (i 0).val = 0 from Nat.lt_one_iff.1 (i 0).isLt] at e
  · exact nat2_is r3

end Cert.KernelIdeal
-- ==== Proof.Value.RefOut.lean ====
/- The reference's results over the real numbers. -/
module

public import proofs.«01_k».proof.Proof.Value.RefPairs

@[expose] public section

set_option maxRecDepth 16384

noncomputable section

namespace Cert.ReferenceIdeal.Real

open Idealize.ShloMosaic Idealize.ShloMosaic.TcCoe Idealize.ShloMosaic.ValueIdx Cert.ReferenceIdeal Cert.ReferenceIdeal.Gen Cert.ReferenceIdeal.Read Cert.Reals Cert.KernelIdeal
open scoped BigOperators
open Finset (range Ico)

variable {x0 : (⟨S8x4096x768, .f32⟩ : BufTy).Contents (Elt Ideal)} {x1 x2 : (⟨S1x128, .f32⟩ : BufTy).Contents (Elt Ideal)}
  {x3 : (⟨S4096x2048, .bf16⟩ : BufTy).Contents (Elt Ideal)}
variable {a : ℕ → ℕ → ℕ → ℝ} {wq wk : ℕ → ℝ} {g : ℕ → ℕ → ℝ}
variable (h0 : Holds (s := S8x4096x768) x0 (fun i => a (i 0).val (i 1).val (i 2).val))
  (h1 : Holds (s := S1x128) x1 (fun i => wq (i 1).val)) (h2 : Holds (s := S1x128) x2 (fun i => wk (i 1).val))
  (h3 : Holds (s := S4096x2048) x3 (fun i => g (i 0).val (i 1).val))

/-- The part of a row's gradient that comes through its mean square. -/
def thru (x dy : ℕ → ℕ → ℝ) (w : ℕ → ℝ) (t : ℕ) : ℝ := ((∑ e ∈ range 128, x t e * (dy t e * w e)) * (-(1 / 2) * (rr x t / msq x t))) / 128

theorem rr_sq (x : ℕ → ℕ → ℝ) (t : ℕ) : rr x t * rr x t = (msq x t)⁻¹ := by
  show (√(msq x t))⁻¹ * (√(msq x t))⁻¹ = _
  rw [← mul_inv, Real.mul_self_sqrt (msq_pos x t).le]

theorem back_eq (x dy : ℕ → ℕ → ℝ) (w : ℕ → ℝ) (t d : ℕ) :
    dy t d * w d * rr x t + x t d * thru x dy w t + thru x dy w t * x t d = back x dy w t d := by
  have e : ∑ e ∈ range 128, dy t e * w e * nrm x t e = (∑ e ∈ range 128, x t e * (dy t e * w e)) * rr x t := by
    rw [Finset.sum_mul]
    exact Finset.sum_congr rfl fun k _ => by unfold nrm; ring
  unfold back thru
  rw [e, div_eq_mul_inv (rr x t) (msq x t), ← rr_sq]
  unfold nrm
  ring

section Rows
include h0 h1 h2 h3
theorem v80_is : Holds (s := S4096x16x128) (val_main_v80 (F := Ideal) x0 x1 x2 x3) (fun i => hDK a wq wk g (i 1).val (i 0).val (i 2).val) := fun i =>
  (val_main_v80_apply x0 x1 x2 x3 i).trans ((val_main_v79_apply x0 x1 x2 x3 _).trans (sum_mul_coe _ _ (fun t => zg a wq wk g (i 1).val t (i 0).val) (fun t => qh a wq (i 1).val t (i 2).val)
    (fun k => v78_is h0 h1 h2 h3 _) (fun k => v25_is h0 h1 _)))
theorem v82_is : Holds (s := S4096x16x128) (val_main_v82 (F := Ideal) x0 x1 x2 x3) (fun i => hDQ a wq wk g (i 1).val (i 0).val (i 2).val) := fun i =>
  (val_main_v82_apply x0 x1 x2 x3 i).trans ((val_main_v81_apply x0 x1 x2 x3 _).trans (sum_mul_coe _ _ (fun s => zg a wq wk g (i 1).val (i 0).val s) (fun s => kh a wk (i 1).val s (i 2).val)
    (fun k => v78_is h0 h1 h2 h3 _) (fun k => v41_is h0 h2 _)))
end Rows

section Keys
include h0 h1 h2 h3
theorem v84_is : Holds (s := S128) (val_main_v84 (F := Ideal) x0 x1 x2 x3) (fun i => ∑ t ∈ range 4096, ∑ h ∈ range 16, nrm (hd a (16 + h)) t (i 0).val * hDK a wq wk g h t (i 0).val) :=
  Holds.lead (a := 4096) (b := 16) (c := 128) (φ := .f32) (x := fun t h d => nrm (hd a (16 + h)) t d * hDK a wq wk g h t d)
    (Holds.mul (s := S4096x16x128) (φ := .f32) (v38_is h0) (v80_is h0 h1 h2 h3)) S_ _ h_S_ zero_word reducesTo_S4096x16x128_S128_d0_1
theorem v85_is : Holds (s := S1x1x128) (val_main_v85 (F := Ideal) x0 x1 x2 x3) (fun i => ansGK a wq wk g (i 2).val) := fun i => by
  refine (val_main_v85_apply x0 x1 x2 x3 i).trans ((v84_is h0 h1 h2 h3 _).trans (congrArg Real.toEReal ?_))
  have l0 : (i 0).val < 1 := (i 0).isLt
  have l1 : (i 1).val < 1 := (i 1).isLt
  have e : ((i 0).val * 1 + (i 1).val) * 128 + (i 2).val = (i 2).val := by omega
  show (∑ t ∈ range 4096, ∑ h ∈ range 16, nrm (hd a (16 + h)) t (((i 0).val * 1 + (i 1).val) * 128 + (i 2).val) * hDK a wq wk g h t (((i 0).val * 1 + (i 1).val) * 128 + (i 2).val)) = _
  rw [e, Finset.sum_comm]
  exact Finset.sum_congr rfl fun h _ => Finset.sum_congr rfl fun t _ => mul_comm _ _
theorem v132_is : Holds (s := S1x128) (val_main_v132 (F := Ideal) x0 x1 x2 x3) (fun i => ansGK a wq wk g (i 1).val) := fun i => by
  refine (val_main_v132_apply x0 x1 x2 x3 i).trans (((Holds.lead (a := 1) (b := 1) (c := 128) (φ := .f32) (X := val_main_v85 (F := Ideal) x0 x1 x2 x3) (x := fun t h d => ansGK a wq wk g d)
    (v85_is h0 h1 h2 h3) S_ (val_main_cst_12 (F := Ideal)) h_S_ zero_word reducesTo_S1x1x128_S128_d0_1) _).trans (congrArg Real.toEReal ?_))
  show (∑ t ∈ range 1, ∑ h ∈ range 1, ansGK a wq wk g (i 1).val) = _
  rw [Finset.sum_range_one, Finset.sum_range_one]
theorem v87_is : Holds (s := S4096x16x128) (val_main_v87 (F := Ideal) x0 x1 x2 x3) (fun i => hDK a wq wk g (i 1).val (i 0).val (i 2).val * wk (i 2).val) :=
  Holds.mul (s := S4096x16x128) (φ := .f32) (v80_is h0 h1 h2 h3) (fun i => (val_main_v86_apply x2 i).trans (v39_is h2 _))
theorem v90_is : Holds (s := S4096x16) (val_main_v90 (F := Ideal) x0 x1 x2 x3)
    (fun i => ∑ d ∈ range 128, hd a (16 + (i 1).val) (i 0).val d * (hDK a wq wk g (i 1).val (i 0).val d * wk d)) := fun i =>
  (val_main_v90_apply x0 x1 x2 x3 i).trans (zero_add_sum_coe _ (zero_word _) _ (fun d => hd a (16 + (i 1).val) (i 0).val d * (hDK a wq wk g (i 1).val (i 0).val d * wk d))
    fun k => Holds.mul (s := S4096x16x128) (φ := .f32) (v6_is h0) (v87_is h0 h1 h2 h3) (idx_main_v90 i k))
theorem v91_is : Holds (s := S4096x16x1) (val_main_v91 (F := Ideal) x0 x1 x2 x3)
    (fun i => ∑ d ∈ range 128, hd a (16 + (i 1).val) (i 0).val d * (hDK a wq wk g (i 1).val (i 0).val d * wk d)) := fun i => by
  refine (val_main_v91_apply x0 x1 x2 x3 i).trans ((v90_is h0 h1 h2 h3 _).trans (congrArg Real.toEReal ?_))
  have l0 : (i 0).val < 4096 := (i 0).isLt
  have l1 : (i 1).val < 16 := (i 1).isLt
  have l2 : (i 2).val < 1 := (i 2).isLt
  exact at2 (fun t h => ∑ d ∈ range 128, hd a (16 + h) t d * (hDK a wq wk g h t d * wk d)) (show (((i 0).val * 16 + (i 1).val) * 1 + (i 2).val) / 16 = (i 0).val by omega)
    (show (((i 0).val * 16 + (i 1).val) * 1 + (i 2).val) % 16 = (i 1).val by omega)
theorem v96_is : Holds (s := S4096x16x1) (val_main_v96 (F := Ideal) x0 x1 x2 x3) (fun i => thru (hd a (16 + (i 1).val)) (hDK a wq wk g (i 1).val) wk (i 0).val) :=
  Holds.div (s := S4096x16x1) (φ := .f32) (Holds.mul (s := S4096x16x1) (φ := .f32) (v91_is h0 h1 h2 h3) (v36_is h0)) (g := fun _ => 128)
    (fun i => (val_main_v95_apply i).trans w128_word) (fun _ => by norm_num)
theorem v97_is : Holds (s := S4096x16) (val_main_v97 (F := Ideal) x0 x1 x2 x3) (fun i => thru (hd a (16 + (i 1).val)) (hDK a wq wk g (i 1).val) wk (i 0).val) := fun i => by
  refine (val_main_v97_apply x0 x1 x2 x3 i).trans ?_
  have e : ∀ k : Fin 1, val_main_v96 (F := Ideal) x0 x1 x2 x3 (idx_main_v97 i k) = ((thru (hd a (16 + (i 1).val)) (hDK a wq wk g (i 1).val) wk (i 0).val : ℝ) : EReal) := fun k => v96_is h0 h1 h2 h3 (idx_main_v97 i k)
  rw [Fin.sum_univ_one, e]
  refine (congrArg (· + _) (zero_word _)).trans (zero_add _)
theorem v98_is : Holds (s := S4096x16x128) (val_main_v98 (F := Ideal) x0 x1 x2 x3) (fun i => thru (hd a (16 + (i 1).val)) (hDK a wq wk g (i 1).val) wk (i 0).val) := fun i =>
  (val_main_v98_apply x0 x1 x2 x3 i).trans (v97_is h0 h1 h2 h3 _)
theorem v102_is : Holds (s := S4096x16x128) (val_main_v102 (F := Ideal) x0 x1 x2 x3) (fun i => back (hd a (16 + (i 1).val)) (hDK a wq wk g (i 1).val) wk (i 0).val (i 2).val) :=
  (Holds.add (s := S4096x16x128) (φ := .f32) (Holds.add (s := S4096x16x128) (φ := .f32)
    (Holds.mul (s := S4096x16x128) (φ := .f32) (v87_is h0 h1 h2 h3) (fun i => (val_main_v92_apply x0 i).trans (v33_is h0 _)))
    (Holds.mul (s := S4096x16x128) (φ := .f32) (v6_is h0) (v98_is h0 h1 h2 h3))) (Holds.mul (s := S4096x16x128) (φ := .f32) (v98_is h0 h1 h2 h3) (v6_is h0))).congr fun i =>
    back_eq (hd a (16 + (i 1).val)) (hDK a wq wk g (i 1).val) wk (i 0).val (i 2).val
end Keys

section Queries
include h0 h1 h2 h3
theorem v104_is : Holds (s := S128) (val_main_v104 (F := Ideal) x0 x1 x2 x3) (fun i => ∑ t ∈ range 4096, ∑ h ∈ range 16, nrm (hd a h) t (i 0).val * hDQ a wq wk g h t (i 0).val) :=
  Holds.lead (a := 4096) (b := 16) (c := 128) (φ := .f32) (x := fun t h d => nrm (hd a h) t d * hDQ a wq wk g h t d)
    (Holds.mul (s := S4096x16x128) (φ := .f32) (v22_is h0) (v82_is h0 h1 h2 h3)) S_ _ h_S_ zero_word reducesTo_S4096x16x128_S128_d0_1
theorem v105_is : Holds (s := S1x1x128) (val_main_v105 (F := Ideal) x0 x1 x2 x3) (fun i => ansGQ a wq wk g (i 2).val) := fun i => by
  refine (val_main_v105_apply x0 x1 x2 x3 i).trans ((v104_is h0 h1 h2 h3 _).trans (congrArg Real.toEReal ?_))
  have l0 : (i 0).val < 1 := (i 0).isLt
  have l1 : (i 1).val < 1 := (i 1).isLt
  have e : ((i 0).val * 1 + (i 1).val) * 128 + (i 2).val = (i 2).val := by omega
  show (∑ t ∈ range 4096, ∑ h ∈ range 16, nrm (hd a h) t (((i 0).val * 1 + (i 1).val) * 128 + (i 2).val) * hDQ a wq wk g h t (((i 0).val * 1 + (i 1).val) * 128 + (i 2).val)) = _
  rw [e, Finset.sum_comm]
  exact Finset.sum_congr rfl fun h _ => Finset.sum_congr rfl fun t _ => mul_comm _ _
theorem v131_is : Holds (s := S1x128) (val_main_v131 (F := Ideal) x0 x1 x2 x3) (fun i => ansGQ a wq wk g (i 1).val) := fun i => by
  refine (val_main_v131_apply x0 x1 x2 x3 i).trans (((Holds.lead (a := 1) (b := 1) (c := 128) (φ := .f32) (X := val_main_v105 (F := Ideal) x0 x1 x2 x3) (x := fun t h d => ansGQ a wq wk g d)
    (v105_is h0 h1 h2 h3) S_ (val_main_cst_17 (F := Ideal)) h_S_ zero_word reducesTo_S1x1x128_S128_d0_1) _).trans (congrArg Real.toEReal ?_))
  show (∑ t ∈ range 1, ∑ h ∈ range 1, ansGQ a wq wk g (i 1).val) = _
  rw [Finset.sum_range_one, Finset.sum_range_one]
theorem v107_is : Holds (s := S4096x16x128) (val_main_v107 (F := Ideal) x0 x1 x2 x3) (fun i => hDQ a wq wk g (i 1).val (i 0).val (i 2).val * wq (i 2).val) :=
  Holds.mul (s := S4096x16x128) (φ := .f32) (v82_is h0 h1 h2 h3) (fun i => (val_main_v106_apply x1 i).trans (v23_is h1 _))
theorem v110_is : Holds (s := S4096x16) (val_main_v110 (F := Ideal) x0 x1 x2 x3)
    (fun i => ∑ d ∈ range 128, hd a (i 1).val (i 0).val d * (hDQ a wq wk g (i 1).val (i 0).val d * wq d)) := fun i =>
  (val_main_v110_apply x0 x1 x2 x3 i).trans (zero_add_sum_coe _ (zero_word _) _ (fun d => hd a (i 1).val (i 0).val d * (hDQ a wq wk g (i 1).val (i 0).val d * wq d))
    fun k => Holds.mul (s := S4096x16x128) (φ := .f32) (v5_is h0) (v107_is h0 h1 h2 h3) (idx_main_v110 i k))
theorem v111_is : Holds (s := S4096x16x1) (val_main_v111 (F := Ideal) x0 x1 x2 x3)
    (fun i => ∑ d ∈ range 128, hd a (i 1).val (i 0).val d * (hDQ a wq wk g (i 1).val (i 0).val d * wq d)) := fun i => by
  refine (val_main_v111_apply x0 x1 x2 x3 i).trans ((v110_is h0 h1 h2 h3 _).trans (congrArg Real.toEReal ?_))
  have l0 : (i 0).val < 4096 := (i 0).isLt
  have l1 : (i 1).val < 16 := (i 1).isLt
  have l2 : (i 2).val < 1 := (i 2).isLt
  exact at2 (fun t h => ∑ d ∈ range 128, hd a h t d * (hDQ a wq wk g h t d * wq d)) (show (((i 0).val * 16 + (i 1).val) * 1 + (i 2).val) / 16 = (i 0).val by omega)
    (show (((i 0).val * 16 + (i 1).val) * 1 + (i 2).val) % 16 = (i 1).val by omega)
theorem v116_is : Holds (s := S4096x16x1) (val_main_v116 (F := Ideal) x0 x1 x2 x3) (fun i => thru (hd a (i 1).val) (hDQ a wq wk g (i 1).val) wq (i 0).val) :=
  Holds.div (s := S4096x16x1) (φ := .f32) (Holds.mul (s := S4096x16x1) (φ := .f32) (v111_is h0 h1 h2 h3) (v20_is h0)) (g := fun _ => 128)
    (fun i => (val_main_v115_apply i).trans w128_word) (fun _ => by norm_num)
theorem v117_is : Holds (s := S4096x16) (val_main_v117 (F := Ideal) x0 x1 x2 x3) (fun i => thru (hd a (i 1).val) (hDQ a wq wk g (i 1).val) wq (i 0).val) := fun i => by
  refine (val_main_v117_apply x0 x1 x2 x3 i).trans ?_
  have e : ∀ k : Fin 1, val_main_v116 (F := Ideal) x0 x1 x2 x3 (idx_main_v117 i k) = ((thru (hd a (i 1).val) (hDQ a wq wk g (i 1).val) wq (i 0).val : ℝ) : EReal) := fun k => v116_is h0 h1 h2 h3 (idx_main_v117 i k)
  rw [Fin.sum_univ_one, e]
  refine (congrArg (· + _) (zero_word _)).trans (zero_add _)
theorem v118_is : Holds (s := S4096x16x128) (val_main_v118 (F := Ideal) x0 x1 x2 x3) (fun i => thru (hd a (i 1).val) (hDQ a wq wk g (i 1).val) wq (i 0).val) := fun i =>
  (val_main_v118_apply x0 x1 x2 x3 i).trans (v117_is h0 h1 h2 h3 _)
theorem v122_is : Holds (s := S4096x16x128) (val_main_v122 (F := Ideal) x0 x1 x2 x3) (fun i => back (hd a (i 1).val) (hDQ a wq wk g (i 1).val) wq (i 0).val (i 2).val) :=
  (Holds.add (s := S4096x16x128) (φ := .f32) (Holds.add (s := S4096x16x128) (φ := .f32)
    (Holds.mul (s := S4096x16x128) (φ := .f32) (v107_is h0 h1 h2 h3) (fun i => (val_main_v112_apply x0 i).trans (v17_is h0 _)))
    (Holds.mul (s := S4096x16x128) (φ := .f32) (v5_is h0) (v118_is h0 h1 h2 h3))) (Holds.mul (s := S4096x16x128) (φ := .f32) (v118_is h0 h1 h2 h3) (v5_is h0))).congr fun i =>
    back_eq (hd a (i 1).val) (hDQ a wq wk g (i 1).val) wq (i 0).val (i 2).val
end Queries

section Result
include h0 h1 h2 h3
omit h0 h1 h2 h3 in
theorem cut_is {X : (⟨S4096x16x128, .f32⟩ : BufTy).Contents (Elt Ideal)} {f : ℕ → ℕ → ℕ → ℝ} (hX : Holds (s := S4096x16x128) X (fun i => f (i 1).val (i 0).val (i 2).val)) (i : S4096x2048.Idx) :
    X (idx_main_v123 i) = ((f ((i 1).val / 128) (i 0).val ((i 1).val % 128) : ℝ) : EReal) := by
  refine (hX _).trans (congrArg Real.toEReal ?_)
  have l0 : (i 0).val < 4096 := (i 0).isLt
  have l1 : (i 1).val < 2048 := (i 1).isLt
  exact at3 f (show ((i 0).val * 2048 + (i 1).val) / 128 % 16 = (i 1).val / 128 by omega) (show ((i 0).val * 2048 + (i 1).val) / 2048 = (i 0).val by omega)
    (show ((i 0).val * 2048 + (i 1).val) % 128 = (i 1).val % 128 by omega)

omit h0 h1 h2 h3 in
/-- Three pages on top of each other. -/
theorem pages {X0 X1 X2 : FVec Ideal S1x4096x2048 .f32} (h : Shape.Concatenates [S1x4096x2048, S1x4096x2048, S1x4096x2048] S3x4096x2048 0)
    {f : ℕ → ℕ → ℕ → ℝ} (e0 : Holds (s := S1x4096x2048) X0 (fun i => f 0 (i 1).val (i 2).val)) (e1 : Holds (s := S1x4096x2048) X1 (fun i => f 1 (i 1).val (i 2).val))
    (e2 : Holds (s := S1x4096x2048) X2 (fun i => f 2 (i 1).val (i 2).val)) :
    Holds (s := S3x4096x2048) (concatenate S3x4096x2048 0 [⟨S1x4096x2048, X0⟩, ⟨S1x4096x2048, X1⟩, ⟨S1x4096x2048, X2⟩] h) (fun i => f (i 0).val (i 1).val (i 2).val) := fun i => by
  have hlt : (i 0).val < 3 := (i 0).isLt
  have key : ∀ (k : ℕ) (hk : k < 3) (Xk : FVec Ideal S1x4096x2048 .f32),
      ([⟨S1x4096x2048, X0⟩, ⟨S1x4096x2048, X1⟩, ⟨S1x4096x2048, X2⟩] : List ((s : Shape) × (s.Idx → Ideal .f32)))[k]'hk = ⟨S1x4096x2048, Xk⟩ →
      Holds (s := S1x4096x2048) Xk (fun i => f k (i 1).val (i 2).val) →
      (((([⟨S1x4096x2048, X0⟩, ⟨S1x4096x2048, X1⟩, ⟨S1x4096x2048, X2⟩] : List ((s : Shape) × (s.Idx → Ideal .f32))).take k).map (·.1)).map
        fun s => if h : s.rank = S3x4096x2048.rank then s.size ((0 : Fin S3x4096x2048.rank).cast h.symm) else 0).sum = k →
      (i 0).val = k →
      concatenate S3x4096x2048 0 [⟨S1x4096x2048, X0⟩, ⟨S1x4096x2048, X1⟩, ⟨S1x4096x2048, X2⟩] h i = ((f (i 0).val (i 1).val (i 2).val : ℝ) : EReal) := by
    intro k hk Xk e hXk hs hi
    have := concatenate_apply_piece (t := S3x4096x2048) (α := Ideal .f32) 0 [⟨S1x4096x2048, X0⟩, ⟨S1x4096x2048, X1⟩, ⟨S1x4096x2048, X2⟩] h i k hk S1x4096x2048 Xk e rfl k hs
      (ix3 (n0 := 1) (n1 := 4096) (n2 := 2048) 0 (i 1) (i 2)) (fun b hb => by
        match b with
        | ⟨0, _⟩ => exact absurd rfl hb
        | ⟨1, _⟩ => rfl
        | ⟨2, _⟩ => rfl) (by show k + 0 = (i 0).val; omega)
    rw [this, hi]
    exact hXk _
  rcases (by omega : (i 0).val = 0 ∨ (i 0).val = 1 ∨ (i 0).val = 2) with c | c | c
  · exact key 0 (by omega) X0 rfl e0 rfl c
  · exact key 1 (by omega) X1 rfl e1 rfl c
  · exact key 2 (by omega) X2 rfl e2 rfl c

theorem v130_is : Holds (s := S3x4096x2048) (val_main_v130 (F := Ideal) x0 x1 x2 x3) (fun i => ansD3 a wq wk g (i 0).val (i 1).val (i 2).val) :=
  Holds.trunc (s := S3x4096x2048) (φ := .f32) (ψ := .bf16) (pages _ (f := ansD3 a wq wk g)
    (fun i => (val_main_v126_apply x0 x1 x2 x3 i).trans ((val_main_v123_apply x0 x1 x2 x3 _).trans (cut_is (f := fun h => back (hd a h) (hDQ a wq wk g h) wq) (v122_is h0 h1 h2 h3) _)))
    (fun i => (val_main_v127_apply x0 x1 x2 x3 i).trans ((val_main_v124_apply x0 x1 x2 x3 _).trans (cut_is (f := fun h => back (hd a (16 + h)) (hDK a wq wk g h) wk) (v102_is h0 h1 h2 h3) _)))
    (fun i => (val_main_v128_apply x0 x1 x2 x3 i).trans ((val_main_v125_apply x0 x1 x2 x3 _).trans (cut_is (f := hDV a wq wk g) (v66_is h0 h1 h2 h3) _)))) bitsLt_bf16_f32
end Result

end Cert.ReferenceIdeal.Real
-- ==== Proof.Value.Equal.lean ====
/- The equation: the kernel's results are the reference's, as extended reals. -/
module

public import proofs.«01_k».proof.Defs
public import proofs.«01_k».proof.Proof.Value.Finite
public import proofs.«01_k».proof.Proof.Value.RefOut
public import proofs.«01_k».proof.Proof.Gen.ReferenceIdeal.Run

@[expose] public section

set_option maxRecDepth 16384

noncomputable section

namespace Cert.KernelIdeal

open Idealize.ShloMosaic Idealize.ShloMosaic.TcCoe Cert.KernelIdeal.Gen
open Idealize.SL.Sem
open Cert.Reals

/-- The kernel's results, and its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c : Thread nD τ).loc main_v56_0) = (dats m 0 c).arrAt 7 cfg0.N
        ∧ r.2.mem ((c : Thread nD τ).loc main_v56_1) = (dats m 0 c).arrAt 8 cfg0.N
        ∧ r.2.mem ((c : Thread nD τ).loc main_v56_2) = (dats m 0 c).arrAt 9 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨⟨(h.1.1 c).1 7, (h.1.1 c).1 8, (h.1.1 c).1 9⟩, h.2 c⟩) (θ_run_and (run_main m ρ) (unchanged m ρ))

end Cert.KernelIdeal

namespace Cert.Proof

open Idealize.ShloMosaic Idealize.ShloMosaic.TcCoe
open Idealize.SL.Sem
open Cert.Reals

theorem equal : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hpre hargs
  refine ⟨fun c => (Cert.KernelIdeal.dats m 0 c).arrAt 7 Cert.KernelIdeal.cfg0.N, fun c => (Cert.KernelIdeal.dats m 0 c).arrAt 8 Cert.KernelIdeal.cfg0.N,
    fun c => (Cert.KernelIdeal.dats m 0 c).arrAt 9 Cert.KernelIdeal.cfg0.N, ?_, ?_⟩
  · exact (θ_run Cert.KernelIdeal.defs _ _).mono (fun _ h c => ⟨(h c).1.1, (h c).1.2.1, (h c).1.2.2, (h c).2⟩) (Cert.KernelIdeal.kernel_run m g)
  · refine (θ_run Cert.ReferenceIdeal.defs _ _).mono (fun _ h c => ?_) (Cert.ReferenceIdeal.Value.run m' g')
    obtain ⟨a, wq, wk, gg, H⟩ := Cert.KernelIdeal.args_of_pre hpre c
    obtain ⟨e0, e1, e2, e3⟩ := hargs c
    have h0 : Holds (s := Cert.ReferenceIdeal.S8x4096x768) (m' ((c.tc : Thread Cert.ReferenceIdeal.nD Cert.ReferenceIdeal.τ).loc Cert.ReferenceIdeal.main_arg0)) (fun i => a (i 0).val (i 1).val (i 2).val) :=
      fun i => (congrFun e0 i).trans (H.q i)
    have h1 : Holds (s := Cert.ReferenceIdeal.S1x128) (m' ((c.tc : Thread Cert.ReferenceIdeal.nD Cert.ReferenceIdeal.τ).loc Cert.ReferenceIdeal.main_arg1)) (fun i => wq (i 1).val) :=
      fun i => (congrFun e1 i).trans (H.gq i)
    have h2 : Holds (s := Cert.ReferenceIdeal.S1x128) (m' ((c.tc : Thread Cert.ReferenceIdeal.nD Cert.ReferenceIdeal.τ).loc Cert.ReferenceIdeal.main_arg2)) (fun i => wk (i 1).val) :=
      fun i => (congrFun e2 i).trans (H.gk i)
    have h3 : Holds (s := Cert.ReferenceIdeal.S4096x2048) (m' ((c.tc : Thread Cert.ReferenceIdeal.nD Cert.ReferenceIdeal.τ).loc Cert.ReferenceIdeal.main_arg3)) (fun i => gg (i 0).val (i 1).val) :=
      fun i => (congrFun e3 i).trans (H.g i)
    have r := h c
    refine ⟨r.1.trans ((Cert.ReferenceIdeal.Read.val_main_v130_eq _).trans ?_), r.2.1.trans ((Cert.ReferenceIdeal.Read.val_main_v131_eq _).trans ?_),
      r.2.2.1.trans ((Cert.ReferenceIdeal.Read.val_main_v132_eq _).trans ?_), r.2.2.2⟩
    · exact (funext (Cert.ReferenceIdeal.Real.v130_is h0 h1 h2 h3)).trans (Cert.KernelIdeal.final_d3 H).symm
    · exact (funext (Cert.ReferenceIdeal.Real.v131_is h0 h1 h2 h3)).trans (Cert.KernelIdeal.final_gq H).symm
    · exact (funext (Cert.ReferenceIdeal.Real.v132_is h0 h1 h2 h3)).trans (Cert.KernelIdeal.final_gk H).symm

end Cert.Proof
-- ==== Proof.FeedForward.Products.lean ====
/- Products of arrays of extended reals read at one place, a block with a leading axis of one, and a sum cut in parts. -/
module

public import proofs.«01_k».proof.Proof.Value.Ops

@[expose] public section

noncomputable section

namespace Cert.Reals

open Idealize.ShloMosaic Idealize.ShloMosaic.ValueIdx
open scoped BigOperators

variable {n m k : ℕ} {φ ψ : FTy}

/-- The shape of `a` pages of `n` rows and `m` columns. -/
abbrev Pages (a n m : ℕ) : Shape := ⟨3, ![a, n, m]⟩

/-- Columns by columns, at one place. -/
theorem columns_apply {X : FVec Ideal (Sh k n) φ} {Y : FVec Ideal (Sh k m) ψ}
    (D : DotDims (Sh k n) (Sh k m) (Sh n m)) (hr : D.contr.rank = 1) (hs : D.contr.size ⟨0, by omega⟩ = k)
    (hl : ∀ (i : (Sh n m).Idx) (j : D.contr.Idx), (D.lhsIdx i j 0).val = (j ⟨0, by omega⟩).val ∧ (D.lhsIdx i j 1).val = (i 0).val)
    (hR : ∀ (i : (Sh n m).Idx) (j : D.contr.Idx), (D.rhsIdx i j 0).val = (j ⟨0, by omega⟩).val ∧ (D.rhsIdx i j 1).val = (i 1).val)
    (prec : Option ContractPrecision) (r : Fin n) (c : Fin m) :
    matmul D prec X Y (constant (Sh n m) .f32 0x00000000#32) (ix2 r c) = ∑ d : Fin k, (X (ix2 d r) * Y (ix2 d c) : EReal) := by
  show FloatOps.matmul D prec X Y (constant (Sh n m) .f32 0x00000000#32) (ix2 r c) = _
  rw [Ideal.matmul_apply, ← Equiv.sum_comp (contrEquiv1 D k hr hs).symm]
  show Ideal.ofBits .f32 0x00000000#32 + _ = _
  rw [Ideal.ofBits_zero_f32, zero_add]
  refine Finset.sum_congr rfl fun d _ => ?_
  have hk := contrEquiv1_symm_val D k hr hs d
  have el : D.lhsIdx (ix2 r c) ((contrEquiv1 D k hr hs).symm d) = ix2 d r := funext fun a => Fin.ext (by
    match a with
    | ⟨0, _⟩ => exact (hl _ _).1.trans hk
    | ⟨1, _⟩ => exact (hl _ _).2)
  have er : D.rhsIdx (ix2 r c) ((contrEquiv1 D k hr hs).symm d) = ix2 d c := funext fun a => Fin.ext (by
    match a with
    | ⟨0, _⟩ => exact (hR _ _).1.trans hk
    | ⟨1, _⟩ => exact (hR _ _).2)
  rw [el, er]

/-- Rows by rows, at one place. -/
theorem rows_apply {X : FVec Ideal (Sh n k) φ} {Y : FVec Ideal (Sh m k) ψ}
    (D : DotDims (Sh n k) (Sh m k) (Sh n m)) (hD : D = DotDims.transposedRhs n k m) (prec : Option ContractPrecision) (r : Fin n) (c : Fin m) :
    matmul D prec X Y (constant (Sh n m) .f32 0x00000000#32) (ix2 r c) = ∑ d : Fin k, (X (ix2 r d) * Y (ix2 c d) : EReal) := by
  subst hD
  show FloatOps.matmul (DotDims.transposedRhs n k m) prec X Y (constant (Sh n m) .f32 0x00000000#32) (ix2 r c) = _
  rw [Ideal.matmul_transposedRhs_apply]
  show Ideal.ofBits .f32 0x00000000#32 + _ = _
  rw [Ideal.ofBits_zero_f32, zero_add]

/-- Rows by columns, at one place. -/
theorem rows_columns_apply {X : FVec Ideal (Sh n k) φ} {Y : FVec Ideal (Sh k m) ψ}
    (D : DotDims (Sh n k) (Sh k m) (Sh n m)) (hD : D = DotDims.plain n k m) (prec : Option ContractPrecision) (r : Fin n) (c : Fin m) :
    matmul D prec X Y (constant (Sh n m) .f32 0x00000000#32) (ix2 r c) = ∑ d : Fin k, (X (ix2 r d) * Y (ix2 d c) : EReal) := by
  subst hD
  show FloatOps.matmul (DotDims.plain n k m) prec X Y (constant (Sh n m) .f32 0x00000000#32) (ix2 r c) = _
  rw [Ideal.matmul_plain_apply]
  show Ideal.ofBits .f32 0x00000000#32 + _ = _
  rw [Ideal.ofBits_zero_f32, zero_add]

/-- A single page read as an array of two axes. -/
theorem page_apply {α : Type} (X : (Pages 1 n m).Idx → α) (h : (Pages 1 n m).ShapeCasts (Sh n m)) (r : Fin n) (c : Fin m) :
    shapeCast (Sh n m) X h (ix2 r c) = X (ix3 0 r c) :=
  shapeCast_apply _ h (ix2 r c) (ix3 0 r c) (by
    rw [Shape.rowMajor_val_two, Shape.rowMajor_val_three]
    show (0 * n + r.val) * m + c.val = r.val * m + c.val
    rw [Nat.zero_mul, Nat.zero_add])

/-- An array of two axes made a single page. -/
theorem paged_apply {α : Type} (X : (Sh n m).Idx → α) (h : (Sh n m).ShapeCasts (Pages 1 n m)) (u : Fin 1) (r : Fin n) (c : Fin m) :
    shapeCast (Pages 1 n m) X h (ix3 u r c) = X (ix2 r c) :=
  shapeCast_apply _ h (ix3 u r c) (ix2 r c) (by
    rw [Shape.rowMajor_val_two, Shape.rowMajor_val_three]
    show r.val * m + c.val = (u.val * n + r.val) * m + c.val
    have := u.isLt
    obtain h : u.val = 0 := by omega
    rw [h, Nat.zero_mul, Nat.zero_add])

/-- A place of a single page. -/
theorem of_page (y : (Pages 1 n m).Idx) : ∃ (r : Fin n) (q : Fin m), y = ix3 (0 : Fin 1) r q :=
  ⟨y 1, y 2, funext fun a => by
    match a with
    | ⟨0, _⟩ => exact Fin.ext (Nat.lt_one_iff.mp (y 0).isLt)
    | ⟨1, _⟩ => rfl
    | ⟨2, _⟩ => rfl⟩

/-- A sum over 4096 tokens is the sum of its two halves. -/
theorem halves (f : Fin 4096 → EReal) :
    (∑ d : Fin 2048, f ⟨d.val, by omega⟩) + (∑ d : Fin 2048, f ⟨2048 + d.val, by omega⟩) = ∑ d : Fin 4096, f d :=
  (Fin.sum_univ_add (a := 2048) (b := 2048) f).symm

end Cert.Reals

end
-- ==== Proof.FeedForward.Down.lean ====
/- The gradient of the down projection's weights: what the kernel accumulates is the sum over all tokens. -/
module

public import proofs.«01_k».proof.Defs
public import proofs.«01_k».proof.Proof.FeedForward.Products
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry

@[expose] public section

set_option maxRecDepth 16384

noncomputable section

namespace Cert.Kernel3Ideal.Sums

open Idealize.ShloMosaic Idealize.ShloMosaic.TcCoe Idealize.ShloMosaic.Tactic Idealize.ShloMosaic.ValueIdx
open Cert.Kernel3Ideal Cert.Kernel3Ideal.Gen Cert.Kernel3Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

section Cases
variable (c : Dev nD) (i : grid0.Coords) (a3 : Memref sig .tc .vmem S1x2048x704 .bf16) (h3 : a3.IsWhole) (a4 : Memref sig .tc .vmem S2048x1024 .bf16) (h4 : a4.IsWhole)
  (a5 : Memref sig .tc .vmem S1x704x1024 .f32) (h5 : a5.IsWhole) (a6 : Memref sig .tc .vmem S704x1024 .f32) (h6 : a6.IsWhole)
  (x : Vec Ideal S1x2048x704 .bf16) (d : Vec Ideal S2048x1024 .bf16)

/-- The first half of the tokens leaves its product, added to zero. -/
theorem first (hc0 : cond0_0 i) (hc1 : ¬cond0_1 i) :
    sout0_A_0 c i a3 h3 a4 h4 a5 h5 a6 h6 hc0 hc1 x d = k0_pay2 x (k0_pay1 (F := Ideal)) d := by
  unfold sout0_A_0
  rw [View.read_writes_eq_canon _ _ _ (scover0_A_0 c i a3 h3 a4 h4 a5 h5 a6 h6 hc0 hc1 x d)]
  unfold kernelRun0_A
  dsimp only
  sl_unfold_words
  rw [View.canon_cons_unit_zero (S := S704x1024) off2, View.readCov_unit_zero (S := S704x1024) _ off2]
  simp only [View.readAt_eq_ld, h3.read_unread, h4.read_unread, View.ld_unit_zero (S := S2048x1024) off2, View.ld_unit_zero (S := S1x2048x704) off3]

/-- The second half adds its product and hands the sum on. -/
theorem second (hc0 : ¬cond0_0 i) (hc1 : cond0_1 i) (s : Vec Ideal S704x1024 .f32) :
    out0_B_2 c i a3 h3 a4 h4 a5 h5 a6 h6 hc0 hc1 x d s = k0_pay3 (k0_pay2 x s d) := by
  unfold out0_B_2
  rw [View.read_writes_eq_canon _ _ _ (cover0_B_2 c i a3 h3 a4 h4 a5 h5 a6 h6 hc0 hc1 x d s)]
  unfold kernelRun0_B
  dsimp only
  sl_unfold_words
  rw [View.canon_unit_zero (S := S1x704x1024) off3, View.readCov_unit_zero (S := S704x1024) _ off2]
  simp only [View.readAt_eq_ld, h3.read_unread, h4.read_unread, h6.read_unread, View.ld_unit_zero (S := S2048x1024) off2, View.ld_unit_zero (S := S1x2048x704) off3,
    View.ld_unit_zero (S := S704x1024) off2]

end Cases

/-- One step at one place: what was there and a sum over half of the tokens. -/
theorem step_apply (x : Vec Ideal S1x2048x704 .bf16) (s : Vec Ideal S704x1024 .f32) (d : Vec Ideal S2048x1024 .bf16) (r : Fin 704) (q : Fin 1024) :
    k0_pay2 x s d (ix2 r q) = (s (ix2 r q) + ∑ k : Fin 2048, x (ix3 0 k r) * d (ix2 k q) : EReal) := by
  unfold k0_pay2
  rw [shapeCast_self]
  exact congrArg (fun z : EReal => s (ix2 r q) + z)
    ((columns_apply (φ := .bf16) (ψ := .bf16) (n := 704) (m := 1024) (k := 2048) dot_S2048x704_S2048x1024_S704x1024_0_0_1_1_n_n rfl rfl (fun _ _ => ⟨rfl, rfl⟩) (fun _ _ => ⟨rfl, rfl⟩) none r q).trans
      (Finset.sum_congr rfl fun k _ => congrArg (fun z : EReal => z * d (ix2 k q)) (page_apply (n := 2048) (m := 704) x shapeCasts_S1x2048x704_S2048x704 k r)))

theorem zero_apply (r : Fin 704) (q : Fin 1024) : k0_pay1 (F := Ideal) (ix2 r q) = (0 : EReal) := by
  unfold k0_pay1
  rw [shapeCast_self]
  exact Ideal.ofBits_zero_f32

theorem idx0 : ∀ t : Fin cfg0.N, win0_0.index t = ![t.val / 4, t.val % 2, 0] := (by decide +kernel : ∀ t : Fin grid0.N, _)
theorem idx1 : ∀ t : Fin cfg0.N, win0_1.index t = ![t.val % 2, t.val / 2 % 2] := (by decide +kernel : ∀ t : Fin grid0.N, _)

variable (m : (ℓ : Loc nD τ sig) → Buf (Elt Ideal) ℓ) (c : Dev nD)

/-- The activations, and the cotangent. -/
abbrev act : S8x4096x704.Idx → EReal := m ((c : Thread nD τ).loc main_arg0)
abbrev cot : S4096x2048.Idx → EReal := m ((c : Thread nD τ).loc main_arg1)

theorem block0 (t : Fin cfg0.N) (k : Fin 2048) (r : Fin 704) (j : S8x4096x704.Idx)
    (e0 : (j 0).val = t.val / 4) (e1 : (j 1).val = t.val % 2 * 2048 + k.val) (e2 : (j 2).val = r.val) :
    iblk m c 0 t (ix3 0 k r) = act m c j := by
  have e : iblk m c 0 t (ix3 0 k r) = m ((c : Thread nD τ).loc main_arg0) ((win0_0.blk t).view.emb (ix3 0 k r)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]
  | ⟨2, _⟩ => refine Eq.trans ?_ e2.symm; blk_simp [idx0]

theorem block1 (t : Fin cfg0.N) (k : Fin 2048) (q : Fin 1024) (j : S4096x2048.Idx)
    (e0 : (j 0).val = t.val % 2 * 2048 + k.val) (e1 : (j 1).val = t.val / 2 % 2 * 1024 + q.val) :
    iblk m c 1 t (ix2 k q) = cot m c j := by
  have e : iblk m c 1 t (ix2 k q) = m ((c : Thread nD τ).loc main_arg1) ((win0_1.blk t).view.emb (ix2 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]

/-- What the kernel leaves at one place of its result: the sum over all tokens. -/
theorem result_apply (i : S8x704x2048.Idx) :
    G2 m c i = (∑ t : Fin 4096, act m c (ix3 (i 0) t (i 1)) * cot m c (ix2 t (i 2)) : EReal) := by
  obtain ⟨a, r, q, rfl⟩ : ∃ (a : Fin 8) (r : Fin 704) (q : Fin 2048), i = ix3 a r q := ⟨i 0, i 1, i 2, eq_ix3 i⟩
  have ha := a.isLt
  have hr := r.isLt
  have hq := q.isLt
  have hN : cfg0.N = 32 := N_0
  have hrun : run2Of (ix3 a r q) = 2 * a.val + q.val / 1024 := by
    show 2 * (a.val / 1 - 0) + 2 * (r.val / 704 - 0) + 1 * (q.val / 1024 - 0) = _
    omega
  have hp : pt2Of (ix3 a r q) = 2 * (2 * a.val + q.val / 1024) + 1 := by
    show 2 * run2Of (ix3 a r q) + 1 = _
    rw [hrun]
  have hloc : loc2Of (ix3 a r q) = ix3 (0 : Fin 1) r (⟨q.val % 1024, by omega⟩ : Fin 1024) := funext fun b => Fin.ext (by
    match b with
    | ⟨0, _⟩ => exact Nat.mod_one _
    | ⟨1, _⟩ => exact Nat.mod_eq_of_lt hr
    | ⟨2, _⟩ => rfl)
  generalize hn : 2 * (2 * a.val + q.val / 1024) = n at hp
  have h1 : n + 1 < cfg0.N := by omega
  have h0 : n < cfg0.N := by omega
  unfold G2
  rw [dif_pos (by rw [hp]; exact h1), fold0_congr m c _ _ _ (by omega) hp, ← outsAt0_sweep m c (n + 1) h1, hloc]
  rw [outsAt0_B m c ⟨n + 1, h1⟩ (by dsimp only; omega) (by dsimp only; omega)]
  dsimp only
  rw [second]
  have e : (outsAt0 m c n h0).2 = k0_pay2 (iblk m c 0 ⟨n, h0⟩) (k0_pay1 (F := Ideal)) (iblk m c 1 ⟨n, h0⟩) := by
    rw [outsAt0_A m c ⟨n, h0⟩ (by dsimp only; omega) (by dsimp only; omega)]
    dsimp only
    rw [first]
  show k0_pay3 (k0_pay2 _ (outsAt0 m c n h0).2 _) _ = _
  rw [e]
  unfold k0_pay3
  rw [paged_apply (n := 704) (m := 1024), step_apply, step_apply, zero_apply, zero_add]
  refine Eq.trans ?_ (halves _)
  refine congrArg₂ (· + ·) (Finset.sum_congr rfl fun k _ => ?_) (Finset.sum_congr rfl fun k _ => ?_)
  · have hk := k.isLt
    rw [block0 m c ⟨n, h0⟩ k r (ix3 a ⟨k.val, by omega⟩ r) (by show a.val = n / 4; omega) (by show k.val = n % 2 * 2048 + k.val; omega) rfl,
      block1 m c ⟨n, h0⟩ k _ (ix2 ⟨k.val, by omega⟩ q) (by show k.val = n % 2 * 2048 + k.val; omega) (by show q.val = n / 2 % 2 * 1024 + q.val % 1024; omega)]
  · have hk := k.isLt
    rw [block0 m c ⟨n + 1, h1⟩ k r (ix3 a ⟨2048 + k.val, by omega⟩ r) (by show a.val = (n + 1) / 4; omega) (by show 2048 + k.val = (n + 1) % 2 * 2048 + k.val; omega) rfl,
      block1 m c ⟨n + 1, h1⟩ k _ (ix2 ⟨2048 + k.val, by omega⟩ q) (by show 2048 + k.val = (n + 1) % 2 * 2048 + k.val; omega) (by show q.val = (n + 1) / 2 % 2 * 1024 + q.val % 1024; omega)]

end Cert.Kernel3Ideal.Sums

namespace Cert.Proof

open Idealize.ShloMosaic Idealize.ShloMosaic.TcCoe Idealize.ShloMosaic.ValueIdx
open Idealize.SL.Sem
open scoped BigOperators

/-- The gradient of the down projection's weights is the reference's. -/
theorem equal_down : Cert.algebraic_Kernel3Ideal_Reference3Ideal (hKernel3Ideal := Cert.Kernel3Ideal.Gen.facts) (hReference3Ideal := Cert.Reference3Ideal.Gen.facts) := by
  intro m g m' g' hpre hargs
  refine ⟨fun c => Cert.Kernel3Ideal.Value.G2 m c, Cert.Kernel3Ideal.Value.run m g, ?_⟩
  refine (θ_run Cert.Reference3Ideal.defs _ _).mono (fun _ h c => ?_) (Cert.Reference3Ideal.Value.run m' g')
  obtain ⟨e0, e1⟩ := hargs c
  refine ⟨(h c).1.trans ((Cert.Reference3Ideal.Read.val_main_v5_eq _ _).trans (funext fun i => ?_)), (h c).2⟩
  show _ = Cert.Kernel3Ideal.Value.G2 m c i
  rw [Cert.Reference3Ideal.Read.val_main_v5_apply, Cert.Reference3Ideal.Read.val_main_v4_apply, Cert.Kernel3Ideal.Sums.result_apply, e0, e1]
  exact Finset.sum_congr (M := EReal) rfl fun k _ => (mul_comm (G := EReal) _ _).trans
    (congrArg₂ (fun x y : EReal => x * y) (congrArg (Cert.Kernel3Ideal.Sums.act m c) (funext fun a => match a with
      | ⟨0, _⟩ => rfl
      | ⟨1, _⟩ => rfl
      | ⟨2, _⟩ => rfl)) (congrArg (Cert.Kernel3Ideal.Sums.cot m c) (funext fun a => match a with
      | ⟨0, _⟩ => rfl
      | ⟨1, _⟩ => rfl)))

end Cert.Proof
-- ==== Proof.FeedForward.GateUp.lean ====
/- The gradients of the gate and up projections' weights: what the kernel accumulates are the sums over all tokens. -/
module

public import proofs.«01_k».proof.Defs
public import proofs.«01_k».proof.Proof.FeedForward.Products
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Geometry

@[expose] public section

set_option maxRecDepth 16384

noncomputable section

namespace Cert.Kernel2Ideal.Sums

open Idealize.ShloMosaic Idealize.ShloMosaic.TcCoe Idealize.ShloMosaic.Tactic Idealize.ShloMosaic.ValueIdx
open Cert.Kernel2Ideal Cert.Kernel2Ideal.Gen Cert.Kernel2Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

section Cases
variable (c : Dev nD) (i : grid0.Coords) (a3 : Memref sig .tc .vmem S2048x1024 .bf16) (h3 : a3.IsWhole) (a4 : Memref sig .tc .vmem S1x2048x704 .bf16) (h4 : a4.IsWhole)
  (a5 : Memref sig .tc .vmem S1x2048x704 .bf16) (h5 : a5.IsWhole) (a6 : Memref sig .tc .vmem S1x1024x704 .f32) (h6 : a6.IsWhole)
  (a7 : Memref sig .tc .vmem S1x1024x704 .f32) (h7 : a7.IsWhole) (a8 : Memref sig .tc .vmem S1024x704 .f32) (h8 : a8.IsWhole)
  (a9 : Memref sig .tc .vmem S1024x704 .f32) (h9 : a9.IsWhole)
  (x : Vec Ideal S2048x1024 .bf16) (g u : Vec Ideal S1x2048x704 .bf16)

/-- The first half of the tokens leaves, for the gate, its product added to zero. -/
theorem first_gate (hc0 : cond0_0 i) (hc1 : ¬cond0_1 i) (hc2 : cond0_2 i) (hc3 : ¬cond0_3 i) :
    sout0_A_0 c i a3 h3 a4 h4 a5 h5 a6 h6 a7 h7 a8 h8 a9 h9 hc0 hc1 hc2 hc3 x g u = k0_pay3 x (k0_pay2 (F := Ideal)) g := by
  unfold sout0_A_0
  rw [View.read_writes_eq_canon _ _ _ (scover0_A_0 c i a3 h3 a4 h4 a5 h5 a6 h6 a7 h7 a8 h8 a9 h9 hc0 hc1 hc2 hc3 x g u)]
  unfold kernelRun0_A
  dsimp only
  sl_unfold_words
  rw [View.canon_cons_unit_zero (S := S1024x704) off2, View.readCov_unit_zero (S := S1024x704) _ off2]
  simp only [View.readAt_eq_ld, h3.read_unread, h4.read_unread, h5.read_unread, View.ld_unit_zero (S := S2048x1024) off2, View.ld_unit_zero (S := S1x2048x704) off3]

/-- The first half of the tokens leaves, for the up projection, its product added to zero. -/
theorem first_up (hc0 : cond0_0 i) (hc1 : ¬cond0_1 i) (hc2 : cond0_2 i) (hc3 : ¬cond0_3 i) :
    sout0_A_1 c i a3 h3 a4 h4 a5 h5 a6 h6 a7 h7 a8 h8 a9 h9 hc0 hc1 hc2 hc3 x g u = k0_pay6 x (k0_pay5 (F := Ideal)) u := by
  unfold sout0_A_1
  rw [View.read_writes_eq_canon _ _ _ (scover0_A_1 c i a3 h3 a4 h4 a5 h5 a6 h6 a7 h7 a8 h8 a9 h9 hc0 hc1 hc2 hc3 x g u)]
  unfold kernelRun0_A
  dsimp only
  sl_unfold_words
  rw [View.canon_cons_unit_zero (S := S1024x704) off2, View.readCov_unit_zero (S := S1024x704) _ off2]
  simp only [View.readAt_eq_ld, h3.read_unread, h4.read_unread, h5.read_unread, View.ld_unit_zero (S := S2048x1024) off2, View.ld_unit_zero (S := S1x2048x704) off3]

/-- The second half adds its product and hands the gate's sum on. -/
theorem second_gate (hc0 : ¬cond0_0 i) (hc1 : cond0_1 i) (hc2 : ¬cond0_2 i) (hc3 : cond0_3 i) (s s' : Vec Ideal S1024x704 .f32) :
    out0_B_3 c i a3 h3 a4 h4 a5 h5 a6 h6 a7 h7 a8 h8 a9 h9 hc0 hc1 hc2 hc3 x g u s s' = k0_pay4 (k0_pay3 x s g) := by
  unfold out0_B_3
  rw [View.read_writes_eq_canon _ _ _ (cover0_B_3 c i a3 h3 a4 h4 a5 h5 a6 h6 a7 h7 a8 h8 a9 h9 hc0 hc1 hc2 hc3 x g u s s')]
  unfold kernelRun0_B
  dsimp only
  sl_unfold_words
  rw [View.canon_unit_zero (S := S1x1024x704) off3, View.readCov_unit_zero (S := S1024x704) _ off2]
  simp only [View.readAt_eq_ld, h3.read_unread, h4.read_unread, h5.read_unread, h8.read_unread, h9.read_unread, View.ld_unit_zero (S := S2048x1024) off2, View.ld_unit_zero (S := S1x2048x704) off3,
    View.ld_unit_zero (S := S1024x704) off2]

/-- The second half adds its product and hands the up projection's sum on. -/
theorem second_up (hc0 : ¬cond0_0 i) (hc1 : cond0_1 i) (hc2 : ¬cond0_2 i) (hc3 : cond0_3 i) (s s' : Vec Ideal S1024x704 .f32) :
    out0_B_4 c i a3 h3 a4 h4 a5 h5 a6 h6 a7 h7 a8 h8 a9 h9 hc0 hc1 hc2 hc3 x g u s s' = k0_pay1 (k0_pay6 x s' u) := by
  unfold out0_B_4
  rw [View.read_writes_eq_canon _ _ _ (cover0_B_4 c i a3 h3 a4 h4 a5 h5 a6 h6 a7 h7 a8 h8 a9 h9 hc0 hc1 hc2 hc3 x g u s s')]
  unfold kernelRun0_B
  dsimp only
  sl_unfold_words
  rw [View.canon_unit_zero (S := S1x1024x704) off3, View.readCov_unit_zero (S := S1024x704) _ off2]
  simp only [View.readAt_eq_ld, h3.read_unread, h4.read_unread, h5.read_unread, h8.read_unread, h9.read_unread, View.ld_unit_zero (S := S2048x1024) off2, View.ld_unit_zero (S := S1x2048x704) off3,
    View.ld_unit_zero (S := S1024x704) off2]

end Cases

/-- One step at one place: what was there and a sum over half of the tokens. -/
theorem step_apply (x : Vec Ideal S2048x1024 .bf16) (s : Vec Ideal S1024x704 .f32) (g : Vec Ideal S1x2048x704 .bf16) (r : Fin 1024) (q : Fin 704) :
    k0_pay3 x s g (ix2 r q) = (s (ix2 r q) + ∑ k : Fin 2048, x (ix2 k r) * g (ix3 0 k q) : EReal) := by
  unfold k0_pay3
  rw [shapeCast_self]
  exact congrArg (fun z : EReal => s (ix2 r q) + z)
    ((columns_apply (φ := .bf16) (ψ := .bf16) (n := 1024) (m := 704) (k := 2048) dot_S2048x1024_S2048x704_S1024x704_0_0_1_1_n_n rfl rfl (fun _ _ => ⟨rfl, rfl⟩) (fun _ _ => ⟨rfl, rfl⟩) none r q).trans
      (Finset.sum_congr rfl fun k _ => congrArg (fun z : EReal => x (ix2 k r) * z) (page_apply (n := 2048) (m := 704) g shapeCasts_S1x2048x704_S2048x704 k q)))

theorem zero_apply (r : Fin 1024) (q : Fin 704) : k0_pay2 (F := Ideal) (ix2 r q) = (0 : EReal) := by
  unfold k0_pay2
  rw [shapeCast_self]
  exact Ideal.ofBits_zero_f32

/-- Both projections take the same steps. -/
theorem same_step : k0_pay6 (F := Ideal) = k0_pay3 := rfl
theorem same_zero : k0_pay5 (F := Ideal) = k0_pay2 := rfl
theorem same_out : k0_pay1 (F := Ideal) = k0_pay4 := rfl

theorem idx0 : ∀ t : Fin cfg0.N, win0_0.index t = ![t.val % 2, t.val / 2 % 2] := (by decide +kernel : ∀ t : Fin grid0.N, _)
theorem idx1 : ∀ t : Fin cfg0.N, win0_1.index t = ![t.val / 4, t.val % 2, 0] := (by decide +kernel : ∀ t : Fin grid0.N, _)
theorem idx2 : ∀ t : Fin cfg0.N, win0_2.index t = ![t.val / 4, t.val % 2, 0] := (by decide +kernel : ∀ t : Fin grid0.N, _)

variable (m : (ℓ : Loc nD τ sig) → Buf (Elt Ideal) ℓ) (c : Dev nD)

/-- The normed activations, and the cotangents of the gate and of the up projection. -/
abbrev act : S4096x2048.Idx → EReal := m ((c : Thread nD τ).loc main_arg0)
abbrev cotGate : S8x4096x704.Idx → EReal := m ((c : Thread nD τ).loc main_arg1)
abbrev cotUp : S8x4096x704.Idx → EReal := m ((c : Thread nD τ).loc main_arg2)

theorem block0 (t : Fin cfg0.N) (k : Fin 2048) (r : Fin 1024) (j : S4096x2048.Idx)
    (e0 : (j 0).val = t.val % 2 * 2048 + k.val) (e1 : (j 1).val = t.val / 2 % 2 * 1024 + r.val) :
    iblk m c 0 t (ix2 k r) = act m c j := by
  have e : iblk m c 0 t (ix2 k r) = m ((c : Thread nD τ).loc main_arg0) ((win0_0.blk t).view.emb (ix2 k r)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 2048) (q : Fin 704) (j : S8x4096x704.Idx)
    (e0 : (j 0).val = t.val / 4) (e1 : (j 1).val = t.val % 2 * 2048 + k.val) (e2 : (j 2).val = q.val) :
    iblk m c 1 t (ix3 0 k q) = cotGate m c j := by
  have e : iblk m c 1 t (ix3 0 k q) = m ((c : Thread nD τ).loc main_arg1) ((win0_1.blk t).view.emb (ix3 0 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

theorem block2 (t : Fin cfg0.N) (k : Fin 2048) (q : Fin 704) (j : S8x4096x704.Idx)
    (e0 : (j 0).val = t.val / 4) (e1 : (j 1).val = t.val % 2 * 2048 + k.val) (e2 : (j 2).val = q.val) :
    iblk m c 2 t (ix3 0 k q) = cotUp m c j := by
  have e : iblk m c 2 t (ix3 0 k q) = m ((c : Thread nD τ).loc main_arg2) ((win0_2.blk t).view.emb (ix3 0 k q)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]
  | ⟨2, _⟩ => refine Eq.trans ?_ e2.symm; blk_simp [idx2]

/-- What the kernel leaves at one place of the gate's result: the sum over all tokens. -/
theorem gate_apply (i : S8x2048x704.Idx) :
    G3 m c i = (∑ t : Fin 4096, act m c (ix2 t (i 1)) * cotGate m c (ix3 (i 0) t (i 2)) : EReal) := by
  obtain ⟨a, r, q, rfl⟩ : ∃ (a : Fin 8) (r : Fin 2048) (q : Fin 704), i = ix3 a r q := ⟨i 0, i 1, i 2, eq_ix3 i⟩
  have ha := a.isLt
  have hr := r.isLt
  have hq := q.isLt
  have hN : cfg0.N = 32 := N_0
  have hrun : run3Of (ix3 a r q) = 2 * a.val + r.val / 1024 := by
    show 2 * (a.val / 1 - 0) + 1 * (r.val / 1024 - 0) + 1 * (q.val / 704 - 0) = _
    omega
  have hp : pt3Of (ix3 a r q) = 2 * (2 * a.val + r.val / 1024) + 1 := by
    show 2 * run3Of (ix3 a r q) + 1 = _
    rw [hrun]
  have hloc : loc3Of (ix3 a r q) = ix3 (0 : Fin 1) (⟨r.val % 1024, by omega⟩ : Fin 1024) q := funext fun b => Fin.ext (by
    match b with
    | ⟨0, _⟩ => exact Nat.mod_one _
    | ⟨1, _⟩ => rfl
    | ⟨2, _⟩ => exact Nat.mod_eq_of_lt hq)
  generalize hn : 2 * (2 * a.val + r.val / 1024) = n at hp
  have h1 : n + 1 < cfg0.N := by omega
  have h0 : n < cfg0.N := by omega
  unfold G3
  rw [dif_pos (by rw [hp]; exact h1), fold0_congr m c _ _ _ (by omega) hp, ← outsAt0_sweep m c (n + 1) h1, hloc]
  rw [outsAt0_B m c ⟨n + 1, h1⟩ (by dsimp only; omega) (by dsimp only; omega) (by dsimp only; omega) (by dsimp only; omega)]
  dsimp only
  rw [second_gate]
  have e : (outsAt0 m c n h0).2.2.1 = k0_pay3 (iblk m c 0 ⟨n, h0⟩) (k0_pay2 (F := Ideal)) (iblk m c 1 ⟨n, h0⟩) := by
    rw [outsAt0_A m c ⟨n, h0⟩ (by dsimp only; omega) (by dsimp only; omega) (by dsimp only; omega) (by dsimp only; omega)]
    dsimp only
    rw [first_gate]
  show k0_pay4 (k0_pay3 _ (outsAt0 m c n h0).2.2.1 _) _ = _
  rw [e]
  unfold k0_pay4
  rw [paged_apply (n := 1024) (m := 704), step_apply, step_apply, zero_apply, zero_add]
  refine Eq.trans ?_ (halves _)
  refine congrArg₂ (· + ·) (Finset.sum_congr rfl fun k _ => ?_) (Finset.sum_congr rfl fun k _ => ?_)
  · have hk := k.isLt
    rw [block0 m c ⟨n, h0⟩ k _ (ix2 ⟨k.val, by omega⟩ r) (by show k.val = n % 2 * 2048 + k.val; omega) (by show r.val = n / 2 % 2 * 1024 + r.val % 1024; omega),
      block1 m c ⟨n, h0⟩ k q (ix3 a ⟨k.val, by omega⟩ q) (by show a.val = n / 4; omega) (by show k.val = n % 2 * 2048 + k.val; omega) rfl]
  · have hk := k.isLt
    rw [block0 m c ⟨n + 1, h1⟩ k _ (ix2 ⟨2048 + k.val, by omega⟩ r) (by show 2048 + k.val = (n + 1) % 2 * 2048 + k.val; omega) (by show r.val = (n + 1) / 2 % 2 * 1024 + r.val % 1024; omega),
      block1 m c ⟨n + 1, h1⟩ k q (ix3 a ⟨2048 + k.val, by omega⟩ q) (by show a.val = (n + 1) / 4; omega) (by show 2048 + k.val = (n + 1) % 2 * 2048 + k.val; omega) rfl]

/-- What the kernel leaves at one place of the up projection's result: the sum over all tokens. -/
theorem up_apply (i : S8x2048x704.Idx) :
    G4 m c i = (∑ t : Fin 4096, act m c (ix2 t (i 1)) * cotUp m c (ix3 (i 0) t (i 2)) : EReal) := by
  obtain ⟨a, r, q, rfl⟩ : ∃ (a : Fin 8) (r : Fin 2048) (q : Fin 704), i = ix3 a r q := ⟨i 0, i 1, i 2, eq_ix3 i⟩
  have ha := a.isLt
  have hr := r.isLt
  have hq := q.isLt
  have hN : cfg0.N = 32 := N_0
  have hrun : run4Of (ix3 a r q) = 2 * a.val + r.val / 1024 := by
    show 2 * (a.val / 1 - 0) + 1 * (r.val / 1024 - 0) + 1 * (q.val / 704 - 0) = _
    omega
  have hp : pt4Of (ix3 a r q) = 2 * (2 * a.val + r.val / 1024) + 1 := by
    show 2 * run4Of (ix3 a r q) + 1 = _
    rw [hrun]
  have hloc : loc4Of (ix3 a r q) = ix3 (0 : Fin 1) (⟨r.val % 1024, by omega⟩ : Fin 1024) q := funext fun b => Fin.ext (by
    match b with
    | ⟨0, _⟩ => exact Nat.mod_one _
    | ⟨1, _⟩ => rfl
    | ⟨2, _⟩ => exact Nat.mod_eq_of_lt hq)
  generalize hn : 2 * (2 * a.val + r.val / 1024) = n at hp
  have h1 : n + 1 < cfg0.N := by omega
  have h0 : n < cfg0.N := by omega
  unfold G4
  rw [dif_pos (by rw [hp]; exact h1), fold0_congr m c _ _ _ (by omega) hp, ← outsAt0_sweep m c (n + 1) h1, hloc]
  rw [outsAt0_B m c ⟨n + 1, h1⟩ (by dsimp only; omega) (by dsimp only; omega) (by dsimp only; omega) (by dsimp only; omega)]
  dsimp only
  rw [second_up]
  have e : (outsAt0 m c n h0).2.2.2 = k0_pay6 (iblk m c 0 ⟨n, h0⟩) (k0_pay5 (F := Ideal)) (iblk m c 2 ⟨n, h0⟩) := by
    rw [outsAt0_A m c ⟨n, h0⟩ (by dsimp only; omega) (by dsimp only; omega) (by dsimp only; omega) (by dsimp only; omega)]
    dsimp only
    rw [first_up]
  show k0_pay1 (k0_pay6 _ (outsAt0 m c n h0).2.2.2 _) _ = _
  rw [e, same_out, same_step, same_zero]
  unfold k0_pay4
  rw [paged_apply (n := 1024) (m := 704), step_apply, step_apply, zero_apply, zero_add]
  refine Eq.trans ?_ (halves _)
  refine congrArg₂ (· + ·) (Finset.sum_congr rfl fun k _ => ?_) (Finset.sum_congr rfl fun k _ => ?_)
  · have hk := k.isLt
    rw [block0 m c ⟨n, h0⟩ k _ (ix2 ⟨k.val, by omega⟩ r) (by show k.val = n % 2 * 2048 + k.val; omega) (by show r.val = n / 2 % 2 * 1024 + r.val % 1024; omega),
      block2 m c ⟨n, h0⟩ k q (ix3 a ⟨k.val, by omega⟩ q) (by show a.val = n / 4; omega) (by show k.val = n % 2 * 2048 + k.val; omega) rfl]
  · have hk := k.isLt
    rw [block0 m c ⟨n + 1, h1⟩ k _ (ix2 ⟨2048 + k.val, by omega⟩ r) (by show 2048 + k.val = (n + 1) % 2 * 2048 + k.val; omega) (by show r.val = (n + 1) / 2 % 2 * 1024 + r.val % 1024; omega),
      block2 m c ⟨n + 1, h1⟩ k q (ix3 a ⟨2048 + k.val, by omega⟩ q) (by show a.val = (n + 1) / 4; omega) (by show 2048 + k.val = (n + 1) % 2 * 2048 + k.val; omega) rfl]

end Cert.Kernel2Ideal.Sums

namespace Cert.Proof

open Idealize.ShloMosaic Idealize.ShloMosaic.TcCoe Idealize.ShloMosaic.ValueIdx
open Idealize.SL.Sem
open scoped BigOperators

/-- The gradients of the gate and up projections' weights are the reference's. -/
theorem equal_gate_up : Cert.algebraic_Kernel2Ideal_Reference2Ideal (hKernel2Ideal := Cert.Kernel2Ideal.Gen.facts) (hReference2Ideal := Cert.Reference2Ideal.Gen.facts) := by
  intro m g m' g' hpre hargs
  refine ⟨fun c => Cert.Kernel2Ideal.Value.G3 m c, fun c => Cert.Kernel2Ideal.Value.G4 m c, Cert.Kernel2Ideal.Value.run m g, ?_⟩
  refine (θ_run Cert.Reference2Ideal.defs _ _).mono (fun _ h c => ?_) (Cert.Reference2Ideal.Value.run m' g')
  obtain ⟨e0, e1, e2⟩ := hargs c
  refine ⟨(h c).1.trans ((Cert.Reference2Ideal.Read.val_main_v14_eq _ _).trans (funext fun i => ?_)),
    (h c).2.1.trans ((Cert.Reference2Ideal.Read.val_main_v11_eq _ _).trans (funext fun i => ?_)), (h c).2.2⟩
  · show _ = Cert.Kernel2Ideal.Value.G3 m c i
    rw [Cert.Reference2Ideal.Read.val_main_v14_apply, Cert.Reference2Ideal.Read.val_main_v13_apply, Cert.Kernel2Ideal.Sums.gate_apply, e0, e1]
    exact Finset.sum_congr (M := EReal) rfl fun k _ => (congrArg (fun z : EReal => z * _) (Cert.Reference2Ideal.Read.val_main_v12_apply (F := Ideal) _ _)).trans ((mul_comm (G := EReal) _ _).trans
      (congrArg₂ (fun x y : EReal => x * y) (congrArg (Cert.Kernel2Ideal.Sums.act m c) (funext fun a => match a with
        | ⟨0, _⟩ => rfl
        | ⟨1, _⟩ => rfl)) (congrArg (Cert.Kernel2Ideal.Sums.cotGate m c) (funext fun a => match a with
        | ⟨0, _⟩ => rfl
        | ⟨1, _⟩ => rfl
        | ⟨2, _⟩ => rfl))))
  · show _ = Cert.Kernel2Ideal.Value.G4 m c i
    rw [Cert.Reference2Ideal.Read.val_main_v11_apply, Cert.Reference2Ideal.Read.val_main_v10_apply, Cert.Kernel2Ideal.Sums.up_apply, e0, e2]
    exact Finset.sum_congr (M := EReal) rfl fun k _ => (congrArg (fun z : EReal => z * _) (Cert.Reference2Ideal.Read.val_main_v9_apply (F := Ideal) _ _)).trans ((mul_comm (G := EReal) _ _).trans
      (congrArg₂ (fun x y : EReal => x * y) (congrArg (Cert.Kernel2Ideal.Sums.act m c) (funext fun a => match a with
        | ⟨0, _⟩ => rfl
        | ⟨1, _⟩ => rfl)) (congrArg (Cert.Kernel2Ideal.Sums.cotUp m c) (funext fun a => match a with
        | ⟨0, _⟩ => rfl
        | ⟨1, _⟩ => rfl
        | ⟨2, _⟩ => rfl))))

end Cert.Proof
-- ==== Proof.FeedForward.Input.lean ====
/- The gradient of the feed-forward layer's input: what the kernel accumulates is the sum over all shards and columns. -/
module

public import proofs.«01_k».proof.Defs
public import proofs.«01_k».proof.Proof.FeedForward.Products
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Geometry
public import Idealize.ShloMosaic.Lib.TwoAxisContraction
public import Idealize.ShloMosaic.Lib.Pipeline.ValueKit.Tiles
public import Mathlib.Tactic.Abel

@[expose] public section

set_option maxRecDepth 16384

noncomputable section

namespace Cert.Kernel4Ideal.Sums

open Idealize.ShloMosaic Idealize.ShloMosaic.TcCoe Idealize.ShloMosaic.Tactic Idealize.ShloMosaic.ValueIdx
open Cert.Kernel4Ideal Cert.Kernel4Ideal.Gen Cert.Kernel4Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

/-- The two shards of a block. -/
abbrev page0 (x : Vec Ideal S2x1024x704 .bf16) : Vec Ideal S1x1024x704 .bf16 := View.ld x (Rect.unit ![0, 0, 0] ![1, 1024, 704] inb_S2x1024x704_S1x1024x704_0_0_0)
abbrev page1 (x : Vec Ideal S2x1024x704 .bf16) : Vec Ideal S1x1024x704 .bf16 := View.ld x (Rect.unit ![1, 0, 0] ![1, 1024, 704] inb_S2x1024x704_S1x1024x704_1_0_0)

/-- One step over two shards, from what was there. -/
abbrev step (s : Vec Ideal S1024x1024 .f32) (x y v w : Vec Ideal S2x1024x704 .bf16) : Vec Ideal S1024x1024 .f32 :=
  k0_pay1 s (k0_pay3 (page0 x) (page0 v) (page0 y) (page0 w)) (k0_pay4 (page1 x) (page1 v)) (k0_pay5 (page1 y)) (page1 w)

section Cases
variable (c : Dev nD) (i : grid0.Coords) (a3 : Memref sig .tc .vmem S2x1024x704 .bf16) (h3 : a3.IsWhole) (a4 : Memref sig .tc .vmem S2x1024x704 .bf16) (h4 : a4.IsWhole)
  (a5 : Memref sig .tc .vmem S2x1024x704 .bf16) (h5 : a5.IsWhole) (a6 : Memref sig .tc .vmem S2x1024x704 .bf16) (h6 : a6.IsWhole)
  (a7 : Memref sig .tc .vmem S1024x1024 .f32) (h7 : a7.IsWhole) (a8 : Memref sig .tc .vmem S1024x1024 .f32) (h8 : a8.IsWhole)
  (x y v w : Vec Ideal S2x1024x704 .bf16)

/-- The first two shards leave their products, added to zero. -/
theorem first (hc0 : cond0_0 i) (hc1 : ¬cond0_1 i) :
    sout0_A_0 c i a3 h3 a4 h4 a5 h5 a6 h6 a7 h7 a8 h8 hc0 hc1 x y v w = step (k0_pay2 (F := Ideal)) x y v w := by
  unfold sout0_A_0
  rw [View.read_writes_eq_canon _ _ _ (scover0_A_0 c i a3 h3 a4 h4 a5 h5 a6 h6 a7 h7 a8 h8 hc0 hc1 x y v w)]
  unfold kernelRun0_A
  dsimp only
  sl_unfold_words
  rw [View.canon_cons_unit_zero (S := S1024x1024) off2, View.readCov_unit_zero (S := S1024x1024) _ off2]
  simp only [View.readAt_eq_ld, h3.read_unread, h4.read_unread, h5.read_unread, h6.read_unread, h8.read_unread, View.ld_unit_zero (S := S1024x1024) off2]

/-- The next two add theirs. -/
theorem middle (hc0 : ¬cond0_0 i) (hc1 : ¬cond0_1 i) (s : Vec Ideal S1024x1024 .f32) :
    sout0_B_0 c i a3 h3 a4 h4 a5 h5 a6 h6 a7 h7 a8 h8 hc0 hc1 x y v w s = step s x y v w := by
  unfold sout0_B_0
  rw [View.read_writes_eq_canon _ _ _ (scover0_B_0 c i a3 h3 a4 h4 a5 h5 a6 h6 a7 h7 a8 h8 hc0 hc1 x y v w s)]
  unfold kernelRun0_B
  dsimp only
  sl_unfold_words
  rw [View.canon_unit_zero (S := S1024x1024) off2]
  simp only [View.readAt_eq_ld, h3.read_unread, h4.read_unread, h5.read_unread, h6.read_unread, h8.read_unread, View.ld_unit_zero (S := S1024x1024) off2]

/-- The last two add theirs and hand the sum on. -/
theorem last (hc0 : ¬cond0_0 i) (hc1 : cond0_1 i) (s : Vec Ideal S1024x1024 .f32) :
    out0_C_4 c i a3 h3 a4 h4 a5 h5 a6 h6 a7 h7 a8 h8 hc0 hc1 x y v w s = step s x y v w := by
  unfold out0_C_4
  rw [View.read_writes_eq_canon _ _ _ (cover0_C_4 c i a3 h3 a4 h4 a5 h5 a6 h6 a7 h7 a8 h8 hc0 hc1 x y v w s)]
  unfold kernelRun0_C
  dsimp only
  sl_unfold_words
  rw [View.canon_unit_zero (S := S1024x1024) off2, View.readCov_unit_zero (S := S1024x1024) _ off2]
  simp only [View.readAt_eq_ld, h3.read_unread, h4.read_unread, h5.read_unread, h6.read_unread, h8.read_unread, View.ld_unit_zero (S := S1024x1024) off2]

end Cases

theorem page0_apply (x : Vec Ideal S2x1024x704 .bf16) (r : Fin 1024) (k : Fin 704) : page0 x (ix3 0 r k) = x (ix3 0 r k) :=
  View.ld_unit_apply_of x _ _ _ _ _ fun a => by
    match a with
    | ⟨0, _⟩ => rfl
    | ⟨1, _⟩ => exact (Nat.zero_add _).symm
    | ⟨2, _⟩ => exact (Nat.zero_add _).symm
theorem page1_apply (x : Vec Ideal S2x1024x704 .bf16) (r : Fin 1024) (k : Fin 704) : page1 x (ix3 0 r k) = x (ix3 1 r k) :=
  View.ld_unit_apply_of x _ _ _ _ _ fun a => by
    match a with
    | ⟨0, _⟩ => rfl
    | ⟨1, _⟩ => exact (Nat.zero_add _).symm
    | ⟨2, _⟩ => exact (Nat.zero_add _).symm

/-- The product of two shards' rows, at one place. -/
theorem product_apply (x v : Vec Ideal S1x1024x704 .bf16) (r q : Fin 1024) :
    (matmul (φ₁ := .bf16) (φ₂ := .bf16) dot_S1024x704_S1024x704_S1024x1024_1_1_0_0_n_n none (shapeCast S1024x704 x shapeCasts_S1x1024x704_S1024x704)
      (shapeCast S1024x704 v shapeCasts_S1x1024x704_S1024x704) (constant (F := Ideal) S1024x1024 .f32 0x00000000#32) (ix2 r q) : EReal)
      = ∑ k : Fin 704, x (ix3 0 r k) * v (ix3 0 q k) :=
  (rows_apply (φ := .bf16) (ψ := .bf16) (n := 1024) (m := 1024) (k := 704) dot_S1024x704_S1024x704_S1024x1024_1_1_0_0_n_n rfl none r q).trans
    (Finset.sum_congr (M := EReal) rfl fun k _ => congrArg₂ (fun a b : EReal => a * b)
      (page_apply (n := 1024) (m := 704) x shapeCasts_S1x1024x704_S1024x704 r k) (page_apply (n := 1024) (m := 704) v shapeCasts_S1x1024x704_S1024x704 q k))

/-- The same of one page of each block. -/
def term (x v : Vec Ideal S2x1024x704 .bf16) (j : Fin 2) (r q : Fin 1024) : EReal := ∑ k : Fin 704, (x (ix3 j r k) * v (ix3 j q k) : EReal)

/-- One step at one place. -/
theorem step_apply (s : Vec Ideal S1024x1024 .f32) (x y v w : Vec Ideal S2x1024x704 .bf16) (r q : Fin 1024) :
    (step s x y v w (ix2 r q) : EReal) = s (ix2 r q) + ((0 + (term x v 0 r q + term y w 0 r q)) + (term x v 1 r q + term y w 1 r q)) := by
  have e0 : ∀ a b : Vec Ideal S2x1024x704 .bf16, (∑ k : Fin 704, page0 a (ix3 0 r k) * page0 b (ix3 0 q k) : EReal) = term a b 0 r q :=
    fun a b => Finset.sum_congr rfl fun k _ => by rw [page0_apply, page0_apply]
  have e1 : ∀ a b : Vec Ideal S2x1024x704 .bf16, (∑ k : Fin 704, page1 a (ix3 0 r k) * page1 b (ix3 0 q k) : EReal) = term a b 1 r q :=
    fun a b => Finset.sum_congr rfl fun k _ => by rw [page1_apply, page1_apply]
  unfold step k0_pay1 k0_pay3 k0_pay4 k0_pay5
  rw [shapeCast_self]
  rw [← e0, ← e0, ← e1, ← e1, ← product_apply, ← product_apply, ← product_apply, ← product_apply, ← Ideal.ofBits_zero_f32]
  rfl

theorem zero_apply (r q : Fin 1024) : k0_pay2 (F := Ideal) (ix2 r q) = (0 : EReal) := by
  unfold k0_pay2
  rw [shapeCast_self]
  exact Ideal.ofBits_zero_f32

theorem idx0 : ∀ t : Fin cfg0.N, win0_0.index t = ![t.val % 4, t.val / 8, 0] := (by decide +kernel : ∀ t : Fin grid0.N, _)
theorem idx1 : ∀ t : Fin cfg0.N, win0_1.index t = ![t.val % 4, t.val / 8, 0] := (by decide +kernel : ∀ t : Fin grid0.N, _)
theorem idx2 : ∀ t : Fin cfg0.N, win0_2.index t = ![t.val % 4, t.val / 4 % 2, 0] := (by decide +kernel : ∀ t : Fin grid0.N, _)
theorem idx3 : ∀ t : Fin cfg0.N, win0_3.index t = ![t.val % 4, t.val / 4 % 2, 0] := (by decide +kernel : ∀ t : Fin grid0.N, _)

variable (m : (ℓ : Loc nD τ sig) → Buf (Elt Ideal) ℓ) (c : Dev nD)

/-- The cotangents of the gate and of the up projection, and the two weights. -/
abbrev cotGate : S8x4096x704.Idx → EReal := m ((c : Thread nD τ).loc main_arg0)
abbrev cotUp : S8x4096x704.Idx → EReal := m ((c : Thread nD τ).loc main_arg1)
abbrev gate : S8x2048x704.Idx → EReal := m ((c : Thread nD τ).loc main_arg2)
abbrev up : S8x2048x704.Idx → EReal := m ((c : Thread nD τ).loc main_arg3)

theorem block0 (t : Fin cfg0.N) (b : Fin 2) (r : Fin 1024) (k : Fin 704) (j : S8x4096x704.Idx)
    (e0 : (j 0).val = t.val % 4 * 2 + b.val) (e1 : (j 1).val = t.val / 8 * 1024 + r.val) (e2 : (j 2).val = k.val) :
    iblk m c 0 t (ix3 b r k) = cotGate m c j := by
  have e : iblk m c 0 t (ix3 b r k) = m ((c : Thread nD τ).loc main_arg0) ((win0_0.blk t).view.emb (ix3 b r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]
  | ⟨2, _⟩ => refine Eq.trans ?_ e2.symm; blk_simp [idx0]

theorem block1 (t : Fin cfg0.N) (b : Fin 2) (r : Fin 1024) (k : Fin 704) (j : S8x4096x704.Idx)
    (e0 : (j 0).val = t.val % 4 * 2 + b.val) (e1 : (j 1).val = t.val / 8 * 1024 + r.val) (e2 : (j 2).val = k.val) :
    iblk m c 1 t (ix3 b r k) = cotUp m c j := by
  have e : iblk m c 1 t (ix3 b r k) = m ((c : Thread nD τ).loc main_arg1) ((win0_1.blk t).view.emb (ix3 b r k)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

theorem block2 (t : Fin cfg0.N) (b : Fin 2) (r : Fin 1024) (k : Fin 704) (j : S8x2048x704.Idx)
    (e0 : (j 0).val = t.val % 4 * 2 + b.val) (e1 : (j 1).val = t.val / 4 % 2 * 1024 + r.val) (e2 : (j 2).val = k.val) :
    iblk m c 2 t (ix3 b r k) = gate m c j := by
  have e : iblk m c 2 t (ix3 b r k) = m ((c : Thread nD τ).loc main_arg2) ((win0_2.blk t).view.emb (ix3 b r k)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]
  | ⟨2, _⟩ => refine Eq.trans ?_ e2.symm; blk_simp [idx2]

theorem block3 (t : Fin cfg0.N) (b : Fin 2) (r : Fin 1024) (k : Fin 704) (j : S8x2048x704.Idx)
    (e0 : (j 0).val = t.val % 4 * 2 + b.val) (e1 : (j 1).val = t.val / 4 % 2 * 1024 + r.val) (e2 : (j 2).val = k.val) :
    iblk m c 3 t (ix3 b r k) = up m c j := by
  have e : iblk m c 3 t (ix3 b r k) = m ((c : Thread nD τ).loc main_arg3) ((win0_3.blk t).view.emb (ix3 b r k)) := by
    blk_simp [iblk]
  refine e.trans (congrArg _ (funext fun a => Fin.ext ?_))
  match a with
  | ⟨0, _⟩ => refine Eq.trans ?_ e0.symm; blk_simp [idx3]
  | ⟨1, _⟩ => refine Eq.trans ?_ e1.symm; blk_simp [idx3]
  | ⟨2, _⟩ => refine Eq.trans ?_ e2.symm; blk_simp [idx3]

/-- What one shard gives at one place, through the gate and through the up projection. -/
def viaGate (a : Fin 8) (r : Fin 4096) (q : Fin 2048) : EReal := ∑ k : Fin 704, cotGate m c (ix3 a r k) * gate m c (ix3 a q k)
def viaUp (a : Fin 8) (r : Fin 4096) (q : Fin 2048) : EReal := ∑ k : Fin 704, cotUp m c (ix3 a r k) * up m c (ix3 a q k)

theorem term_gate (t : Fin cfg0.N) (b : Fin 2) (r' q' : Fin 1024) (a : Fin 8) (r : Fin 4096) (q : Fin 2048)
    (ha : a.val = t.val % 4 * 2 + b.val) (hr : r.val = t.val / 8 * 1024 + r'.val) (hq : q.val = t.val / 4 % 2 * 1024 + q'.val) :
    term (iblk m c 0 t) (iblk m c 2 t) b r' q' = viaGate m c a r q :=
  Finset.sum_congr rfl fun k _ => by rw [block0 m c t b r' k (ix3 a r k) ha hr rfl, block2 m c t b q' k (ix3 a q k) ha hq rfl]
theorem term_up (t : Fin cfg0.N) (b : Fin 2) (r' q' : Fin 1024) (a : Fin 8) (r : Fin 4096) (q : Fin 2048)
    (ha : a.val = t.val % 4 * 2 + b.val) (hr : r.val = t.val / 8 * 1024 + r'.val) (hq : q.val = t.val / 4 % 2 * 1024 + q'.val) :
    term (iblk m c 1 t) (iblk m c 3 t) b r' q' = viaUp m c a r q :=
  Finset.sum_congr rfl fun k _ => by rw [block1 m c t b r' k (ix3 a r k) ha hr rfl, block3 m c t b q' k (ix3 a q k) ha hq rfl]

/-- What the kernel leaves at one place of its result: the sum over all shards and their columns. -/
theorem result_apply (r : Fin 4096) (q : Fin 2048) :
    G4 m c (ix2 r q) = (∑ a : Fin 8, viaUp m c a r q) + ∑ a : Fin 8, viaGate m c a r q := by
  have hr := r.isLt
  have hq := q.isLt
  have hN : cfg0.N = 32 := N_0
  have hrun : run4Of (ix2 r q) = 2 * (r.val / 1024) + q.val / 1024 := by
    show 2 * (r.val / 1024 - 0) + 1 * (q.val / 1024 - 0) = _
    omega
  have hp : pt4Of (ix2 r q) = 4 * (2 * (r.val / 1024) + q.val / 1024) + 3 := by
    show 4 * run4Of (ix2 r q) + 3 = _
    rw [hrun]
  have hloc : loc4Of (ix2 r q) = ix2 (⟨r.val % 1024, by omega⟩ : Fin 1024) (⟨q.val % 1024, by omega⟩ : Fin 1024) := funext fun b => Fin.ext (by
    match b with
    | ⟨0, _⟩ => rfl
    | ⟨1, _⟩ => rfl)
  generalize hn : 4 * (2 * (r.val / 1024) + q.val / 1024) = n at hp
  have h3 : n + 3 < cfg0.N := by omega
  have h2 : n + 2 < cfg0.N := by omega
  have h1 : n + 1 < cfg0.N := by omega
  have h0 : n < cfg0.N := by omega
  have e0 : (outsAt0 m c n h0).2 = step (k0_pay2 (F := Ideal)) (iblk m c 0 ⟨n, h0⟩) (iblk m c 1 ⟨n, h0⟩) (iblk m c 2 ⟨n, h0⟩) (iblk m c 3 ⟨n, h0⟩) := by
    rw [outsAt0_A m c ⟨n, h0⟩ (by dsimp only; omega) (by dsimp only; omega)]
    dsimp only
    rw [first]
  have e1 : (outsAt0 m c (n + 1) h1).2 = step (outsAt0 m c n h0).2 (iblk m c 0 ⟨n + 1, h1⟩) (iblk m c 1 ⟨n + 1, h1⟩) (iblk m c 2 ⟨n + 1, h1⟩) (iblk m c 3 ⟨n + 1, h1⟩) := by
    rw [outsAt0_B m c ⟨n + 1, h1⟩ (by dsimp only; omega) (by dsimp only; omega)]
    dsimp only
    rw [middle]
    rfl
  have e2 : (outsAt0 m c (n + 2) h2).2 = step (outsAt0 m c (n + 1) h1).2 (iblk m c 0 ⟨n + 2, h2⟩) (iblk m c 1 ⟨n + 2, h2⟩) (iblk m c 2 ⟨n + 2, h2⟩) (iblk m c 3 ⟨n + 2, h2⟩) := by
    rw [outsAt0_B m c ⟨n + 2, h2⟩ (by dsimp only; omega) (by dsimp only; omega)]
    dsimp only
    rw [middle]
    rfl
  have e3 : (outsAt0 m c (n + 3) h3).1 = step (outsAt0 m c (n + 2) h2).2 (iblk m c 0 ⟨n + 3, h3⟩) (iblk m c 1 ⟨n + 3, h3⟩) (iblk m c 2 ⟨n + 3, h3⟩) (iblk m c 3 ⟨n + 3, h3⟩) := by
    rw [outsAt0_C m c ⟨n + 3, h3⟩ (by dsimp only; omega) (by dsimp only; omega)]
    dsimp only
    rw [last]
    rfl
  have tg : ∀ (d p : ℕ) (hd : p < cfg0.N) (b : Fin 2) (a : Fin 8), p = n + d → d < 4 → a.val = d * 2 + b.val →
      term (iblk m c 0 ⟨p, hd⟩) (iblk m c 2 ⟨p, hd⟩) b ⟨r.val % 1024, by omega⟩ ⟨q.val % 1024, by omega⟩ = viaGate m c a r q := fun d p hd b a e h ha =>
    term_gate m c ⟨p, hd⟩ b _ _ a r q (by show a.val = p % 4 * 2 + b.val; omega) (by show r.val = p / 8 * 1024 + r.val % 1024; omega)
      (by show q.val = p / 4 % 2 * 1024 + q.val % 1024; omega)
  have tu : ∀ (d p : ℕ) (hd : p < cfg0.N) (b : Fin 2) (a : Fin 8), p = n + d → d < 4 → a.val = d * 2 + b.val →
      term (iblk m c 1 ⟨p, hd⟩) (iblk m c 3 ⟨p, hd⟩) b ⟨r.val % 1024, by omega⟩ ⟨q.val % 1024, by omega⟩ = viaUp m c a r q := fun d p hd b a e h ha =>
    term_up m c ⟨p, hd⟩ b _ _ a r q (by show a.val = p % 4 * 2 + b.val; omega) (by show r.val = p / 8 * 1024 + r.val % 1024; omega)
      (by show q.val = p / 4 % 2 * 1024 + q.val % 1024; omega)
  unfold G4
  rw [dif_pos (by rw [hp]; exact h3), fold0_congr m c _ _ _ (by omega) hp, ← outsAt0_sweep m c (n + 3) h3, hloc, e3]
  refine (step_apply _ _ _ _ _ _ _).trans ?_
  rw [e2, step_apply, e1, step_apply, e0, step_apply, zero_apply]
  rw [tg 0 _ h0 0 0 rfl (by decide) rfl, tg 0 _ h0 1 1 rfl (by decide) rfl, tg 1 _ h1 0 2 rfl (by decide) rfl, tg 1 _ h1 1 3 rfl (by decide) rfl,
    tg 2 _ h2 0 4 rfl (by decide) rfl, tg 2 _ h2 1 5 rfl (by decide) rfl, tg 3 _ h3 0 6 rfl (by decide) rfl, tg 3 _ h3 1 7 rfl (by decide) rfl]
  rw [tu 0 _ h0 0 0 rfl (by decide) rfl, tu 0 _ h0 1 1 rfl (by decide) rfl, tu 1 _ h1 0 2 rfl (by decide) rfl, tu 1 _ h1 1 3 rfl (by decide) rfl,
    tu 2 _ h2 0 4 rfl (by decide) rfl, tu 2 _ h2 1 5 rfl (by decide) rfl, tu 3 _ h3 0 6 rfl (by decide) rfl, tu 3 _ h3 1 7 rfl (by decide) rfl]
  rw [Fin.sum_univ_eight, Fin.sum_univ_eight]
  abel

end Cert.Kernel4Ideal.Sums

namespace Cert.Reference4Ideal.Sums

open Idealize.ShloMosaic Idealize.ShloMosaic.TcCoe Idealize.ShloMosaic.ValueIdx
open Cert.Reference4Ideal Cert.Reference4Ideal.Gen
open scoped BigOperators

/-- The reference's product over shards and columns, at one place. -/
theorem product_apply (X : FVec Ideal S8x704x4096 .f32) (Y : FVec Ideal S8x2048x704 .f32) (r : Fin 4096) (q : Fin 2048) :
    (Host.dotGeneral dot_S8x704x4096_S8x2048x704_S4096x2048_01_02_2_1_n_n none X Y (ix2 r q) : EReal)
      = ∑ a : Fin 8, ∑ k : Fin 704, (X (ix3 a k r) * Y (ix3 a q k) : EReal) := by
  simp only [Host.dotGeneral]
  rw [Ideal.dotGeneral_apply, sum_contr2 dot_S8x704x4096_S8x2048x704_S4096x2048_01_02_2_1_n_n 8 704 rfl rfl rfl]
  refine Finset.sum_congr rfl fun a _ => Finset.sum_congr rfl fun k _ => ?_
  have k0 := contrEquiv2_symm_val0 dot_S8x704x4096_S8x2048x704_S4096x2048_01_02_2_1_n_n 8 704 rfl rfl rfl (a, k)
  have k1 := contrEquiv2_symm_val1 dot_S8x704x4096_S8x2048x704_S4096x2048_01_02_2_1_n_n 8 704 rfl rfl rfl (a, k)
  generalize (contrEquiv2 dot_S8x704x4096_S8x2048x704_S4096x2048_01_02_2_1_n_n 8 704 rfl rfl rfl).symm (a, k) = j at k0 k1
  have el : dot_S8x704x4096_S8x2048x704_S4096x2048_01_02_2_1_n_n.lhsIdx (ix2 r q) j = ix3 a k r := funext fun b => Fin.ext (by
    match b with
    | ⟨0, _⟩ => exact k0
    | ⟨1, _⟩ => exact k1
    | ⟨2, _⟩ => rfl)
  have er : dot_S8x704x4096_S8x2048x704_S4096x2048_01_02_2_1_n_n.rhsIdx (ix2 r q) j = ix3 a q k := funext fun b => Fin.ext (by
    match b with
    | ⟨0, _⟩ => exact k0
    | ⟨1, _⟩ => rfl
    | ⟨2, _⟩ => exact k1)
  rw [el, er]

end Cert.Reference4Ideal.Sums

namespace Cert.Proof

open Idealize.ShloMosaic Idealize.ShloMosaic.TcCoe Idealize.ShloMosaic.ValueIdx
open Idealize.SL.Sem
open scoped BigOperators

/-- The gradient of the feed-forward layer's input is the reference's. -/
theorem equal_input : Cert.algebraic_Kernel4Ideal_Reference4Ideal (hKernel4Ideal := Cert.Kernel4Ideal.Gen.facts) (hReference4Ideal := Cert.Reference4Ideal.Gen.facts) := by
  intro m g m' g' hpre hargs
  refine ⟨fun c => Cert.Kernel4Ideal.Value.G4 m c, Cert.Kernel4Ideal.Value.run m g, ?_⟩
  refine (θ_run Cert.Reference4Ideal.defs _ _).mono (fun _ h c => ?_) (Cert.Reference4Ideal.Value.run m' g')
  obtain ⟨e0, e1, e2, e3⟩ := hargs c
  refine ⟨(h c).1.trans ((Cert.Reference4Ideal.Read.val_main_v13_eq _ _ _ _).trans (funext fun i => ?_)), (h c).2⟩
  show _ = Cert.Kernel4Ideal.Value.G4 m c i
  obtain ⟨r, q, rfl⟩ : ∃ (r : Fin 4096) (q : Fin 2048), i = ix2 r q := ⟨i 0, i 1, eq_ix2 i⟩
  rw [Cert.Reference4Ideal.Read.val_main_v13_apply, Cert.Kernel4Ideal.Sums.result_apply, e0, e1, e2, e3]
  refine congrArg₂ (fun x y : EReal => x + y) ((Cert.Reference4Ideal.Sums.product_apply _ _ r q).trans ?_) ((Cert.Reference4Ideal.Sums.product_apply _ _ r q).trans ?_)
  · exact Finset.sum_congr (M := EReal) rfl fun a _ => Finset.sum_congr (M := EReal) rfl fun k _ => congrArg₂ (fun x y : EReal => x * y)
      ((Cert.Reference4Ideal.Read.val_main_v9_apply (F := Ideal) _ _).trans (congrArg (Cert.Kernel4Ideal.Sums.cotUp m c) (funext fun b => match b with
        | ⟨0, _⟩ => rfl
        | ⟨1, _⟩ => rfl
        | ⟨2, _⟩ => rfl))) rfl
  · exact Finset.sum_congr (M := EReal) rfl fun a _ => Finset.sum_congr (M := EReal) rfl fun k _ => congrArg₂ (fun x y : EReal => x * y)
      ((Cert.Reference4Ideal.Read.val_main_v11_apply (F := Ideal) _ _).trans (congrArg (Cert.Kernel4Ideal.Sums.cotGate m c) (funext fun b => match b with
        | ⟨0, _⟩ => rfl
        | ⟨1, _⟩ => rfl
        | ⟨2, _⟩ => rfl))) rfl

end Cert.Proof
-- ==== Proof.FeedForward.Activation.lean ====
/- The backward pass through the activation: each tile of the two gradients is a tile of the reference. -/
module

public import proofs.«01_k».proof.Defs
public import proofs.«01_k».proof.Proof.FeedForward.Products
public import proofs.«01_k».proof.Proof.Gen.Kernel5Ideal.Value
public import proofs.«01_k».proof.Proof.Gen.Reference5Ideal.Run
public import proofs.«01_k».proof.Proof.Gen.Reference5Ideal.Read
public import proofs.«01_k».proof.Proof.Value.Finite
public import Idealize.ShloMosaic.Lib.IdealHost
public import Idealize.ShloMosaic.Lib.ReduceAll
public import Mathlib.Tactic.Ring
public import Idealize.ShloMosaic.Lib.Pipeline.ValueKit.Geometry

@[expose] public section

set_option maxRecDepth 16384

noncomputable section

namespace Cert.Pre_finite5

open Idealize.ShloMosaic

theorem facts : Facts where
  bitsLt_bf16_f32 := by decide
  bcast_S_S4096x2048 := by decide
  reducesTo_S4096x2048_S_d0_1 := by decide
  h_S_ := by decide
  bcast_S_S8x704x2048 := by decide
  reducesTo_S8x704x2048_S_d0_1_2 := by decide
  bcast_S_S8x4096x704 := by decide
  reducesTo_S8x4096x704_S_d0_1_2 := by decide

instance : Subsingleton S_.Idx := ⟨fun x y => funext fun k => k.elim0⟩

variable [Facts]
open Facts

theorem top_word (i : S_.Idx) : (constant S_ .f32 0x7F800000#32 i : Ideal .f32) = (⊤ : EReal) := by
  show Ideal.ofBits .f32 0x7F800000#32 = _
  simp [Ideal.ofBits, Ideal.ieee]

/-- The precondition, read: three of the four arguments hold real numbers. -/
theorem all_real {x0 : FVec Ideal S4096x2048 .bf16} {x1 : FVec Ideal S8x704x2048 .bf16} {x2 x3 : FVec Ideal S8x4096x704 .f32} {j : S_.Idx}
    (h : fn (F := Ideal) x0 x1 x2 x3 j = 1#1) :
    (∀ i, (x0 i : EReal) = ((EReal.toReal (x0 i) : ℝ) : EReal)) ∧ (∀ i, (x1 i : EReal) = ((EReal.toReal (x1 i) : ℝ) : EReal))
    ∧ (∀ i, (x3 i : EReal) = ((EReal.toReal (x3 i) : ℝ) : EReal)) := by
  dsimp only [fn] at h
  obtain ⟨h, e2⟩ := IntOp.andi_eq_one.1 h
  obtain ⟨e0, e1⟩ := IntOp.andi_eq_one.1 h
  exact ⟨fun i => Cert.Pre_finite.real_of_lt (top_word _) (Host.reduce_andi_all _ _ _ _ _ e0 i), fun i => Cert.Pre_finite.real_of_lt (top_word _) (Host.reduce_andi_all _ _ _ _ _ e1 i),
    fun i => Cert.Pre_finite.real_of_lt (top_word _) (Host.reduce_andi_all _ _ _ _ _ e2 i)⟩

end Cert.Pre_finite5

namespace Cert.Kernel5Ideal.Sums

open Idealize.ShloMosaic Idealize.ShloMosaic.TcCoe Idealize.ShloMosaic.Tactic Idealize.ShloMosaic.ValueIdx
open Cert.Kernel5Ideal Cert.Kernel5Ideal.Gen Cert.Kernel5Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

/-- A sum of products of real numbers is a real number. -/
theorem real_sum {n : ℕ} (A B : Fin n → EReal) (hA : ∀ i, A i = ((A i).toReal : EReal)) (hB : ∀ i, B i = ((B i).toReal : EReal)) :
    ∃ r : ℝ, (∑ i : Fin n, A i * B i) = (r : EReal) := by
  induction n with
  | zero => exact ⟨0, by simp⟩
  | succ n ih =>
    obtain ⟨r, hr⟩ := ih (fun i => A i.castSucc) (fun i => B i.castSucc) (fun i => hA _) (fun i => hB _)
    refine ⟨r + (A (Fin.last n)).toReal * (B (Fin.last n)).toReal, ?_⟩
    rw [Fin.sum_univ_castSucc, hr, hA (Fin.last n), hB (Fin.last n), EReal.coe_add, EReal.coe_mul, EReal.toReal_coe, EReal.toReal_coe]

/-- The derivative of `g · σ(g)`, in the kernel's form and in the reference's, on a real number `p`. -/
theorem silu_slope (p : ℝ) (g : EReal) :
    (p : EReal) * (Ideal.logistic g * (1 + g * (1 - Ideal.logistic g))) = (p : EReal) * Ideal.logistic g + g * (p : EReal) * (Ideal.logistic g * (1 - Ideal.logistic g)) := by
  have e : (1 : EReal) - 1 = 0 := by
    rw [← EReal.coe_one, ← EReal.coe_sub, sub_self, EReal.coe_zero]
  induction g using EReal.rec with
  | bot => simp [Ideal.logistic_bot]
  | top => simp [Ideal.logistic_top, e]
  | coe x =>
    rw [Ideal.logistic_coe]
    generalize (1 + Real.exp (-x))⁻¹ = s
    rw [← EReal.coe_one, ← EReal.coe_sub, ← EReal.coe_mul, ← EReal.coe_add, ← EReal.coe_mul, ← EReal.coe_mul, ← EReal.coe_mul, ← EReal.coe_mul, ← EReal.coe_mul, ← EReal.coe_mul, ← EReal.coe_add]
    exact congrArg Real.toEReal (by ring)

variable (m : (ℓ : Loc nD τ sig) → Buf (Elt Ideal) ℓ) (c : Dev nD)

/-- The residual stream's gradient, the weight's rows in eight shards, and the saved gate and up. -/
abbrev rows : S4096x2048.Idx → EReal := m ((c : Thread nD τ).loc main_arg0)
abbrev shards : S8x704x2048.Idx → EReal := m ((c : Thread nD τ).loc main_arg1)
abbrev gate : S8x4096x704.Idx → EReal := m ((c : Thread nD τ).loc main_arg2)
abbrev up : S8x4096x704.Idx → EReal := m ((c : Thread nD τ).loc main_arg3)

/-- The activation's gradient, and from it those of gate and up. -/
def dact (i : S8x4096x704.Idx) : EReal := ∑ k : Fin 2048, rows m c (ix2 (i 1) k) * shards m c (ix3 (i 0) (i 2) k)
def gate_form (d g u : EReal) : EReal := d * u * (Ideal.logistic g * (1 + g * (1 - Ideal.logistic g)))
def up_form (d g : EReal) : EReal := d * (g * Ideal.logistic g)
def dgate (i : S8x4096x704.Idx) : EReal := gate_form (dact m c i) (gate m c i) (up m c i)
def dup (i : S8x4096x704.Idx) : EReal := up_form (dact m c i) (gate m c i)

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)

theorem block0 (t : Fin cfg0.N) (r : Fin 1024) (k : Fin 2048) (j : S4096x2048.Idx)
    (e0 : (j 0).val = t.val % 4 * 1024 + r.val) (e1 : (j 1).val = k.val) :
    iblk m c 0 t (ix2 r k) = rows m c j := by
  have e : iblk m c 0 t (ix2 r k) = m ((c : Thread nD τ).loc main_arg0) ((win0_0.blk t).view.emb (ix2 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (q : Fin 704) (k : Fin 2048) (j : S8x704x2048.Idx)
    (e0 : (j 0).val = t.val / 4) (e1 : (j 1).val = q.val) (e2 : (j 2).val = k.val) :
    iblk m c 1 t (ix3 0 q k) = shards m c j := by
  have e : iblk m c 1 t (ix3 0 q k) = m ((c : Thread nD τ).loc main_arg1) ((win0_1.blk t).view.emb (ix3 0 q k)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

theorem block2 (t : Fin cfg0.N) (r : Fin 1024) (q : Fin 704) (j : S8x4096x704.Idx)
    (e0 : (j 0).val = t.val / 4) (e1 : (j 1).val = t.val % 4 * 1024 + r.val) (e2 : (j 2).val = q.val) :
    iblk m c 2 t (ix3 0 r q) = gate m c j := by
  have e : iblk m c 2 t (ix3 0 r q) = m ((c : Thread nD τ).loc main_arg2) ((win0_2.blk t).view.emb (ix3 0 r q)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]
  | ⟨2, _⟩ => refine Eq.trans ?_ e2.symm; blk_simp [idx2]

theorem block3 (t : Fin cfg0.N) (r : Fin 1024) (q : Fin 704) (j : S8x4096x704.Idx)
    (e0 : (j 0).val = t.val / 4) (e1 : (j 1).val = t.val % 4 * 1024 + r.val) (e2 : (j 2).val = q.val) :
    iblk m c 3 t (ix3 0 r q) = up m c j := by
  have e : iblk m c 3 t (ix3 0 r q) = m ((c : Thread nD τ).loc main_arg3) ((win0_3.blk t).view.emb (ix3 0 r q)) := by
    blk_simp [iblk]
  refine e.trans (congrArg _ (funext fun a => Fin.ext ?_))
  match a with
  | ⟨0, _⟩ => refine Eq.trans ?_ e0.symm; blk_simp [idx3]
  | ⟨1, _⟩ => refine Eq.trans ?_ e1.symm; blk_simp [idx3]
  | ⟨2, _⟩ => refine Eq.trans ?_ e2.symm; blk_simp [idx3]

/-- A tile of the product at one place. -/
def tile (x : Vec Ideal S1024x2048 .bf16) (w : Vec Ideal S1x704x2048 .bf16) (r : Fin 1024) (q : Fin 704) : EReal :=
  ∑ k : Fin 2048, (x (ix2 r k) : EReal) * w (ix3 0 q k)

theorem pay1_apply (x : Vec Ideal S1024x2048 .bf16) (w : Vec Ideal S1x704x2048 .bf16) (r : Fin 1024) (q : Fin 704) :
    (k0_pay1 x w (ix2 r q) : EReal) = tile x w r q := by
  unfold k0_pay1
  exact (rows_apply (φ := .bf16) (ψ := .bf16) (n := 1024) (m := 704) (k := 2048) dot_S1024x2048_S704x2048_S1024x704_1_1_0_0_n_n rfl none r q).trans
    (Finset.sum_congr rfl fun k _ => congrArg (fun z : EReal => x (ix2 r k) * z) (page_apply (n := 704) (m := 2048) w shapeCasts_S1x704x2048_S704x2048 q k))
theorem pay2_apply (g : Vec Ideal S1x1024x704 .f32) (r : Fin 1024) (q : Fin 704) : (k0_pay2 g (ix2 r q) : EReal) = g (ix3 0 r q) := by
  unfold k0_pay2
  exact page_apply (n := 1024) (m := 704) g shapeCasts_S1x1024x704_S1024x704 r q
theorem pay3_apply (g : Vec Ideal S1x1024x704 .f32) (r : Fin 1024) (q : Fin 704) : (k0_pay3 g (ix2 r q) : EReal) = Ideal.logistic (g (ix3 0 r q)) := by
  unfold k0_pay3
  exact congrArg Ideal.logistic (pay2_apply g r q)

theorem one_word : (FloatOps.ofBits .f32 0x3F800000#32 : Ideal .f32) = (1 : EReal) := Ideal.ofBits_one_f32

theorem dgate_apply (x : Vec Ideal S1024x2048 .bf16) (w : Vec Ideal S1x704x2048 .bf16) (g u : Vec Ideal S1x1024x704 .f32) (r : Fin 1024) (q : Fin 704) :
    (out0_4 x w g u (ix3 0 r q) : EReal) = gate_form (tile x w r q) (g (ix3 0 r q)) (u (ix3 0 r q)) := by
  unfold out0_4
  rw [View.canon_unit_zero (S := S1x1024x704) off3, View.ld_unit_zero (S := S1024x2048) off2, View.ld_unit_zero (S := S1x704x2048) off3,
    View.ld_unit_zero (S := S1x1024x704) off3, View.ld_unit_zero (S := S1x1024x704) off3]
  unfold k0_pay4
  refine (paged_apply (n := 1024) (m := 704) _ shapeCasts_S1024x704_S1x1024x704 0 r q).trans ?_
  show (k0_pay1 x w (ix2 r q) : EReal) * (shapeCast S1024x704 u shapeCasts_S1x1024x704_S1024x704 (ix2 r q) : EReal)
    * ((k0_pay3 g (ix2 r q) : EReal) * ((FloatOps.ofBits .f32 0x3F800000#32 : Ideal .f32) + (k0_pay2 g (ix2 r q) : EReal) * ((FloatOps.ofBits .f32 0x3F800000#32 : Ideal .f32) - (k0_pay3 g (ix2 r q) : EReal)) : EReal)) = _
  rw [pay1_apply, pay2_apply, pay3_apply, one_word]
  exact congrArg (fun z : EReal => gate_form (tile x w r q) (g (ix3 0 r q)) z) (page_apply (n := 1024) (m := 704) u shapeCasts_S1x1024x704_S1024x704 r q)
theorem dup_apply (x : Vec Ideal S1024x2048 .bf16) (w : Vec Ideal S1x704x2048 .bf16) (g u : Vec Ideal S1x1024x704 .f32) (r : Fin 1024) (q : Fin 704) :
    (out0_5 x w g u (ix3 0 r q) : EReal) = up_form (tile x w r q) (g (ix3 0 r q)) := by
  unfold out0_5
  rw [View.canon_unit_zero (S := S1x1024x704) off3, View.ld_unit_zero (S := S1024x2048) off2, View.ld_unit_zero (S := S1x704x2048) off3,
    View.ld_unit_zero (S := S1x1024x704) off3]
  unfold k0_pay5
  refine (paged_apply (n := 1024) (m := 704) _ shapeCasts_S1024x704_S1x1024x704 0 r q).trans ?_
  show (k0_pay1 x w (ix2 r q) : EReal) * ((k0_pay2 g (ix2 r q) : EReal) * (k0_pay3 g (ix2 r q) : EReal)) = _
  rw [pay1_apply, pay2_apply, pay3_apply]
  rfl

/-- The tile at point `t` is a tile of the activation's gradient. -/
theorem tile_dact (t : Fin cfg0.N) (r : Fin 1024) (q : Fin 704) (j : S8x4096x704.Idx) (e0 : (j 0).val = t.val / 4) (e1 : (j 1).val = t.val % 4 * 1024 + r.val) (e2 : (j 2).val = q.val) :
    tile (iblk m c 0 t) (iblk m c 1 t) r q = dact m c j :=
  Finset.sum_congr (M := EReal) rfl fun k _ => congrArg₂ (fun x y : EReal => x * y) (block0 m c t r k _ e1 rfl) (block1 m c t q k _ e0 e2 rfl)

theorem final_dgate : (dats m 0 c).arrAt 4 cfg0.N = dgate m c := by
  refine (dats m 0 c).arrAt_eq_of_covers 4 _ (by decide +kernel) fun t hf y => ?_
  blk_simp
  rw [after0_4]
  obtain ⟨r, q, rfl⟩ := of_page (n := 1024) (m := 704) y
  have h0 : ((win0_4.blk t).view.emb (ix3 0 r q) 0).val = t.val / 4 := by blk_simp [idx4]
  have h1 : ((win0_4.blk t).view.emb (ix3 0 r q) 1).val = t.val % 4 * 1024 + r.val := by blk_simp [idx4]; rfl
  have h2 : ((win0_4.blk t).view.emb (ix3 0 r q) 2).val = q.val := by blk_simp [idx4]; rfl
  refine (dgate_apply _ _ _ _ r q).trans ?_
  rw [tile_dact m c t r q _ h0 h1 h2, block2 m c t r q _ h0 h1 h2, block3 m c t r q _ h0 h1 h2]
  rfl

theorem final_dup : (dats m 0 c).arrAt 5 cfg0.N = dup m c := by
  refine (dats m 0 c).arrAt_eq_of_covers 5 _ (by decide +kernel) fun t hf y => ?_
  blk_simp
  rw [after0_5]
  obtain ⟨r, q, rfl⟩ := of_page (n := 1024) (m := 704) y
  have h0 : ((win0_5.blk t).view.emb (ix3 0 r q) 0).val = t.val / 4 := by blk_simp [idx5]
  have h1 : ((win0_5.blk t).view.emb (ix3 0 r q) 1).val = t.val % 4 * 1024 + r.val := by blk_simp [idx5]; rfl
  have h2 : ((win0_5.blk t).view.emb (ix3 0 r q) 2).val = q.val := by blk_simp [idx5]; rfl
  refine (dup_apply _ _ _ (iblk m c 3 t) r q).trans ?_
  rw [tile_dact m c t r q _ h0 h1 h2, block2 m c t r q _ h0 h1 h2]
  rfl

end Cert.Kernel5Ideal.Sums

namespace Cert.Proof

open Idealize.ShloMosaic Idealize.ShloMosaic.TcCoe Idealize.ShloMosaic.ValueIdx
open Idealize.SL.Sem
open scoped BigOperators

open Cert.Reference5Ideal.Read Cert.Kernel5Ideal.Sums in
/-- The gradients of gate and up are the reference's. -/
theorem equal_activation : Cert.algebraic_Kernel5Ideal_Reference5Ideal_pre_finite5 (hKernel5Ideal := Cert.Kernel5Ideal.Gen.facts) (hReference5Ideal := Cert.Reference5Ideal.Gen.facts) (hPre_finite5 := Cert.Pre_finite5.facts) := by
  intro m g m' g' hpre hargs
  refine ⟨fun c => dgate m c, fun c => dup m c, (θ_run Cert.Kernel5Ideal.defs _ _).mono (fun _ h c => ⟨(h c).1.trans (final_dgate m c), (h c).2.1.trans (final_dup m c), (h c).2.2⟩) (Cert.Kernel5Ideal.Value.run_blocks m g), ?_⟩
  refine (θ_run Cert.Reference5Ideal.defs _ _).mono (fun _ h c => ?_) (Cert.Reference5Ideal.Value.run m' g')
  obtain ⟨e0, e1, e2, e3⟩ := hargs c
  obtain ⟨r0, r1, r3⟩ := @Cert.Pre_finite5.all_real Cert.Pre_finite5.facts _ _ _ _ (fun k => k.elim0) (congrFun (hpre c) _)
  have hc : ∀ i, (val_main_v6 (F := Ideal) (rows m c) (shards m c) i : EReal) = dact m c i := by
    intro i
    rw [val_main_v6_apply, val_main_v5_apply]
    exact Finset.sum_congr (M := EReal) rfl fun k _ =>
      (congrArg₂ (fun x y : EReal => x * y) (congrArg (rows m c) (funext fun a => match a with
      | ⟨0, _⟩ => rfl
      | ⟨1, _⟩ => rfl)) (congrArg (shards m c) (funext fun a => match a with
      | ⟨0, _⟩ => rfl
      | ⟨1, _⟩ => rfl
      | ⟨2, _⟩ => rfl)))
  have hs : ∀ i, (val_main_v0_2 (F := Ideal) (gate m c) i : EReal) = Ideal.logistic (gate m c i) := by
    intro i
    rw [val_main_v0_2_apply, val_main_call0_v4_apply, val_main_call0_v3_apply, val_main_call0_v2_apply, val_main_call0_v1_apply, val_main_call0_v0_apply,
      val_main_call0_cst_apply, val_main_call0_cst_0_apply, one_word]
    rfl
  refine ⟨(h c).1.trans ((val_main_v10_eq _ _ _ _).trans (funext fun i => ?_)), (h c).2.1.trans ((val_main_v11_eq _ _ _).trans (funext fun i => ?_)), (h c).2.2⟩
  · show _ = dgate m c i
    rw [e0, e1, e2, e3, val_main_v10_apply, val_main_v9_apply, val_main_call1_v1_apply, val_main_call1_v2_apply, val_main_call1_v0_apply, val_main_v8_apply, val_main_v0_1_apply,
      val_main_call0_v7_apply, val_main_call0_v6_apply, val_main_call0_cst_1_apply, hs, hc, one_word]
    obtain ⟨d, hd⟩ : ∃ d : ℝ, dact m c i = (d : EReal) := real_sum _ _ (fun k => r0 _) (fun k => r1 _)
    have hp : dact m c i * up m c i = ((d * (up m c i).toReal : ℝ) : EReal) := by
      rw [hd, EReal.coe_mul]
      exact congrArg (fun z : EReal => (d : EReal) * z) (r3 i)
    show dact m c i * up m c i * Ideal.logistic (gate m c i) + gate m c i * (dact m c i * up m c i) * (Ideal.logistic (gate m c i) * (1 - Ideal.logistic (gate m c i))) = _
    unfold dgate gate_form
    rw [hp]
    exact (silu_slope _ _).symm
  · show _ = dup m c i
    rw [e0, e1, e2, val_main_v11_apply, val_main_v7_apply, val_main_v0_0_apply, hs, hc]
    exact mul_comm (G := EReal) _ _

end Cert.Proof
-- ==== Proof.FeedForward.Up.lean ====
/- The first half of the feed-forward layer: gate, up and their activation, each tile of the kernel a tile of the reference. -/
module

public import proofs.«01_k».proof.Defs
public import proofs.«01_k».proof.Proof.FeedForward.Products
public import proofs.«01_k».proof.Proof.Gen.Kernel10Ideal.Value
public import proofs.«01_k».proof.Proof.Gen.Reference10Ideal.Run
public import proofs.«01_k».proof.Proof.Gen.Reference10Ideal.Read
public import Idealize.ShloMosaic.Lib.IdealHost
public import Idealize.ShloMosaic.Lib.Pipeline.ValueKit.Geometry

@[expose] public section

set_option maxRecDepth 16384

noncomputable section

namespace Cert.Kernel10Ideal.Sums

open Idealize.ShloMosaic Idealize.ShloMosaic.TcCoe Idealize.ShloMosaic.Tactic Idealize.ShloMosaic.ValueIdx
open Cert.Kernel10Ideal Cert.Kernel10Ideal.Gen Cert.Kernel10Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

variable (m : (ℓ : Loc nD τ sig) → Buf (Elt Ideal) ℓ) (c : Dev nD)

/-- The rows, and the two weights' columns in eight shards. -/
abbrev rows : S4096x2048.Idx → EReal := m ((c : Thread nD τ).loc main_arg0)
abbrev gates : S8x2048x704.Idx → EReal := m ((c : Thread nD τ).loc main_arg1)
abbrev ups : S8x2048x704.Idx → EReal := m ((c : Thread nD τ).loc main_arg2)

/-- The two products, and the activation `(g · σ(g)) · u`. -/
def gate (i : S8x4096x704.Idx) : EReal := ∑ k : Fin 2048, rows m c (ix2 (i 1) k) * gates m c (ix3 (i 0) k (i 2))
def up (i : S8x4096x704.Idx) : EReal := ∑ k : Fin 2048, rows m c (ix2 (i 1) k) * ups m c (ix3 (i 0) k (i 2))
def act (i : S8x4096x704.Idx) : EReal := gate m c i * Ideal.logistic (gate m c i) * up m c i

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)

theorem block0 (t : Fin cfg0.N) (r : Fin 1024) (k : Fin 2048) (j : S4096x2048.Idx)
    (e0 : (j 0).val = t.val % 4 * 1024 + r.val) (e1 : (j 1).val = k.val) :
    iblk m c 0 t (ix2 r k) = rows m c j := by
  have e : iblk m c 0 t (ix2 r k) = m ((c : Thread nD τ).loc main_arg0) ((win0_0.blk t).view.emb (ix2 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 2048) (q : Fin 704) (j : S8x2048x704.Idx)
    (e0 : (j 0).val = t.val / 4) (e1 : (j 1).val = k.val) (e2 : (j 2).val = q.val) :
    iblk m c 1 t (ix3 0 k q) = gates m c j := by
  have e : iblk m c 1 t (ix3 0 k q) = m ((c : Thread nD τ).loc main_arg1) ((win0_1.blk t).view.emb (ix3 0 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

theorem block2 (t : Fin cfg0.N) (k : Fin 2048) (q : Fin 704) (j : S8x2048x704.Idx)
    (e0 : (j 0).val = t.val / 4) (e1 : (j 1).val = k.val) (e2 : (j 2).val = q.val) :
    iblk m c 2 t (ix3 0 k q) = ups m c j := by
  have e : iblk m c 2 t (ix3 0 k q) = m ((c : Thread nD τ).loc main_arg2) ((win0_2.blk t).view.emb (ix3 0 k q)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]
  | ⟨2, _⟩ => refine Eq.trans ?_ e2.symm; blk_simp [idx2]

/-- A tile of the products, and the three results at one place. -/
def tile (x : Vec Ideal S1024x2048 .bf16) (w : Vec Ideal S1x2048x704 .bf16) (r : Fin 1024) (q : Fin 704) : EReal :=
  ∑ k : Fin 2048, (x (ix2 r k) : EReal) * w (ix3 0 k q)

theorem pay1_apply (x : Vec Ideal S1024x2048 .bf16) (w : Vec Ideal S1x2048x704 .bf16) (r : Fin 1024) (q : Fin 704) :
    (k0_pay1 x w (ix2 r q) : EReal) = tile x w r q := by
  unfold k0_pay1
  exact (rows_columns_apply (φ := .bf16) (ψ := .bf16) (n := 1024) (m := 704) (k := 2048) dot_S1024x2048_S2048x704_S1024x704_1_0_0_1_n_n rfl none r q).trans
    (Finset.sum_congr rfl fun k _ => congrArg (fun z : EReal => x (ix2 r k) * z) (page_apply (n := 2048) (m := 704) w shapeCasts_S1x2048x704_S2048x704 k q))
theorem pay2_apply (x : Vec Ideal S1024x2048 .bf16) (w : Vec Ideal S1x2048x704 .bf16) (r : Fin 1024) (q : Fin 704) :
    (k0_pay2 x w (ix2 r q) : EReal) = tile x w r q := by
  unfold k0_pay2
  exact (rows_columns_apply (φ := .bf16) (ψ := .bf16) (n := 1024) (m := 704) (k := 2048) dot_S1024x2048_S2048x704_S1024x704_1_0_0_1_n_n rfl none r q).trans
    (Finset.sum_congr rfl fun k _ => congrArg (fun z : EReal => x (ix2 r k) * z) (page_apply (n := 2048) (m := 704) w shapeCasts_S1x2048x704_S2048x704 k q))

theorem gate_apply (x : Vec Ideal S1024x2048 .bf16) (w v : Vec Ideal S1x2048x704 .bf16) (r : Fin 1024) (q : Fin 704) :
    (out0_3 x w v (ix3 0 r q) : EReal) = tile x w r q := by
  unfold out0_3
  rw [View.canon_unit_zero (S := S1x1024x704) off3, View.ld_unit_zero (S := S1024x2048) off2, View.ld_unit_zero (S := S1x2048x704) off3]
  unfold k0_pay3
  exact (paged_apply (n := 1024) (m := 704) _ shapeCasts_S1024x704_S1x1024x704 0 r q).trans (pay1_apply x w r q)
theorem up_apply (x : Vec Ideal S1024x2048 .bf16) (w v : Vec Ideal S1x2048x704 .bf16) (r : Fin 1024) (q : Fin 704) :
    (out0_4 x w v (ix3 0 r q) : EReal) = tile x v r q := by
  unfold out0_4
  rw [View.canon_unit_zero (S := S1x1024x704) off3, View.ld_unit_zero (S := S1024x2048) off2, View.ld_unit_zero (S := S1x2048x704) off3]
  unfold k0_pay4
  exact (paged_apply (n := 1024) (m := 704) _ shapeCasts_S1024x704_S1x1024x704 0 r q).trans (pay2_apply x v r q)
theorem act_apply (x : Vec Ideal S1024x2048 .bf16) (w v : Vec Ideal S1x2048x704 .bf16) (r : Fin 1024) (q : Fin 704) :
    (out0_5 x w v (ix3 0 r q) : EReal) = tile x w r q * Ideal.logistic (tile x w r q) * tile x v r q := by
  unfold out0_5
  rw [View.canon_unit_zero (S := S1x1024x704) off3, View.ld_unit_zero (S := S1024x2048) off2, View.ld_unit_zero (S := S1x2048x704) off3, View.ld_unit_zero (S := S1x2048x704) off3]
  unfold k0_pay5
  exact (paged_apply (n := 1024) (m := 704) _ shapeCasts_S1024x704_S1x1024x704 0 r q).trans
    (congrArg₂ (fun g u : EReal => g * Ideal.logistic g * u) (pay1_apply x w r q) (pay2_apply x v r q))

/-- The tiles at point `t` are tiles of the two products. -/
theorem tile_gate (t : Fin cfg0.N) (r : Fin 1024) (q : Fin 704) (j : S8x4096x704.Idx) (e0 : (j 0).val = t.val / 4) (e1 : (j 1).val = t.val % 4 * 1024 + r.val) (e2 : (j 2).val = q.val) :
    tile (iblk m c 0 t) (iblk m c 1 t) r q = gate m c j :=
  Finset.sum_congr (M := EReal) rfl fun k _ => congrArg₂ (fun x y : EReal => x * y) (block0 m c t r k _ e1 rfl) (block1 m c t k q _ e0 rfl e2)
theorem tile_up (t : Fin cfg0.N) (r : Fin 1024) (q : Fin 704) (j : S8x4096x704.Idx) (e0 : (j 0).val = t.val / 4) (e1 : (j 1).val = t.val % 4 * 1024 + r.val) (e2 : (j 2).val = q.val) :
    tile (iblk m c 0 t) (iblk m c 2 t) r q = up m c j :=
  Finset.sum_congr (M := EReal) rfl fun k _ => congrArg₂ (fun x y : EReal => x * y) (block0 m c t r k _ e1 rfl) (block2 m c t k q _ e0 rfl e2)

theorem final_gate : (dats m 0 c).arrAt 3 cfg0.N = gate m c := by
  refine (dats m 0 c).arrAt_eq_of_covers 3 _ (by decide +kernel) fun t hf y => ?_
  blk_simp
  rw [after0_3]
  obtain ⟨r, q, rfl⟩ := of_page (n := 1024) (m := 704) y
  have h0 : ((win0_3.blk t).view.emb (ix3 0 r q) 0).val = t.val / 4 := by blk_simp [idx3]
  have h1 : ((win0_3.blk t).view.emb (ix3 0 r q) 1).val = t.val % 4 * 1024 + r.val := by blk_simp [idx3]; rfl
  have h2 : ((win0_3.blk t).view.emb (ix3 0 r q) 2).val = q.val := by blk_simp [idx3]; rfl
  exact (gate_apply _ _ _ r q).trans (tile_gate m c t r q _ h0 h1 h2)

theorem final_up : (dats m 0 c).arrAt 4 cfg0.N = up m c := by
  refine (dats m 0 c).arrAt_eq_of_covers 4 _ (by decide +kernel) fun t hf y => ?_
  blk_simp
  rw [after0_4]
  obtain ⟨r, q, rfl⟩ := of_page (n := 1024) (m := 704) y
  have h0 : ((win0_4.blk t).view.emb (ix3 0 r q) 0).val = t.val / 4 := by blk_simp [idx4]
  have h1 : ((win0_4.blk t).view.emb (ix3 0 r q) 1).val = t.val % 4 * 1024 + r.val := by blk_simp [idx4]; rfl
  have h2 : ((win0_4.blk t).view.emb (ix3 0 r q) 2).val = q.val := by blk_simp [idx4]; rfl
  exact (up_apply _ _ _ r q).trans (tile_up m c t r q _ h0 h1 h2)

theorem final_act : (dats m 0 c).arrAt 5 cfg0.N = act m c := by
  refine (dats m 0 c).arrAt_eq_of_covers 5 _ (by decide +kernel) fun t hf y => ?_
  blk_simp
  rw [after0_5]
  obtain ⟨r, q, rfl⟩ := of_page (n := 1024) (m := 704) y
  have h0 : ((win0_5.blk t).view.emb (ix3 0 r q) 0).val = t.val / 4 := by blk_simp [idx5]
  have h1 : ((win0_5.blk t).view.emb (ix3 0 r q) 1).val = t.val % 4 * 1024 + r.val := by blk_simp [idx5]; rfl
  have h2 : ((win0_5.blk t).view.emb (ix3 0 r q) 2).val = q.val := by blk_simp [idx5]; rfl
  exact (act_apply _ _ _ r q).trans (congrArg₂ (fun g u : EReal => g * Ideal.logistic g * u) (tile_gate m c t r q _ h0 h1 h2) (tile_up m c t r q _ h0 h1 h2))

end Cert.Kernel10Ideal.Sums

namespace Cert.Proof

open Idealize.ShloMosaic Idealize.ShloMosaic.TcCoe Idealize.ShloMosaic.ValueIdx
open Idealize.SL.Sem
open scoped BigOperators

theorem gate_one : (FloatOps.ofBits .f32 0x3F800000#32 : Ideal .f32) = (1 : EReal) :=
   Ideal.ofBits_one_f32

open Cert.Reference10Ideal.Read Cert.Kernel10Ideal.Sums in
/-- Gate, up and activation are the reference's. -/
theorem equal_up : Cert.algebraic_Kernel10Ideal_Reference10Ideal (hKernel10Ideal := Cert.Kernel10Ideal.Gen.facts) (hReference10Ideal := Cert.Reference10Ideal.Gen.facts) := by
  intro m g m' g' hpre hargs
  refine ⟨fun c => gate m c, fun c => up m c, fun c => act m c, (θ_run Cert.Kernel10Ideal.defs _ _).mono (fun _ h c => ⟨(h c).1.trans (final_gate m c), (h c).2.1.trans (final_up m c), (h c).2.2.1.trans (final_act m c), (h c).2.2.2⟩) (Cert.Kernel10Ideal.Value.run_blocks m g), ?_⟩
  refine (θ_run Cert.Reference10Ideal.defs _ _).mono (fun _ h c => ?_) (Cert.Reference10Ideal.Value.run m' g')
  obtain ⟨e0, e1, e2⟩ := hargs c
  have hg : ∀ i, (val_main_v3 (F := Ideal) (rows m c) (gates m c) i : EReal) = gate m c i := by
    intro i
    rw [val_main_v3_apply, val_main_v2_apply]
    exact Finset.sum_congr (M := EReal) rfl fun k _ => (mul_comm (G := EReal) _ _).trans
      (congrArg₂ (fun x y : EReal => x * y) (congrArg (rows m c) (funext fun a => match a with
      | ⟨0, _⟩ => rfl
      | ⟨1, _⟩ => rfl)) (congrArg (gates m c) (funext fun a => match a with
      | ⟨0, _⟩ => rfl
      | ⟨1, _⟩ => rfl
      | ⟨2, _⟩ => rfl)))
  have hu : ∀ i, (val_main_v7 (F := Ideal) (rows m c) (ups m c) i : EReal) = up m c i := by
    intro i
    rw [val_main_v7_apply, val_main_v6_apply]
    exact Finset.sum_congr (M := EReal) rfl fun k _ => (mul_comm (G := EReal) _ _).trans
      (congrArg₂ (fun x y : EReal => x * y) (congrArg (rows m c) (funext fun a => match a with
      | ⟨0, _⟩ => rfl
      | ⟨1, _⟩ => rfl)) (congrArg (ups m c) (funext fun a => match a with
      | ⟨0, _⟩ => rfl
      | ⟨1, _⟩ => rfl
      | ⟨2, _⟩ => rfl)))
  refine ⟨(h c).1.trans ((val_main_v3_eq _ _).trans (funext fun i => ?_)), (h c).2.1.trans ((val_main_v7_eq _ _).trans (funext fun i => ?_)), (h c).2.2.1.trans ((val_main_v10_eq _ _ _).trans (funext fun i => ?_)), (h c).2.2.2⟩
  · rw [e0, e1]
    exact hg i
  · rw [e0, e2]
    exact hu i
  show _ = act m c i
  rw [e0, e1, e2, val_main_v10_apply, val_main_v9_apply, val_main_v8_apply, val_main_call0_v5_apply, val_main_call0_v4_apply, val_main_call0_v3_apply, val_main_call0_v2_apply,
    val_main_call0_v1_apply, val_main_call0_v0_apply, val_main_call0_cst_apply, val_main_call0_cst_0_apply, hg, hu, gate_one]
  rfl

end Cert.Proof
-- ==== Proof.FeedForward.Residual.lean ====
/- The second half of the feed-forward layer: what the kernel accumulates is the residual stream plus the sum over all shards. -/
module

public import proofs.«01_k».proof.Defs
public import proofs.«01_k».proof.Proof.FeedForward.Products
public import proofs.«01_k».proof.Proof.Gen.Kernel11Ideal.Value
public import proofs.«01_k».proof.Proof.Gen.Reference11Ideal.Run
public import proofs.«01_k».proof.Proof.Gen.Reference11Ideal.Read
public import Mathlib.Tactic.Abel
public import Idealize.ShloMosaic.Lib.TwoAxisContraction
public import Idealize.ShloMosaic.Lib.Pipeline.ValueKit.Tiles
public import Idealize.ShloMosaic.Lib.Pipeline.ValueKit.Geometry

@[expose] public section

set_option maxRecDepth 16384

noncomputable section

namespace Cert.Kernel11Ideal.Sums

open Idealize.ShloMosaic Idealize.ShloMosaic.TcCoe Idealize.ShloMosaic.Tactic Idealize.ShloMosaic.ValueIdx
open Cert.Kernel11Ideal Cert.Kernel11Ideal.Gen Cert.Kernel11Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

/-- The two shards of a block. -/
abbrev act0 (x : Vec Ideal S2x1024x704 .bf16) : Vec Ideal S1x1024x704 .bf16 := View.ld x (Rect.unit ![0, 0, 0] ![1, 1024, 704] inb_S2x1024x704_S1x1024x704_0_0_0)
abbrev act1 (x : Vec Ideal S2x1024x704 .bf16) : Vec Ideal S1x1024x704 .bf16 := View.ld x (Rect.unit ![1, 0, 0] ![1, 1024, 704] inb_S2x1024x704_S1x1024x704_1_0_0)
abbrev weight0 (w : Vec Ideal S2x704x1024 .bf16) : Vec Ideal S1x704x1024 .bf16 := View.ld w (Rect.unit ![0, 0, 0] ![1, 704, 1024] inb_S2x704x1024_S1x704x1024_0_0_0)
abbrev weight1 (w : Vec Ideal S2x704x1024 .bf16) : Vec Ideal S1x704x1024 .bf16 := View.ld w (Rect.unit ![1, 0, 0] ![1, 704, 1024] inb_S2x704x1024_S1x704x1024_1_0_0)

/-- One step over two shards, from what was there. -/
abbrev step (s : Vec Ideal S1024x1024 .f32) (x : Vec Ideal S2x1024x704 .bf16) (w : Vec Ideal S2x704x1024 .bf16) : Vec Ideal S1024x1024 .f32 :=
  k0_pay2 s (act0 x) (weight0 w) (act1 x) (weight1 w)

section Cases
variable (c : Dev nD) (i : grid0.Coords) (a3 : Memref sig .tc .vmem S2x1024x704 .bf16) (h3 : a3.IsWhole) (a4 : Memref sig .tc .vmem S2x704x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec Ideal S2x1024x704 .bf16) (w : Vec Ideal S2x704x1024 .bf16) (z : Vec Ideal S1024x1024 .f32)

/-- The first two shards leave their products, added to the residual stream. -/
theorem first (hc0 : cond0_0 i) (hc1 : ¬cond0_1 i) :
    sout0_A_0 c i a3 h3 a4 h4 a5 h5 a6 h6 a7 h7 hc0 hc1 x w z = step (k0_pay1 (F := Ideal) z) x w := by
  unfold sout0_A_0
  rw [View.read_writes_eq_canon _ _ _ (scover0_A_0 c i a3 h3 a4 h4 a5 h5 a6 h6 a7 h7 hc0 hc1 x w z)]
  unfold kernelRun0_A
  dsimp only
  sl_unfold_words
  rw [View.canon_cons_unit_zero (S := S1024x1024) off2, View.readCov_unit_zero (S := S1024x1024) _ off2]
  simp only [View.readAt_eq_ld, h3.read_unread, h4.read_unread, h5.read_unread, h7.read_unread, View.ld_unit_zero (S := S1024x1024) off2]

/-- The next two add theirs. -/
theorem middle (hc0 : ¬cond0_0 i) (hc1 : ¬cond0_1 i) (s : Vec Ideal S1024x1024 .f32) :
    sout0_B_0 c i a3 h3 a4 h4 a5 h5 a6 h6 a7 h7 hc0 hc1 x w z s = step s x w := by
  unfold sout0_B_0
  rw [View.read_writes_eq_canon _ _ _ (scover0_B_0 c i a3 h3 a4 h4 a5 h5 a6 h6 a7 h7 hc0 hc1 x w z s)]
  unfold kernelRun0_B
  dsimp only
  sl_unfold_words
  rw [View.canon_unit_zero (S := S1024x1024) off2]
  simp only [View.readAt_eq_ld, h3.read_unread, h4.read_unread, h7.read_unread, View.ld_unit_zero (S := S1024x1024) off2]

/-- The last two add theirs and hand the sum on. -/
theorem last (hc0 : ¬cond0_0 i) (hc1 : cond0_1 i) (s : Vec Ideal S1024x1024 .f32) :
    out0_C_3 c i a3 h3 a4 h4 a5 h5 a6 h6 a7 h7 hc0 hc1 x w z s = step s x w := by
  unfold out0_C_3
  rw [View.read_writes_eq_canon _ _ _ (cover0_C_3 c i a3 h3 a4 h4 a5 h5 a6 h6 a7 h7 hc0 hc1 x w z s)]
  unfold kernelRun0_C
  dsimp only
  sl_unfold_words
  rw [View.canon_unit_zero (S := S1024x1024) off2, View.readCov_unit_zero (S := S1024x1024) _ off2]
  simp only [View.readAt_eq_ld, h3.read_unread, h4.read_unread, h7.read_unread, View.ld_unit_zero (S := S1024x1024) off2]

end Cases

theorem act0_apply (x : Vec Ideal S2x1024x704 .bf16) (r : Fin 1024) (k : Fin 704) : act0 x (ix3 0 r k) = x (ix3 0 r k) :=
  View.ld_unit_apply_of x _ _ _ _ _ fun a => by
    match a with
    | ⟨0, _⟩ => rfl
    | ⟨1, _⟩ => exact (Nat.zero_add _).symm
    | ⟨2, _⟩ => exact (Nat.zero_add _).symm

theorem act1_apply (x : Vec Ideal S2x1024x704 .bf16) (r : Fin 1024) (k : Fin 704) : act1 x (ix3 0 r k) = x (ix3 1 r k) :=
  View.ld_unit_apply_of x _ _ _ _ _ fun a => by
    match a with
    | ⟨0, _⟩ => rfl
    | ⟨1, _⟩ => exact (Nat.zero_add _).symm
    | ⟨2, _⟩ => exact (Nat.zero_add _).symm

theorem weight0_apply (x : Vec Ideal S2x704x1024 .bf16) (k : Fin 704) (q : Fin 1024) : weight0 x (ix3 0 k q) = x (ix3 0 k q) :=
  View.ld_unit_apply_of x _ _ _ _ _ fun a => by
    match a with
    | ⟨0, _⟩ => rfl
    | ⟨1, _⟩ => exact (Nat.zero_add _).symm
    | ⟨2, _⟩ => exact (Nat.zero_add _).symm

theorem weight1_apply (x : Vec Ideal S2x704x1024 .bf16) (k : Fin 704) (q : Fin 1024) : weight1 x (ix3 0 k q) = x (ix3 1 k q) :=
  View.ld_unit_apply_of x _ _ _ _ _ fun a => by
    match a with
    | ⟨0, _⟩ => rfl
    | ⟨1, _⟩ => exact (Nat.zero_add _).symm
    | ⟨2, _⟩ => exact (Nat.zero_add _).symm

/-- The product of two shards, at one place. -/
theorem product_apply (x : Vec Ideal S1x1024x704 .bf16) (w : Vec Ideal S1x704x1024 .bf16) (r q : Fin 1024) :
    (matmul (φ₁ := .bf16) (φ₂ := .bf16) dot_S1024x704_S704x1024_S1024x1024_1_0_0_1_n_n none (shapeCast S1024x704 x shapeCasts_S1x1024x704_S1024x704)
      (shapeCast S704x1024 w shapeCasts_S1x704x1024_S704x1024) (constant (F := Ideal) S1024x1024 .f32 0x00000000#32) (ix2 r q) : EReal)
      = ∑ k : Fin 704, x (ix3 0 r k) * w (ix3 0 k q) :=
  (rows_columns_apply (φ := .bf16) (ψ := .bf16) (n := 1024) (m := 1024) (k := 704) dot_S1024x704_S704x1024_S1024x1024_1_0_0_1_n_n rfl none r q).trans
    (Finset.sum_congr (M := EReal) rfl fun k _ => congrArg₂ (fun a b : EReal => a * b)
      (page_apply (n := 1024) (m := 704) x shapeCasts_S1x1024x704_S1024x704 r k) (page_apply (n := 704) (m := 1024) w shapeCasts_S1x704x1024_S704x1024 k q))

/-- The same of one page of each block. -/
def term (x : Vec Ideal S2x1024x704 .bf16) (w : Vec Ideal S2x704x1024 .bf16) (j : Fin 2) (r q : Fin 1024) : EReal := ∑ k : Fin 704, (x (ix3 j r k) * w (ix3 j k q) : EReal)

/-- One step at one place. -/
theorem step_apply (s : Vec Ideal S1024x1024 .f32) (x : Vec Ideal S2x1024x704 .bf16) (w : Vec Ideal S2x704x1024 .bf16) (r q : Fin 1024) :
    (step s x w (ix2 r q) : EReal) = s (ix2 r q) + ((0 + term x w 0 r q) + term x w 1 r q) := by
  have e0 : (∑ k : Fin 704, act0 x (ix3 0 r k) * weight0 w (ix3 0 k q) : EReal) = term x w 0 r q :=
    Finset.sum_congr rfl fun k _ => by rw [act0_apply, weight0_apply]
  have e1 : (∑ k : Fin 704, act1 x (ix3 0 r k) * weight1 w (ix3 0 k q) : EReal) = term x w 1 r q :=
    Finset.sum_congr rfl fun k _ => by rw [act1_apply, weight1_apply]
  unfold step k0_pay2
  rw [shapeCast_self]
  rw [← e0, ← e1, ← product_apply, ← product_apply, ← Ideal.ofBits_zero_f32]
  rfl

theorem start (z : Vec Ideal S1024x1024 .f32) : k0_pay1 (F := Ideal) z = z := by
  unfold k0_pay1
  rw [shapeCast_self]

theorem idx0 : ∀ t : Fin cfg0.N, win0_0.index t = ![t.val % 4, t.val / 8, 0] := (by decide +kernel : ∀ t : Fin grid0.N, _)
theorem idx1 : ∀ t : Fin cfg0.N, win0_1.index t = ![t.val % 4, 0, t.val / 4 % 2] := (by decide +kernel : ∀ t : Fin grid0.N, _)
theorem idx2 : ∀ t : Fin cfg0.N, win0_2.index t = ![t.val / 8, t.val / 4 % 2] := (by decide +kernel : ∀ t : Fin grid0.N, _)

variable (m : (ℓ : Loc nD τ sig) → Buf (Elt Ideal) ℓ) (c : Dev nD)

/-- The activations and the weight's rows in eight shards, and the residual stream. -/
abbrev acts : S8x4096x704.Idx → EReal := m ((c : Thread nD τ).loc main_arg0)
abbrev weights : S8x704x2048.Idx → EReal := m ((c : Thread nD τ).loc main_arg1)
abbrev stream : S4096x2048.Idx → EReal := m ((c : Thread nD τ).loc main_arg2)

theorem block0 (t : Fin cfg0.N) (b : Fin 2) (r : Fin 1024) (k : Fin 704) (j : S8x4096x704.Idx)
    (e0 : (j 0).val = t.val % 4 * 2 + b.val) (e1 : (j 1).val = t.val / 8 * 1024 + r.val) (e2 : (j 2).val = k.val) :
    iblk m c 0 t (ix3 b r k) = acts m c j := by
  have e : iblk m c 0 t (ix3 b r k) = m ((c : Thread nD τ).loc main_arg0) ((win0_0.blk t).view.emb (ix3 b r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]
  | ⟨2, _⟩ => refine Eq.trans ?_ e2.symm; blk_simp [idx0]

theorem block1 (t : Fin cfg0.N) (b : Fin 2) (k : Fin 704) (q : Fin 1024) (j : S8x704x2048.Idx)
    (e0 : (j 0).val = t.val % 4 * 2 + b.val) (e1 : (j 1).val = k.val) (e2 : (j 2).val = t.val / 4 % 2 * 1024 + q.val) :
    iblk m c 1 t (ix3 b k q) = weights m c j := by
  have e : iblk m c 1 t (ix3 b k q) = m ((c : Thread nD τ).loc main_arg1) ((win0_1.blk t).view.emb (ix3 b k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

theorem block2 (t : Fin cfg0.N) (r q : Fin 1024) (j : S4096x2048.Idx)
    (e0 : (j 0).val = t.val / 8 * 1024 + r.val) (e1 : (j 1).val = t.val / 4 % 2 * 1024 + q.val) :
    iblk m c 2 t (ix2 r q) = stream m c j := by
  have e : iblk m c 2 t (ix2 r q) = m ((c : Thread nD τ).loc main_arg2) ((win0_2.blk t).view.emb (ix2 r q)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]

/-- What one shard gives at one place. -/
def via (a : Fin 8) (r : Fin 4096) (q : Fin 2048) : EReal := ∑ k : Fin 704, acts m c (ix3 a r k) * weights m c (ix3 a k q)

theorem term_via (t : Fin cfg0.N) (b : Fin 2) (r' q' : Fin 1024) (a : Fin 8) (r : Fin 4096) (q : Fin 2048)
    (ha : a.val = t.val % 4 * 2 + b.val) (hr : r.val = t.val / 8 * 1024 + r'.val) (hq : q.val = t.val / 4 % 2 * 1024 + q'.val) :
    term (iblk m c 0 t) (iblk m c 1 t) b r' q' = via m c a r q :=
  Finset.sum_congr rfl fun k _ => by rw [block0 m c t b r' k (ix3 a r k) ha hr rfl, block1 m c t b k q' (ix3 a k q) ha rfl hq]

/-- What the kernel leaves at one place of its result: the residual stream, and the sum over all shards and their columns. -/
theorem result_apply (r : Fin 4096) (q : Fin 2048) :
    G3 m c (ix2 r q) = stream m c (ix2 r q) + ∑ a : Fin 8, via m c a r q := by
  have hr := r.isLt
  have hq := q.isLt
  have hN : cfg0.N = 32 := N_0
  have hrun : run3Of (ix2 r q) = 2 * (r.val / 1024) + q.val / 1024 := by
    show 2 * (r.val / 1024 - 0) + 1 * (q.val / 1024 - 0) = _
    omega
  have hp : pt3Of (ix2 r q) = 4 * (2 * (r.val / 1024) + q.val / 1024) + 3 := by
    show 4 * run3Of (ix2 r q) + 3 = _
    rw [hrun]
  have hloc : loc3Of (ix2 r q) = ix2 (⟨r.val % 1024, by omega⟩ : Fin 1024) (⟨q.val % 1024, by omega⟩ : Fin 1024) := funext fun b => Fin.ext (by
    match b with
    | ⟨0, _⟩ => rfl
    | ⟨1, _⟩ => rfl)
  generalize hn : 4 * (2 * (r.val / 1024) + q.val / 1024) = n at hp
  have h3 : n + 3 < cfg0.N := by omega
  have h2 : n + 2 < cfg0.N := by omega
  have h1 : n + 1 < cfg0.N := by omega
  have h0 : n < cfg0.N := by omega
  have e0 : (outsAt0 m c n h0).2 = step (iblk m c 2 ⟨n, h0⟩) (iblk m c 0 ⟨n, h0⟩) (iblk m c 1 ⟨n, h0⟩) := by
    rw [outsAt0_A m c ⟨n, h0⟩ (by dsimp only; omega) (by dsimp only; omega)]
    dsimp only
    rw [first, start]
  have e1 : (outsAt0 m c (n + 1) h1).2 = step (outsAt0 m c n h0).2 (iblk m c 0 ⟨n + 1, h1⟩) (iblk m c 1 ⟨n + 1, h1⟩) := by
    rw [outsAt0_B m c ⟨n + 1, h1⟩ (by dsimp only; omega) (by dsimp only; omega)]
    dsimp only
    rw [middle]
    rfl
  have e2 : (outsAt0 m c (n + 2) h2).2 = step (outsAt0 m c (n + 1) h1).2 (iblk m c 0 ⟨n + 2, h2⟩) (iblk m c 1 ⟨n + 2, h2⟩) := by
    rw [outsAt0_B m c ⟨n + 2, h2⟩ (by dsimp only; omega) (by dsimp only; omega)]
    dsimp only
    rw [middle]
    rfl
  have e3 : (outsAt0 m c (n + 3) h3).1 = step (outsAt0 m c (n + 2) h2).2 (iblk m c 0 ⟨n + 3, h3⟩) (iblk m c 1 ⟨n + 3, h3⟩) := by
    rw [outsAt0_C m c ⟨n + 3, h3⟩ (by dsimp only; omega) (by dsimp only; omega)]
    dsimp only
    rw [last]
    rfl
  have tg : ∀ (d p : ℕ) (hd : p < cfg0.N) (b : Fin 2) (a : Fin 8), p = n + d → d < 4 → a.val = d * 2 + b.val →
      term (iblk m c 0 ⟨p, hd⟩) (iblk m c 1 ⟨p, hd⟩) b ⟨r.val % 1024, by omega⟩ ⟨q.val % 1024, by omega⟩ = via m c a r q := fun d p hd b a e h ha =>
    term_via m c ⟨p, hd⟩ b _ _ a r q (by show a.val = p % 4 * 2 + b.val; omega) (by show r.val = p / 8 * 1024 + r.val % 1024; omega)
      (by show q.val = p / 4 % 2 * 1024 + q.val % 1024; omega)
  unfold G3
  rw [dif_pos (by rw [hp]; exact h3), fold0_congr m c _ _ _ (by omega) hp, ← outsAt0_sweep m c (n + 3) h3, hloc, e3]
  refine (step_apply _ _ _ _ _).trans ?_
  rw [e2, step_apply, e1, step_apply, e0, step_apply]
  rw [tg 0 _ h0 0 0 rfl (by decide) rfl, tg 0 _ h0 1 1 rfl (by decide) rfl, tg 1 _ h1 0 2 rfl (by decide) rfl, tg 1 _ h1 1 3 rfl (by decide) rfl,
    tg 2 _ h2 0 4 rfl (by decide) rfl, tg 2 _ h2 1 5 rfl (by decide) rfl, tg 3 _ h3 0 6 rfl (by decide) rfl, tg 3 _ h3 1 7 rfl (by decide) rfl]
  rw [block2 m c ⟨n, h0⟩ _ _ (ix2 r q) (by show r.val = n / 8 * 1024 + r.val % 1024; omega) (by show q.val = n / 4 % 2 * 1024 + q.val % 1024; omega)]
  rw [Fin.sum_univ_eight]
  abel

end Cert.Kernel11Ideal.Sums

namespace Cert.Reference11Ideal.Sums

open Idealize.ShloMosaic Idealize.ShloMosaic.TcCoe Idealize.ShloMosaic.ValueIdx
open Cert.Reference11Ideal Cert.Reference11Ideal.Gen
open scoped BigOperators

/-- The reference's product over columns and shards, at one place. -/
theorem product_apply (X : FVec Ideal S8x4096x704 .f32) (Y : FVec Ideal S8x704x2048 .f32) (r : Fin 4096) (q : Fin 2048) :
    (Host.dotGeneral dot_S8x4096x704_S8x704x2048_S4096x2048_20_10_1_2_n_n none X Y (ix2 r q) : EReal)
      = ∑ a : Fin 8, ∑ k : Fin 704, (X (ix3 a r k) * Y (ix3 a k q) : EReal) := by
  simp only [Host.dotGeneral]
  rw [Ideal.dotGeneral_apply, sum_contr2 dot_S8x4096x704_S8x704x2048_S4096x2048_20_10_1_2_n_n 704 8 rfl rfl rfl, Finset.sum_comm]
  refine Finset.sum_congr rfl fun a _ => Finset.sum_congr rfl fun k _ => ?_
  have k0 := contrEquiv2_symm_val0 dot_S8x4096x704_S8x704x2048_S4096x2048_20_10_1_2_n_n 704 8 rfl rfl rfl (k, a)
  have k1 := contrEquiv2_symm_val1 dot_S8x4096x704_S8x704x2048_S4096x2048_20_10_1_2_n_n 704 8 rfl rfl rfl (k, a)
  generalize (contrEquiv2 dot_S8x4096x704_S8x704x2048_S4096x2048_20_10_1_2_n_n 704 8 rfl rfl rfl).symm (k, a) = j at k0 k1
  have el : dot_S8x4096x704_S8x704x2048_S4096x2048_20_10_1_2_n_n.lhsIdx (ix2 r q) j = ix3 a r k := funext fun b => Fin.ext (by
    match b with
    | ⟨0, _⟩ => exact k1
    | ⟨1, _⟩ => rfl
    | ⟨2, _⟩ => exact k0)
  have er : dot_S8x4096x704_S8x704x2048_S4096x2048_20_10_1_2_n_n.rhsIdx (ix2 r q) j = ix3 a k q := funext fun b => Fin.ext (by
    match b with
    | ⟨0, _⟩ => exact k1
    | ⟨1, _⟩ => exact k0
    | ⟨2, _⟩ => rfl)
  rw [el, er]

end Cert.Reference11Ideal.Sums

namespace Cert.Proof

open Idealize.ShloMosaic Idealize.ShloMosaic.TcCoe Idealize.ShloMosaic.ValueIdx
open Idealize.SL.Sem
open scoped BigOperators

/-- The second half of the feed-forward layer is the reference's. -/
theorem equal_residual : Cert.algebraic_Kernel11Ideal_Reference11Ideal (hKernel11Ideal := Cert.Kernel11Ideal.Gen.facts) (hReference11Ideal := Cert.Reference11Ideal.Gen.facts) := by
  intro m g m' g' hpre hargs
  refine ⟨fun c => Cert.Kernel11Ideal.Value.G3 m c, Cert.Kernel11Ideal.Value.run m g, ?_⟩
  refine (θ_run Cert.Reference11Ideal.defs _ _).mono (fun _ h c => ?_) (Cert.Reference11Ideal.Value.run m' g')
  obtain ⟨e0, e1, e2⟩ := hargs c
  refine ⟨(h c).1.trans ((Cert.Reference11Ideal.Read.val_main_v3_eq _ _ _).trans (funext fun i => ?_)), (h c).2⟩
  show _ = Cert.Kernel11Ideal.Value.G3 m c i
  obtain ⟨r, q, rfl⟩ : ∃ (r : Fin 4096) (q : Fin 2048), i = ix2 r q := ⟨i 0, i 1, eq_ix2 i⟩
  rw [Cert.Reference11Ideal.Read.val_main_v3_apply, Cert.Kernel11Ideal.Sums.result_apply, e0, e1, e2]
  exact congrArg (fun z : EReal => Cert.Kernel11Ideal.Sums.stream m c (ix2 r q) + z) (Cert.Reference11Ideal.Sums.product_apply _ _ r q)

end Cert.Proof
-- ==== Proof.Projections.OutputGrad.lean ====
/- The gradient of the attention output: each tile of the kernel is a tile of the product. -/
module

public import proofs.«01_k».proof.Defs
public import proofs.«01_k».proof.Proof.FeedForward.Products
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit.Geometry

@[expose] public section

set_option maxRecDepth 16384

noncomputable section

namespace Cert.Kernel6Ideal.Sums

open Idealize.ShloMosaic Idealize.ShloMosaic.TcCoe Idealize.ShloMosaic.Tactic Idealize.ShloMosaic.ValueIdx
open Cert.Kernel6Ideal Cert.Kernel6Ideal.Gen Cert.Kernel6Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

variable (m : (ℓ : Loc nD τ sig) → Buf (Elt Ideal) ℓ) (c : Dev nD)

/-- The residual stream's gradient, and the weight's rows in eight shards. -/
abbrev rows : S4096x2048.Idx → EReal := m ((c : Thread nD τ).loc main_arg0)
abbrev shards : S8x256x2048.Idx → EReal := m ((c : Thread nD τ).loc main_arg1)

/-- Column `q` of the product is row `q % 256` of shard `q / 256`. -/
abbrev shard (q : Fin 2048) : Fin 8 := ⟨q.val / 256, by omega⟩
abbrev row (q : Fin 2048) : Fin 256 := ⟨q.val % 256, by omega⟩

/-- The product. -/
def product (i : S4096x2048.Idx) : EReal := ∑ k : Fin 2048, rows m c (ix2 (i 0) k) * shards m c (ix3 (shard (i 1)) (row (i 1)) k)

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val % 4, t.val / 4] := (by decide +kernel : ∀ t : Fin grid0.N, _)

theorem block0 (t : Fin cfg0.N) (r : Fin 1024) (k : Fin 2048) (j : S4096x2048.Idx)
    (e0 : (j 0).val = t.val % 4 * 1024 + r.val) (e1 : (j 1).val = k.val) :
    iblk m c 0 t (ix2 r k) = rows m c j := by
  have e : iblk m c 0 t (ix2 r k) = m ((c : Thread nD τ).loc main_arg0) ((win0_0.blk t).view.emb (ix2 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (q : Fin 256) (k : Fin 2048) (j : S8x256x2048.Idx)
    (e0 : (j 0).val = t.val / 4) (e1 : (j 1).val = q.val) (e2 : (j 2).val = k.val) :
    iblk m c 1 t (ix3 0 q k) = shards m c j := by
  have e : iblk m c 1 t (ix3 0 q k) = m ((c : Thread nD τ).loc main_arg1) ((win0_1.blk t).view.emb (ix3 0 q k)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

/-- One tile at one place. -/
theorem tile_apply (x : Vec Ideal S1024x2048 .bf16) (w : Vec Ideal S1x256x2048 .bf16) (r : Fin 1024) (q : Fin 256) :
    (out0_2 x w (ix2 r q) : EReal) = ∑ k : Fin 2048, x (ix2 r k) * w (ix3 0 q k) := by
  unfold out0_2
  rw [View.canon_unit_zero (S := S1024x256) off2, View.ld_unit_zero (S := S1024x2048) off2, View.ld_unit_zero (S := S1x256x2048) off3]
  unfold k0_pay1
  exact (rows_apply (φ := .bf16) (ψ := .bf16) (n := 1024) (m := 256) (k := 2048) dot_S1024x2048_S256x2048_S1024x256_1_1_0_0_n_n rfl none r q).trans
    (Finset.sum_congr rfl fun k _ => congrArg (fun z : EReal => x (ix2 r k) * z) (page_apply (n := 256) (m := 2048) w shapeCasts_S1x256x2048_S256x2048 q k))

/-- What the kernel leaves. -/
theorem final : (dats m 0 c).arrAt 2 cfg0.N = product m c := by
  refine (dats m 0 c).arrAt_eq_of_covers 2 _ (by decide +kernel) fun t hf y => ?_
  blk_simp
  rw [after0_2]
  obtain ⟨r, q, rfl⟩ : ∃ (r : Fin 1024) (q : Fin 256), y = ix2 r q := ⟨y 0, y 1, eq_ix2 y⟩
  have h : ((win0_2.blk t).view.emb (ix2 r q) 1).val = t.val / 4 * 256 + q.val := by blk_simp [idx2]; rfl
  have hq := q.isLt
  refine (tile_apply _ _ r q).trans ?_
  refine Finset.sum_congr (M := EReal) rfl fun k _ => congrArg₂ (fun x y : EReal => x * y) (block0 m c t r k _ ?_ rfl) (block1 m c t q k _ ?_ ?_ rfl)
  · show ((win0_2.blk t).view.emb (ix2 r q) 0).val = _
    blk_simp [idx2]
    rfl
  · show ((win0_2.blk t).view.emb (ix2 r q) 1).val / 256 = _
    omega
  · show ((win0_2.blk t).view.emb (ix2 r q) 1).val % 256 = _
    omega

end Cert.Kernel6Ideal.Sums

namespace Cert.Proof

open Idealize.ShloMosaic Idealize.ShloMosaic.TcCoe Idealize.ShloMosaic.ValueIdx
open Idealize.SL.Sem
open scoped BigOperators

/-- The gradient of the attention output is the reference's. -/
theorem equal_output_grad : Cert.algebraic_Kernel6Ideal_Reference6Ideal (hKernel6Ideal := Cert.Kernel6Ideal.Gen.facts) (hReference6Ideal := Cert.Reference6Ideal.Gen.facts) := by
  intro m g m' g' hpre hargs
  refine ⟨fun c => Cert.Kernel6Ideal.Sums.product m c, (θ_run Cert.Kernel6Ideal.defs _ _).mono (fun _ h c => ⟨(h c).1.trans (Cert.Kernel6Ideal.Sums.final m c), (h c).2⟩) (Cert.Kernel6Ideal.Value.run_blocks m g), ?_⟩
  refine (θ_run Cert.Reference6Ideal.defs _ _).mono (fun _ h c => ?_) (Cert.Reference6Ideal.Value.run m' g')
  obtain ⟨e0, e1⟩ := hargs c
  refine ⟨(h c).1.trans ((Cert.Reference6Ideal.Read.val_main_v6_eq _ _).trans (funext fun i => ?_)), (h c).2⟩
  show _ = Cert.Kernel6Ideal.Sums.product m c i
  rw [Cert.Reference6Ideal.Read.val_main_v6_apply, Cert.Reference6Ideal.Read.val_main_v5_apply, e0, e1]
  have h1 : (i 1).val < 2048 := (i 1).isLt
  refine Finset.sum_congr (M := EReal) rfl fun k _ => congrArg₂ (fun x y : EReal => x * y) (congrArg (Cert.Kernel6Ideal.Sums.rows m c) (funext fun a => match a with
      | ⟨0, _⟩ => rfl
      | ⟨1, _⟩ => rfl)) ?_
  rw [Cert.Reference6Ideal.Read.val_main_v2_apply]
  have hk := k.isLt
  refine congrArg (Cert.Kernel6Ideal.Sums.shards m c) (funext fun a => match a with
      | ⟨0, _⟩ => Fin.ext ?_
      | ⟨1, _⟩ => Fin.ext ?_
      | ⟨2, _⟩ => Fin.ext ?_)
  · show ((i 1).val * 2048 + k.val) / 524288 = (i 1).val / 256
    omega
  · show ((i 1).val * 2048 + k.val) / 2048 % 256 = (i 1).val % 256
    omega
  · show ((i 1).val * 2048 + k.val) % 2048 = k.val
    omega

end Cert.Proof
-- ==== Proof.Projections.OutputWeight.lean ====
/- The gradient of the output projection's weights: what the kernel accumulates is the sum over all tokens. -/
module

public import proofs.«01_k».proof.Defs
public import proofs.«01_k».proof.Proof.FeedForward.Products
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit.Geometry

@[expose] public section

set_option maxRecDepth 16384

noncomputable section

namespace Cert.Kernel7Ideal.Sums

open Idealize.ShloMosaic Idealize.ShloMosaic.TcCoe Idealize.ShloMosaic.Tactic Idealize.ShloMosaic.ValueIdx
open Cert.Kernel7Ideal Cert.Kernel7Ideal.Gen Cert.Kernel7Ideal.Value
open Idealize.SL.Sem
open Cert.Reals
open scoped BigOperators

theorem off2 : (![0, 0] : Fin 2 → Nat) = fun _ => 0 := funext fun a => by fin_cases a <;> rfl

section Cases
variable (c : Dev nD) (i : grid0.Coords) (a3 : Memref sig .tc .vmem S2048x1024 .bf16) (h3 : a3.IsWhole) (a4 : Memref sig .tc .vmem S2048x1024 .bf16) (h4 : a4.IsWhole)
  (a5 : Memref sig .tc .vmem S1024x1024 .f32) (h5 : a5.IsWhole) (a6 : Memref sig .tc .vmem S1024x1024 .f32) (h6 : a6.IsWhole)
  (x : Vec Ideal S2048x1024 .bf16) (d : Vec Ideal S2048x1024 .bf16)

/-- The first half of the tokens leaves its product, added to zero. -/
theorem first (hc0 : cond0_0 i) (hc1 : ¬cond0_1 i) :
    sout0_A_0 c i a3 h3 a4 h4 a5 h5 a6 h6 hc0 hc1 x d = k0_pay2 x (k0_pay1 (F := Ideal)) d := by
  unfold sout0_A_0
  rw [View.read_writes_eq_canon _ _ _ (scover0_A_0 c i a3 h3 a4 h4 a5 h5 a6 h6 hc0 hc1 x d)]
  unfold kernelRun0_A
  dsimp only
  sl_unfold_words
  rw [View.canon_cons_unit_zero (S := S1024x1024) off2, View.readCov_unit_zero (S := S1024x1024) _ off2]
  simp only [View.readAt_eq_ld, h3.read_unread, h4.read_unread, View.ld_unit_zero (S := S2048x1024) off2]

/-- The second half adds its product and hands the sum on. -/
theorem second (hc0 : ¬cond0_0 i) (hc1 : cond0_1 i) (s : Vec Ideal S1024x1024 .f32) :
    out0_B_2 c i a3 h3 a4 h4 a5 h5 a6 h6 hc0 hc1 x d s = k0_pay2 x s d := by
  unfold out0_B_2
  rw [View.read_writes_eq_canon _ _ _ (cover0_B_2 c i a3 h3 a4 h4 a5 h5 a6 h6 hc0 hc1 x d s)]
  unfold kernelRun0_B
  dsimp only
  sl_unfold_words
  rw [View.canon_unit_zero (S := S1024x1024) off2, View.readCov_unit_zero (S := S1024x1024) _ off2]
  simp only [View.readAt_eq_ld, h3.read_unread, h4.read_unread, h6.read_unread, View.ld_unit_zero (S := S2048x1024) off2,
    View.ld_unit_zero (S := S1024x1024) off2]

end Cases

/-- One step at one place: what was there and a sum over half of the tokens. -/
theorem step_apply (x : Vec Ideal S2048x1024 .bf16) (s : Vec Ideal S1024x1024 .f32) (d : Vec Ideal S2048x1024 .bf16) (r q : Fin 1024) :
    k0_pay2 x s d (ix2 r q) = (s (ix2 r q) + ∑ k : Fin 2048, x (ix2 k r) * d (ix2 k q) : EReal) := by
  unfold k0_pay2
  rw [shapeCast_self]
  exact congrArg (fun z : EReal => s (ix2 r q) + z)
    (columns_apply (φ := .bf16) (ψ := .bf16) (n := 1024) (m := 1024) (k := 2048) dot_S2048x1024_S2048x1024_S1024x1024_0_0_1_1_n_n rfl rfl (fun _ _ => ⟨rfl, rfl⟩) (fun _ _ => ⟨rfl, rfl⟩) none r q)

theorem zero_apply (r q : Fin 1024) : k0_pay1 (F := Ideal) (ix2 r q) = (0 : EReal) := by
  unfold k0_pay1
  rw [shapeCast_self]
  exact Ideal.ofBits_zero_f32

theorem idx0 : ∀ t : Fin cfg0.N, win0_0.index t = ![t.val % 2, t.val / 4] := (by decide +kernel : ∀ t : Fin grid0.N, _)
theorem idx1 : ∀ t : Fin cfg0.N, win0_1.index t = ![t.val % 2, t.val / 2 % 2] := (by decide +kernel : ∀ t : Fin grid0.N, _)

variable (m : (ℓ : Loc nD τ sig) → Buf (Elt Ideal) ℓ) (c : Dev nD)

/-- The attention's output, and the cotangent. -/
abbrev rows : S4096x2048.Idx → EReal := m ((c : Thread nD τ).loc main_arg0)
abbrev cot : S4096x2048.Idx → EReal := m ((c : Thread nD τ).loc main_arg1)

theorem block0 (t : Fin cfg0.N) (k : Fin 2048) (r : Fin 1024) (j : S4096x2048.Idx)
    (e0 : (j 0).val = t.val % 2 * 2048 + k.val) (e1 : (j 1).val = t.val / 4 * 1024 + r.val) :
    iblk m c 0 t (ix2 k r) = rows m c j := by
  have e : iblk m c 0 t (ix2 k r) = m ((c : Thread nD τ).loc main_arg0) ((win0_0.blk t).view.emb (ix2 k r)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 2048) (q : Fin 1024) (j : S4096x2048.Idx)
    (e0 : (j 0).val = t.val % 2 * 2048 + k.val) (e1 : (j 1).val = t.val / 2 % 2 * 1024 + q.val) :
    iblk m c 1 t (ix2 k q) = cot m c j := by
  have e : iblk m c 1 t (ix2 k q) = m ((c : Thread nD τ).loc main_arg1) ((win0_1.blk t).view.emb (ix2 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]

/-- What the kernel leaves at one place of its result: the sum over all tokens. -/
theorem result_apply (i : S2048x2048.Idx) :
    G2 m c i = (∑ t : Fin 4096, rows m c (ix2 t (i 0)) * cot m c (ix2 t (i 1)) : EReal) := by
  obtain ⟨r, q, rfl⟩ : ∃ (r : Fin 2048) (q : Fin 2048), i = ix2 r q := ⟨i 0, i 1, eq_ix2 i⟩
  have hr := r.isLt
  have hq := q.isLt
  have hN : cfg0.N = 8 := N_0
  have hrun : run2Of (ix2 r q) = 2 * (r.val / 1024) + q.val / 1024 := by
    show 2 * (r.val / 1024 - 0) + 1 * (q.val / 1024 - 0) = _
    omega
  have hp : pt2Of (ix2 r q) = 2 * (2 * (r.val / 1024) + q.val / 1024) + 1 := by
    show 2 * run2Of (ix2 r q) + 1 = _
    rw [hrun]
  have hloc : loc2Of (ix2 r q) = ix2 (⟨r.val % 1024, by omega⟩ : Fin 1024) (⟨q.val % 1024, by omega⟩ : Fin 1024) := funext fun b => Fin.ext (by
    match b with
    | ⟨0, _⟩ => rfl
    | ⟨1, _⟩ => rfl)
  generalize hn : 2 * (2 * (r.val / 1024) + q.val / 1024) = n at hp
  have h1 : n + 1 < cfg0.N := by omega
  have h0 : n < cfg0.N := by omega
  unfold G2
  rw [dif_pos (by rw [hp]; exact h1), fold0_congr m c _ _ _ (by omega) hp, ← outsAt0_sweep m c (n + 1) h1, hloc]
  rw [outsAt0_B m c ⟨n + 1, h1⟩ (by dsimp only; omega) (by dsimp only; omega)]
  dsimp only
  rw [second]
  have e : (outsAt0 m c n h0).2 = k0_pay2 (iblk m c 0 ⟨n, h0⟩) (k0_pay1 (F := Ideal)) (iblk m c 1 ⟨n, h0⟩) := by
    rw [outsAt0_A m c ⟨n, h0⟩ (by dsimp only; omega) (by dsimp only; omega)]
    dsimp only
    rw [first]
  show k0_pay2 _ (outsAt0 m c n h0).2 _ _ = _
  rw [e, step_apply, step_apply, zero_apply, zero_add]
  refine Eq.trans ?_ (halves _)
  refine congrArg₂ (· + ·) (Finset.sum_congr rfl fun k _ => ?_) (Finset.sum_congr rfl fun k _ => ?_)
  · have hk := k.isLt
    rw [block0 m c ⟨n, h0⟩ k _ (ix2 ⟨k.val, by omega⟩ r) (by show k.val = n % 2 * 2048 + k.val; omega) (by show r.val = n / 4 * 1024 + r.val % 1024; omega),
      block1 m c ⟨n, h0⟩ k _ (ix2 ⟨k.val, by omega⟩ q) (by show k.val = n % 2 * 2048 + k.val; omega) (by show q.val = n / 2 % 2 * 1024 + q.val % 1024; omega)]
  · have hk := k.isLt
    rw [block0 m c ⟨n + 1, h1⟩ k _ (ix2 ⟨2048 + k.val, by omega⟩ r) (by show 2048 + k.val = (n + 1) % 2 * 2048 + k.val; omega) (by show r.val = (n + 1) / 4 * 1024 + r.val % 1024; omega),
      block1 m c ⟨n + 1, h1⟩ k _ (ix2 ⟨2048 + k.val, by omega⟩ q) (by show 2048 + k.val = (n + 1) % 2 * 2048 + k.val; omega) (by show q.val = (n + 1) / 2 % 2 * 1024 + q.val % 1024; omega)]

end Cert.Kernel7Ideal.Sums

namespace Cert.Proof

open Idealize.ShloMosaic Idealize.ShloMosaic.TcCoe Idealize.ShloMosaic.ValueIdx
open Idealize.SL.Sem
open scoped BigOperators

/-- The gradient of the output projection's weights is the reference's. -/
theorem equal_output_weight : Cert.algebraic_Kernel7Ideal_Reference7Ideal (hKernel7Ideal := Cert.Kernel7Ideal.Gen.facts) (hReference7Ideal := Cert.Reference7Ideal.Gen.facts) := by
  intro m g m' g' hpre hargs
  refine ⟨fun c => Cert.Kernel7Ideal.Value.G2 m c, Cert.Kernel7Ideal.Value.run m g, ?_⟩
  refine (θ_run Cert.Reference7Ideal.defs _ _).mono (fun _ h c => ?_) (Cert.Reference7Ideal.Value.run m' g')
  obtain ⟨e0, e1⟩ := hargs c
  refine ⟨(h c).1.trans ((Cert.Reference7Ideal.Read.val_main_v5_eq _ _).trans (funext fun i => ?_)), (h c).2⟩
  show _ = Cert.Kernel7Ideal.Value.G2 m c i
  rw [Cert.Reference7Ideal.Read.val_main_v5_apply, Cert.Reference7Ideal.Read.val_main_v4_apply, Cert.Kernel7Ideal.Sums.result_apply, e0, e1]
  exact Finset.sum_congr (M := EReal) rfl fun k _ => (mul_comm (G := EReal) _ _).trans
    (congrArg₂ (fun x y : EReal => x * y) (congrArg (Cert.Kernel7Ideal.Sums.rows m c) (funext fun a => match a with
      | ⟨0, _⟩ => rfl
      | ⟨1, _⟩ => rfl)) (congrArg (Cert.Kernel7Ideal.Sums.cot m c) (funext fun a => match a with
      | ⟨0, _⟩ => rfl
      | ⟨1, _⟩ => rfl)))

end Cert.Proof
-- ==== Proof.Projections.InputGrad.lean ====
/- The cotangent of the projection's input: what the kernel accumulates over the three sections is the sum over all columns. -/
module

public import proofs.«01_k».proof.Defs
public import proofs.«01_k».proof.Proof.FeedForward.Products
public import proofs.«01_k».proof.Proof.Gen.Kernel8Ideal.Value
public import proofs.«01_k».proof.Proof.Gen.Reference8Ideal.Run
public import proofs.«01_k».proof.Proof.Gen.Reference8Ideal.Read
public import Mathlib.Tactic.Abel
public import Idealize.ShloMosaic.Lib.Pipeline.ValueKit.Geometry

@[expose] public section

set_option maxRecDepth 16384

noncomputable section

namespace Cert.Kernel8Ideal.Sums

open Idealize.ShloMosaic Idealize.ShloMosaic.TcCoe Idealize.ShloMosaic.Tactic Idealize.ShloMosaic.ValueIdx
open Cert.Kernel8Ideal Cert.Kernel8Ideal.Gen Cert.Kernel8Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

/-- A sum over three sections of columns. -/
theorem thirds (f : Fin 6144 → EReal) :
    (∑ k : Fin 2048, f ⟨k.val, by omega⟩) + (∑ k : Fin 2048, f ⟨2048 + k.val, by omega⟩) + (∑ k : Fin 2048, f ⟨4096 + k.val, by omega⟩) = ∑ k : Fin 6144, f k := by
  rw [halves fun k : Fin 4096 => f ⟨k.val, by omega⟩]
  exact (Fin.sum_univ_add (a := 4096) (b := 2048) f).symm

/-- One step, from what was there. -/
abbrev step (s : Vec Ideal S1024x1024 .f32) (x : Vec Ideal S1x1024x2048 .bf16) (w : Vec Ideal S1024x2048 .bf16) : Vec Ideal S1024x1024 .f32 :=
  k0_pay2 s x w

section Cases
variable (c : Dev nD) (i : grid0.Coords) (a3 : Memref sig .tc .vmem S1x1024x2048 .bf16) (h3 : a3.IsWhole) (a4 : Memref sig .tc .vmem S1024x2048 .bf16) (h4 : a4.IsWhole)
  (a5 : Memref sig .tc .vmem S1024x1024 .f32) (h5 : a5.IsWhole) (a6 : Memref sig .tc .vmem S1024x1024 .f32) (h6 : a6.IsWhole)
  (x : Vec Ideal S1x1024x2048 .bf16) (w : Vec Ideal S1024x2048 .bf16)

/-- The first section leaves its product. -/
theorem first (hc0 : cond0_0 i) (hc1 : ¬cond0_1 i) :
    sout0_A_0 c i a3 h3 a4 h4 a5 h5 a6 h6 hc0 hc1 x w = step (k0_pay1 (F := Ideal)) x w := by
  unfold sout0_A_0
  rw [View.read_writes_eq_canon _ _ _ (scover0_A_0 c i a3 h3 a4 h4 a5 h5 a6 h6 hc0 hc1 x w)]
  unfold kernelRun0_A
  dsimp only
  sl_unfold_words
  rw [View.canon_cons_unit_zero (S := S1024x1024) off2, View.readCov_unit_zero (S := S1024x1024) _ off2]
  simp only [View.readAt_eq_ld, h3.read_unread, h4.read_unread, View.ld_unit_zero (S := S1x1024x2048) off3, View.ld_unit_zero (S := S1024x2048) off2]

/-- The second adds its own. -/
theorem middle (hc0 : ¬cond0_0 i) (hc1 : ¬cond0_1 i) (s : Vec Ideal S1024x1024 .f32) :
    sout0_B_0 c i a3 h3 a4 h4 a5 h5 a6 h6 hc0 hc1 x w s = step s x w := by
  unfold sout0_B_0
  rw [View.read_writes_eq_canon _ _ _ (scover0_B_0 c i a3 h3 a4 h4 a5 h5 a6 h6 hc0 hc1 x w s)]
  unfold kernelRun0_B
  dsimp only
  sl_unfold_words
  rw [View.canon_unit_zero (S := S1024x1024) off2]
  simp only [View.readAt_eq_ld, h3.read_unread, h4.read_unread, h6.read_unread, View.ld_unit_zero (S := S1x1024x2048) off3, View.ld_unit_zero (S := S1024x2048) off2, View.ld_unit_zero (S := S1024x1024) off2]

/-- The last adds its own and hands the sum on. -/
theorem last (hc0 : ¬cond0_0 i) (hc1 : cond0_1 i) (s : Vec Ideal S1024x1024 .f32) :
    out0_C_2 c i a3 h3 a4 h4 a5 h5 a6 h6 hc0 hc1 x w s = step s x w := by
  unfold out0_C_2
  rw [View.read_writes_eq_canon _ _ _ (cover0_C_2 c i a3 h3 a4 h4 a5 h5 a6 h6 hc0 hc1 x w s)]
  unfold kernelRun0_C
  dsimp only
  sl_unfold_words
  rw [View.canon_unit_zero (S := S1024x1024) off2, View.readCov_unit_zero (S := S1024x1024) _ off2]
  simp only [View.readAt_eq_ld, h3.read_unread, h4.read_unread, h6.read_unread, View.ld_unit_zero (S := S1x1024x2048) off3, View.ld_unit_zero (S := S1024x2048) off2, View.ld_unit_zero (S := S1024x1024) off2]

end Cases

/-- One section's sum over its columns. -/
def term (x : Vec Ideal S1x1024x2048 .bf16) (w : Vec Ideal S1024x2048 .bf16) (r q : Fin 1024) : EReal := ∑ k : Fin 2048, (x (ix3 0 r k) * w (ix2 q k) : EReal)

/-- The product of one section, at one place. -/
theorem product_apply (x : Vec Ideal S1x1024x2048 .bf16) (w : Vec Ideal S1024x2048 .bf16) (r q : Fin 1024) :
    (matmul (φ₁ := .bf16) (φ₂ := .bf16) dot_S1024x2048_S1024x2048_S1024x1024_1_1_0_0_n_n none (shapeCast S1024x2048 x shapeCasts_S1x1024x2048_S1024x2048)
      w (constant (F := Ideal) S1024x1024 .f32 0x00000000#32) (ix2 r q) : EReal) = term x w r q :=
  (rows_apply (φ := .bf16) (ψ := .bf16) (n := 1024) (m := 1024) (k := 2048) dot_S1024x2048_S1024x2048_S1024x1024_1_1_0_0_n_n rfl none r q).trans
    (Finset.sum_congr (M := EReal) rfl fun k _ => congrArg (fun a : EReal => a * w (ix2 q k))
      (page_apply (n := 1024) (m := 2048) x shapeCasts_S1x1024x2048_S1024x2048 r k))

/-- One step at one place. -/
theorem step_apply (s : Vec Ideal S1024x1024 .f32) (x : Vec Ideal S1x1024x2048 .bf16) (w : Vec Ideal S1024x2048 .bf16) (r q : Fin 1024) :
    (step s x w (ix2 r q) : EReal) = s (ix2 r q) + term x w r q := by
  unfold step k0_pay2
  rw [shapeCast_self, ← product_apply]
  rfl

theorem start (y : S1024x1024.Idx) : (k0_pay1 (F := Ideal) y : EReal) = 0 := by
  unfold k0_pay1
  rw [shapeCast_self]
  exact Ideal.ofBits_zero_f32

theorem idx0 : ∀ t : Fin cfg0.N, win0_0.index t = ![t.val % 3, t.val / 6, 0] := (by decide +kernel : ∀ t : Fin grid0.N, _)
theorem idx1 : ∀ t : Fin cfg0.N, win0_1.index t = ![t.val / 3 % 2, t.val % 3] := (by decide +kernel : ∀ t : Fin grid0.N, _)

variable (m : (ℓ : Loc nD τ sig) → Buf (Elt Ideal) ℓ) (c : Dev nD)

/-- The cotangent in three sections, and the weight. -/
abbrev cots : S3x4096x2048.Idx → EReal := m ((c : Thread nD τ).loc main_arg0)
abbrev weights : S2048x6144.Idx → EReal := m ((c : Thread nD τ).loc main_arg1)

theorem block0 (t : Fin cfg0.N) (r : Fin 1024) (k : Fin 2048) (j : S3x4096x2048.Idx)
    (e0 : (j 0).val = t.val % 3) (e1 : (j 1).val = t.val / 6 * 1024 + r.val) (e2 : (j 2).val = k.val) :
    iblk m c 0 t (ix3 0 r k) = cots m c j := by
  have e : iblk m c 0 t (ix3 0 r k) = m ((c : Thread nD τ).loc main_arg0) ((win0_0.blk t).view.emb (ix3 0 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]
  | ⟨2, _⟩ => refine Eq.trans ?_ e2.symm; blk_simp [idx0]

theorem block1 (t : Fin cfg0.N) (q : Fin 1024) (k : Fin 2048) (j : S2048x6144.Idx)
    (e0 : (j 0).val = t.val / 3 % 2 * 1024 + q.val) (e1 : (j 1).val = t.val % 3 * 2048 + k.val) :
    iblk m c 1 t (ix2 q k) = weights m c j := by
  have e : iblk m c 1 t (ix2 q k) = m ((c : Thread nD τ).loc main_arg1) ((win0_1.blk t).view.emb (ix2 q k)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]

/-- What one column gives at one place. -/
def via (r : Fin 4096) (q : Fin 2048) (k : Fin 6144) : EReal :=
  cots m c (ix3 (⟨k.val / 2048, by omega⟩ : Fin 3) r (⟨k.val % 2048, by omega⟩ : Fin 2048)) * weights m c (ix2 q k)

theorem term_via (t : Fin cfg0.N) (a : ℕ) (ha : a = t.val % 3) (h3 : a < 3) (r' q' : Fin 1024) (r : Fin 4096) (q : Fin 2048)
    (hr : r.val = t.val / 6 * 1024 + r'.val) (hq : q.val = t.val / 3 % 2 * 1024 + q'.val) :
    term (iblk m c 0 t) (iblk m c 1 t) r' q' = ∑ k : Fin 2048, via m c r q ⟨a * 2048 + k.val, by omega⟩ :=
  Finset.sum_congr rfl fun k _ => by
    rw [block0 m c t r' k (ix3 (⟨(a * 2048 + k.val) / 2048, by omega⟩ : Fin 3) r (⟨(a * 2048 + k.val) % 2048, by omega⟩ : Fin 2048))
        (by show (a * 2048 + k.val) / 2048 = _; omega) hr (by show (a * 2048 + k.val) % 2048 = _; omega),
      block1 m c t q' k (ix2 q (⟨a * 2048 + k.val, by omega⟩ : Fin 6144)) hq (by show a * 2048 + k.val = _; rw [ha])]
    rfl

/-- What the kernel leaves at one place of its result: the sum over all columns. -/
theorem result_apply (r : Fin 4096) (q : Fin 2048) :
    G2 m c (ix2 r q) = ∑ k : Fin 6144, via m c r q k := by
  have hr := r.isLt
  have hq := q.isLt
  have hN : cfg0.N = 24 := N_0
  have hrun : run2Of (ix2 r q) = 2 * (r.val / 1024) + q.val / 1024 := by
    show 2 * (r.val / 1024 - 0) + 1 * (q.val / 1024 - 0) = _
    omega
  have hp : pt2Of (ix2 r q) = 3 * (2 * (r.val / 1024) + q.val / 1024) + 2 := by
    show 3 * run2Of (ix2 r q) + 2 = _
    rw [hrun]
  have hloc : loc2Of (ix2 r q) = ix2 (⟨r.val % 1024, by omega⟩ : Fin 1024) (⟨q.val % 1024, by omega⟩ : Fin 1024) := funext fun b => Fin.ext (by
    match b with
    | ⟨0, _⟩ => rfl
    | ⟨1, _⟩ => rfl)
  generalize hn : 3 * (2 * (r.val / 1024) + q.val / 1024) = n at hp
  have h2 : n + 2 < cfg0.N := by omega
  have h1 : n + 1 < cfg0.N := by omega
  have h0 : n < cfg0.N := by omega
  have e0 : (outsAt0 m c n h0).2 = step (k0_pay1 (F := Ideal)) (iblk m c 0 ⟨n, h0⟩) (iblk m c 1 ⟨n, h0⟩) := by
    rw [outsAt0_A m c ⟨n, h0⟩ (by dsimp only; omega) (by dsimp only; omega)]
    dsimp only
    rw [first]
  have e1 : (outsAt0 m c (n + 1) h1).2 = step (outsAt0 m c n h0).2 (iblk m c 0 ⟨n + 1, h1⟩) (iblk m c 1 ⟨n + 1, h1⟩) := by
    rw [outsAt0_B m c ⟨n + 1, h1⟩ (by dsimp only; omega) (by dsimp only; omega)]
    dsimp only
    rw [middle]
    rfl
  have e2 : (outsAt0 m c (n + 2) h2).1 = step (outsAt0 m c (n + 1) h1).2 (iblk m c 0 ⟨n + 2, h2⟩) (iblk m c 1 ⟨n + 2, h2⟩) := by
    rw [outsAt0_C m c ⟨n + 2, h2⟩ (by dsimp only; omega) (by dsimp only; omega)]
    dsimp only
    rw [last]
    rfl
  have tg : ∀ (d p : ℕ) (hd : p < cfg0.N) (h : d < 3), p = n + d →
      term (iblk m c 0 ⟨p, hd⟩) (iblk m c 1 ⟨p, hd⟩) ⟨r.val % 1024, by omega⟩ ⟨q.val % 1024, by omega⟩
        = ∑ k : Fin 2048, via m c r q ⟨d * 2048 + k.val, by omega⟩ := fun d p hd h e =>
    term_via m c ⟨p, hd⟩ d (by show d = p % 3; omega) h _ _ r q (by show r.val = p / 6 * 1024 + r.val % 1024; omega)
      (by show q.val = p / 3 % 2 * 1024 + q.val % 1024; omega)
  unfold G2
  rw [dif_pos (by rw [hp]; exact h2), fold0_congr m c _ _ _ (by omega) hp, ← outsAt0_sweep m c (n + 2) h2, hloc, e2]
  refine (step_apply _ _ _ _ _).trans ?_
  rw [e1, step_apply, e0, step_apply, start]
  rw [tg 0 _ h0 (by decide) rfl, tg 1 _ h1 (by decide) rfl, tg 2 _ h2 (by decide) rfl]
  rw [← thirds, zero_add]
  refine congrArg₂ (fun x y : EReal => x + y) (congrArg₂ (fun x y : EReal => x + y) ?_ ?_) ?_ <;>
    exact Finset.sum_congr (M := EReal) rfl fun k _ => congrArg (via m c r q) (Fin.ext (by dsimp only <;> omega))

end Cert.Kernel8Ideal.Sums

namespace Cert.Proof

open Idealize.ShloMosaic Idealize.ShloMosaic.TcCoe Idealize.ShloMosaic.ValueIdx
open Idealize.SL.Sem
open scoped BigOperators

/-- The cotangent of the projection's input is the reference's. -/
theorem equal_input_grad : Cert.algebraic_Kernel8Ideal_Reference8Ideal (hKernel8Ideal := Cert.Kernel8Ideal.Gen.facts) (hReference8Ideal := Cert.Reference8Ideal.Gen.facts) := by
  intro m g m' g' hpre hargs
  refine ⟨fun c => Cert.Kernel8Ideal.Value.G2 m c, Cert.Kernel8Ideal.Value.run m g, ?_⟩
  refine (θ_run Cert.Reference8Ideal.defs _ _).mono (fun _ h c => ?_) (Cert.Reference8Ideal.Value.run m' g')
  obtain ⟨e0, e1⟩ := hargs c
  refine ⟨(h c).1.trans ((Cert.Reference8Ideal.Read.val_main_v6_eq _ _).trans (funext fun i => ?_)), (h c).2⟩
  show _ = Cert.Kernel8Ideal.Value.G2 m c i
  obtain ⟨r, q, rfl⟩ : ∃ (r : Fin 4096) (q : Fin 2048), i = ix2 r q := ⟨i 0, i 1, eq_ix2 i⟩
  rw [Cert.Reference8Ideal.Read.val_main_v6_apply, Cert.Kernel8Ideal.Sums.result_apply, e0, e1]
  refine Finset.sum_congr (M := EReal) rfl fun k _ => ?_
  rw [Cert.Reference8Ideal.Read.val_main_v5_apply, Cert.Reference8Ideal.Read.val_main_v4_apply]
  refine congrArg₂ (fun x y : EReal => x * y) (congrArg (Cert.Kernel8Ideal.Sums.cots m c) (funext fun a => Fin.ext ?_)) (congrArg (Cert.Kernel8Ideal.Sums.weights m c) (funext fun a => match a with
    | ⟨0, _⟩ => rfl
    | ⟨1, _⟩ => rfl))
  have hk := k.isLt
  match a with
  | ⟨0, _⟩ => show (r.val * 6144 + k.val) / 2048 % 3 = k.val / 2048; omega
  | ⟨1, _⟩ => show (r.val * 6144 + k.val) / 6144 = r.val; omega
  | ⟨2, _⟩ => show (r.val * 6144 + k.val) % 2048 = k.val % 2048; omega

end Cert.Proof
-- ==== Proof.Projections.InputWeight.lean ====
/- The gradient of the projection's weight: each tile of the kernel is a tile of the product, in the order of the shards. -/
module

public import proofs.«01_k».proof.Defs
public import proofs.«01_k».proof.Proof.FeedForward.Products
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit.Geometry

@[expose] public section

set_option maxRecDepth 16384

noncomputable section

namespace Cert.Kernel9Ideal.Sums

open Idealize.ShloMosaic Idealize.ShloMosaic.TcCoe Idealize.ShloMosaic.Tactic Idealize.ShloMosaic.ValueIdx
open Cert.Kernel9Ideal Cert.Kernel9Ideal.Gen Cert.Kernel9Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

/-- One tile over one step. -/
abbrev tile (x : Vec Ideal S4096x1024 .bf16) (d : Vec Ideal S1x4096x256 .bf16) : Vec Ideal S1x1024x256 .f32 :=
  k0_pay3 (k0_pay2 x (k0_pay1 (F := Ideal)) d)

/-- What a point writes. -/
theorem only (c : Dev nD) (i : grid0.Coords) (a3 : Memref sig .tc .vmem S4096x1024 .bf16) (h3 : a3.IsWhole) (a4 : Memref sig .tc .vmem S1x4096x256 .bf16) (h4 : a4.IsWhole)
    (a5 : Memref sig .tc .vmem S1x1024x256 .f32) (h5 : a5.IsWhole) (a6 : Memref sig .tc .vmem S1024x256 .f32) (h6 : a6.IsWhole)
    (hc0 : cond0_0 i) (hc1 : cond0_1 i) (x : Vec Ideal S4096x1024 .bf16) (d : Vec Ideal S1x4096x256 .bf16) :
    out0_A_2 c i a3 h3 a4 h4 a5 h5 a6 h6 hc0 hc1 x d = tile x d := by
  unfold out0_A_2
  rw [View.read_writes_eq_canon _ _ _ (cover0_A_2 c i a3 h3 a4 h4 a5 h5 a6 h6 hc0 hc1 x d)]
  unfold kernelRun0_A
  dsimp only
  sl_unfold_words
  rw [View.canon_unit_zero (S := S1x1024x256) off3, View.readCov_cons_toLoadRect, View.readCov_unit_zero (S := S1024x256) _ off2]
  simp only [View.readAt_eq_ld, h3.read_unread, h4.read_unread, View.ld_unit_zero (S := S4096x1024) off2, View.ld_unit_zero (S := S1x4096x256) off3]

/-- The product at one place. -/
theorem product_apply (x : Vec Ideal S4096x1024 .bf16) (d : Vec Ideal S1x4096x256 .bf16) (r : Fin 1024) (q : Fin 256) :
    (matmul (φ₁ := .bf16) (φ₂ := .bf16) dot_S4096x1024_S4096x256_S1024x256_0_0_1_1_n_n none x (shapeCast S4096x256 d shapeCasts_S1x4096x256_S4096x256)
      (constant (F := Ideal) S1024x256 .f32 0x00000000#32) (ix2 r q) : EReal) = ∑ k : Fin 4096, x (ix2 k r) * d (ix3 0 k q) :=
  (columns_apply (φ := .bf16) (ψ := .bf16) (n := 1024) (m := 256) (k := 4096) dot_S4096x1024_S4096x256_S1024x256_0_0_1_1_n_n rfl rfl (fun _ _ => ⟨rfl, rfl⟩) (fun _ _ => ⟨rfl, rfl⟩) none r q).trans
    (Finset.sum_congr (M := EReal) rfl fun k _ => congrArg (fun z : EReal => x (ix2 k r) * z)
      (page_apply (n := 4096) (m := 256) d shapeCasts_S1x4096x256_S4096x256 k q))

theorem start (y : S1024x256.Idx) : (k0_pay1 (F := Ideal) y : EReal) = 0 := by
  unfold k0_pay1
  rw [shapeCast_self]
  exact Ideal.ofBits_zero_f32

theorem sum_apply (x : Vec Ideal S4096x1024 .bf16) (d : Vec Ideal S1x4096x256 .bf16) (r : Fin 1024) (q : Fin 256) :
    (k0_pay2 x (k0_pay1 (F := Ideal)) d (ix2 r q) : EReal) = ∑ k : Fin 4096, x (ix2 k r) * d (ix3 0 k q) := by
  unfold k0_pay2
  rw [shapeCast_self, ← product_apply]
  refine Eq.trans ?_ (zero_add _)
  rw [← start (ix2 r q)]
  rfl

/-- One tile at one place. -/
theorem tile_apply (x : Vec Ideal S4096x1024 .bf16) (d : Vec Ideal S1x4096x256 .bf16) (r : Fin 1024) (q : Fin 256) :
    (tile x d (ix3 0 r q) : EReal) = ∑ k : Fin 4096, x (ix2 k r) * d (ix3 0 k q) := by
  unfold tile k0_pay3
  exact (paged_apply (n := 1024) (m := 256) _ shapeCasts_S1024x256_S1x1024x256 0 r q).trans (sum_apply x d r q)

variable (m : (ℓ : Loc nD τ sig) → Buf (Elt Ideal) ℓ) (c : Dev nD)

/-- The rows, and the cotangent in three sections. -/
abbrev rows : S4096x2048.Idx → EReal := m ((c : Thread nD τ).loc main_arg0)
abbrev cots : S3x4096x2048.Idx → EReal := m ((c : Thread nD τ).loc main_arg1)

/-- The gradient, its columns in eight shards. -/
def product (i : S8x2048x768.Idx) : EReal := ∑ k : Fin 4096, rows m c (ix2 k (i 1)) *
  cots m c (ix3 (⟨((i 0).val * 768 + (i 2).val) / 2048, by have h0 : (i 0).val < 8 := (i 0).isLt; have h2 : (i 2).val < 768 := (i 2).isLt; omega⟩ : Fin 3) k
    (⟨((i 0).val * 768 + (i 2).val) % 2048, by omega⟩ : Fin 2048))

theorem idx0 : ∀ t : Fin cfg0.N, win0_0.index t = ![0, t.val / 24] := (by decide +kernel : ∀ t : Fin grid0.N, _)
theorem idx1 : ∀ t : Fin cfg0.N, win0_1.index t = ![t.val % 24 / 8, 0, t.val % 8] := (by decide +kernel : ∀ t : Fin grid0.N, _)
theorem idx2 : ∀ t : Fin cfg0.N, win0_2.index t = ![t.val % 24 / 3, t.val / 24, t.val % 3] := (by decide +kernel : ∀ t : Fin grid0.N, _)

theorem block0 (t : Fin cfg0.N) (k : Fin 4096) (r : Fin 1024) (j : S4096x2048.Idx)
    (e0 : (j 0).val = k.val) (e1 : (j 1).val = t.val / 24 * 1024 + r.val) :
    iblk m c 0 t (ix2 k r) = rows m c j := by
  have e : iblk m c 0 t (ix2 k r) = m ((c : Thread nD τ).loc main_arg0) ((win0_0.blk t).view.emb (ix2 k r)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 4096) (q : Fin 256) (j : S3x4096x2048.Idx)
    (e0 : (j 0).val = t.val % 24 / 8) (e1 : (j 1).val = k.val) (e2 : (j 2).val = t.val % 8 * 256 + q.val) :
    iblk m c 1 t (ix3 0 k q) = cots m c j := by
  have e : iblk m c 1 t (ix3 0 k q) = m ((c : Thread nD τ).loc main_arg1) ((win0_1.blk t).view.emb (ix3 0 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

/-- What the kernel leaves. -/
theorem final : (dats m 0 c).arrAt 2 cfg0.N = product m c := by
  refine (dats m 0 c).arrAt_eq_of_covers 2 _ (by decide +kernel) fun t hf y => ?_
  blk_simp
  rw [after0_2]
  unfold outsAt0
  rw [only]
  obtain ⟨r, q, rfl⟩ := of_page (n := 1024) (m := 256) y
  refine (tile_apply _ _ r q).trans ?_
  have hq := q.isLt
  have i0 : ((win0_2.blk t).view.emb (ix3 0 r q) 0).val = t.val % 24 / 3 := by
    blk_simp [idx2]
  have i1 : ((win0_2.blk t).view.emb (ix3 0 r q) 1).val = t.val / 24 * 1024 + r.val := by
    blk_simp [idx2]
    rfl
  have i2 : ((win0_2.blk t).view.emb (ix3 0 r q) 2).val = t.val % 3 * 256 + q.val := by
    blk_simp [idx2]
    rfl
  refine Finset.sum_congr (M := EReal) rfl fun k _ => congrArg₂ (fun x y : EReal => x * y) (block0 m c t k r _ rfl i1) (block1 m c t k q _ ?_ rfl ?_)
  · show (((win0_2.blk t).view.emb (ix3 0 r q) 0).val * 768 + ((win0_2.blk t).view.emb (ix3 0 r q) 2).val) / 2048 = _
    rw [i0, i2]
    omega
  · show (((win0_2.blk t).view.emb (ix3 0 r q) 0).val * 768 + ((win0_2.blk t).view.emb (ix3 0 r q) 2).val) % 2048 = _
    rw [i0, i2]
    omega

end Cert.Kernel9Ideal.Sums

namespace Cert.Proof

open Idealize.ShloMosaic Idealize.ShloMosaic.TcCoe Idealize.ShloMosaic.ValueIdx
open Idealize.SL.Sem
open scoped BigOperators

/-- The gradient of the projection's weight is the reference's. -/
theorem equal_input_weight : Cert.algebraic_Kernel9Ideal_Reference9Ideal (hKernel9Ideal := Cert.Kernel9Ideal.Gen.facts) (hReference9Ideal := Cert.Reference9Ideal.Gen.facts) := by
  intro m g m' g' hpre hargs
  refine ⟨fun c => Cert.Kernel9Ideal.Sums.product m c, (θ_run Cert.Kernel9Ideal.defs _ _).mono (fun _ h c => ⟨(h c).1.trans (Cert.Kernel9Ideal.Sums.final m c), (h c).2⟩) (Cert.Kernel9Ideal.Value.run_blocks m g), ?_⟩
  refine (θ_run Cert.Reference9Ideal.defs _ _).mono (fun _ h c => ?_) (Cert.Reference9Ideal.Value.run m' g')
  obtain ⟨e0, e1⟩ := hargs c
  refine ⟨(h c).1.trans ((Cert.Reference9Ideal.Read.val_main_v9_eq _ _).trans (funext fun i => ?_)), (h c).2⟩
  show _ = Cert.Kernel9Ideal.Sums.product m c i
  rw [Cert.Reference9Ideal.Read.val_main_v9_apply, Cert.Reference9Ideal.Read.val_main_v8_apply, Cert.Reference9Ideal.Read.val_main_v7_apply, Cert.Reference9Ideal.Read.val_main_v6_apply, e0, e1]
  refine Finset.sum_congr (M := EReal) rfl fun k _ => (mul_comm (G := EReal) _ _).trans ?_
  rw [Cert.Reference9Ideal.Read.val_main_v5_apply, Cert.Reference9Ideal.Read.val_main_v4_apply]
  have h0 : (i 0).val < 8 := (i 0).isLt
  have h1 : (i 1).val < 2048 := (i 1).isLt
  have h2 : (i 2).val < 768 := (i 2).isLt
  have hk := k.isLt
  refine congrArg₂ (fun x y : EReal => x * y) (congrArg (Cert.Kernel9Ideal.Sums.rows m c) (funext fun a => Fin.ext ?_)) (congrArg (Cert.Kernel9Ideal.Sums.cots m c) (funext fun a => Fin.ext ?_))
  · match a with
    | ⟨0, _⟩ => rfl
    | ⟨1, _⟩ => show (((i 1).val * 8 + (i 0).val) * 768 + (i 2).val) / 6144 = (i 1).val; omega
  · match a with
    | ⟨0, _⟩ => show (k.val * 6144 + (((i 1).val * 8 + (i 0).val) * 768 + (i 2).val) % 6144) / 2048 % 3 = ((i 0).val * 768 + (i 2).val) / 2048; omega
    | ⟨1, _⟩ => show (k.val * 6144 + (((i 1).val * 8 + (i 0).val) * 768 + (i 2).val) % 6144) / 6144 = k.val; omega
    | ⟨2, _⟩ => show (k.val * 6144 + (((i 1).val * 8 + (i 0).val) * 768 + (i 2).val) % 6144) % 2048 = ((i 0).val * 768 + (i 2).val) % 2048; omega

end Cert.Proof
-- ==== Proof.Projections.Columns.lean ====
/- The projection to queries, keys and values: each tile of the kernel is a tile of the product. -/
module

public import proofs.«01_k».proof.Defs
public import proofs.«01_k».proof.Proof.FeedForward.Products
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit.Geometry

@[expose] public section

set_option maxRecDepth 16384

noncomputable section

namespace Cert.Kernel12Ideal.Sums

open Idealize.ShloMosaic Idealize.ShloMosaic.TcCoe Idealize.ShloMosaic.Tactic Idealize.ShloMosaic.ValueIdx
open Cert.Kernel12Ideal Cert.Kernel12Ideal.Gen Cert.Kernel12Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

variable (m : (ℓ : Loc nD τ sig) → Buf (Elt Ideal) ℓ) (c : Dev nD)

/-- The rows, and the weight's columns in eight shards. -/
abbrev rows : S4096x2048.Idx → EReal := m ((c : Thread nD τ).loc main_arg0)
abbrev cols : S8x2048x768.Idx → EReal := m ((c : Thread nD τ).loc main_arg1)

/-- The product. -/
def product (i : S8x4096x768.Idx) : EReal := ∑ k : Fin 2048, rows m c (ix2 (i 1) k) * cols m c (ix3 (i 0) k (i 2))

theorem idx0 : ∀ t : Fin cfg0.N, win0_0.index t = ![t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, t.val % 4, 0] := (by decide +kernel : ∀ t : Fin grid0.N, _)

theorem block0 (t : Fin cfg0.N) (r : Fin 1024) (k : Fin 2048) (j : S4096x2048.Idx)
    (e0 : (j 0).val = t.val % 4 * 1024 + r.val) (e1 : (j 1).val = k.val) :
    iblk m c 0 t (ix2 r k) = rows m c j := by
  have e : iblk m c 0 t (ix2 r k) = m ((c : Thread nD τ).loc main_arg0) ((win0_0.blk t).view.emb (ix2 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 2048) (q : Fin 768) (j : S8x2048x768.Idx)
    (e0 : (j 0).val = t.val / 4) (e1 : (j 1).val = k.val) (e2 : (j 2).val = q.val) :
    iblk m c 1 t (ix3 0 k q) = cols m c j := by
  have e : iblk m c 1 t (ix3 0 k q) = m ((c : Thread nD τ).loc main_arg1) ((win0_1.blk t).view.emb (ix3 0 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]
  | ⟨2, _⟩ => refine Eq.trans ?_ e2.symm; blk_simp [idx1]

/-- One tile at one place. -/
theorem tile_apply (x : Vec Ideal S1024x2048 .bf16) (w : Vec Ideal S1x2048x768 .bf16) (r : Fin 1024) (q : Fin 768) :
    (out0_2 x w (ix3 0 r q) : EReal) = ∑ k : Fin 2048, x (ix2 r k) * w (ix3 0 k q) := by
  unfold out0_2
  rw [View.canon_unit_zero (S := S1x1024x768) off3, View.ld_unit_zero (S := S1024x2048) off2, View.ld_unit_zero (S := S1x2048x768) off3]
  unfold k0_pay1
  refine (paged_apply (n := 1024) (m := 768) _ shapeCasts_S1024x768_S1x1024x768 0 r q).trans ?_
  exact (rows_columns_apply (φ := .bf16) (ψ := .bf16) (n := 1024) (m := 768) (k := 2048) dot_S1024x2048_S2048x768_S1024x768_1_0_0_1_n_n rfl none r q).trans
    (Finset.sum_congr rfl fun k _ => congrArg (fun z : EReal => x (ix2 r k) * z) (page_apply (n := 2048) (m := 768) w shapeCasts_S1x2048x768_S2048x768 k q))

/-- What the kernel leaves. -/
theorem final : (dats m 0 c).arrAt 2 cfg0.N = product m c := by
  refine (dats m 0 c).arrAt_eq_of_covers 2 _ (by decide +kernel) fun t hf y => ?_
  blk_simp
  rw [after0_2]
  obtain ⟨r, q, rfl⟩ := of_page (n := 1024) (m := 768) y
  refine (tile_apply _ _ r q).trans ?_
  refine Finset.sum_congr (M := EReal) rfl fun k _ => congrArg₂ (fun x y : EReal => x * y) (block0 m c t r k _ ?_ rfl) (block1 m c t k q _ ?_ rfl ?_)
  · show ((win0_2.blk t).view.emb (ix3 0 r q) 1).val = _
    blk_simp [idx2]
    rfl
  · show ((win0_2.blk t).view.emb (ix3 0 r q) 0).val = _
    blk_simp [idx2]
  · show ((win0_2.blk t).view.emb (ix3 0 r q) 2).val = _
    blk_simp [idx2]
    rfl

end Cert.Kernel12Ideal.Sums

namespace Cert.Proof

open Idealize.ShloMosaic Idealize.ShloMosaic.TcCoe Idealize.ShloMosaic.ValueIdx
open Idealize.SL.Sem
open scoped BigOperators

/-- The projection to queries, keys and values is the reference's. -/
theorem equal_columns : Cert.algebraic_Kernel12Ideal_Reference12Ideal (hKernel12Ideal := Cert.Kernel12Ideal.Gen.facts) (hReference12Ideal := Cert.Reference12Ideal.Gen.facts) := by
  intro m g m' g' hpre hargs
  refine ⟨fun c => Cert.Kernel12Ideal.Sums.product m c, (θ_run Cert.Kernel12Ideal.defs _ _).mono (fun _ h c => ⟨(h c).1.trans (Cert.Kernel12Ideal.Sums.final m c), (h c).2⟩) (Cert.Kernel12Ideal.Value.run_blocks m g), ?_⟩
  refine (θ_run Cert.Reference12Ideal.defs _ _).mono (fun _ h c => ?_) (Cert.Reference12Ideal.Value.run m' g')
  obtain ⟨e0, e1⟩ := hargs c
  refine ⟨(h c).1.trans ((Cert.Reference12Ideal.Read.val_main_v3_eq _ _).trans (funext fun i => ?_)), (h c).2⟩
  show _ = Cert.Kernel12Ideal.Sums.product m c i
  rw [Cert.Reference12Ideal.Read.val_main_v3_apply, Cert.Reference12Ideal.Read.val_main_v2_apply, e0, e1]
  exact Finset.sum_congr (M := EReal) rfl fun k _ => (mul_comm (G := EReal) _ _).trans
    (congrArg₂ (fun x y : EReal => x * y) (congrArg (Cert.Kernel12Ideal.Sums.rows m c) (funext fun a => match a with
      | ⟨0, _⟩ => rfl
      | ⟨1, _⟩ => rfl)) (congrArg (Cert.Kernel12Ideal.Sums.cols m c) (funext fun a => match a with
      | ⟨0, _⟩ => rfl
      | ⟨1, _⟩ => rfl
      | ⟨2, _⟩ => rfl)))

end Cert.Proof
-- ==== Proof.Projections.Output.lean ====
/- The output projection onto the residual stream: each tile of the kernel is a tile of the sum. -/
module

public import proofs.«01_k».proof.Defs
public import proofs.«01_k».proof.Proof.FeedForward.Products
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit.Geometry

@[expose] public section

set_option maxRecDepth 16384

noncomputable section

namespace Cert.Kernel13Ideal.Sums

open Idealize.ShloMosaic Idealize.ShloMosaic.TcCoe Idealize.ShloMosaic.Tactic Idealize.ShloMosaic.ValueIdx
open Cert.Kernel13Ideal Cert.Kernel13Ideal.Gen Cert.Kernel13Ideal.Value
open Idealize.SL.Sem
open Cert.Reals
open scoped BigOperators

theorem off2 : (![0, 0] : Fin 2 → Nat) = fun _ => 0 := funext fun a => by fin_cases a <;> rfl
theorem off3 : (![0, 0, 0] : Fin 3 → Nat) = fun _ => 0 := funext fun a => by fin_cases a <;> rfl

variable (m : (ℓ : Loc nD τ sig) → Buf (Elt Ideal) ℓ) (c : Dev nD)

/-- The attention's output, the weight, and the residual stream. -/
abbrev rows : S4096x2048.Idx → EReal := m ((c : Thread nD τ).loc main_arg0)
abbrev cols : S2048x2048.Idx → EReal := m ((c : Thread nD τ).loc main_arg1)
abbrev stream : S4096x2048.Idx → EReal := m ((c : Thread nD τ).loc main_arg2)

/-- The residual stream plus the product. -/
def total (i : S4096x2048.Idx) : EReal := stream m c i + ∑ k : Fin 2048, rows m c (ix2 (i 0) k) * cols m c (ix2 k (i 1))

theorem idx0 : ∀ t : Fin cfg0.N, win0_0.index t = ![t.val % 8, 0] := (by decide +kernel : ∀ t : Fin grid0.N, _)
theorem idx1 : ∀ t : Fin cfg0.N, win0_1.index t = ![0, t.val / 8] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)

theorem block0 (t : Fin cfg0.N) (r : Fin 512) (k : Fin 2048) (j : S4096x2048.Idx)
    (e0 : (j 0).val = t.val % 8 * 512 + r.val) (e1 : (j 1).val = k.val) :
    iblk m c 0 t (ix2 r k) = rows m c j := by
  have e : iblk m c 0 t (ix2 r k) = m ((c : Thread nD τ).loc main_arg0) ((win0_0.blk t).view.emb (ix2 r k)) := by
    blk_simp [iblk]
  refine e.trans (congrArg _ (funext fun a => Fin.ext ?_))
  match a with
  | ⟨0, _⟩ => refine Eq.trans ?_ e0.symm; blk_simp [idx0]
  | ⟨1, _⟩ => refine Eq.trans ?_ e1.symm; blk_simp [idx0]

theorem block1 (t : Fin cfg0.N) (k : Fin 2048) (q : Fin 1024) (j : S2048x2048.Idx)
    (e0 : (j 0).val = k.val) (e1 : (j 1).val = t.val / 8 * 1024 + q.val) :
    iblk m c 1 t (ix2 k q) = cols m c j := by
  have e : iblk m c 1 t (ix2 k q) = m ((c : Thread nD τ).loc main_arg1) ((win0_1.blk t).view.emb (ix2 k q)) := by
    blk_simp [iblk]
  refine e.trans (congrArg _ (funext fun a => Fin.ext ?_))
  match a with
  | ⟨0, _⟩ => refine Eq.trans ?_ e0.symm; blk_simp [idx1]
  | ⟨1, _⟩ => refine Eq.trans ?_ e1.symm; blk_simp [idx1]

theorem block2 (t : Fin cfg0.N) (r : Fin 512) (q : Fin 1024) (j : S4096x2048.Idx)
    (e0 : (j 0).val = t.val % 8 * 512 + r.val) (e1 : (j 1).val = t.val / 8 * 1024 + q.val) :
    iblk m c 2 t (ix2 r q) = stream m c j := by
  have e : iblk m c 2 t (ix2 r q) = m ((c : Thread nD τ).loc main_arg2) ((win0_2.blk t).view.emb (ix2 r q)) := by
    blk_simp [iblk]
  refine e.trans (congrArg _ (funext fun a => Fin.ext ?_))
  match a with
  | ⟨0, _⟩ => refine Eq.trans ?_ e0.symm; blk_simp [idx2]
  | ⟨1, _⟩ => refine Eq.trans ?_ e1.symm; blk_simp [idx2]

/-- One tile at one place. -/
theorem tile_apply (x : Vec Ideal S512x2048 .bf16) (w : Vec Ideal S2048x1024 .bf16) (s : Vec Ideal S512x1024 .f32) (r : Fin 512) (q : Fin 1024) :
    (out0_3 x w s (ix2 r q) : EReal) = s (ix2 r q) + ∑ k : Fin 2048, x (ix2 r k) * w (ix2 k q) := by
  unfold out0_3
  rw [View.canon_unit_zero (S := S512x1024) off2, View.ld_unit_zero (S := S512x2048) off2, View.ld_unit_zero (S := S2048x1024) off2, View.ld_unit_zero (S := S512x1024) off2]
  unfold k0_pay1
  exact congrArg (fun z : EReal => s (ix2 r q) + z) (rows_columns_apply (φ := .bf16) (ψ := .bf16) (n := 512) (m := 1024) (k := 2048) dot_S512x2048_S2048x1024_S512x1024_1_0_0_1_n_n rfl none r q)

/-- What the kernel leaves. -/
theorem final : (dats m 0 c).arrAt 3 cfg0.N = total m c := by
  refine (dats m 0 c).arrAt_eq_of_covers 3 _ (by decide +kernel) fun t hf y => ?_
  blk_simp
  rw [after0_3]
  obtain ⟨r, q, rfl⟩ : ∃ (r : Fin 512) (q : Fin 1024), y = ix2 r q := ⟨y 0, y 1, eq_ix2 y⟩
  have h0 : ((win0_3.blk t).view.emb (ix2 r q) 0).val = t.val % 8 * 512 + r.val := by blk_simp [idx3]; rfl
  have h1 : ((win0_3.blk t).view.emb (ix2 r q) 1).val = t.val / 8 * 1024 + q.val := by blk_simp [idx3]; rfl
  refine (tile_apply _ _ _ r q).trans ?_
  exact congrArg₂ (fun x y : EReal => x + y) (block2 m c t r q _ h0 h1)
    (Finset.sum_congr (M := EReal) rfl fun k _ => congrArg₂ (fun x y : EReal => x * y) (block0 m c t r k _ h0 rfl) (block1 m c t k q _ rfl h1))

end Cert.Kernel13Ideal.Sums

namespace Cert.Proof

open Idealize.ShloMosaic Idealize.ShloMosaic.TcCoe Idealize.ShloMosaic.ValueIdx
open Idealize.SL.Sem
open scoped BigOperators

/-- The output projection is the reference's. -/
theorem equal_output : Cert.algebraic_Kernel13Ideal_Reference13Ideal (hKernel13Ideal := Cert.Kernel13Ideal.Gen.facts) (hReference13Ideal := Cert.Reference13Ideal.Gen.facts) := by
  intro m g m' g' hpre hargs
  refine ⟨fun c => Cert.Kernel13Ideal.Sums.total m c, (θ_run Cert.Kernel13Ideal.defs _ _).mono (fun _ h c => ⟨(h c).1.trans (Cert.Kernel13Ideal.Sums.final m c), (h c).2⟩) (Cert.Kernel13Ideal.Value.run_blocks m g), ?_⟩
  refine (θ_run Cert.Reference13Ideal.defs _ _).mono (fun _ h c => ?_) (Cert.Reference13Ideal.Value.run m' g')
  obtain ⟨e0, e1, e2⟩ := hargs c
  refine ⟨(h c).1.trans ((Cert.Reference13Ideal.Read.val_main_v3_eq _ _ _).trans (funext fun i => ?_)), (h c).2⟩
  show _ = Cert.Kernel13Ideal.Sums.total m c i
  rw [Cert.Reference13Ideal.Read.val_main_v3_apply, Cert.Reference13Ideal.Read.val_main_v2_apply, e0, e1, e2]
  exact congrArg (fun z : EReal => Cert.Kernel13Ideal.Sums.stream m c i + z) (Finset.sum_congr (M := EReal) rfl fun k _ =>
    congrArg₂ (fun x y : EReal => x * y) (congrArg (Cert.Kernel13Ideal.Sums.rows m c) (funext fun a => match a with
      | ⟨0, _⟩ => rfl
      | ⟨1, _⟩ => rfl)) (congrArg (Cert.Kernel13Ideal.Sums.cols m c) (funext fun a => match a with
      | ⟨0, _⟩ => rfl
      | ⟨1, _⟩ => rfl)))

end Cert.Proof
-- ==== Proof.lean ====
/- The certificate: the frames, the idealization, and the equation with the reference. -/
module

public import proofs.«01_k».proof.Defs
public import proofs.«01_k».proof.Proof.Run.Launch
public import proofs.«01_k».proof.Proof.Run.Same
public import proofs.«01_k».proof.Proof.Value.Equal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.FeedForward.Down
public import proofs.«01_k».proof.Proof.FeedForward.GateUp
public import proofs.«01_k».proof.Proof.FeedForward.Input
public import proofs.«01_k».proof.Proof.FeedForward.Activation
public import proofs.«01_k».proof.Proof.FeedForward.Up
public import proofs.«01_k».proof.Proof.FeedForward.Residual
public import proofs.«01_k».proof.Proof.Projections.OutputGrad
public import proofs.«01_k».proof.Proof.Projections.OutputWeight
public import proofs.«01_k».proof.Proof.Projections.InputGrad
public import proofs.«01_k».proof.Proof.Projections.InputWeight
public import proofs.«01_k».proof.Proof.Projections.Columns
public import proofs.«01_k».proof.Proof.Projections.Output
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Proof

open Idealize.ShloMosaic Idealize.ShloMosaic.TcCoe Idealize.SL.Sem

theorem frame_ideal : Cert.quiescent_KernelIdeal := fun m ρ _ =>
  (θ_run Cert.KernelIdeal.defs _ _).mono (fun _ h => h) (Cert.KernelIdeal.frame_any m ρ)

theorem frame_reference : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run m ρ)

theorem frame_reference_gate_up : Cert.quiescent_Reference2Ideal := fun m ρ _ =>
  (θ_run Cert.Reference2Ideal.defs _ _).mono (fun r h => ⟨fun c => (h c).2.2,
    Idealize.ShloMosaic.sem_eq_zero_of_no_sems (by decide) r.2⟩) (Cert.Reference2Ideal.Value.run m ρ)

theorem frame_reference_down : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

theorem frame_reference_input : Cert.quiescent_Reference4Ideal := fun m ρ _ =>
  (θ_run Cert.Reference4Ideal.defs _ _).mono (fun r h => ⟨fun c => (h c).2,
    Idealize.ShloMosaic.sem_eq_zero_of_no_sems (by decide) r.2⟩) (Cert.Reference4Ideal.Value.run m ρ)

theorem frame_reference_activation : Cert.quiescent_Reference5Ideal := fun m ρ _ =>
  (θ_run Cert.Reference5Ideal.defs _ _).mono (fun r h => ⟨fun c => (h c).2.2,
    Idealize.ShloMosaic.sem_eq_zero_of_no_sems (by decide) r.2⟩) (Cert.Reference5Ideal.Value.run m ρ)

theorem frame_reference_output_grad : Cert.quiescent_Reference6Ideal := fun m ρ _ =>
  (θ_run Cert.Reference6Ideal.defs _ _).mono (fun r h => ⟨fun c => (h c).2,
    Idealize.ShloMosaic.sem_eq_zero_of_no_sems (by decide) r.2⟩) (Cert.Reference6Ideal.Value.run m ρ)

theorem frame_reference_output_weight : Cert.quiescent_Reference7Ideal := fun m ρ _ =>
  (θ_run Cert.Reference7Ideal.defs _ _).mono (fun r h => ⟨fun c => (h c).2,
    Idealize.ShloMosaic.sem_eq_zero_of_no_sems (by decide) r.2⟩) (Cert.Reference7Ideal.Value.run m ρ)

theorem frame_reference_input_grad : Cert.quiescent_Reference8Ideal := fun m ρ _ =>
  (θ_run Cert.Reference8Ideal.defs _ _).mono (fun r h => ⟨fun c => (h c).2,
    Idealize.ShloMosaic.sem_eq_zero_of_no_sems (by decide) r.2⟩) (Cert.Reference8Ideal.Value.run m ρ)

theorem frame_reference_input_weight : Cert.quiescent_Reference9Ideal := fun m ρ _ =>
  (θ_run Cert.Reference9Ideal.defs _ _).mono (fun r h => ⟨fun c => (h c).2,
    Idealize.ShloMosaic.sem_eq_zero_of_no_sems (by decide) r.2⟩) (Cert.Reference9Ideal.Value.run m ρ)

theorem frame_reference_up : Cert.quiescent_Reference10Ideal := fun m ρ _ =>
  (θ_run Cert.Reference10Ideal.defs _ _).mono (fun r h => ⟨fun c => (h c).2.2.2,
    Idealize.ShloMosaic.sem_eq_zero_of_no_sems (by decide) r.2⟩) (Cert.Reference10Ideal.Value.run m ρ)

theorem frame_reference_residual : Cert.quiescent_Reference11Ideal := fun m ρ _ =>
  (θ_run Cert.Reference11Ideal.defs _ _).mono (fun r h => ⟨fun c => (h c).2,
    Idealize.ShloMosaic.sem_eq_zero_of_no_sems (by decide) r.2⟩) (Cert.Reference11Ideal.Value.run m ρ)

theorem frame_reference_columns : Cert.quiescent_Reference12Ideal := fun m ρ _ =>
  (θ_run Cert.Reference12Ideal.defs _ _).mono (fun r h => ⟨fun c => (h c).2,
    Idealize.ShloMosaic.sem_eq_zero_of_no_sems (by decide) r.2⟩) (Cert.Reference12Ideal.Value.run m ρ)

theorem frame_reference_output : Cert.quiescent_Reference13Ideal := fun m ρ _ =>
  (θ_run Cert.Reference13Ideal.defs _ _).mono (fun r h => ⟨fun c => (h c).2,
    Idealize.ShloMosaic.sem_eq_zero_of_no_sems (by decide) r.2⟩) (Cert.Reference13Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.facts, Cert.Pre_finite5.facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference_gate_up,
  fun m ρ _ => Cert.Kernel3.Gen.frame m ρ, fun m ρ _ => Cert.Kernel3Ideal.Gen.frame m ρ, frame_reference_down,
  fun m ρ _ => Cert.Kernel4.Gen.frame m ρ, fun m ρ _ => Cert.Kernel4Ideal.Gen.frame m ρ, frame_reference_input,
  fun m ρ _ => Cert.Kernel5.Gen.frame m ρ, fun m ρ _ => Cert.Kernel5Ideal.Gen.frame m ρ, fun m ρ _ => Cert.Kernel5Ideal.Gen.frame m ρ,
  frame_reference_activation, fun m ρ _ => frame_reference_activation m ρ trivial,
  fun m ρ _ => Cert.Kernel6.Gen.frame m ρ, fun m ρ _ => Cert.Kernel6Ideal.Gen.frame m ρ, frame_reference_output_grad,
  fun m ρ _ => Cert.Kernel7.Gen.frame m ρ, fun m ρ _ => Cert.Kernel7Ideal.Gen.frame m ρ, frame_reference_output_weight,
  fun m ρ _ => Cert.Kernel8.Gen.frame m ρ, fun m ρ _ => Cert.Kernel8Ideal.Gen.frame m ρ, frame_reference_input_grad,
  fun m ρ _ => Cert.Kernel9.Gen.frame m ρ, fun m ρ _ => Cert.Kernel9Ideal.Gen.frame m ρ, frame_reference_input_weight,
  fun m ρ _ => Cert.Kernel10.Gen.frame m ρ, fun m ρ _ => Cert.Kernel10Ideal.Gen.frame m ρ, frame_reference_up,
  fun m ρ _ => Cert.Kernel11.Gen.frame m ρ, fun m ρ _ => Cert.Kernel11Ideal.Gen.frame m ρ, frame_reference_residual,
  fun m ρ _ => Cert.Kernel12.Gen.frame m ρ, fun m ρ _ => Cert.Kernel12Ideal.Gen.frame m ρ, frame_reference_columns,
  fun m ρ _ => Cert.Kernel13.Gen.frame m ρ, fun m ρ _ => Cert.Kernel13Ideal.Gen.frame m ρ, frame_reference_output,
  trivial, equal, trivial, equal_gate_up, trivial, equal_down, trivial, equal_input, trivial, equal_activation, trivial, equal_output_grad, trivial, equal_output_weight, trivial, equal_input_grad, trivial, equal_input_weight, trivial, equal_up, trivial, equal_residual, trivial, equal_columns, trivial, equal_output⟩

end Cert.Proof

end
